-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v53) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v16) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v35) = v1 c
          ∧ r.2.mem ((c.tc : Thread Cert.Reference23Ideal.nD Cert.Reference23Ideal.τ).loc Cert.Reference23Ideal.main_v17) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v32) = v0 c
          ∧ r.2.mem ((c.tc : Thread Cert.Reference24Ideal.nD Cert.Reference24Ideal.τ).loc Cert.Reference24Ideal.main_v36) = v1 c
          ∧ r.2.mem ((c.tc : Thread Cert.Reference24Ideal.nD Cert.Reference24Ideal.τ).loc Cert.Reference24Ideal.main_v39) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_v16) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v9) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S2048x2048 : Shape := ⟨2, ![2048, 2048]⟩
abbrev S_ : Shape := ⟨0, ![]⟩
abbrev S2048x6272 : Shape := ⟨2, ![2048, 6272]⟩
abbrev S128x1024 : Shape := ⟨2, ![128, 1024]⟩
abbrev S1x1024 : Shape := ⟨2, ![1, 1024]⟩
abbrev S1x512 : Shape := ⟨2, ![1, 512]⟩
abbrev S4x32x512x256 : Shape := ⟨4, ![4, 32, 512, 256]⟩
abbrev S64x1024 : Shape := ⟨2, ![64, 1024]⟩
abbrev S64x2048 : Shape := ⟨2, ![64, 2048]⟩
abbrev S64x128 : Shape := ⟨2, ![64, 128]⟩
abbrev S4x1x512x256 : Shape := ⟨4, ![4, 1, 512, 256]⟩
abbrev S4x512x256 : Shape := ⟨3, ![4, 512, 256]⟩
abbrev S64x64 : Shape := ⟨2, ![64, 64]⟩
abbrev S1x512x256 : Shape := ⟨3, ![1, 512, 256]⟩
abbrev S512x256 : Shape := ⟨2, ![512, 256]⟩
abbrev S1x256 : Shape := ⟨2, ![1, 256]⟩
abbrev S64x512 : Shape := ⟨2, ![64, 512]⟩
abbrev S64x256 : Shape := ⟨2, ![64, 256]⟩
abbrev S1x1x512x256 : Shape := ⟨4, ![1, 1, 512, 256]⟩
abbrev S64 : Shape := ⟨1, ![64]⟩
abbrev S64x1 : Shape := ⟨2, ![64, 1]⟩
abbrev S64x6272 : Shape := ⟨2, ![64, 6272]⟩
abbrev S256 : Shape := ⟨1, ![256]⟩

abbrev nBuf : Space → Nat
  | .hbm => 24
  | .vmem => 44
  | .smem => 0
  | _ => 0

abbrev bufTy : (tb : Table) → Fin (tcTables nBuf tb) → BufTy
  | .hbm, ⟨0, _⟩ => ⟨S2048x6160, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S2048x2048, .f32⟩
  | .hbm, ⟨5, _⟩ => ⟨S_, .i32⟩
  | .hbm, ⟨6, _⟩ => ⟨S_, .f32⟩
  | .hbm, ⟨7, _⟩ => ⟨S2048x6272, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S128x1024, .bf16⟩
  | .hbm, ⟨12, _⟩ => ⟨S1x1024, .f32⟩
  | .hbm, ⟨13, _⟩ => ⟨S1x512, .f32⟩
  | .hbm, ⟨14, _⟩ => ⟨S2048x2048, .bf16⟩
  | .hbm, ⟨15, _⟩ => ⟨S4x32x512x256, .f32⟩
  | .hbm, ⟨16, _⟩ => ⟨S2048x6272, .bf16⟩
  | .hbm, ⟨17, _⟩ => ⟨S1x512, .f32⟩
  | .hbm, ⟨18, _⟩ => ⟨S1x1024, .f32⟩
  | .hbm, ⟨19, _⟩ => ⟨S128x1024, .f32⟩
  | .hbm, ⟨20, _⟩ => ⟨S2048x6160, .bf16⟩
  | .hbm, ⟨21, _⟩ => ⟨S16x1024, .f32⟩
  | .hbm, ⟨22, _⟩ => ⟨S1024, .f32⟩
  | .hbm, ⟨23, _⟩ => ⟨S512, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S64x2048, .bf16⟩
  | .local _ .vmem, ⟨14, _⟩ => ⟨S64x2048, .bf16⟩
  | .local _ .vmem, ⟨15, _⟩ => ⟨S4x1x512x256, .f32⟩
  | .local _ .vmem, ⟨16, _⟩ => ⟨S4x1x512x256, .f32⟩
  | .local _ .vmem, ⟨17, _⟩ => ⟨S4x512x256, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x2048, .f32⟩
  | .local _ .vmem, ⟨23, _⟩ => ⟨S64x2048, .f32⟩
  | .local _ .vmem, ⟨24, _⟩ => ⟨S64x2048, .f32⟩
  | .local _ .vmem, ⟨25, _⟩ => ⟨S64x2048, .f32⟩
  | .local _ .vmem, ⟨26, _⟩ => ⟨S64x128, .f32⟩
  | .local _ .vmem, ⟨27, _⟩ => ⟨S64x128, .f32⟩
  | .local _ .vmem, ⟨28, _⟩ => ⟨S128x1024, .bf16⟩
  | .local _ .vmem, ⟨29, _⟩ => ⟨S1x1024, .f32⟩
  | .local _ .vmem, ⟨30, _⟩ => ⟨S1x512, .f32⟩
  | .local _ .vmem, ⟨31, _⟩ => ⟨S4x1x512x256, .f32⟩
  | .local _ .vmem, ⟨32, _⟩ => ⟨S4x1x512x256, .f32⟩
  | .local _ .vmem, ⟨33, _⟩ => ⟨S4x1x512x256, .f32⟩
  | .local _ .vmem, ⟨34, _⟩ => ⟨S4x1x512x256, .f32⟩
  | .local _ .vmem, ⟨35, _⟩ => ⟨S64x2048, .f32⟩
  | .local _ .vmem, ⟨36, _⟩ => ⟨S64x2048, .f32⟩
  | .local _ .vmem, ⟨37, _⟩ => ⟨S64x6272, .bf16⟩
  | .local _ .vmem, ⟨38, _⟩ => ⟨S64x6272, .bf16⟩
  | .local _ .vmem, ⟨39, _⟩ => ⟨S1x512, .f32⟩
  | .local _ .vmem, ⟨40, _⟩ => ⟨S1x1024, .f32⟩
  | .local _ .vmem, ⟨41, _⟩ => ⟨S128x1024, .f32⟩
  | .local _ .vmem, ⟨42, _⟩ => ⟨S4x512x256, .f32⟩
  | .local _ .vmem, ⟨43, _⟩ => ⟨S1x1024, .f32⟩
  | _, _ => ⟨S2048x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg13_0 : Ref sig .tc := ⟨.vmem, 40, rfl⟩
abbrev cc1_stg14_0 : Ref sig .tc := ⟨.vmem, 41, rfl⟩
abbrev cc1_scratch0 : Ref sig .tc := ⟨.vmem, 42, rfl⟩
abbrev cc1_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem13_0 : DmaSem sig := 39
abbrev cc1_sem14_0 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc1_transform_3 (i : grid1.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc1_transform_4 (i : grid1.Coords) : Fin 2 → Nat :=
  let arg0 : BitVec 32 := BitVec.ofNat 32 (i 0).val
  let c31_i32 : BitVec 32 := 31#32
  let v0 : BitVec 32 := Scalar.subi c31_i32 arg0
  let c48_i32 : BitVec 32 := 48#32
  let c0_i32 : BitVec 32 := 0#32
  ![v0.toNat, c48_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_9 (i : grid1.Coords) : Fin 4 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc1_transform_10 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4x1x512x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x1x512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x6272 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== ReferenceIdeal.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S2048x2048 : Shape := ⟨2, ![2048, 2048]⟩
abbrev S2048x1024 : Shape := ⟨2, ![2048, 1024]⟩
abbrev S2048x16 : Shape := ⟨2, ![2048, 16]⟩
abbrev S1x1024 : Shape := ⟨2, ![1, 1024]⟩
abbrev S_ : Shape := ⟨0, ![]⟩
abbrev S32x64x4x256 : Shape := ⟨4, ![32, 64, 4, 256]⟩
abbrev S32x4x64x256 : Shape := ⟨4, ![32, 4, 64, 256]⟩
abbrev S32x64x4x512 : Shape := ⟨4, ![32, 64, 4, 512]⟩
abbrev S32x4x64x512 : Shape := ⟨4, ![32, 4, 64, 512]⟩
abbrev S32x4x1x256 : Shape := ⟨4, ![32, 4, 1, 256]⟩
abbrev S32x4x256 : Shape := ⟨3, ![32, 4, 256]⟩
abbrev S4x256x512 : Shape := ⟨3, ![4, 256, 512]⟩
abbrev S32x4x256x512 : Shape := ⟨4, ![32, 4, 256, 512]⟩
abbrev S32x4x256x1 : Shape := ⟨4, ![32, 4, 256, 1]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S1x4x256 : Shape := ⟨3, ![1, 4, 256]⟩
abbrev S4x256 : Shape := ⟨2, ![4, 256]⟩
abbrev S4x256x1 : Shape := ⟨3, ![4, 256, 1]⟩
abbrev S1x4x256x512 : Shape := ⟨4, ![1, 4, 256, 512]⟩
abbrev S1x4x256x1 : Shape := ⟨4, ![1, 4, 256, 1]⟩
abbrev S32x4x64 : Shape := ⟨3, ![32, 4, 64]⟩
abbrev S32x4x64x1 : Shape := ⟨4, ![32, 4, 64, 1]⟩
abbrev S1x1x1x512 : Shape := ⟨4, ![1, 1, 1, 512]⟩
abbrev S4x512x256 : Shape := ⟨3, ![4, 512, 256]⟩
abbrev S4x512x64 : Shape := ⟨3, ![4, 512, 64]⟩
abbrev S4x256x64 : Shape := ⟨3, ![4, 256, 64]⟩
abbrev S1024x16 : Shape := ⟨2, ![1024, 16]⟩

abbrev nBuf : Space → Nat
  | .hbm => 373
  | .vmem => 0
  | .smem => 0
  | _ => 0

abbrev hbmTy0_0 (i : Nat) : BufTy := match i % 128 with
  | 0 => ⟨S2048x6160, .f32⟩
  | 1 => ⟨S16x1024, .f32⟩
  | 2 => ⟨S1024, .f32⟩
  | 3 => ⟨S512, .f32⟩
  | 4 => ⟨S2048x2048, .f32⟩
  | 5 => ⟨S2048x1024, .f32⟩
  | 6 => ⟨S2048x1024, .f32⟩
  | 7 => ⟨S2048x2048, .f32⟩
  | 8 => ⟨S2048x2048, .f32⟩
  | 9 => ⟨S2048x16, .f32⟩
  | 10 => ⟨S2048x1024, .f32⟩
  | 11 => ⟨S1x1024, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S2048x1024, .f32⟩
  | 19 => ⟨S2048x1024, .f32⟩
  | 20 => ⟨S2048x1024, .i1⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .i1⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .i1⟩
  | 38 => ⟨S_, .f32⟩
  | 39 => ⟨S2048x1024, .f32⟩
  | 40 => ⟨S2048x1024, .f32⟩
  | 41 => ⟨S2048x1024, .f32⟩
  | 42 => ⟨S2048x1024, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S2048x1024, .f32⟩
  | 51 => ⟨S2048x1024, .i1⟩
  | 52 => ⟨S_, .f32⟩
  | 53 => ⟨S2048x1024, .f32⟩
  | 54 => ⟨S2048x1024, .f32⟩
  | 55 => ⟨S2048x1024, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S32x64x4x256, .f32⟩
  | 66 => ⟨S32x4x64x256, .f32⟩
  | 67 => ⟨S_, .f32⟩
  | 68 => ⟨S32x4x64x256, .f32⟩
  | 69 => ⟨S32x4x64x256, .f32⟩
  | 70 => ⟨S32x64x4x256, .f32⟩
  | 71 => ⟨S32x4x64x256, .f32⟩
  | 72 => ⟨S32x64x4x512, .f32⟩
  | 73 => ⟨S32x4x64x512, .f32⟩
  | 74 => ⟨S32x64x4x256, .f32⟩
  | 75 => ⟨S32x4x64x256, .f32⟩
  | 76 => ⟨S_, .f32⟩
  | 77 => ⟨S_, .f32⟩
  | 78 => ⟨S32x4x64x256, .f32⟩
  | 79 => ⟨S32x4x1x256, .f32⟩
  | 80 => ⟨S32x4x64x256, .f32⟩
  | 81 => ⟨S32x4x64x256, .f32⟩
  | 82 => ⟨S32x4x64x256, .f32⟩
  | 83 => ⟨S32x4x64x256, .f32⟩
  | 84 => ⟨S32x4x256, .f32⟩
  | 85 => ⟨S32x4x256, .f32⟩
  | 86 => ⟨S_, .f32⟩
  | 87 => ⟨S4x256x512, .f32⟩
  | 88 => ⟨S_, .f32⟩
  | 89 => ⟨S32x4x64x512, .f32⟩
  | 90 => ⟨S_, .f32⟩
  | 91 => ⟨S32x4x256x512, .f32⟩
  | 92 => ⟨S_, .f32⟩
  | 93 => ⟨S32x4x256x1, .f32⟩
  | 94 => ⟨S_, .f32⟩
  | 95 => ⟨S32x4x256x512, .f32⟩
  | 96 => ⟨S_, .i32⟩
  | 97 => ⟨S32x4x64x256, .f32⟩
  | 98 => ⟨S32x4x64x256, .f32⟩
  | 99 => ⟨S32x4x64x512, .f32⟩
  | 100 => ⟨S32x4x256, .f32⟩
  | 101 => ⟨S_, .i32⟩
  | 102 => ⟨S4x256x512, .f32⟩
  | 103 => ⟨S32x4x64x512, .f32⟩
  | 104 => ⟨S32x4x256x512, .f32⟩
  | 105 => ⟨S32x4x256x1, .f32⟩
  | 106 => ⟨S32x4x256x512, .f32⟩
  | 107 => ⟨S_, .i32⟩
  | 108 => ⟨S_, .i1⟩
  | 109 => ⟨S_, .i32⟩
  | 110 => ⟨S_, .i32⟩
  | 111 => ⟨S_, .i32⟩
  | 112 => ⟨S1x4x64x256, .f32⟩
  | 113 => ⟨S4x64x256, .f32⟩
  | 114 => ⟨S_, .i32⟩
  | 115 => ⟨S_, .i32⟩
  | 116 => ⟨S_, .i32⟩
  | 117 => ⟨S1x4x64x256, .f32⟩
  | 118 => ⟨S4x64x256, .f32⟩
  | 119 => ⟨S_, .i32⟩
  | 120 => ⟨S_, .i32⟩
  | 121 => ⟨S_, .i32⟩
  | 122 => ⟨S1x4x64x512, .f32⟩
  | 123 => ⟨S4x64x512, .f32⟩
  | 124 => ⟨S_, .i32⟩
  | 125 => ⟨S_, .i32⟩
  | 126 => ⟨S1x4x256, .f32⟩
  | 127 => ⟨S4x256, .f32⟩
  | _ => ⟨S2048x6160, .f32⟩

abbrev hbmTy0_1 (i : Nat) : BufTy := match i % 128 with
  | 0 => ⟨S4x256x1, .f32⟩
  | 1 => ⟨S4x256x512, .f32⟩
  | 2 => ⟨S4x256x512, .f32⟩
  | 3 => ⟨S4x256x512, .f32⟩
  | 4 => ⟨S4x256x512, .f32⟩
  | 5 => ⟨S4x64x512, .f32⟩
  | 6 => ⟨S1x4x64x512, .f32⟩
  | 7 => ⟨S_, .i32⟩
  | 8 => ⟨S_, .i32⟩
  | 9 => ⟨S_, .i32⟩
  | 10 => ⟨S32x4x64x512, .f32⟩
  | 11 => ⟨S1x4x256x512, .f32⟩
  | 12 => ⟨S_, .i32⟩
  | 13 => ⟨S_, .i32⟩
  | 14 => ⟨S_, .i32⟩
  | 15 => ⟨S32x4x256x512, .f32⟩
  | 16 => ⟨S1x4x256x1, .f32⟩
  | 17 => ⟨S_, .i32⟩
  | 18 => ⟨S_, .i32⟩
  | 19 => ⟨S_, .i32⟩
  | 20 => ⟨S32x4x256x1, .f32⟩
  | 21 => ⟨S1x4x256x512, .f32⟩
  | 22 => ⟨S_, .i32⟩
  | 23 => ⟨S_, .i32⟩
  | 24 => ⟨S_, .i32⟩
  | 25 => ⟨S32x4x256x512, .f32⟩
  | 26 => ⟨S_, .i32⟩
  | 27 => ⟨S_, .i32⟩
  | 28 => ⟨S32x4x64x512, .f32⟩
  | 29 => ⟨S_, .f32⟩
  | 30 => ⟨S32x4x64, .f32⟩
  | 31 => ⟨S32x4x64x1, .f32⟩
  | 32 => ⟨S_, .f32⟩
  | 33 => ⟨S32x4x64x1, .f32⟩
  | 34 => ⟨S32x4x64x1, .f32⟩
  | 35 => ⟨S_, .f32⟩
  | 36 => ⟨S32x4x64x1, .f32⟩
  | 37 => ⟨S32x4x64x1, .f32⟩
  | 38 => ⟨S32x4x64x1, .f32⟩
  | 39 => ⟨S32x4x64x1, .f32⟩
  | 40 => ⟨S_, .f32⟩
  | 41 => ⟨S32x4x64x1, .f32⟩
  | 42 => ⟨S32x4x64x1, .f32⟩
  | 43 => ⟨S32x4x64x512, .f32⟩
  | 44 => ⟨S32x4x64x512, .f32⟩
  | 45 => ⟨S1x1x1x512, .f32⟩
  | 46 => ⟨S32x4x64x512, .f32⟩
  | 47 => ⟨S32x4x64x512, .f32⟩
  | 48 => ⟨S32x64x4x512, .f32⟩
  | 49 => ⟨S2048x2048, .f32⟩
  | 50 => ⟨S2048x2048, .f32⟩
  | 51 => ⟨S2048x2048, .f32⟩
  | 52 => ⟨S_, .f32⟩
  | 53 => ⟨S2048x2048, .f32⟩
  | 54 => ⟨S2048x2048, .f32⟩
  | 55 => ⟨S_, .f32⟩
  | 56 => ⟨S2048x2048, .f32⟩
  | 57 => ⟨S2048x2048, .f32⟩
  | 58 => ⟨S_, .f32⟩
  | 59 => ⟨S2048x2048, .f32⟩
  | 60 => ⟨S2048x2048, .f32⟩
  | 61 => ⟨S2048x2048, .f32⟩
  | 62 => ⟨S2048x2048, .f32⟩
  | 63 => ⟨S2048x2048, .f32⟩
  | 64 => ⟨S_, .f32⟩
  | 65 => ⟨S4x256x512, .f32⟩
  | 66 => ⟨S2048x2048, .f32⟩
  | 67 => ⟨S2048x2048, .f32⟩
  | 68 => ⟨S2048x2048, .f32⟩
  | 69 => ⟨S2048x2048, .f32⟩
  | 70 => ⟨S2048x2048, .f32⟩
  | 71 => ⟨S2048x2048, .f32⟩
  | 72 => ⟨S32x64x4x512, .f32⟩
  | 73 => ⟨S32x4x64x512, .f32⟩
  | 74 => ⟨S32x4x64x512, .f32⟩
  | 75 => ⟨S_, .f32⟩
  | 76 => ⟨S512, .f32⟩
  | 77 => ⟨S1x1x1x512, .f32⟩
  | 78 => ⟨S32x4x64x512, .f32⟩
  | 79 => ⟨S32x4x64x512, .f32⟩
  | 80 => ⟨S_, .f32⟩
  | 81 => ⟨S512, .f32⟩
  | 82 => ⟨S32x4x64x512, .f32⟩
  | 83 => ⟨S_, .f32⟩
  | 84 => ⟨S32x4x64, .f32⟩
  | 85 => ⟨S32x4x64x1, .f32⟩
  | 86 => ⟨S32x4x64x512, .f32⟩
  | 87 => ⟨S32x4x64x512, .f32⟩
  | 88 => ⟨S32x4x64x1, .f32⟩
  | 89 => ⟨S_, .f32⟩
  | 90 => ⟨S32x4x64x1, .f32⟩
  | 91 => ⟨S32x4x64x1, .f32⟩
  | 92 => ⟨S_, .f32⟩
  | 93 => ⟨S32x4x64, .f32⟩
  | 94 => ⟨S32x4x64x512, .f32⟩
  | 95 => ⟨S32x4x64x512, .f32⟩
  | 96 => ⟨S32x4x64x512, .f32⟩
  | 97 => ⟨S32x4x64x512, .f32⟩
  | 98 => ⟨S32x4x64x512, .f32⟩
  | 99 => ⟨S_, .f32⟩
  | 100 => ⟨S4x256x512, .f32⟩
  | 101 => ⟨S_, .f32⟩
  | 102 => ⟨S32x4x64x256, .f32⟩
  | 103 => ⟨S_, .f32⟩
  | 104 => ⟨S32x4x64x256, .f32⟩
  | 105 => ⟨S_, .f32⟩
  | 106 => ⟨S32x4x64x512, .f32⟩
  | 107 => ⟨S_, .f32⟩
  | 108 => ⟨S32x4x256, .f32⟩
  | 109 => ⟨S_, .i32⟩
  | 110 => ⟨S32x4x64x512, .f32⟩
  | 111 => ⟨S32x4x256x512, .f32⟩
  | 112 => ⟨S32x4x256x1, .f32⟩
  | 113 => ⟨S32x4x64x512, .f32⟩
  | 114 => ⟨S32x4x64x256, .f32⟩
  | 115 => ⟨S32x4x256x512, .f32⟩
  | 116 => ⟨S32x4x64x256, .f32⟩
  | 117 => ⟨S_, .i32⟩
  | 118 => ⟨S4x256x512, .f32⟩
  | 119 => ⟨S32x4x64x256, .f32⟩
  | 120 => ⟨S32x4x64x256, .f32⟩
  | 121 => ⟨S32x4x64x512, .f32⟩
  | 122 => ⟨S32x4x256, .f32⟩
  | 123 => ⟨S_, .i32⟩
  | 124 => ⟨S_, .i1⟩
  | 125 => ⟨S_, .i32⟩
  | 126 => ⟨S_, .i32⟩
  | 127 => ⟨S_, .i32⟩
  | _ => ⟨S2048x6160, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S1x4x64x512, .f32⟩
  | 5 => ⟨S4x64x512, .f32⟩
  | 6 => ⟨S_, .i32⟩
  | 7 => ⟨S_, .i32⟩
  | 8 => ⟨S_, .i32⟩
  | 9 => ⟨S1x4x256x512, .f32⟩
  | 10 => ⟨S4x256x512, .f32⟩
  | 11 => ⟨S_, .i32⟩
  | 12 => ⟨S_, .i32⟩
  | 13 => ⟨S_, .i32⟩
  | 14 => ⟨S1x4x256x1, .f32⟩
  | 15 => ⟨S4x256x1, .f32⟩
  | 16 => ⟨S_, .i32⟩
  | 17 => ⟨S_, .i32⟩
  | 18 => ⟨S_, .i32⟩
  | 19 => ⟨S1x4x64x512, .f32⟩
  | 20 => ⟨S4x64x512, .f32⟩
  | 21 => ⟨S_, .i32⟩
  | 22 => ⟨S_, .i32⟩
  | 23 => ⟨S_, .i32⟩
  | 24 => ⟨S1x4x64x256, .f32⟩
  | 25 => ⟨S4x64x256, .f32⟩
  | 26 => ⟨S_, .i32⟩
  | 27 => ⟨S_, .i32⟩
  | 28 => ⟨S_, .i32⟩
  | 29 => ⟨S1x4x256x512, .f32⟩
  | 30 => ⟨S4x256x512, .f32⟩
  | 31 => ⟨S_, .i32⟩
  | 32 => ⟨S_, .i32⟩
  | 33 => ⟨S_, .i32⟩
  | 34 => ⟨S1x4x64x256, .f32⟩
  | 35 => ⟨S4x64x256, .f32⟩
  | 36 => ⟨S4x512x256, .f32⟩
  | 37 => ⟨S4x256x512, .f32⟩
  | 38 => ⟨S4x256x512, .f32⟩
  | 39 => ⟨S4x64x256, .f32⟩
  | 40 => ⟨S4x512x64, .f32⟩
  | 41 => ⟨S4x64x512, .f32⟩
  | 42 => ⟨S4x256x64, .f32⟩
  | 43 => ⟨S4x64x256, .f32⟩
  | 44 => ⟨S4x256x512, .f32⟩
  | 45 => ⟨S4x256x512, .f32⟩
  | 46 => ⟨S4x256x512, .f32⟩
  | 47 => ⟨S_, .f32⟩
  | 48 => ⟨S4x256, .f32⟩
  | 49 => ⟨S4x256x1, .f32⟩
  | 50 => ⟨S_, .f32⟩
  | 51 => ⟨S4x256, .f32⟩
  | 52 => ⟨S1x4x64x256, .f32⟩
  | 53 => ⟨S_, .i32⟩
  | 54 => ⟨S_, .i32⟩
  | 55 => ⟨S_, .i32⟩
  | 56 => ⟨S32x4x64x256, .f32⟩
  | 57 => ⟨S1x4x64x256, .f32⟩
  | 58 => ⟨S_, .i32⟩
  | 59 => ⟨S_, .i32⟩
  | 60 => ⟨S_, .i32⟩
  | 61 => ⟨S32x4x64x256, .f32⟩
  | 62 => ⟨S1x4x64x512, .f32⟩
  | 63 => ⟨S_, .i32⟩
  | 64 => ⟨S_, .i32⟩
  | 65 => ⟨S_, .i32⟩
  | 66 => ⟨S32x4x64x512, .f32⟩
  | 67 => ⟨S1x4x256, .f32⟩
  | 68 => ⟨S_, .i32⟩
  | 69 => ⟨S_, .i32⟩
  | 70 => ⟨S32x4x256, .f32⟩
  | 71 => ⟨S_, .i32⟩
  | 72 => ⟨S_, .i32⟩
  | 73 => ⟨S32x4x256, .f32⟩
  | 74 => ⟨S32x4x1x256, .f32⟩
  | 75 => ⟨S32x4x64x256, .f32⟩
  | 76 => ⟨S32x4x64x256, .f32⟩
  | 77 => ⟨S32x4x64x256, .f32⟩
  | 78 => ⟨S_, .f32⟩
  | 79 => ⟨S32x4x256, .f32⟩
  | 80 => ⟨S32x4x1x256, .f32⟩
  | 81 => ⟨S32x4x64x256, .f32⟩
  | 82 => ⟨S32x4x1x256, .f32⟩
  | 83 => ⟨S_, .f32⟩
  | 84 => ⟨S32x4x64x256, .f32⟩
  | 85 => ⟨S32x4x64x256, .f32⟩
  | 86 => ⟨S_, .f32⟩
  | 87 => ⟨S_, .f32⟩
  | 88 => ⟨S32x4x64x256, .f32⟩
  | 89 => ⟨S32x64x4x256, .f32⟩
  | 90 => ⟨S2048x1024, .f32⟩
  | 91 => ⟨S32x64x4x512, .f32⟩
  | 92 => ⟨S2048x2048, .f32⟩
  | 93 => ⟨S32x64x4x256, .f32⟩
  | 94 => ⟨S2048x1024, .f32⟩
  | 95 => ⟨S_, .f32⟩
  | 96 => ⟨S32x4x64x256, .f32⟩
  | 97 => ⟨S32x4x64x256, .f32⟩
  | 98 => ⟨S32x64x4x256, .f32⟩
  | 99 => ⟨S2048x1024, .f32⟩
  | 100 => ⟨S_, .f32⟩
  | 101 => ⟨S2048x1024, .f32⟩
  | 102 => ⟨S2048x1024, .f32⟩
  | 103 => ⟨S2048x1024, .f32⟩
  | 104 => ⟨S2048x1024, .f32⟩
  | 105 => ⟨S2048x1024, .f32⟩
  | 106 => ⟨S_, .f32⟩
  | 107 => ⟨S1024, .f32⟩
  | 108 => ⟨S1x1024, .f32⟩
  | 109 => ⟨S_, .f32⟩
  | 110 => ⟨S1024, .f32⟩
  | 111 => ⟨S1024x16, .f32⟩
  | 112 => ⟨S16x1024, .f32⟩
  | 113 => ⟨S2048x16, .f32⟩
  | 114 => ⟨S2048x6160, .f32⟩
  | 115 => ⟨S2048x2048, .bf16⟩
  | 116 => ⟨S2048x6160, .bf16⟩
  | _ => ⟨S2048x6160, .f32⟩

abbrev hbmTy (i : Nat) : BufTy := match i / 128 with
  | 0 => hbmTy0_0 i
  | 1 => hbmTy0_1 i
  | 2 => hbmTy0_2 i
  | _ => ⟨S2048x6160, .f32⟩

abbrev bufTy : (tb : Table) → Fin (tcTables nBuf tb) → BufTy
  | .hbm, ⟨i, _⟩ => hbmTy i
  | _, _ => ⟨S2048x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v9_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v9_2 : Ref sig .tc := ⟨.hbm, 60, rfl⟩
abbrev main_v9_0 : Ref sig .tc := ⟨.hbm, 61, rfl⟩
abbrev main_cst : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_cst_0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_call1_call0_cst : Ref sig .tc := ⟨.hbm, 76, rfl⟩
abbrev main_call1_call0_v0 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_1 : Ref sig .tc := ⟨.hbm, 86, rfl⟩
abbrev main_v30 : Ref sig .tc := ⟨.hbm, 87, rfl⟩
abbrev main_cst_2 : Ref sig .tc := ⟨.hbm, 88, rfl⟩
abbrev main_v31 : Ref sig .tc := ⟨.hbm, 89, rfl⟩
abbrev main_cst_3 : Ref sig .tc := ⟨.hbm, 90, rfl⟩
abbrev main_v32 : Ref sig .tc := ⟨.hbm, 91, rfl⟩
abbrev main_cst_4 : Ref sig .tc := ⟨.hbm, 92, rfl⟩
abbrev main_v33 : Ref sig .tc := ⟨.hbm, 93, rfl⟩
abbrev main_cst_5 : Ref sig .tc := ⟨.hbm, 94, rfl⟩
abbrev main_v34 : Ref sig .tc := ⟨.hbm, 95, rfl⟩
abbrev main_c : Ref sig .tc := ⟨.hbm, 96, rfl⟩
abbrev main_v35_0 : Ref sig .tc := ⟨.hbm, 97, rfl⟩
abbrev main_v35_1 : Ref sig .tc := ⟨.hbm, 98, rfl⟩
abbrev main_v35_2 : Ref sig .tc := ⟨.hbm, 99, rfl⟩
abbrev main_v35_3 : Ref sig .tc := ⟨.hbm, 100, rfl⟩
abbrev main_v35_4 : Ref sig .tc := ⟨.hbm, 101, rfl⟩
abbrev main_v35_5 : Ref sig .tc := ⟨.hbm, 102, rfl⟩
abbrev main_v35_6 : Ref sig .tc := ⟨.hbm, 103, rfl⟩
abbrev main_v35_7 : Ref sig .tc := ⟨.hbm, 104, rfl⟩
abbrev main_v35_8 : Ref sig .tc := ⟨.hbm, 105, rfl⟩
abbrev main_v35_9 : Ref sig .tc := ⟨.hbm, 106, rfl⟩
abbrev main_while0c_c_37 : Ref sig .tc := ⟨.hbm, 107, rfl⟩
abbrev main_while0c_v122 : Ref sig .tc := ⟨.hbm, 108, rfl⟩
abbrev main_while0b_call2_c : Ref sig .tc := ⟨.hbm, 109, rfl⟩
abbrev main_while0b_call2_c_0 : Ref sig .tc := ⟨.hbm, 110, rfl⟩
abbrev main_while0b_call2_c_1 : Ref sig .tc := ⟨.hbm, 111, rfl⟩
abbrev main_while0b_call2_v0 : Ref sig .tc := ⟨.hbm, 112, rfl⟩
abbrev main_while0b_v122 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_call3_c_1 : Ref sig .tc := ⟨.hbm, 116, rfl⟩
abbrev main_while0b_call3_v0 : Ref sig .tc := ⟨.hbm, 117, rfl⟩
abbrev main_while0b_v123 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_v0 : Ref sig .tc := ⟨.hbm, 122, rfl⟩
abbrev main_while0b_v124 : Ref sig .tc := ⟨.hbm, 123, rfl⟩
abbrev main_while0b_call5_c : Ref sig .tc := ⟨.hbm, 124, rfl⟩
abbrev main_while0b_call5_c_0 : Ref sig .tc := ⟨.hbm, 125, rfl⟩
abbrev main_while0b_call5_v0 : Ref sig .tc := ⟨.hbm, 126, rfl⟩
abbrev main_while0b_v125 : Ref sig .tc := ⟨.hbm, 127, rfl⟩
abbrev main_while0b_v126 : Ref sig .tc := ⟨.hbm, 128, rfl⟩
abbrev main_while0b_v127 : Ref sig .tc := ⟨.hbm, 129, rfl⟩
abbrev main_while0b_v128 : Ref sig .tc := ⟨.hbm, 130, rfl⟩
abbrev main_while0b_v129 : Ref sig .tc := ⟨.hbm, 131, rfl⟩
abbrev main_while0b_v130 : Ref sig .tc := ⟨.hbm, 132, rfl⟩
abbrev main_while0b_v131 : Ref sig .tc := ⟨.hbm, 133, rfl⟩
abbrev main_while0b_call6_v0 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_c_1 : Ref sig .tc := ⟨.hbm, 137, rfl⟩
abbrev main_while0b_v132 : Ref sig .tc := ⟨.hbm, 138, rfl⟩
abbrev main_while0b_call7_v0 : Ref sig .tc := ⟨.hbm, 139, rfl⟩
abbrev main_while0b_call7_c : Ref sig .tc := ⟨.hbm, 140, rfl⟩
abbrev main_while0b_call7_c_0 : Ref sig .tc := ⟨.hbm, 141, rfl⟩
abbrev main_while0b_call7_c_1 : Ref sig .tc := ⟨.hbm, 142, rfl⟩
abbrev main_while0b_v133 : Ref sig .tc := ⟨.hbm, 143, rfl⟩
abbrev main_while0b_call8_v0 : Ref sig .tc := ⟨.hbm, 144, rfl⟩
abbrev main_while0b_call8_c : Ref sig .tc := ⟨.hbm, 145, rfl⟩
abbrev main_while0b_call8_c_0 : Ref sig .tc := ⟨.hbm, 146, rfl⟩
abbrev main_while0b_call8_c_1 : Ref sig .tc := ⟨.hbm, 147, rfl⟩
abbrev main_while0b_v134 : Ref sig .tc := ⟨.hbm, 148, rfl⟩
abbrev main_while0b_call9_v0 : Ref sig .tc := ⟨.hbm, 149, rfl⟩
abbrev main_while0b_call9_c : Ref sig .tc := ⟨.hbm, 150, rfl⟩
abbrev main_while0b_call9_c_0 : Ref sig .tc := ⟨.hbm, 151, rfl⟩
abbrev main_while0b_call9_c_1 : Ref sig .tc := ⟨.hbm, 152, rfl⟩
abbrev main_while0b_v135 : Ref sig .tc := ⟨.hbm, 153, rfl⟩
abbrev main_while0b_c_37 : Ref sig .tc := ⟨.hbm, 154, rfl⟩
abbrev main_while0b_v136 : Ref sig .tc := ⟨.hbm, 155, rfl⟩
abbrev main_v36 : Ref sig .tc := ⟨.hbm, 156, rfl⟩
abbrev main_cst_6 : Ref sig .tc := ⟨.hbm, 157, rfl⟩
abbrev main_v37 : Ref sig .tc := ⟨.hbm, 158, rfl⟩
abbrev main_v38 : Ref sig .tc := ⟨.hbm, 159, rfl⟩
abbrev main_cst_7 : Ref sig .tc := ⟨.hbm, 160, rfl⟩
abbrev main_v39 : Ref sig .tc := ⟨.hbm, 161, rfl⟩
abbrev main_v40 : Ref sig .tc := ⟨.hbm, 162, rfl⟩
abbrev main_cst_8 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_cst_9 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_call10_v0 : Ref sig .tc := ⟨.hbm, 178, rfl⟩
abbrev main_call10_v1 : Ref sig .tc := ⟨.hbm, 179, rfl⟩
abbrev main_call10_cst : Ref sig .tc := ⟨.hbm, 180, rfl⟩
abbrev main_call10_v2 : Ref sig .tc := ⟨.hbm, 181, rfl⟩
abbrev main_call10_v3 : Ref sig .tc := ⟨.hbm, 182, rfl⟩
abbrev main_call10_cst_0 : Ref sig .tc := ⟨.hbm, 183, rfl⟩
abbrev main_call10_v4 : Ref sig .tc := ⟨.hbm, 184, rfl⟩
abbrev main_v54_2 : Ref sig .tc := ⟨.hbm, 185, rfl⟩
abbrev main_call10_cst_1 : Ref sig .tc := ⟨.hbm, 186, rfl⟩
abbrev main_call10_v6 : Ref sig .tc := ⟨.hbm, 187, rfl⟩
abbrev main_call10_v7 : Ref sig .tc := ⟨.hbm, 188, rfl⟩
abbrev main_v54_1 : Ref sig .tc := ⟨.hbm, 189, rfl⟩
abbrev main_v54_0 : Ref sig .tc := ⟨.hbm, 190, rfl⟩
abbrev main_v55 : Ref sig .tc := ⟨.hbm, 191, rfl⟩
abbrev main_cst_10 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_call11_v0 : Ref sig .tc := ⟨.hbm, 196, rfl⟩
abbrev main_call11_v1 : Ref sig .tc := ⟨.hbm, 197, rfl⟩
abbrev main_call11_v2 : Ref sig .tc := ⟨.hbm, 198, rfl⟩
abbrev main_v59 : Ref sig .tc := ⟨.hbm, 199, rfl⟩
abbrev main_v60 : Ref sig .tc := ⟨.hbm, 200, rfl⟩
abbrev main_v61 : Ref sig .tc := ⟨.hbm, 201, rfl⟩
abbrev main_v62 : Ref sig .tc := ⟨.hbm, 202, rfl⟩
abbrev main_cst_11 : Ref sig .tc := ⟨.hbm, 203, rfl⟩
abbrev main_v63 : Ref sig .tc := ⟨.hbm, 204, rfl⟩
abbrev main_v64 : Ref sig .tc := ⟨.hbm, 205, rfl⟩
abbrev main_v65 : Ref sig .tc := ⟨.hbm, 206, rfl⟩
abbrev main_v66 : Ref sig .tc := ⟨.hbm, 207, rfl⟩
abbrev main_cst_12 : Ref sig .tc := ⟨.hbm, 208, rfl⟩
abbrev main_v67 : Ref sig .tc := ⟨.hbm, 209, rfl⟩
abbrev main_v68 : Ref sig .tc := ⟨.hbm, 210, rfl⟩
abbrev main_cst_13 : Ref sig .tc := ⟨.hbm, 211, rfl⟩
abbrev main_v69 : Ref sig .tc := ⟨.hbm, 212, rfl⟩
abbrev main_v70 : Ref sig .tc := ⟨.hbm, 213, rfl⟩
abbrev main_v71 : Ref sig .tc := ⟨.hbm, 214, rfl⟩
abbrev main_v72 : Ref sig .tc := ⟨.hbm, 215, rfl⟩
abbrev main_v73 : Ref sig .tc := ⟨.hbm, 216, rfl⟩
abbrev main_cst_14 : Ref sig .tc := ⟨.hbm, 217, rfl⟩
abbrev main_v74 : Ref sig .tc := ⟨.hbm, 218, rfl⟩
abbrev main_v75 : Ref sig .tc := ⟨.hbm, 219, rfl⟩
abbrev main_cst_15 : Ref sig .tc := ⟨.hbm, 220, rfl⟩
abbrev main_v76 : Ref sig .tc := ⟨.hbm, 221, rfl⟩
abbrev main_v77 : Ref sig .tc := ⟨.hbm, 222, rfl⟩
abbrev main_v78 : Ref sig .tc := ⟨.hbm, 223, rfl⟩
abbrev main_v79 : Ref sig .tc := ⟨.hbm, 224, rfl⟩
abbrev main_v80 : Ref sig .tc := ⟨.hbm, 225, rfl⟩
abbrev main_v81 : Ref sig .tc := ⟨.hbm, 226, rfl⟩
abbrev main_cst_16 : Ref sig .tc := ⟨.hbm, 227, rfl⟩
abbrev main_v82 : Ref sig .tc := ⟨.hbm, 228, rfl⟩
abbrev main_cst_17 : Ref sig .tc := ⟨.hbm, 229, rfl⟩
abbrev main_v83 : Ref sig .tc := ⟨.hbm, 230, rfl⟩
abbrev main_cst_18 : Ref sig .tc := ⟨.hbm, 231, rfl⟩
abbrev main_v84 : Ref sig .tc := ⟨.hbm, 232, rfl⟩
abbrev main_cst_19 : Ref sig .tc := ⟨.hbm, 233, rfl⟩
abbrev main_v85 : Ref sig .tc := ⟨.hbm, 234, rfl⟩
abbrev main_cst_20 : Ref sig .tc := ⟨.hbm, 235, rfl⟩
abbrev main_v86 : Ref sig .tc := ⟨.hbm, 236, rfl⟩
abbrev main_c_21 : Ref sig .tc := ⟨.hbm, 237, rfl⟩
abbrev main_v87_0 : Ref sig .tc := ⟨.hbm, 238, rfl⟩
abbrev main_v87_1 : Ref sig .tc := ⟨.hbm, 239, rfl⟩
abbrev main_v87_2 : Ref sig .tc := ⟨.hbm, 240, rfl⟩
abbrev main_v87_3 : Ref sig .tc := ⟨.hbm, 241, rfl⟩
abbrev main_v87_4 : Ref sig .tc := ⟨.hbm, 242, rfl⟩
abbrev main_v87_5 : Ref sig .tc := ⟨.hbm, 243, rfl⟩
abbrev main_v87_6 : Ref sig .tc := ⟨.hbm, 244, rfl⟩
abbrev main_v87_7 : Ref sig .tc := ⟨.hbm, 245, rfl⟩
abbrev main_v87_8 : Ref sig .tc := ⟨.hbm, 246, rfl⟩
abbrev main_v87_9 : Ref sig .tc := ⟨.hbm, 247, rfl⟩
abbrev main_v87_10 : Ref sig .tc := ⟨.hbm, 248, rfl⟩
abbrev main_v87_11 : Ref sig .tc := ⟨.hbm, 249, rfl⟩
abbrev main_v87_12 : Ref sig .tc := ⟨.hbm, 250, rfl⟩
abbrev main_while1c_c_40 : Ref sig .tc := ⟨.hbm, 251, rfl⟩
abbrev main_while1c_v122 : Ref sig .tc := ⟨.hbm, 252, rfl⟩
abbrev main_while1b_c_40 : Ref sig .tc := ⟨.hbm, 253, rfl⟩
abbrev main_while1b_v122 : Ref sig .tc := ⟨.hbm, 254, rfl⟩
abbrev main_while1b_c_41 : Ref sig .tc := ⟨.hbm, 255, rfl⟩
abbrev main_while1b_v123 : Ref sig .tc := ⟨.hbm, 256, rfl⟩
abbrev main_while1b_call12_c : Ref sig .tc := ⟨.hbm, 257, rfl⟩
abbrev main_while1b_call12_c_0 : Ref sig .tc := ⟨.hbm, 258, rfl⟩
abbrev main_while1b_call12_c_1 : Ref sig .tc := ⟨.hbm, 259, rfl⟩
abbrev main_while1b_call12_v0 : Ref sig .tc := ⟨.hbm, 260, rfl⟩
abbrev main_while1b_v124 : Ref sig .tc := ⟨.hbm, 261, rfl⟩
abbrev main_while1b_call13_c : Ref sig .tc := ⟨.hbm, 262, rfl⟩
abbrev main_while1b_call13_c_0 : Ref sig .tc := ⟨.hbm, 263, rfl⟩
abbrev main_while1b_call13_c_1 : Ref sig .tc := ⟨.hbm, 264, rfl⟩
abbrev main_while1b_call13_v0 : Ref sig .tc := ⟨.hbm, 265, rfl⟩
abbrev main_while1b_v125 : Ref sig .tc := ⟨.hbm, 266, rfl⟩
abbrev main_while1b_call14_c : Ref sig .tc := ⟨.hbm, 267, rfl⟩
abbrev main_while1b_call14_c_0 : Ref sig .tc := ⟨.hbm, 268, rfl⟩
abbrev main_while1b_call14_c_1 : Ref sig .tc := ⟨.hbm, 269, rfl⟩
abbrev main_while1b_call14_v0 : Ref sig .tc := ⟨.hbm, 270, rfl⟩
abbrev main_while1b_v126 : Ref sig .tc := ⟨.hbm, 271, rfl⟩
abbrev main_while1b_call15_c : Ref sig .tc := ⟨.hbm, 272, rfl⟩
abbrev main_while1b_call15_c_0 : Ref sig .tc := ⟨.hbm, 273, rfl⟩
abbrev main_while1b_call15_c_1 : Ref sig .tc := ⟨.hbm, 274, rfl⟩
abbrev main_while1b_call15_v0 : Ref sig .tc := ⟨.hbm, 275, rfl⟩
abbrev main_while1b_v127 : Ref sig .tc := ⟨.hbm, 276, rfl⟩
abbrev main_while1b_call16_c : Ref sig .tc := ⟨.hbm, 277, rfl⟩
abbrev main_while1b_call16_c_0 : Ref sig .tc := ⟨.hbm, 278, rfl⟩
abbrev main_while1b_call16_c_1 : Ref sig .tc := ⟨.hbm, 279, rfl⟩
abbrev main_while1b_call16_v0 : Ref sig .tc := ⟨.hbm, 280, rfl⟩
abbrev main_while1b_v128 : Ref sig .tc := ⟨.hbm, 281, rfl⟩
abbrev main_while1b_call17_c : Ref sig .tc := ⟨.hbm, 282, rfl⟩
abbrev main_while1b_call17_c_0 : Ref sig .tc := ⟨.hbm, 283, rfl⟩
abbrev main_while1b_call17_c_1 : Ref sig .tc := ⟨.hbm, 284, rfl⟩
abbrev main_while1b_call17_v0 : Ref sig .tc := ⟨.hbm, 285, rfl⟩
abbrev main_while1b_v129 : Ref sig .tc := ⟨.hbm, 286, rfl⟩
abbrev main_while1b_call18_c : Ref sig .tc := ⟨.hbm, 287, rfl⟩
abbrev main_while1b_call18_c_0 : Ref sig .tc := ⟨.hbm, 288, rfl⟩
abbrev main_while1b_call18_c_1 : Ref sig .tc := ⟨.hbm, 289, rfl⟩
abbrev main_while1b_call18_v0 : Ref sig .tc := ⟨.hbm, 290, rfl⟩
abbrev main_while1b_v130 : Ref sig .tc := ⟨.hbm, 291, rfl⟩
abbrev main_while1b_v131 : Ref sig .tc := ⟨.hbm, 292, rfl⟩
abbrev main_while1b_v132 : Ref sig .tc := ⟨.hbm, 293, rfl⟩
abbrev main_while1b_v133 : Ref sig .tc := ⟨.hbm, 294, rfl⟩
abbrev main_while1b_v134 : Ref sig .tc := ⟨.hbm, 295, rfl⟩
abbrev main_while1b_v135 : Ref sig .tc := ⟨.hbm, 296, rfl⟩
abbrev main_while1b_v136 : Ref sig .tc := ⟨.hbm, 297, rfl⟩
abbrev main_while1b_v137 : Ref sig .tc := ⟨.hbm, 298, rfl⟩
abbrev main_while1b_v138 : Ref sig .tc := ⟨.hbm, 299, rfl⟩
abbrev main_while1b_v139 : Ref sig .tc := ⟨.hbm, 300, rfl⟩
abbrev main_while1b_v140 : Ref sig .tc := ⟨.hbm, 301, rfl⟩
abbrev main_while1b_v141 : Ref sig .tc := ⟨.hbm, 302, rfl⟩
abbrev main_while1b_cst_42 : Ref sig .tc := ⟨.hbm, 303, rfl⟩
abbrev main_while1b_v142 : Ref sig .tc := ⟨.hbm, 304, rfl⟩
abbrev main_while1b_v143 : Ref sig .tc := ⟨.hbm, 305, rfl⟩
abbrev main_while1b_cst_43 : Ref sig .tc := ⟨.hbm, 306, rfl⟩
abbrev main_while1b_v144 : Ref sig .tc := ⟨.hbm, 307, rfl⟩
abbrev main_while1b_call19_v0 : Ref sig .tc := ⟨.hbm, 308, rfl⟩
abbrev main_while1b_call19_c : Ref sig .tc := ⟨.hbm, 309, rfl⟩
abbrev main_while1b_call19_c_0 : Ref sig .tc := ⟨.hbm, 310, rfl⟩
abbrev main_while1b_call19_c_1 : Ref sig .tc := ⟨.hbm, 311, rfl⟩
abbrev main_while1b_v145 : Ref sig .tc := ⟨.hbm, 312, rfl⟩
abbrev main_while1b_call20_v0 : Ref sig .tc := ⟨.hbm, 313, rfl⟩
abbrev main_while1b_call20_c : Ref sig .tc := ⟨.hbm, 314, rfl⟩
abbrev main_while1b_call20_c_0 : Ref sig .tc := ⟨.hbm, 315, rfl⟩
abbrev main_while1b_call20_c_1 : Ref sig .tc := ⟨.hbm, 316, rfl⟩
abbrev main_while1b_v146 : Ref sig .tc := ⟨.hbm, 317, rfl⟩
abbrev main_while1b_call21_v0 : Ref sig .tc := ⟨.hbm, 318, rfl⟩
abbrev main_while1b_call21_c : Ref sig .tc := ⟨.hbm, 319, rfl⟩
abbrev main_while1b_call21_c_0 : Ref sig .tc := ⟨.hbm, 320, rfl⟩
abbrev main_while1b_call21_c_1 : Ref sig .tc := ⟨.hbm, 321, rfl⟩
abbrev main_while1b_v147 : Ref sig .tc := ⟨.hbm, 322, rfl⟩
abbrev main_while1b_call22_v0 : Ref sig .tc := ⟨.hbm, 323, rfl⟩
abbrev main_while1b_call22_c : Ref sig .tc := ⟨.hbm, 324, rfl⟩
abbrev main_while1b_call22_c_0 : Ref sig .tc := ⟨.hbm, 325, rfl⟩
abbrev main_while1b_v148 : Ref sig .tc := ⟨.hbm, 326, rfl⟩
abbrev main_while1b_c_44 : Ref sig .tc := ⟨.hbm, 327, rfl⟩
abbrev main_while1b_v149 : Ref sig .tc := ⟨.hbm, 328, rfl⟩
abbrev main_v88 : Ref sig .tc := ⟨.hbm, 329, rfl⟩
abbrev main_v89 : Ref sig .tc := ⟨.hbm, 330, rfl⟩
abbrev main_v90 : Ref sig .tc := ⟨.hbm, 331, rfl⟩
abbrev main_v91 : Ref sig .tc := ⟨.hbm, 332, rfl⟩
abbrev main_v92 : Ref sig .tc := ⟨.hbm, 333, rfl⟩
abbrev main_cst_22 : Ref sig .tc := ⟨.hbm, 334, rfl⟩
abbrev main_v93 : Ref sig .tc := ⟨.hbm, 335, rfl⟩
abbrev main_v94 : Ref sig .tc := ⟨.hbm, 336, rfl⟩
abbrev main_v95 : Ref sig .tc := ⟨.hbm, 337, rfl⟩
abbrev main_v96 : Ref sig .tc := ⟨.hbm, 338, rfl⟩
abbrev main_cst_23 : Ref sig .tc := ⟨.hbm, 339, rfl⟩
abbrev main_v97 : Ref sig .tc := ⟨.hbm, 340, rfl⟩
abbrev main_v98 : Ref sig .tc := ⟨.hbm, 341, rfl⟩
abbrev main_call23_call0_cst : Ref sig .tc := ⟨.hbm, 342, rfl⟩
abbrev main_call23_call0_v0 : Ref sig .tc := ⟨.hbm, 343, rfl⟩
abbrev main_v99 : Ref sig .tc := ⟨.hbm, 344, rfl⟩
abbrev main_v100 : Ref sig .tc := ⟨.hbm, 345, rfl⟩
abbrev main_v101 : Ref sig .tc := ⟨.hbm, 346, rfl⟩
abbrev main_v102 : Ref sig .tc := ⟨.hbm, 347, rfl⟩
abbrev main_v103 : Ref sig .tc := ⟨.hbm, 348, rfl⟩
abbrev main_v104 : Ref sig .tc := ⟨.hbm, 349, rfl⟩
abbrev main_v105 : Ref sig .tc := ⟨.hbm, 350, rfl⟩
abbrev main_cst_24 : Ref sig .tc := ⟨.hbm, 351, rfl⟩
abbrev main_v106 : Ref sig .tc := ⟨.hbm, 352, rfl⟩
abbrev main_v107 : Ref sig .tc := ⟨.hbm, 353, rfl⟩
abbrev main_v108 : Ref sig .tc := ⟨.hbm, 354, rfl⟩
abbrev main_v109 : Ref sig .tc := ⟨.hbm, 355, rfl⟩
abbrev main_cst_25 : Ref sig .tc := ⟨.hbm, 356, rfl⟩
abbrev main_v110 : Ref sig .tc := ⟨.hbm, 357, rfl⟩
abbrev main_v111 : Ref sig .tc := ⟨.hbm, 358, rfl⟩
abbrev main_call24_v0 : Ref sig .tc := ⟨.hbm, 359, rfl⟩
abbrev main_call24_v1 : Ref sig .tc := ⟨.hbm, 360, rfl⟩
abbrev main_v112 : Ref sig .tc := ⟨.hbm, 361, rfl⟩
abbrev main_cst_26 : Ref sig .tc := ⟨.hbm, 362, rfl⟩
abbrev main_v113 : Ref sig .tc := ⟨.hbm, 363, rfl⟩
abbrev main_v114 : Ref sig .tc := ⟨.hbm, 364, rfl⟩
abbrev main_cst_27 : Ref sig .tc := ⟨.hbm, 365, rfl⟩
abbrev main_v115 : Ref sig .tc := ⟨.hbm, 366, rfl⟩
abbrev main_v116 : Ref sig .tc := ⟨.hbm, 367, rfl⟩
abbrev main_v117 : Ref sig .tc := ⟨.hbm, 368, rfl⟩
abbrev main_v118 : Ref sig .tc := ⟨.hbm, 369, rfl⟩
abbrev main_v119 : Ref sig .tc := ⟨.hbm, 370, rfl⟩
abbrev main_v120 : Ref sig .tc := ⟨.hbm, 371, rfl⟩
abbrev main_v121 : Ref sig .tc := ⟨.hbm, 372, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .bf16⟩
  | .hbm, ⟨5, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x2048, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel3.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x2048, .bf16⟩
  | .hbm, ⟨8, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S2048x8192, .bf16⟩
  | .hbm, ⟨8, _⟩ => ⟨S2048x8x1024, .bf16⟩
  | .hbm, ⟨9, _⟩ => ⟨S8x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x8192 : Shape := ⟨2, ![2048, 8192]⟩
abbrev S2048x8x1024 : Shape := ⟨3, ![2048, 8, 1024]⟩
abbrev S8x2048x1024 : Shape := ⟨3, ![8, 2048, 1024]⟩
abbrev S2048x2048 : Shape := ⟨2, ![2048, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S2048x8192, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_12 : BitVec 32 := 3#32
  let v21 : BitVec 1 := Scalar.cmpi .eq arg2 c3_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S2048x2048, .bf16⟩
  | .hbm, ⟨6, _⟩ => ⟨S2048x8192, .f32⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S8192x2048, .bf16⟩
  | .hbm, ⟨9, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | .hbm, ⟨8, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel8.lean ====
abbrev S2048x6160 : Shape := ⟨2, ![2048, 6160]⟩
abbrev S_ : Shape := ⟨0, ![]⟩
abbrev S2048x6272 : Shape := ⟨2, ![2048, 6272]⟩
abbrev S2048x2048 : Shape := ⟨2, ![2048, 2048]⟩
abbrev S1024x896 : Shape := ⟨2, ![1024, 896]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2048x6160, .f32⟩
  | .hbm, ⟨1, _⟩ => ⟨S2048x6160, .f32⟩
  | .hbm, ⟨2, _⟩ => ⟨S_, .i32⟩
  | .hbm, ⟨3, _⟩ => ⟨S_, .f32⟩
  | .hbm, ⟨4, _⟩ => ⟨S2048x6272, .f32⟩
  | .hbm, ⟨5, _⟩ => ⟨S2048x6272, .bf16⟩
  | .hbm, ⟨6, _⟩ => ⟨S_, .i32⟩
  | .hbm, ⟨7, _⟩ => ⟨S_, .f32⟩
  | .hbm, ⟨8, _⟩ => ⟨S2048x6272, .f32⟩
  | .hbm, ⟨9, _⟩ => ⟨S2048x6272, .bf16⟩
  | .hbm, ⟨10, _⟩ => ⟨S2048x2048, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 7], ![false, false, false]⟩

def k0_cond3 (i : grid0.Coords) : BitVec 1 :=
  let arg2 : BitVec 32 := BitVec.ofNat 32 (i 2).val
  let c6_i32_6 : BitVec 32 := 6#32
  let v13 : BitVec 1 := Scalar.cmpi .eq arg2 c6_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x6160 : Shape := ⟨2, ![2048, 6160]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x6160, .f32⟩
  | .hbm, ⟨1, _⟩ => ⟨S2048x6160, .f32⟩
  | .hbm, ⟨2, _⟩ => ⟨S_, .f32⟩
  | .hbm, ⟨3, _⟩ => ⟨S2048x2048, .f32⟩
  | .hbm, ⟨4, _⟩ => ⟨S2048x6160, .f32⟩
  | .hbm, ⟨5, _⟩ => ⟨S2048x2048, .f32⟩
  | _, _ => ⟨S2048x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S2048x6160 : Shape := ⟨2, ![2048, 6160]⟩
abbrev S_ : Shape := ⟨0, ![]⟩
abbrev S2048x6272 : Shape := ⟨2, ![2048, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x6160, .f32⟩
  | .hbm, ⟨2, _⟩ => ⟨S_, .i32⟩
  | .hbm, ⟨3, _⟩ => ⟨S_, .f32⟩
  | .hbm, ⟨4, _⟩ => ⟨S2048x6272, .f32⟩
  | .hbm, ⟨5, _⟩ => ⟨S2048x6272, .bf16⟩
  | .hbm, ⟨6, _⟩ => ⟨S2048x2048, .bf16⟩
  | .hbm, ⟨7, _⟩ => ⟨S2048x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x6160 : Shape := ⟨2, ![2048, 6160]⟩
abbrev S_ : Shape := ⟨0, ![]⟩
abbrev S6160x2048 : Shape := ⟨2, ![6160, 2048]⟩
abbrev S2048x6272 : Shape := ⟨2, ![2048, 6272]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6160, .f32⟩
  | .hbm, ⟨2, _⟩ => ⟨S_, .f32⟩
  | .hbm, ⟨3, _⟩ => ⟨S2048x6160, .f32⟩
  | .hbm, ⟨4, _⟩ => ⟨S2048x6160, .f32⟩
  | .hbm, ⟨5, _⟩ => ⟨S6160x2048, .f32⟩
  | .hbm, ⟨6, _⟩ => ⟨S2048x6160, .f32⟩
  | .hbm, ⟨7, _⟩ => ⟨S2048x6160, .bf16⟩
  | .hbm, ⟨8, _⟩ => ⟨S_, .i32⟩
  | .hbm, ⟨9, _⟩ => ⟨S_, .bf16⟩
  | .hbm, ⟨10, _⟩ => ⟨S2048x6272, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel10.lean ====
abbrev S2048x2048 : Shape := ⟨2, ![2048, 2048]⟩
abbrev S2048x6160 : Shape := ⟨2, ![2048, 6160]⟩
abbrev S_ : Shape := ⟨0, ![]⟩
abbrev S2048x6272 : Shape := ⟨2, ![2048, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x6160, .f32⟩
  | .hbm, ⟨2, _⟩ => ⟨S_, .i32⟩
  | .hbm, ⟨3, _⟩ => ⟨S_, .f32⟩
  | .hbm, ⟨4, _⟩ => ⟨S2048x6272, .f32⟩
  | .hbm, ⟨5, _⟩ => ⟨S2048x6272, .bf16⟩
  | .hbm, ⟨6, _⟩ => ⟨S2048x2048, .bf16⟩
  | .hbm, ⟨7, _⟩ => ⟨S2048x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x6160 : Shape := ⟨2, ![2048, 6160]⟩
abbrev S_ : Shape := ⟨0, ![]⟩
abbrev S2048x6272 : Shape := ⟨2, ![2048, 6272]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6160, .f32⟩
  | .hbm, ⟨2, _⟩ => ⟨S2048x6160, .f32⟩
  | .hbm, ⟨3, _⟩ => ⟨S_, .i32⟩
  | .hbm, ⟨4, _⟩ => ⟨S_, .f32⟩
  | .hbm, ⟨5, _⟩ => ⟨S2048x6272, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel11.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S_ : Shape := ⟨0, ![]⟩
abbrev S2048x6272 : Shape := ⟨2, ![2048, 6272]⟩
abbrev S128x1024 : Shape := ⟨2, ![128, 1024]⟩
abbrev S1x1024 : Shape := ⟨2, ![1, 1024]⟩
abbrev S1x512 : Shape := ⟨2, ![1, 512]⟩
abbrev S2048x2048 : Shape := ⟨2, ![2048, 2048]⟩
abbrev S4x32x512x256 : Shape := ⟨4, ![4, 32, 512, 256]⟩
abbrev S64x1024 : Shape := ⟨2, ![64, 1024]⟩
abbrev S64x2048 : Shape := ⟨2, ![64, 2048]⟩
abbrev S64x128 : Shape := ⟨2, ![64, 128]⟩
abbrev S4x1x512x256 : Shape := ⟨4, ![4, 1, 512, 256]⟩
abbrev S4x512x256 : Shape := ⟨3, ![4, 512, 256]⟩
abbrev S64x64 : Shape := ⟨2, ![64, 64]⟩
abbrev S1x512x256 : Shape := ⟨3, ![1, 512, 256]⟩
abbrev S512x256 : Shape := ⟨2, ![512, 256]⟩
abbrev S1x256 : Shape := ⟨2, ![1, 256]⟩
abbrev S64x512 : Shape := ⟨2, ![64, 512]⟩
abbrev S64x256 : Shape := ⟨2, ![64, 256]⟩
abbrev S1x1x512x256 : Shape := ⟨4, ![1, 1, 512, 256]⟩
abbrev S64 : Shape := ⟨1, ![64]⟩
abbrev S64x1 : Shape := ⟨2, ![64, 1]⟩

abbrev nBuf : Space → Nat
  | .hbm => 15
  | .vmem => 18
  | .smem => 0
  | _ => 0

abbrev bufTy : (tb : Table) → Fin (tcTables nBuf tb) → BufTy
  | .hbm, ⟨0, _⟩ => ⟨S2048x6160, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S2048x6272, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S128x1024, .bf16⟩
  | .hbm, ⟨11, _⟩ => ⟨S1x1024, .f32⟩
  | .hbm, ⟨12, _⟩ => ⟨S1x512, .f32⟩
  | .hbm, ⟨13, _⟩ => ⟨S2048x2048, .bf16⟩
  | .hbm, ⟨14, _⟩ => ⟨S4x32x512x256, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S64x2048, .bf16⟩
  | .local _ .vmem, ⟨14, _⟩ => ⟨S64x2048, .bf16⟩
  | .local _ .vmem, ⟨15, _⟩ => ⟨S4x1x512x256, .f32⟩
  | .local _ .vmem, ⟨16, _⟩ => ⟨S4x1x512x256, .f32⟩
  | .local _ .vmem, ⟨17, _⟩ => ⟨S4x512x256, .f32⟩
  | _, _ => ⟨S2048x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S2048x1024 : Shape := ⟨2, ![2048, 1024]⟩
abbrev S2048x2048 : Shape := ⟨2, ![2048, 2048]⟩
abbrev S2048x16 : Shape := ⟨2, ![2048, 16]⟩
abbrev S1x1024 : Shape := ⟨2, ![1, 1024]⟩
abbrev S_ : Shape := ⟨0, ![]⟩
abbrev S32x64x4x256 : Shape := ⟨4, ![32, 64, 4, 256]⟩
abbrev S32x4x64x256 : Shape := ⟨4, ![32, 4, 64, 256]⟩
abbrev S32x64x4x512 : Shape := ⟨4, ![32, 64, 4, 512]⟩
abbrev S32x4x64x512 : Shape := ⟨4, ![32, 4, 64, 512]⟩
abbrev S32x4x1x256 : Shape := ⟨4, ![32, 4, 1, 256]⟩
abbrev S32x4x256 : Shape := ⟨3, ![32, 4, 256]⟩
abbrev S4x256x512 : Shape := ⟨3, ![4, 256, 512]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S1x4x256 : Shape := ⟨3, ![1, 4, 256]⟩
abbrev S4x256 : Shape := ⟨2, ![4, 256]⟩
abbrev S4x256x1 : Shape := ⟨3, ![4, 256, 1]⟩
abbrev S32x4x64 : Shape := ⟨3, ![32, 4, 64]⟩
abbrev S32x4x64x1 : Shape := ⟨4, ![32, 4, 64, 1]⟩
abbrev S1x1x1x512 : Shape := ⟨4, ![1, 1, 1, 512]⟩

abbrev nBuf : Space → Nat
  | .hbm => 129
  | .vmem => 0
  | .smem => 0
  | _ => 0

abbrev hbmTy0_0 (i : Nat) : BufTy := match i % 128 with
  | 0 => ⟨S2048x6160, .f32⟩
  | 1 => ⟨S16x1024, .f32⟩
  | 2 => ⟨S1024, .f32⟩
  | 3 => ⟨S512, .f32⟩
  | 4 => ⟨S2048x1024, .f32⟩
  | 5 => ⟨S2048x1024, .f32⟩
  | 6 => ⟨S2048x2048, .f32⟩
  | 7 => ⟨S2048x2048, .f32⟩
  | 8 => ⟨S2048x16, .f32⟩
  | 9 => ⟨S2048x1024, .f32⟩
  | 10 => ⟨S1x1024, .f32⟩
  | 11 => ⟨S2048x1024, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x1024, .f32⟩
  | 18 => ⟨S2048x1024, .f32⟩
  | 19 => ⟨S2048x1024, .i1⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S32x64x4x256, .f32⟩
  | 33 => ⟨S32x4x64x256, .f32⟩
  | 34 => ⟨S_, .f32⟩
  | 35 => ⟨S32x4x64x256, .f32⟩
  | 36 => ⟨S32x4x64x256, .f32⟩
  | 37 => ⟨S32x64x4x256, .f32⟩
  | 38 => ⟨S32x4x64x256, .f32⟩
  | 39 => ⟨S32x64x4x512, .f32⟩
  | 40 => ⟨S32x4x64x512, .f32⟩
  | 41 => ⟨S32x64x4x256, .f32⟩
  | 42 => ⟨S32x4x64x256, .f32⟩
  | 43 => ⟨S_, .f32⟩
  | 44 => ⟨S_, .f32⟩
  | 45 => ⟨S32x4x64x256, .f32⟩
  | 46 => ⟨S32x4x1x256, .f32⟩
  | 47 => ⟨S32x4x64x256, .f32⟩
  | 48 => ⟨S32x4x64x256, .f32⟩
  | 49 => ⟨S32x4x64x256, .f32⟩
  | 50 => ⟨S32x4x64x256, .f32⟩
  | 51 => ⟨S32x4x256, .f32⟩
  | 52 => ⟨S32x4x256, .f32⟩
  | 53 => ⟨S_, .f32⟩
  | 54 => ⟨S4x256x512, .f32⟩
  | 55 => ⟨S_, .f32⟩
  | 56 => ⟨S32x4x64x512, .f32⟩
  | 57 => ⟨S_, .i32⟩
  | 58 => ⟨S32x4x64x256, .f32⟩
  | 59 => ⟨S32x4x64x256, .f32⟩
  | 60 => ⟨S32x4x64x512, .f32⟩
  | 61 => ⟨S32x4x256, .f32⟩
  | 62 => ⟨S_, .i32⟩
  | 63 => ⟨S4x256x512, .f32⟩
  | 64 => ⟨S32x4x64x512, .f32⟩
  | 65 => ⟨S_, .i32⟩
  | 66 => ⟨S_, .i1⟩
  | 67 => ⟨S_, .i32⟩
  | 68 => ⟨S_, .i32⟩
  | 69 => ⟨S_, .i32⟩
  | 70 => ⟨S1x4x64x256, .f32⟩
  | 71 => ⟨S4x64x256, .f32⟩
  | 72 => ⟨S_, .i32⟩
  | 73 => ⟨S_, .i32⟩
  | 74 => ⟨S_, .i32⟩
  | 75 => ⟨S1x4x64x256, .f32⟩
  | 76 => ⟨S4x64x256, .f32⟩
  | 77 => ⟨S_, .i32⟩
  | 78 => ⟨S_, .i32⟩
  | 79 => ⟨S_, .i32⟩
  | 80 => ⟨S1x4x64x512, .f32⟩
  | 81 => ⟨S4x64x512, .f32⟩
  | 82 => ⟨S_, .i32⟩
  | 83 => ⟨S_, .i32⟩
  | 84 => ⟨S1x4x256, .f32⟩
  | 85 => ⟨S4x256, .f32⟩
  | 86 => ⟨S4x256x1, .f32⟩
  | 87 => ⟨S4x256x512, .f32⟩
  | 88 => ⟨S4x256x512, .f32⟩
  | 89 => ⟨S4x256x512, .f32⟩
  | 90 => ⟨S4x256x512, .f32⟩
  | 91 => ⟨S4x64x512, .f32⟩
  | 92 => ⟨S1x4x64x512, .f32⟩
  | 93 => ⟨S_, .i32⟩
  | 94 => ⟨S_, .i32⟩
  | 95 => ⟨S_, .i32⟩
  | 96 => ⟨S32x4x64x512, .f32⟩
  | 97 => ⟨S_, .i32⟩
  | 98 => ⟨S_, .i32⟩
  | 99 => ⟨S32x4x64x512, .f32⟩
  | 100 => ⟨S_, .f32⟩
  | 101 => ⟨S32x4x64, .f32⟩
  | 102 => ⟨S32x4x64x1, .f32⟩
  | 103 => ⟨S_, .f32⟩
  | 104 => ⟨S32x4x64x1, .f32⟩
  | 105 => ⟨S32x4x64x1, .f32⟩
  | 106 => ⟨S_, .f32⟩
  | 107 => ⟨S32x4x64x1, .f32⟩
  | 108 => ⟨S32x4x64x1, .f32⟩
  | 109 => ⟨S32x4x64x1, .f32⟩
  | 110 => ⟨S32x4x64x512, .f32⟩
  | 111 => ⟨S32x4x64x512, .f32⟩
  | 112 => ⟨S1x1x1x512, .f32⟩
  | 113 => ⟨S32x4x64x512, .f32⟩
  | 114 => ⟨S32x4x64x512, .f32⟩
  | 115 => ⟨S32x64x4x512, .f32⟩
  | 116 => ⟨S2048x2048, .f32⟩
  | 117 => ⟨S2048x2048, .f32⟩
  | 118 => ⟨S2048x2048, .f32⟩
  | 119 => ⟨S2048x2048, .f32⟩
  | 120 => ⟨S_, .f32⟩
  | 121 => ⟨S2048x2048, .f32⟩
  | 122 => ⟨S2048x2048, .f32⟩
  | 123 => ⟨S_, .f32⟩
  | 124 => ⟨S2048x2048, .f32⟩
  | 125 => ⟨S2048x2048, .f32⟩
  | 126 => ⟨S2048x2048, .f32⟩
  | 127 => ⟨S2048x2048, .f32⟩
  | _ => ⟨S2048x6160, .f32⟩

abbrev hbmTy0_1 (i : Nat) : BufTy := match i % 128 with
  | 0 => ⟨S2048x2048, .bf16⟩
  | _ => ⟨S2048x6160, .f32⟩

abbrev hbmTy (i : Nat) : BufTy := match i / 128 with
  | 0 => hbmTy0_0 i
  | 1 => hbmTy0_1 i
  | _ => ⟨S2048x6160, .f32⟩

abbrev bufTy : (tb : Table) → Fin (tcTables nBuf tb) → BufTy
  | .hbm, ⟨i, _⟩ => hbmTy i
  | _, _ => ⟨S2048x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_c : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev main_v34_3 : Ref sig .tc := ⟨.hbm, 61, rfl⟩
abbrev main_v34_4 : Ref sig .tc := ⟨.hbm, 62, rfl⟩
abbrev main_v34_5 : Ref sig .tc := ⟨.hbm, 63, rfl⟩
abbrev main_v34_6 : Ref sig .tc := ⟨.hbm, 64, rfl⟩
abbrev main_while0c_c_12 : Ref sig .tc := ⟨.hbm, 65, rfl⟩
abbrev main_while0c_v54 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_c_1 : Ref sig .tc := ⟨.hbm, 69, rfl⟩
abbrev main_while0b_call2_v0 : Ref sig .tc := ⟨.hbm, 70, rfl⟩
abbrev main_while0b_v54 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_v0 : Ref sig .tc := ⟨.hbm, 75, rfl⟩
abbrev main_while0b_v55 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_v0 : Ref sig .tc := ⟨.hbm, 80, rfl⟩
abbrev main_while0b_v56 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_call5_v0 : Ref sig .tc := ⟨.hbm, 84, rfl⟩
abbrev main_while0b_v57 : Ref sig .tc := ⟨.hbm, 85, rfl⟩
abbrev main_while0b_v58 : Ref sig .tc := ⟨.hbm, 86, rfl⟩
abbrev main_while0b_v59 : Ref sig .tc := ⟨.hbm, 87, rfl⟩
abbrev main_while0b_v60 : Ref sig .tc := ⟨.hbm, 88, rfl⟩
abbrev main_while0b_v61 : Ref sig .tc := ⟨.hbm, 89, rfl⟩
abbrev main_while0b_v62 : Ref sig .tc := ⟨.hbm, 90, rfl⟩
abbrev main_while0b_v63 : Ref sig .tc := ⟨.hbm, 91, rfl⟩
abbrev main_while0b_call6_v0 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_v64 : Ref sig .tc := ⟨.hbm, 96, rfl⟩
abbrev main_while0b_c_12 : Ref sig .tc := ⟨.hbm, 97, rfl⟩
abbrev main_while0b_v65 : Ref sig .tc := ⟨.hbm, 98, rfl⟩
abbrev main_v35 : Ref sig .tc := ⟨.hbm, 99, rfl⟩
abbrev main_cst_3 : Ref sig .tc := ⟨.hbm, 100, rfl⟩
abbrev main_v36 : Ref sig .tc := ⟨.hbm, 101, rfl⟩
abbrev main_v37 : Ref sig .tc := ⟨.hbm, 102, rfl⟩
abbrev main_cst_4 : Ref sig .tc := ⟨.hbm, 103, rfl⟩
abbrev main_v38 : Ref sig .tc := ⟨.hbm, 104, rfl⟩
abbrev main_v39 : Ref sig .tc := ⟨.hbm, 105, rfl⟩
abbrev main_cst_5 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_call7_v0 : Ref sig .tc := ⟨.hbm, 118, rfl⟩
abbrev main_call7_v1 : Ref sig .tc := ⟨.hbm, 119, rfl⟩
abbrev main_call7_cst : Ref sig .tc := ⟨.hbm, 120, rfl⟩
abbrev main_call7_v2 : Ref sig .tc := ⟨.hbm, 121, rfl⟩
abbrev main_call7_v3 : Ref sig .tc := ⟨.hbm, 122, rfl⟩
abbrev main_call7_cst_0 : Ref sig .tc := ⟨.hbm, 123, rfl⟩
abbrev main_call7_v4 : Ref sig .tc := ⟨.hbm, 124, rfl⟩
abbrev main_call7_v5 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩

abbrev nD : Nat := 1
abbrev τ : Topo := Topo.v7x

variable {F : FTy → Type} [FloatOps F]

abbrev main_while0_count : Scf.Loop 32 := ⟨0#32, 32#32, 1#32⟩
-- ==== Kernel12.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S2048x1024, .bf16⟩
  | .hbm, ⟨6, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S1024x4096 : Shape := ⟨2, ![1024, 4096]⟩
abbrev S2048x4096 : Shape := ⟨2, ![2048, 4096]⟩
abbrev S1024x8x512 : Shape := ⟨3, ![1024, 8, 512]⟩
abbrev S8x1024x512 : Shape := ⟨3, ![8, 1024, 512]⟩
abbrev S2048x1024 : Shape := ⟨2, ![2048, 1024]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S2048x4096, .bf16⟩
  | .hbm, ⟨6, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_20 : BitVec 32 := 1#32
  let v33 : BitVec 1 := Scalar.cmpi .eq arg2 c1_i32_20
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S1024x4096 : Shape := ⟨2, ![1024, 4096]⟩
abbrev S2048x4096 : Shape := ⟨2, ![2048, 4096]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S_, .f32⟩
  | .hbm, ⟨3, _⟩ => ⟨S2048x1024, .f32⟩
  | .hbm, ⟨4, _⟩ => ⟨S2048x4096, .f32⟩
  | .hbm, ⟨5, _⟩ => ⟨S2048x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S2048x4096 : Shape := ⟨2, ![2048, 4096]⟩
abbrev S2048x2048 : Shape := ⟨2, ![2048, 2048]⟩
abbrev S128x4096 : Shape := ⟨2, ![128, 4096]⟩
abbrev S128x2048 : Shape := ⟨2, ![128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .bf16⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x4096, .bf16⟩
  | .local _ .vmem, ⟨5, _⟩ => ⟨S128x4096, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel22.lean ====
abbrev S2048x1024 : Shape := ⟨2, ![2048, 1024]⟩
abbrev S2048x4096 : Shape := ⟨2, ![2048, 4096]⟩
abbrev S4x256x64 : Shape := ⟨3, ![4, 256, 64]⟩
abbrev S1024x256 : Shape := ⟨2, ![1024, 256]⟩
abbrev S1024x1024 : Shape := ⟨2, ![1024, 1024]⟩
abbrev S1x256x64 : Shape := ⟨3, ![1, 256, 64]⟩
abbrev S256x1024 : Shape := ⟨2, ![256, 1024]⟩
abbrev S1024x64 : Shape := ⟨2, ![1024, 64]⟩
abbrev S256x64 : Shape := ⟨2, ![256, 64]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4x256x64, .f32⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S1x256x64, .f32⟩
  | .local _ .vmem, ⟨5, _⟩ => ⟨S1x256x64, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference22Ideal.lean ====
abbrev S2048x1024 : Shape := ⟨2, ![2048, 1024]⟩
abbrev S2048x4096 : Shape := ⟨2, ![2048, 4096]⟩
abbrev S2048x64x16 : Shape := ⟨3, ![2048, 64, 16]⟩
abbrev S_ : Shape := ⟨0, ![]⟩
abbrev S64x64x16 : Shape := ⟨3, ![64, 64, 16]⟩
abbrev S64x2048x64 : Shape := ⟨3, ![64, 2048, 64]⟩
abbrev S2048x64x64 : Shape := ⟨3, ![2048, 64, 64]⟩
abbrev S64x16x64 : Shape := ⟨3, ![64, 16, 64]⟩
abbrev S4x256x64 : Shape := ⟨3, ![4, 256, 64]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x64x16, .f32⟩
  | .hbm, ⟨3, _⟩ => ⟨S_, .f32⟩
  | .hbm, ⟨4, _⟩ => ⟨S64x64x16, .f32⟩
  | .hbm, ⟨5, _⟩ => ⟨S64x2048x64, .f32⟩
  | .hbm, ⟨6, _⟩ => ⟨S2048x64x64, .f32⟩
  | .hbm, ⟨7, _⟩ => ⟨S2048x64x64, .f32⟩
  | .hbm, ⟨8, _⟩ => ⟨S64x2048x64, .f32⟩
  | .hbm, ⟨9, _⟩ => ⟨S64x64x16, .f32⟩
  | .hbm, ⟨10, _⟩ => ⟨S64x16x64, .f32⟩
  | .hbm, ⟨11, _⟩ => ⟨S4x256x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel23.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel24.lean ====
abbrev S2048x1024 : Shape := ⟨2, ![2048, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel25.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S2048x1024 : Shape := ⟨2, ![2048, 1024]⟩
abbrev S1x1024 : Shape := ⟨2, ![1, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel27.lean ====
abbrev S2048x4096 : Shape := ⟨2, ![2048, 4096]⟩
abbrev S2048x2048 : Shape := ⟨2, ![2048, 2048]⟩
abbrev S128x4096 : Shape := ⟨2, ![128, 4096]⟩
abbrev S128x2048 : Shape := ⟨2, ![128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.FwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! Region 0: its windows' blocks, its branch condition in closed form, and its memrefs. -/

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is of the clipped KIND (its block does not tile its array `S2048x6272`), but no block the grid
    reaches is cut, so no part of its staging buffer is left unfilled by a fetch. A default for such a part, which
    nothing reads. -/
def dflt0_0 : (cfg0.win 0).block.Idx → Elt F (cfg0.win 0).elt := fun _ => Classical.choice inferInstance
/-- What input window 0's current staging buffer holds when the body runs at `t`: its block read off the array,
    filled over `dflt0_0` (block-typed, where `iblk` is typed at the cut). -/
def X0_0 (c : Dev nD) (t : Fin cfg0.N) : (cfg0.win 0).block.Idx → Elt F (cfg0.win 0).elt :=
  (cfg0.win 0).fill (cfg0.grid.coords t) dflt0_0 (iblk V c 0 t)
/-- At every point the cut's extent is the block's, decided over the grid: no transfer of input window 0 is cut. -/
theorem xsize0_0 : ∀ t : Fin cfg0.N, ∀ a, (cfg0.win 0).xsize (cfg0.grid.coords t) a = (cfg0.win 0).size a := by decide +kernel
/-- Every index of input window 0's block is moved at every point. -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- A fill of input window 0's block covers the whole buffer, whatever it held. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- Input window 0's current staging buffer holds `X0_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_0`). -/
theorem before0_0_of {c : Dev nD} (dat : Dat τ (Elt F) Unit ℕ (UR sig nD τ) ℕ cfg0 c) (hA : dat.A 0 = V c (Pipeline.arrRef spec0 0))
    (hafter : ∀ t, dat.after 0 t = X0_0 V c t) (t : Fin cfg0.N) (d) : dat.before 0 t d = X0_0 V c t :=
  (dat.before_in_eq_fetched 0 rfl (fun _ => rfl)
      (fun t t' h => funext fun a => congrArg (fun n => Pipeline.Clip.of n ((cfg0.win 0).size a) (S2048x6272.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Input window 1 is of the clipped KIND (its block does not tile its array `S2048x6272`), but no block the grid
    reaches is cut, so no part of its staging buffer is left unfilled by a fetch. A default for such a part, which
    nothing reads. -/
def dflt0_1 : (cfg0.win 1).block.Idx → Elt F (cfg0.win 1).elt := fun _ => Classical.choice inferInstance
/-- What input window 1's current staging buffer holds when the body runs at `t`: its block read off the array,
    filled over `dflt0_1` (block-typed, where `iblk` is typed at the cut). -/
def X0_1 (c : Dev nD) (t : Fin cfg0.N) : (cfg0.win 1).block.Idx → Elt F (cfg0.win 1).elt :=
  (cfg0.win 1).fill (cfg0.grid.coords t) dflt0_1 (iblk V c 1 t)
/-- At every point the cut's extent is the block's, decided over the grid: no transfer of input window 1 is cut. -/
theorem xsize0_1 : ∀ t : Fin cfg0.N, ∀ a, (cfg0.win 1).xsize (cfg0.grid.coords t) a = (cfg0.win 1).size a := by decide +kernel
/-- Every index of input window 1's block is moved at every point. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- A fill of input window 1's block covers the whole buffer, whatever it held. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
/-- Input window 1's current staging buffer holds `X0_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_1`). -/
theorem before0_1_of {c : Dev nD} (dat : Dat τ (Elt F) Unit ℕ (UR sig nD τ) ℕ cfg0 c) (hA : dat.A 1 = V c (Pipeline.arrRef spec0 1))
    (hafter : ∀ t, dat.after 1 t = X0_1 V c t) (t : Fin cfg0.N) (d) : dat.before 1 t d = X0_1 V c t :=
  (dat.before_in_eq_fetched 1 rfl (fun _ => rfl)
      (fun t t' h => funext fun a => congrArg (fun n => Pipeline.Clip.of n ((cfg0.win 1).size a) (S2048x6272.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- Input window 2 is of the clipped KIND (its block does not tile its array `S2048x6272`), but no block the grid
    reaches is cut, so no part of its staging buffer is left unfilled by a fetch. A default for such a part, which
    nothing reads. -/
def dflt0_2 : (cfg0.win 2).block.Idx → Elt F (cfg0.win 2).elt := fun _ => Classical.choice inferInstance
/-- What input window 2's current staging buffer holds when the body runs at `t`: its block read off the array,
    filled over `dflt0_2` (block-typed, where `iblk` is typed at the cut). -/
def X0_2 (c : Dev nD) (t : Fin cfg0.N) : (cfg0.win 2).block.Idx → Elt F (cfg0.win 2).elt :=
  (cfg0.win 2).fill (cfg0.grid.coords t) dflt0_2 (iblk V c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg0 c) (hA : dat.A 2 = V c (Pipeline.arrRef spec0 2))
    (hafter : ∀ t, dat.after 2 t = X0_2 V c t) (t : Fin cfg0.N) (d) : dat.before 2 t d = X0_2 V c t :=
  (dat.before_in_eq_fetched 2 rfl (fun _ => rfl)
      (fun t t' h => funext fun a => congrArg (fun n => Pipeline.Clip.of n ((cfg0.win 2).size a) (S2048x6272.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3 is of the clipped KIND (its block does not tile its array `S2048x6272`), but no block the grid
    reaches is cut, so no part of its staging buffer is left unfilled by a fetch. A default for such a part, which
    nothing reads. -/
def dflt0_3 : (cfg0.win 3).block.Idx → Elt F (cfg0.win 3).elt := fun _ => Classical.choice inferInstance
/-- What input window 3's current staging buffer holds when the body runs at `t`: its block read off the array,
    filled over `dflt0_3` (block-typed, where `iblk` is typed at the cut). -/
def X0_3 (c : Dev nD) (t : Fin cfg0.N) : (cfg0.win 3).block.Idx → Elt F (cfg0.win 3).elt :=
  (cfg0.win 3).fill (cfg0.grid.coords t) dflt0_3 (iblk V c 3 t)
/-- At every point the cut's extent is the block's, decided over the grid: no transfer of input window 3 is cut. -/
theorem xsize0_3 : ∀ t : Fin cfg0.N, ∀ a, (cfg0.win 3).xsize (cfg0.grid.coords t) a = (cfg0.win 3).size a := by decide +kernel
/-- Every index of input window 3's block is moved at every point. -/
theorem moved0_3 (t : Fin cfg0.N) (j : (cfg0.win 3).block.Idx) : (cfg0.win 3).moved (cfg0.grid.coords t) j = true :=
  ((cfg0.win 3).moved_iff _ j).mpr fun a => by rw [xsize0_3 t a]; exact (j a).isLt
/-- A fill of input window 3's block covers the whole buffer, whatever it held. -/
theorem fill0_3 (t : Fin cfg0.N) (d d' : (cfg0.win 3).block.Idx → Elt F (cfg0.win 3).elt) (g) :
    (cfg0.win 3).fill (cfg0.grid.coords t) d g = (cfg0.win 3).fill (cfg0.grid.coords t) d' g := by
  funext j; unfold Pipeline.Window.fill; rw [dif_pos (moved0_3 t j), dif_pos (moved0_3 t j)]
/-- Input window 3's current staging buffer holds `X0_3` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_3`). -/
theorem before0_3_of {c : Dev nD} (dat : Dat τ (Elt F) Unit ℕ (UR sig nD τ) ℕ cfg0 c) (hA : dat.A 3 = V c (Pipeline.arrRef spec0 3))
    (hafter : ∀ t, dat.after 3 t = X0_3 V c t) (t : Fin cfg0.N) (d) : dat.before 3 t d = X0_3 V c t :=
  (dat.before_in_eq_fetched 3 rfl (fun _ => rfl)
      (fun t t' h => funext fun a => congrArg (fun n => Pipeline.Clip.of n ((cfg0.win 3).size a) (S2048x6272.size a)) (congrFun h a))
      (fun t => by rw [hafter]; unfold X0_3; rw [Pipeline.Window.cut_fill]; unfold Dat.blockOf iblk; rw [hA]; try rfl) t d).trans
    (by unfold Dat.fetched X0_3; rw [fill0_3 t d dflt0_3]; unfold Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- One staging buffer of output window 8, through which its contents are stated (`View.read_writes_of_cover`: the
    choice does not matter). -/
abbrev VO0_8 : View sig .tc .vmem S64x2048 .bf16 := (Memref.whole cc0_stg8_0 : Memref sig .tc .vmem S64x2048 .bf16).view
/-- One staging buffer of output window 9, through which its contents are stated (`View.read_writes_of_cover`: the
    choice does not matter). -/
abbrev VO0_9 : View sig .tc .vmem S4x1x512x256 .f32 := (Memref.whole cc0_stg9_0 : Memref sig .tc .vmem S4x1x512x256 .f32).view
/-- Each window's current staging memref at point `t`, spelled as the pipeline passes it (`bodyAt0`), and its wholeness. -/
abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x1x512x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x512x256 .f32 := Memref.whole cc0_scratch0
/-- The scratch `arg11` the kernel carries between points, as a view: what it holds is stated through it. -/
abbrev VS0_0 : View sig .tc .vmem S4x512x256 .f32 := scM0_0.view

/-- What the body neither reads nor writes: every other scoped buffer and the generator register. -/
abbrev Rst (c : Dev nD) : sProp 𝕄 := iprop(Pipeline.scopedRestBut (Val := Elt F) spec0 c [cc0_scratch0] ∗ ∃ r, prngReg c r)
/-- The scoped rest and the generator register with the scratch operands as memrefs owned at some contents. -/
theorem PhiA0_eq (c : Dev nD) :
    (Pipeline.ΦA spec0 c : sProp 𝕄)
      = iprop(iprop((∃ d, owns (c : Thread nD τ) scM0_0 fullShare d)) ∗ Rst c) := by
  have h : (Pipeline.scopedRest spec0 c : sProp 𝕄) = iprop(iprop((∃ f : Buf (Elt F) ((c : Thread nD τ).loc cc0_scratch0), ((c : Thread nD τ).loc cc0_scratch0) ↦{fullShare} f)) ∗ Pipeline.scopedRestBut (Val := Elt F) spec0 c [cc0_scratch0]) :=
    Pipeline.scopedRest_split_of_list spec0 c [cc0_scratch0] (by decide) (by decide)
  unfold Pipeline.ΦA Rst; rw [h, show ∀ P Q R : sProp 𝕄, iprop((P ∗ Q) ∗ R) = iprop(P ∗ Q ∗ R) from fun _ _ _ => equiv_iff.mp ⟨Idealize.SL.BI.sep_assoc, Idealize.SL.BI.sep_assoc'⟩]; simp only [scM0_0, owns_whole]; try rfl

end Cert.KernelIdeal.Fwd

end
-- ==== Proof.FwdRunA.lean ====
module

public import proofs.«01_k».proof.Proof.FwdRuns

@[expose] public section

set_option maxRecDepth 16384

noncomputable section

/-! Region 0: the body's run in case A. -/

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S64x2048 .bf16) (harg9 : arg9.IsWhole) (arg10 : Memref sig .tc .vmem S4x1x512x256 .f32) (harg10 : arg10.IsWhole) (arg11 : Memref sig .tc .vmem S4x512x256 .f32) (harg11 : arg11.IsWhole) (hc0 : cond0_0 i)
    (x0 : Vec F S64x1024 .f32) (x1 : Vec F S64x1024 .f32) (x2 : Vec F S64x2048 .f32) (x3 : Vec F S64x2048 .f32) (x4 : Vec F S64x128 .f32) (x5 : Vec F S128x1024 .bf16) (x6 : Vec F S1x1024 .f32) (x7 : Vec F S1x512 .f32) :
    Σ' (L8 : List (View.Piece (Elt F) S64x2048 .bf16)), Σ' (L9 : List (View.Piece (Elt F) S4x1x512x256 .f32)), { LS0 : List (View.Piece (Elt F) S4x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_gla_mix i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_gla_mix_eq_skeleton]; unfold cc0_gla_mix_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.KernelIdeal.Fwd

end
-- ==== Proof.FwdRunB.lean ====
module

public import proofs.«01_k».proof.Proof.FwdRunA

@[expose] public section

set_option maxRecDepth 16384

noncomputable section

/-! Region 0: the body's run in case B. -/

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S64x2048 .bf16) (harg9 : arg9.IsWhole) (arg10 : Memref sig .tc .vmem S4x1x512x256 .f32) (harg10 : arg10.IsWhole) (arg11 : Memref sig .tc .vmem S4x512x256 .f32) (harg11 : arg11.IsWhole) (hc0 : ¬cond0_0 i)
    (x0 : Vec F S64x1024 .f32) (x1 : Vec F S64x1024 .f32) (x2 : Vec F S64x2048 .f32) (x3 : Vec F S64x2048 .f32) (x4 : Vec F S64x128 .f32) (x5 : Vec F S128x1024 .bf16) (x6 : Vec F S1x1024 .f32) (x7 : Vec F S1x512 .f32) (xs0 : Vec F S4x512x256 .f32) :
    Σ' (L8 : List (View.Piece (Elt F) S64x2048 .bf16)), Σ' (L9 : List (View.Piece (Elt F) S4x1x512x256 .f32)), { LS0 : List (View.Piece (Elt F) S4x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_gla_mix i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_gla_mix_eq_skeleton]; unfold cc0_gla_mix_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.KernelIdeal.Fwd

end
-- ==== Proof.Fwd.lean ====
module

public import proofs.«01_k».proof.Proof.FwdRunB
public import Idealize.ShloMosaic.Lib.Claim

@[expose] public section

set_option maxRecDepth 16384

noncomputable section

/-! Region 0: what its outputs and its carried scratch hold point by point, its proof data and its body obligation. -/

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S64x2048 .bf16) (harg9 : arg9.IsWhole) (arg10 : Memref sig .tc .vmem S4x1x512x256 .f32) (harg10 : arg10.IsWhole) (arg11 : Memref sig .tc .vmem S4x512x256 .f32) (harg11 : arg11.IsWhole) (hc0 : cond0_0 i)
    (x0 : Vec F S64x1024 .f32) (x1 : Vec F S64x1024 .f32) (x2 : Vec F S64x2048 .f32) (x3 : Vec F S64x2048 .f32) (x4 : Vec F S64x128 .f32) (x5 : Vec F S128x1024 .bf16) (x6 : Vec F S1x1024 .f32) (x7 : Vec F S1x512 .f32)

/-- Case A's pieces for output 8 tile its block (4 stores of `S64x512`, checked by the kernel's evaluation: Lib/Ring.lean `Piece.tiledL`, linear in the pieces, through a loop's `@[irreducible]` trip theorem too), so they cover it. -/
theorem cover0_A_8 (y : S64x2048.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1 S64x512.size (by sl_kernel_rfl) y

/-- What case A leaves in output 8's staging buffer: its pieces read back over junk. -/
def out0_A_8 : Vec F S64x2048 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1)

/-- Case A's pieces for output 9 tile its block (4 stores of `S1x1x512x256`, checked by the kernel's evaluation: Lib/Ring.lean `Piece.tiledL`, linear in the pieces, through a loop's `@[irreducible]` trip theorem too), so they cover it. -/
theorem cover0_A_9 (y : S4x1x512x256.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1 S1x1x512x256.size (by sl_kernel_rfl) y

/-- What case A leaves in output 9's staging buffer: its pieces read back over junk. -/
def out0_A_9 : Vec F S4x1x512x256 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1)

/-- Case A's pieces for scratch `arg11`, which the kernel carries between points, cover it: one of them a store of the WHOLE buffer (Lib/Ring.lean `sl_whole_mem`). -/
theorem scover0_A_0 (y : S4x512x256.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1 (by sl_whole_mem) y

/-- What case A leaves in scratch `arg11`: its pieces read back over junk. -/
def sout0_A_0 : Vec F S4x512x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1)

end

section

variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S64x2048 .bf16) (harg9 : arg9.IsWhole) (arg10 : Memref sig .tc .vmem S4x1x512x256 .f32) (harg10 : arg10.IsWhole) (arg11 : Memref sig .tc .vmem S4x512x256 .f32) (harg11 : arg11.IsWhole) (hc0 : ¬cond0_0 i)
    (x0 : Vec F S64x1024 .f32) (x1 : Vec F S64x1024 .f32) (x2 : Vec F S64x2048 .f32) (x3 : Vec F S64x2048 .f32) (x4 : Vec F S64x128 .f32) (x5 : Vec F S128x1024 .bf16) (x6 : Vec F S1x1024 .f32) (x7 : Vec F S1x512 .f32) (xs0 : Vec F S4x512x256 .f32)

/-- Case B's pieces for output 8 tile its block (4 stores of `S64x512`, checked by the kernel's evaluation: Lib/Ring.lean `Piece.tiledL`, linear in the pieces, through a loop's `@[irreducible]` trip theorem too), so they cover it. -/
theorem cover0_B_8 (y : S64x2048.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1 S64x512.size (by sl_kernel_rfl) y

/-- What case B leaves in output 8's staging buffer: its pieces read back over junk. -/
def out0_B_8 : Vec F S64x2048 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1)

/-- Case B's pieces for output 9 tile its block (4 stores of `S1x1x512x256`, checked by the kernel's evaluation: Lib/Ring.lean `Piece.tiledL`, linear in the pieces, through a loop's `@[irreducible]` trip theorem too), so they cover it. -/
theorem cover0_B_9 (y : S4x1x512x256.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1 S1x1x512x256.size (by sl_kernel_rfl) y

/-- What case B leaves in output 9's staging buffer: its pieces read back over junk. -/
def out0_B_9 : Vec F S4x1x512x256 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1)

/-- Case B's pieces for scratch `arg11`, which the kernel carries between points, cover it: 4 pieces of `S1x512x256` tiling it (Lib/Ring.lean `Piece.tiledL`). -/
theorem scover0_B_0 (y : S4x512x256.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.2.1 S1x512x256.size (by sl_kernel_rfl) y

/-- What case B leaves in scratch `arg11`: its pieces read back over junk. -/
def sout0_B_0 : Vec F S4x512x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S64x2048 .bf16 × Vec F S4x1x512x256 .f32 × Vec F S4x512x256 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (X0_3 V c ⟨0, hn⟩) (iblk V c 4 ⟨0, hn⟩) (iblk V c 5 ⟨0, hn⟩) (iblk V c 6 ⟨0, hn⟩) (iblk V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (X0_3 V c ⟨0, hn⟩) (iblk V c 4 ⟨0, hn⟩) (iblk V c 5 ⟨0, hn⟩) (iblk V c 6 ⟨0, hn⟩) (iblk V c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (X0_3 V c ⟨0, hn⟩) (iblk V c 4 ⟨0, hn⟩) (iblk V c 5 ⟨0, hn⟩) (iblk V c 6 ⟨0, hn⟩) (iblk V c 7 ⟨0, hn⟩))
  | n + 1, hn =>
    if h0 : (n + 1) % 32 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (X0_3 V c ⟨n + 1, hn⟩) (iblk V c 4 ⟨n + 1, hn⟩) (iblk V c 5 ⟨n + 1, hn⟩) (iblk V c 6 ⟨n + 1, hn⟩) (iblk V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (X0_3 V c ⟨n + 1, hn⟩) (iblk V c 4 ⟨n + 1, hn⟩) (iblk V c 5 ⟨n + 1, hn⟩) (iblk V c 6 ⟨n + 1, hn⟩) (iblk V c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (X0_3 V c ⟨n + 1, hn⟩) (iblk V c 4 ⟨n + 1, hn⟩) (iblk V c 5 ⟨n + 1, hn⟩) (iblk V c 6 ⟨n + 1, hn⟩) (iblk V c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (X0_3 V c ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (X0_3 V c ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (X0_3 V c ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2)

/-- `outsAt0` at a point of case A: that case's contents. -/
theorem outsAt0_A (c : Dev nD) (t : Fin cfg0.N) (h0 : t.val % 32 = 0) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (X0_0 V c t) (X0_1 V c t) (X0_2 V c t) (X0_3 V c t) (iblk V c 4 t) (iblk V c 5 t) (iblk V c 6 t) (iblk V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (X0_0 V c t) (X0_1 V c t) (X0_2 V c t) (X0_3 V c t) (iblk V c 4 t) (iblk V c 5 t) (iblk V c 6 t) (iblk V c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (X0_0 V c t) (X0_1 V c t) (X0_2 V c t) (X0_3 V c t) (iblk V c 4 t) (iblk V c 5 t) (iblk V c 6 t) (iblk V c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (X0_0 V c t) (X0_1 V c t) (X0_2 V c t) (X0_3 V c t) (iblk V c 4 t) (iblk V c 5 t) (iblk V c 6 t) (iblk V c 7 t) (outsAt0 V c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (X0_0 V c t) (X0_1 V c t) (X0_2 V c t) (X0_3 V c t) (iblk V c 4 t) (iblk V c 5 t) (iblk V c 6 t) (iblk V c 7 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (X0_0 V c t) (X0_1 V c t) (X0_2 V c t) (X0_3 V c t) (iblk V c 4 t) (iblk V c 5 t) (iblk V c 6 t) (iblk V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ Rst c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ Rst c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ Rst c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => X0_0 V c t
    | ⟨1, _⟩ => X0_1 V c t
    | ⟨2, _⟩ => X0_2 V c t
    | ⟨3, _⟩ => X0_3 V c t
    | ⟨4, _⟩ => iblk V c 4 t
    | ⟨5, _⟩ => iblk V c 5 t
    | ⟨6, _⟩ => iblk V c 6 t
    | ⟨7, _⟩ => iblk V c 7 t
    | ⟨8, _⟩ => (outsAt0 V c t.val t.isLt).1
    | ⟨9, _⟩ => (outsAt0 V c t.val t.isLt).2.1
  Φ t := PhiS V c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = X0_0 V c t := by dsimp only [dat0]
theorem after0_1 (c : Dev nD) (t : Fin cfg0.N) : (dat0 V c).after 1 t = X0_1 V c t := by dsimp only [dat0]
theorem after0_2 (c : Dev nD) (t : Fin cfg0.N) : (dat0 V c).after 2 t = X0_2 V c t := by dsimp only [dat0]
theorem after0_3 (c : Dev nD) (t : Fin cfg0.N) : (dat0 V c).after 3 t = X0_3 V c t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = iblk V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = X0_0 V c t :=
  before0_0_of V (dat0 V c) (A_eq V c 0) (after0_0 V c) t d
theorem before0_1 (c : Dev nD) (t : Fin cfg0.N) (d) : (dat0 V c).before 1 t d = X0_1 V c t :=
  before0_1_of V (dat0 V c) (A_eq V c 1) (after0_1 V c) t d
theorem before0_2 (c : Dev nD) (t : Fin cfg0.N) (d) : (dat0 V c).before 2 t d = X0_2 V c t :=
  before0_2_of V (dat0 V c) (A_eq V c 2) (after0_2 V c) t d
theorem before0_3 (c : Dev nD) (t : Fin cfg0.N) (d) : (dat0 V c).before 3 t d = X0_3 V c t :=
  before0_3_of V (dat0 V c) (A_eq V c 3) (after0_3 V c) t d
theorem before0_4 (c : Dev nD) (t : Fin cfg0.N) (d) : (dat0 V c).before 4 t d = iblk V c 4 t :=
  before0_4_of V (dat0 V c) (A_eq V c 4) (after0_4 V c) t d
theorem before0_5 (c : Dev nD) (t : Fin cfg0.N) (d) : (dat0 V c).before 5 t d = iblk V c 5 t :=
  before0_5_of V (dat0 V c) (A_eq V c 5) (after0_5 V c) t d
theorem before0_6 (c : Dev nD) (t : Fin cfg0.N) (d) : (dat0 V c).before 6 t d = iblk V c 6 t :=
  before0_6_of V (dat0 V c) (A_eq V c 6) (after0_6 V c) t d
theorem before0_7 (c : Dev nD) (t : Fin cfg0.N) (d) : (dat0 V c).before 7 t d = iblk V c 7 t :=
  before0_7_of V (dat0 V c) (A_eq V c 7) (after0_7 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9]
  rw [show (dat0 V c).Φ t.succ = PhiS V c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc V c t, PhiS_zero V c _ _ hz, PhiA0_eq]
      rw [outsAt0_A V c t h0]
      unfold out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (X0_0 V c t) (X0_1 V c t) (X0_2 V c t) (X0_3 V c t) (iblk V c 4 t) (iblk V c 5 t) (iblk V c 6 t) (iblk V c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc V c t, PhiS_pos V c _ _ hz]
      rw [outsAt0_B V c t h0]
      unfold out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (X0_0 V c t) (X0_1 V c t) (X0_2 V c t) (X0_3 V c t) (iblk V c 4 t) (iblk V c 5 t) (iblk V c 6 t) (iblk V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat0 V c).Φ (Fin.last cfg0.N) ⊢ Pipeline.ΦA spec0 c :=
  Phi_out V c _ (by rw [Fin.val_last]; have : cfg0.N = 32 := N_0; omega)

end Cert.KernelIdeal.Fwd

end
-- ==== Proof.BwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! Region 1: its windows' blocks, its branch condition in closed form, and its memrefs. -/

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is of the clipped KIND (its block does not tile its array `S2048x6272`), but no block the grid
    reaches is cut, so no part of its staging buffer is left unfilled by a fetch. A default for such a part, which
    nothing reads. -/
def dflt1_0 : (cfg1.win 0).block.Idx → Elt F (cfg1.win 0).elt := fun _ => Classical.choice inferInstance
/-- What input window 0's current staging buffer holds when the body runs at `t`: its block read off the array,
    filled over `dflt1_0` (block-typed, where `iblk` is typed at the cut). -/
def X1_0 (c : Dev nD) (t : Fin cfg1.N) : (cfg1.win 0).block.Idx → Elt F (cfg1.win 0).elt :=
  (cfg1.win 0).fill (cfg1.grid.coords t) dflt1_0 (iblk V c 0 t)
/-- At every point the cut's extent is the block's, decided over the grid: no transfer of input window 0 is cut. -/
theorem xsize1_0 : ∀ t : Fin cfg1.N, ∀ a, (cfg1.win 0).xsize (cfg1.grid.coords t) a = (cfg1.win 0).size a := by decide +kernel
/-- Every index of input window 0's block is moved at every point. -/
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
/-- A fill of input window 0's block covers the whole buffer, whatever it held. -/
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]
/-- Input window 0's current staging buffer holds `X1_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill1_0`). -/
theorem before1_0_of {c : Dev nD} (dat : Dat τ (Elt F) Unit ℕ (UR sig nD τ) ℕ cfg1 c) (hA : dat.A 0 = V c (Pipeline.arrRef spec1 0))
    (hafter : ∀ t, dat.after 0 t = X1_0 V c t) (t : Fin cfg1.N) (d) : dat.before 0 t d = X1_0 V c t :=
  (dat.before_in_eq_fetched 0 rfl (fun _ => rfl)
      (fun t t' h => funext fun a => congrArg (fun n => Pipeline.Clip.of n ((cfg1.win 0).size a) (S2048x6272.size a)) (congrFun h a))
      (fun t => by rw [hafter]; unfold X1_0; rw [Pipeline.Window.cut_fill]; unfold Dat.blockOf iblk; rw [hA]; try rfl) t d).trans
    (by unfold Dat.fetched X1_0; rw [fill1_0 t d dflt1_0]; unfold Dat.blockOf iblk; rw [hA]; try rfl)
/-- Input window 1 is of the clipped KIND (its block does not tile its array `S2048x6272`), but no block the grid
    reaches is cut, so no part of its staging buffer is left unfilled by a fetch. A default for such a part, which
    nothing reads. -/
def dflt1_1 : (cfg1.win 1).block.Idx → Elt F (cfg1.win 1).elt := fun _ => Classical.choice inferInstance
/-- What input window 1's current staging buffer holds when the body runs at `t`: its block read off the array,
    filled over `dflt1_1` (block-typed, where `iblk` is typed at the cut). -/
def X1_1 (c : Dev nD) (t : Fin cfg1.N) : (cfg1.win 1).block.Idx → Elt F (cfg1.win 1).elt :=
  (cfg1.win 1).fill (cfg1.grid.coords t) dflt1_1 (iblk V c 1 t)
/-- At every point the cut's extent is the block's, decided over the grid: no transfer of input window 1 is cut. -/
theorem xsize1_1 : ∀ t : Fin cfg1.N, ∀ a, (cfg1.win 1).xsize (cfg1.grid.coords t) a = (cfg1.win 1).size a := by decide +kernel
/-- Every index of input window 1's block is moved at every point. -/
theorem moved1_1 (t : Fin cfg1.N) (j : (cfg1.win 1).block.Idx) : (cfg1.win 1).moved (cfg1.grid.coords t) j = true :=
  ((cfg1.win 1).moved_iff _ j).mpr fun a => by rw [xsize1_1 t a]; exact (j a).isLt
/-- A fill of input window 1's block covers the whole buffer, whatever it held. -/
theorem fill1_1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved1_1 t j), dif_pos (moved1_1 t j)]
/-- Input window 1's current staging buffer holds `X1_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill1_1`). -/
theorem before1_1_of {c : Dev nD} (dat : Dat τ (Elt F) Unit ℕ (UR sig nD τ) ℕ cfg1 c) (hA : dat.A 1 = V c (Pipeline.arrRef spec1 1))
    (hafter : ∀ t, dat.after 1 t = X1_1 V c t) (t : Fin cfg1.N) (d) : dat.before 1 t d = X1_1 V c t :=
  (dat.before_in_eq_fetched 1 rfl (fun _ => rfl)
      (fun t t' h => funext fun a => congrArg (fun n => Pipeline.Clip.of n ((cfg1.win 1).size a) (S2048x6272.size a)) (congrFun h a))
      (fun t => by rw [hafter]; unfold X1_1; rw [Pipeline.Window.cut_fill]; unfold Dat.blockOf iblk; rw [hA]; try rfl) t d).trans
    (by unfold Dat.fetched X1_1; rw [fill1_1 t d dflt1_1]; unfold Dat.blockOf iblk; rw [hA]; try rfl)
/-- Input window 2 is of the clipped KIND (its block does not tile its array `S2048x6272`), but no block the grid
    reaches is cut, so no part of its staging buffer is left unfilled by a fetch. A default for such a part, which
    nothing reads. -/
def dflt1_2 : (cfg1.win 2).block.Idx → Elt F (cfg1.win 2).elt := fun _ => Classical.choice inferInstance
/-- What input window 2's current staging buffer holds when the body runs at `t`: its block read off the array,
    filled over `dflt1_2` (block-typed, where `iblk` is typed at the cut). -/
def X1_2 (c : Dev nD) (t : Fin cfg1.N) : (cfg1.win 2).block.Idx → Elt F (cfg1.win 2).elt :=
  (cfg1.win 2).fill (cfg1.grid.coords t) dflt1_2 (iblk V c 2 t)
/-- At every point the cut's extent is the block's, decided over the grid: no transfer of input window 2 is cut. -/
theorem xsize1_2 : ∀ t : Fin cfg1.N, ∀ a, (cfg1.win 2).xsize (cfg1.grid.coords t) a = (cfg1.win 2).size a := by decide +kernel
/-- Every index of input window 2's block is moved at every point. -/
theorem moved1_2 (t : Fin cfg1.N) (j : (cfg1.win 2).block.Idx) : (cfg1.win 2).moved (cfg1.grid.coords t) j = true :=
  ((cfg1.win 2).moved_iff _ j).mpr fun a => by rw [xsize1_2 t a]; exact (j a).isLt
/-- A fill of input window 2's block covers the whole buffer, whatever it held. -/
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved1_2 t j), dif_pos (moved1_2 t j)]
/-- Input window 2's current staging buffer holds `X1_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill1_2`). -/
theorem before1_2_of {c : Dev nD} (dat : Dat τ (Elt F) Unit ℕ (UR sig nD τ) ℕ cfg1 c) (hA : dat.A 2 = V c (Pipeline.arrRef spec1 2))
    (hafter : ∀ t, dat.after 2 t = X1_2 V c t) (t : Fin cfg1.N) (d) : dat.before 2 t d = X1_2 V c t :=
  (dat.before_in_eq_fetched 2 rfl (fun _ => rfl)
      (fun t t' h => funext fun a => congrArg (fun n => Pipeline.Clip.of n ((cfg1.win 2).size a) (S2048x6272.size a)) (congrFun h a))
      (fun t => by rw [hafter]; unfold X1_2; rw [Pipeline.Window.cut_fill]; unfold Dat.blockOf iblk; rw [hA]; try rfl) t d).trans
    (by unfold Dat.fetched X1_2; rw [fill1_2 t d dflt1_2]; unfold Dat.blockOf iblk; rw [hA]; try rfl)
/-- Input window 3 is of the clipped KIND (its block does not tile its array `S2048x6272`), but no block the grid
    reaches is cut, so no part of its staging buffer is left unfilled by a fetch. A default for such a part, which
    nothing reads. -/
def dflt1_3 : (cfg1.win 3).block.Idx → Elt F (cfg1.win 3).elt := fun _ => Classical.choice inferInstance
/-- What input window 3's current staging buffer holds when the body runs at `t`: its block read off the array,
    filled over `dflt1_3` (block-typed, where `iblk` is typed at the cut). -/
def X1_3 (c : Dev nD) (t : Fin cfg1.N) : (cfg1.win 3).block.Idx → Elt F (cfg1.win 3).elt :=
  (cfg1.win 3).fill (cfg1.grid.coords t) dflt1_3 (iblk V c 3 t)
/-- At every point the cut's extent is the block's, decided over the grid: no transfer of input window 3 is cut. -/
theorem xsize1_3 : ∀ t : Fin cfg1.N, ∀ a, (cfg1.win 3).xsize (cfg1.grid.coords t) a = (cfg1.win 3).size a := by decide +kernel
/-- Every index of input window 3's block is moved at every point. -/
theorem moved1_3 (t : Fin cfg1.N) (j : (cfg1.win 3).block.Idx) : (cfg1.win 3).moved (cfg1.grid.coords t) j = true :=
  ((cfg1.win 3).moved_iff _ j).mpr fun a => by rw [xsize1_3 t a]; exact (j a).isLt
/-- A fill of input window 3's block covers the whole buffer, whatever it held. -/
theorem fill1_3 (t : Fin cfg1.N) (d d' : (cfg1.win 3).block.Idx → Elt F (cfg1.win 3).elt) (g) :
    (cfg1.win 3).fill (cfg1.grid.coords t) d g = (cfg1.win 3).fill (cfg1.grid.coords t) d' g := by
  funext j; unfold Pipeline.Window.fill; rw [dif_pos (moved1_3 t j), dif_pos (moved1_3 t j)]
/-- Input window 3's current staging buffer holds `X1_3` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill1_3`). -/
theorem before1_3_of {c : Dev nD} (dat : Dat τ (Elt F) Unit ℕ (UR sig nD τ) ℕ cfg1 c) (hA : dat.A 3 = V c (Pipeline.arrRef spec1 3))
    (hafter : ∀ t, dat.after 3 t = X1_3 V c t) (t : Fin cfg1.N) (d) : dat.before 3 t d = X1_3 V c t :=
  (dat.before_in_eq_fetched 3 rfl (fun _ => rfl)
      (fun t t' h => funext fun a => congrArg (fun n => Pipeline.Clip.of n ((cfg1.win 3).size a) (S2048x6272.size a)) (congrFun h a))
      (fun t => by rw [hafter]; unfold X1_3; rw [Pipeline.Window.cut_fill]; unfold Dat.blockOf iblk; rw [hA]; try rfl) t d).trans
    (by unfold Dat.fetched X1_3; rw [fill1_3 t d dflt1_3]; unfold Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-! ## The kernel body on any staging memrefs: a subtype the run finds -/

/-- One staging buffer of output window 11, through which its contents are stated (`View.read_writes_of_cover`: the
    choice does not matter). -/
abbrev VO1_11 : View sig .tc .vmem S64x6272 .bf16 := (Memref.whole cc1_stg11_0 : Memref sig .tc .vmem S64x6272 .bf16).view
/-- One staging buffer of output window 12, through which its contents are stated (`View.read_writes_of_cover`: the
    choice does not matter). -/
abbrev VO1_12 : View sig .tc .vmem S1x512 .f32 := (Memref.whole cc1_stg12_0 : Memref sig .tc .vmem S1x512 .f32).view
/-- One staging buffer of output window 13, through which its contents are stated (`View.read_writes_of_cover`: the
    choice does not matter). -/
abbrev VO1_13 : View sig .tc .vmem S1x1024 .f32 := (Memref.whole cc1_stg13_0 : Memref sig .tc .vmem S1x1024 .f32).view
/-- One staging buffer of output window 14, through which its contents are stated (`View.read_writes_of_cover`: the
    choice does not matter). -/
abbrev VO1_14 : View sig .tc .vmem S128x1024 .f32 := (Memref.whole cc1_stg14_0 : Memref sig .tc .vmem S128x1024 .f32).view
/-- Each window's current staging memref at point `t`, spelled as the pipeline passes it (`bodyAt1`), and its wholeness. -/
abbrev ms1_0 (t : Fin cfg1.N) : Memref sig .tc .vmem S64x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S4x1x512x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S4x1x512x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x2048 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S64x6272 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x512 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x1024 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x1024 .f32 := win1_14.stage (cfg1.slots t 14)
abbrev hs1_14 (t : Fin cfg1.N) : (ms1_14 t).IsWhole := hstage1_14 ((cfg1.slots t 14).cast nbuf1_14)
/-- The scratch operands: whole scoped buffers of the kernel's own, passed beside the windows. -/
abbrev scM1_0 : Memref sig .tc .vmem S4x512x256 .f32 := Memref.whole cc1_scratch0
abbrev scM1_1 : Memref sig .tc .vmem S1x1024 .f32 := Memref.whole cc1_scratch1
/-- The scratch `arg16` the kernel carries between points, as a view: what it holds is stated through it. -/
abbrev VS1_0 : View sig .tc .vmem S4x512x256 .f32 := scM1_0.view
/-- The scratch `arg17` the kernel carries between points, as a view: what it holds is stated through it. -/
abbrev VS1_1 : View sig .tc .vmem S1x1024 .f32 := scM1_1.view

/-- What the body neither reads nor writes: every other scoped buffer and the generator register. -/
abbrev Rst (c : Dev nD) : sProp 𝕄 := iprop(Pipeline.scopedRestBut (Val := Elt F) spec1 c [cc1_scratch0, cc1_scratch1] ∗ ∃ r, prngReg c r)
/-- The scoped rest and the generator register with the scratch operands as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ Rst c) := by
  have h : (Pipeline.scopedRest spec1 c : sProp 𝕄) = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ Pipeline.scopedRestBut (Val := Elt F) spec1 c [cc1_scratch0, cc1_scratch1]) :=
    Pipeline.scopedRest_split_of_list spec1 c [cc1_scratch0, cc1_scratch1] (by decide) (by decide)
  unfold Pipeline.ΦA Rst; rw [h, show ∀ P Q R : sProp 𝕄, iprop((P ∗ Q) ∗ R) = iprop(P ∗ Q ∗ R) from fun _ _ _ => equiv_iff.mp ⟨Idealize.SL.BI.sep_assoc, Idealize.SL.BI.sep_assoc'⟩]; simp only [scM1_0, scM1_1, owns_whole]; try rfl

end Cert.KernelIdeal.Bwd

end
-- ==== Proof.BwdRunA.lean ====
module

public import proofs.«01_k».proof.Proof.BwdRuns

@[expose] public section

set_option maxRecDepth 16384

noncomputable section

/-! Region 1: the body's run in case A. -/

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S4x1x512x256 .f32) (harg9 : arg9.IsWhole) (arg10 : Memref sig .tc .vmem S4x1x512x256 .f32) (harg10 : arg10.IsWhole) (arg11 : Memref sig .tc .vmem S64x2048 .f32) (harg11 : arg11.IsWhole) (arg12 : Memref sig .tc .vmem S64x6272 .bf16) (harg12 : arg12.IsWhole) (arg13 : Memref sig .tc .vmem S1x512 .f32) (harg13 : arg13.IsWhole) (arg14 : Memref sig .tc .vmem S1x1024 .f32) (harg14 : arg14.IsWhole) (arg15 : Memref sig .tc .vmem S128x1024 .f32) (harg15 : arg15.IsWhole) (arg16 : Memref sig .tc .vmem S4x512x256 .f32) (harg16 : arg16.IsWhole) (arg17 : Memref sig .tc .vmem S1x1024 .f32) (harg17 : arg17.IsWhole) (hc0 : cond1_0 i)
    (x0 : Vec F S64x1024 .f32) (x1 : Vec F S64x1024 .f32) (x2 : Vec F S64x2048 .f32) (x3 : Vec F S64x2048 .f32) (x4 : Vec F S64x128 .f32) (x5 : Vec F S128x1024 .bf16) (x6 : Vec F S1x1024 .f32) (x7 : Vec F S1x512 .f32) (x8 : Vec F S4x1x512x256 .f32) (x9 : Vec F S4x1x512x256 .f32) (x10 : Vec F S64x2048 .f32) :
    Σ' (L11 : List (View.Piece (Elt F) S64x6272 .bf16)), Σ' (L12 : List (View.Piece (Elt F) S1x512 .f32)), Σ' (L13 : List (View.Piece (Elt F) S1x1024 .f32)), Σ' (L14 : List (View.Piece (Elt F) S128x1024 .f32)), Σ' (LS0 : List (View.Piece (Elt F) S4x512x256 .f32)), { LS1 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc1_gla_dmix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc1_gla_dmix_eq_skeleton]; unfold cc1_gla_dmix_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [HS0]; · iexists _; iexact HS0
    iexists _; iexact HS1

end Cert.KernelIdeal.Bwd

end
-- ==== Proof.BwdRunB.lean ====
module

public import proofs.«01_k».proof.Proof.BwdRunA

@[expose] public section

set_option maxRecDepth 16384

noncomputable section

/-! Region 1: the body's run in case B. -/

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 31: 31 of 32), WITH the
    proof that on whole staging memrefs — the inputs' at their contents, the outputs it reads before covering (12, 13, 14) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S4x1x512x256 .f32) (harg9 : arg9.IsWhole) (arg10 : Memref sig .tc .vmem S4x1x512x256 .f32) (harg10 : arg10.IsWhole) (arg11 : Memref sig .tc .vmem S64x2048 .f32) (harg11 : arg11.IsWhole) (arg12 : Memref sig .tc .vmem S64x6272 .bf16) (harg12 : arg12.IsWhole) (arg13 : Memref sig .tc .vmem S1x512 .f32) (harg13 : arg13.IsWhole) (arg14 : Memref sig .tc .vmem S1x1024 .f32) (harg14 : arg14.IsWhole) (arg15 : Memref sig .tc .vmem S128x1024 .f32) (harg15 : arg15.IsWhole) (arg16 : Memref sig .tc .vmem S4x512x256 .f32) (harg16 : arg16.IsWhole) (arg17 : Memref sig .tc .vmem S1x1024 .f32) (harg17 : arg17.IsWhole) (hc0 : ¬cond1_0 i)
    (x0 : Vec F S64x1024 .f32) (x1 : Vec F S64x1024 .f32) (x2 : Vec F S64x2048 .f32) (x3 : Vec F S64x2048 .f32) (x4 : Vec F S64x128 .f32) (x5 : Vec F S128x1024 .bf16) (x6 : Vec F S1x1024 .f32) (x7 : Vec F S1x512 .f32) (x8 : Vec F S4x1x512x256 .f32) (x9 : Vec F S4x1x512x256 .f32) (x10 : Vec F S64x2048 .f32) (xo12 : Vec F S1x512 .f32) (xo13 : Vec F S1x1024 .f32) (xo14 : Vec F S128x1024 .f32) (xs0 : Vec F S4x512x256 .f32) (xs1 : Vec F S1x1024 .f32) :
    Σ' (L11 : List (View.Piece (Elt F) S64x6272 .bf16)), Σ' (L12 : List (View.Piece (Elt F) S1x512 .f32)), Σ' (L13 : List (View.Piece (Elt F) S1x1024 .f32)), Σ' (L14 : List (View.Piece (Elt F) S128x1024 .f32)), Σ' (LS0 : List (View.Piece (Elt F) S4x512x256 .f32)), { LS1 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xo12 ∗ owns (c : Thread nD τ) arg14 fullShare xo13 ∗ owns (c : Thread nD τ) arg15 fullShare xo14 ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc1_gla_dmix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc1_gla_dmix_eq_skeleton]; unfold cc1_gla_dmix_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13; obtain rfl := harg15.eq_unread hf14; obtain rfl := harg16.eq_unread hfs0; obtain rfl := harg17.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [HS0]; · iexists _; iexact HS0
    iexists _; iexact HS1

end Cert.KernelIdeal.Bwd

end
-- ==== Proof.Bwd.lean ====
module

public import proofs.«01_k».proof.Proof.BwdRunB
public import Idealize.ShloMosaic.Lib.Claim

@[expose] public section

set_option maxRecDepth 16384

noncomputable section

/-! Region 1: what its outputs and its carried scratch hold point by point, its proof data and its body obligation. -/

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid1.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S4x1x512x256 .f32) (harg9 : arg9.IsWhole) (arg10 : Memref sig .tc .vmem S4x1x512x256 .f32) (harg10 : arg10.IsWhole) (arg11 : Memref sig .tc .vmem S64x2048 .f32) (harg11 : arg11.IsWhole) (arg12 : Memref sig .tc .vmem S64x6272 .bf16) (harg12 : arg12.IsWhole) (arg13 : Memref sig .tc .vmem S1x512 .f32) (harg13 : arg13.IsWhole) (arg14 : Memref sig .tc .vmem S1x1024 .f32) (harg14 : arg14.IsWhole) (arg15 : Memref sig .tc .vmem S128x1024 .f32) (harg15 : arg15.IsWhole) (arg16 : Memref sig .tc .vmem S4x512x256 .f32) (harg16 : arg16.IsWhole) (arg17 : Memref sig .tc .vmem S1x1024 .f32) (harg17 : arg17.IsWhole) (hc0 : cond1_0 i)
    (x0 : Vec F S64x1024 .f32) (x1 : Vec F S64x1024 .f32) (x2 : Vec F S64x2048 .f32) (x3 : Vec F S64x2048 .f32) (x4 : Vec F S64x128 .f32) (x5 : Vec F S128x1024 .bf16) (x6 : Vec F S1x1024 .f32) (x7 : Vec F S1x512 .f32) (x8 : Vec F S4x1x512x256 .f32) (x9 : Vec F S4x1x512x256 .f32) (x10 : Vec F S64x2048 .f32)

/-- Case A's pieces for output 11 are of SEVERAL sizes (14 stores of `S64x1024`, `S64x128`, `S64x256`, `S64x512`): cut into blocks of `![64, 128]` they tile its block (checked by the kernel's evaluation: Lib/Ring.lean `Piece.tiledBy`), so they cover it. -/
theorem cover1_A_11 (y : S64x6272.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1, y ∈ pc.1.set :=
  View.cover_of_tiledBy (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1 ![64, 128] (by sl_kernel_rfl) y

/-- What case A leaves in output 11's staging buffer: its pieces read back over junk. -/
def out1_A_11 : Vec F S64x6272 .bf16 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1)

/-- Case A's pieces for output 12 tile its block (2 stores of `S1x512`, checked by the kernel's evaluation: Lib/Ring.lean `Piece.tiledL`, linear in the pieces, through a loop's `@[irreducible]` trip theorem too), so they cover it. -/
theorem cover1_A_12 (y : S1x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1 S1x512.size (by sl_kernel_rfl) y

/-- What case A leaves in output 12's staging buffer: its pieces read back over junk. -/
def out1_A_12 : Vec F S1x512 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1)

/-- Case A's pieces for output 13 tile its block (2 stores of `S1x1024`, checked by the kernel's evaluation: Lib/Ring.lean `Piece.tiledL`, linear in the pieces, through a loop's `@[irreducible]` trip theorem too), so they cover it. -/
theorem cover1_A_13 (y : S1x1024.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1 S1x1024.size (by sl_kernel_rfl) y

/-- What case A leaves in output 13's staging buffer: its pieces read back over junk. -/
def out1_A_13 : Vec F S1x1024 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1)

/-- Case A's pieces for output 14 tile its block (2 stores of `S128x1024`, checked by the kernel's evaluation: Lib/Ring.lean `Piece.tiledL`, linear in the pieces, through a loop's `@[irreducible]` trip theorem too), so they cover it. -/
theorem cover1_A_14 (y : S128x1024.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1 S128x1024.size (by sl_kernel_rfl) y

/-- What case A leaves in output 14's staging buffer: its pieces read back over junk. -/
def out1_A_14 : Vec F S128x1024 .f32 :=
  VO1_14.read (Elt F) (VO1_14.writes (Elt F) VO1_14.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1)

/-- Case A's pieces for scratch `arg16`, which the kernel carries between points, cover it: one of them a store of the WHOLE buffer (Lib/Ring.lean `sl_whole_mem`). -/
theorem scover1_A_0 (y : S4x512x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1, y ∈ pc.1.set :=
  View.cover_of_wholeMem (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1 (by sl_whole_mem) y

/-- What case A leaves in scratch `arg16`: its pieces read back over junk. -/
def sout1_A_0 : Vec F S4x512x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1)

/-- Case A's pieces for scratch `arg17`, which the kernel carries between points, cover it: 2 pieces of `S1x1024` tiling it (Lib/Ring.lean `Piece.tiledL`). -/
theorem scover1_A_1 (y : S1x1024.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.2.1 S1x1024.size (by sl_kernel_rfl) y

/-- What case A leaves in scratch `arg17`: its pieces read back over junk. -/
def sout1_A_1 : Vec F S1x1024 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.2.1)

end

section

variable (c : Dev nD) (i : grid1.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S4x1x512x256 .f32) (harg9 : arg9.IsWhole) (arg10 : Memref sig .tc .vmem S4x1x512x256 .f32) (harg10 : arg10.IsWhole) (arg11 : Memref sig .tc .vmem S64x2048 .f32) (harg11 : arg11.IsWhole) (arg12 : Memref sig .tc .vmem S64x6272 .bf16) (harg12 : arg12.IsWhole) (arg13 : Memref sig .tc .vmem S1x512 .f32) (harg13 : arg13.IsWhole) (arg14 : Memref sig .tc .vmem S1x1024 .f32) (harg14 : arg14.IsWhole) (arg15 : Memref sig .tc .vmem S128x1024 .f32) (harg15 : arg15.IsWhole) (arg16 : Memref sig .tc .vmem S4x512x256 .f32) (harg16 : arg16.IsWhole) (arg17 : Memref sig .tc .vmem S1x1024 .f32) (harg17 : arg17.IsWhole) (hc0 : ¬cond1_0 i)
    (x0 : Vec F S64x1024 .f32) (x1 : Vec F S64x1024 .f32) (x2 : Vec F S64x2048 .f32) (x3 : Vec F S64x2048 .f32) (x4 : Vec F S64x128 .f32) (x5 : Vec F S128x1024 .bf16) (x6 : Vec F S1x1024 .f32) (x7 : Vec F S1x512 .f32) (x8 : Vec F S4x1x512x256 .f32) (x9 : Vec F S4x1x512x256 .f32) (x10 : Vec F S64x2048 .f32) (xo12 : Vec F S1x512 .f32) (xo13 : Vec F S1x1024 .f32) (xo14 : Vec F S128x1024 .f32) (xs0 : Vec F S4x512x256 .f32) (xs1 : Vec F S1x1024 .f32)

/-- Case B's pieces for output 11 are of SEVERAL sizes (14 stores of `S64x1024`, `S64x128`, `S64x256`, `S64x512`): cut into blocks of `![64, 128]` they tile its block (checked by the kernel's evaluation: Lib/Ring.lean `Piece.tiledBy`), so they cover it. -/
theorem cover1_B_11 (y : S64x6272.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).1, y ∈ pc.1.set :=
  View.cover_of_tiledBy (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).1 ![64, 128] (by sl_kernel_rfl) y

/-- What case B leaves in output 11's staging buffer: its pieces read back over junk. -/
def out1_B_11 : Vec F S64x6272 .bf16 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).1)

/-- Case B's pieces for output 12 tile its block (1 store of `S1x512`, checked by the kernel's evaluation: Lib/Ring.lean `Piece.tiledL`, linear in the pieces, through a loop's `@[irreducible]` trip theorem too), so they cover it. -/
theorem cover1_B_12 (y : S1x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.1 S1x512.size (by sl_kernel_rfl) y

/-- What case B leaves in output 12's staging buffer: its pieces read back over junk. -/
def out1_B_12 : Vec F S1x512 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.1)

/-- Case B's pieces for output 13 tile its block (1 store of `S1x1024`, checked by the kernel's evaluation: Lib/Ring.lean `Piece.tiledL`, linear in the pieces, through a loop's `@[irreducible]` trip theorem too), so they cover it. -/
theorem cover1_B_13 (y : S1x1024.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.1 S1x1024.size (by sl_kernel_rfl) y

/-- What case B leaves in output 13's staging buffer: its pieces read back over junk. -/
def out1_B_13 : Vec F S1x1024 .f32 :=
  VO1_13.read (Elt F) (VO1_13.writes (Elt F) VO1_13.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.1)

/-- Case B's pieces for output 14 tile its block (1 store of `S128x1024`, checked by the kernel's evaluation: Lib/Ring.lean `Piece.tiledL`, linear in the pieces, through a loop's `@[irreducible]` trip theorem too), so they cover it. -/
theorem cover1_B_14 (y : S128x1024.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.1 S128x1024.size (by sl_kernel_rfl) y

/-- What case B leaves in output 14's staging buffer: its pieces read back over junk. -/
def out1_B_14 : Vec F S128x1024 .f32 :=
  VO1_14.read (Elt F) (VO1_14.writes (Elt F) VO1_14.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.1)

/-- Case B's pieces for scratch `arg16`, which the kernel carries between points, cover it: 4 pieces of `S1x512x256` tiling it (Lib/Ring.lean `Piece.tiledL`). -/
theorem scover1_B_0 (y : S4x512x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.2.1 S1x512x256.size (by sl_kernel_rfl) y

/-- What case B leaves in scratch `arg16`: its pieces read back over junk. -/
def sout1_B_0 : Vec F S4x512x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.2.1)

/-- Case B's pieces for scratch `arg17`, which the kernel carries between points, cover it: 1 piece of `S1x1024` tiling it (Lib/Ring.lean `Piece.tiledL`). -/
theorem scover1_B_1 (y : S1x1024.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.2.2.1 S1x1024.size (by sl_kernel_rfl) y

/-- What case B leaves in scratch `arg17`: its pieces read back over junk. -/
def sout1_B_1 : Vec F S1x1024 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo12 xo13 xo14 xs0 xs1).2.2.2.2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S64x6272 .bf16 × Vec F S1x512 .f32 × Vec F S1x1024 .f32 × Vec F S128x1024 .f32 × Vec F S4x512x256 .f32 × Vec F S1x1024 .f32
  | 0, hn => (out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (X1_0 V c ⟨0, hn⟩) (X1_1 V c ⟨0, hn⟩) (X1_2 V c ⟨0, hn⟩) (X1_3 V c ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (X1_0 V c ⟨0, hn⟩) (X1_1 V c ⟨0, hn⟩) (X1_2 V c ⟨0, hn⟩) (X1_3 V c ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (X1_0 V c ⟨0, hn⟩) (X1_1 V c ⟨0, hn⟩) (X1_2 V c ⟨0, hn⟩) (X1_3 V c ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩), out1_A_14 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (X1_0 V c ⟨0, hn⟩) (X1_1 V c ⟨0, hn⟩) (X1_2 V c ⟨0, hn⟩) (X1_3 V c ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (X1_0 V c ⟨0, hn⟩) (X1_1 V c ⟨0, hn⟩) (X1_2 V c ⟨0, hn⟩) (X1_3 V c ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (X1_0 V c ⟨0, hn⟩) (X1_1 V c ⟨0, hn⟩) (X1_2 V c ⟨0, hn⟩) (X1_3 V c ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩))
  | n + 1, hn =>
    if h0 : (n + 1) % 32 = 0 then
      (out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) ((hcond1_0 ⟨n + 1, hn⟩).mpr h0) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) ((hcond1_0 ⟨n + 1, hn⟩).mpr h0) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩), out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) ((hcond1_0 ⟨n + 1, hn⟩).mpr h0) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩), out1_A_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) ((hcond1_0 ⟨n + 1, hn⟩).mpr h0) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) ((hcond1_0 ⟨n + 1, hn⟩).mpr h0) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) ((hcond1_0 ⟨n + 1, hn⟩).mpr h0) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩))
    else
      (out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => h0 ((hcond1_0 ⟨n + 1, hn⟩).mp h)) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => h0 ((hcond1_0 ⟨n + 1, hn⟩).mp h)) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => h0 ((hcond1_0 ⟨n + 1, hn⟩).mp h)) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2, out1_B_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => h0 ((hcond1_0 ⟨n + 1, hn⟩).mp h)) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => h0 ((hcond1_0 ⟨n + 1, hn⟩).mp h)) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => h0 ((hcond1_0 ⟨n + 1, hn⟩).mp h)) (X1_0 V c ⟨n + 1, hn⟩) (X1_1 V c ⟨n + 1, hn⟩) (X1_2 V c ⟨n + 1, hn⟩) (X1_3 V c ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2)

/-- `outsAt1` at a point of case A: that case's contents. -/
theorem outsAt1_A (c : Dev nD) (t : Fin cfg1.N) (h0 : t.val % 32 = 0) :
    outsAt1 V c t.val t.isLt = (out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (X1_0 V c t) (X1_1 V c t) (X1_2 V c t) (X1_3 V c t) (iblk V c 4 t) (iblk V c 5 t) (iblk V c 6 t) (iblk V c 7 t) (iblk V c 8 t) (iblk V c 9 t) (iblk V c 10 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (X1_0 V c t) (X1_1 V c t) (X1_2 V c t) (X1_3 V c t) (iblk V c 4 t) (iblk V c 5 t) (iblk V c 6 t) (iblk V c 7 t) (iblk V c 8 t) (iblk V c 9 t) (iblk V c 10 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (X1_0 V c t) (X1_1 V c t) (X1_2 V c t) (X1_3 V c t) (iblk V c 4 t) (iblk V c 5 t) (iblk V c 6 t) (iblk V c 7 t) (iblk V c 8 t) (iblk V c 9 t) (iblk V c 10 t), out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (X1_0 V c t) (X1_1 V c t) (X1_2 V c t) (X1_3 V c t) (iblk V c 4 t) (iblk V c 5 t) (iblk V c 6 t) (iblk V c 7 t) (iblk V c 8 t) (iblk V c 9 t) (iblk V c 10 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (X1_0 V c t) (X1_1 V c t) (X1_2 V c t) (X1_3 V c t) (iblk V c 4 t) (iblk V c 5 t) (iblk V c 6 t) (iblk V c 7 t) (iblk V c 8 t) (iblk V c 9 t) (iblk V c 10 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (X1_0 V c t) (X1_1 V c t) (X1_2 V c t) (X1_3 V c t) (iblk V c 4 t) (iblk V c 5 t) (iblk V c 6 t) (iblk V c 7 t) (iblk V c 8 t) (iblk V c 9 t) (iblk V c 10 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 32 = 0) :
    outsAt1 V c t.val t.isLt = (out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (X1_0 V c t) (X1_1 V c t) (X1_2 V c t) (X1_3 V c t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (X1_0 V c t) (X1_1 V c t) (X1_2 V c t) (X1_3 V c t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (X1_0 V c t) (X1_1 V c t) (X1_2 V c t) (X1_3 V c t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (X1_0 V c t) (X1_1 V c t) (X1_2 V c t) (X1_3 V c t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (X1_0 V c t) (X1_1 V c t) (X1_2 V c t) (X1_3 V c t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (X1_0 V c t) (X1_1 V c t) (X1_2 V c t) (X1_3 V c t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2.1) ∗ owns (c : Thread nD τ) scM1_1 fullShare ((outsAt1 V c n hn).2.2.2.2.2)) ∗ Rst c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2.2.2.1) ∗ owns (c : Thread nD τ) scM1_1 fullShare ((outsAt1 V c n hn).2.2.2.2.2)) ∗ Rst c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2.1) ∗ owns (c : Thread nD τ) scM1_1 fullShare ((outsAt1 V c (n - 1) (by omega)).2.2.2.2.2)) ∗ Rst c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => X1_0 V c t
    | ⟨1, _⟩ => X1_1 V c t
    | ⟨2, _⟩ => X1_2 V c t
    | ⟨3, _⟩ => X1_3 V c t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => (outsAt1 V c t.val t.isLt).1
    | ⟨12, _⟩ => (outsAt1 V c t.val t.isLt).2.1
    | ⟨13, _⟩ => (outsAt1 V c t.val t.isLt).2.2.1
    | ⟨14, _⟩ => (outsAt1 V c t.val t.isLt).2.2.2.1
  Φ t := PhiS V c t.val (Nat.le_of_lt_succ t.isLt)
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = X1_0 V c t := by dsimp only [dat1]
theorem after1_1 (c : Dev nD) (t : Fin cfg1.N) : (dat1 V c).after 1 t = X1_1 V c t := by dsimp only [dat1]
theorem after1_2 (c : Dev nD) (t : Fin cfg1.N) : (dat1 V c).after 2 t = X1_2 V c t := by dsimp only [dat1]
theorem after1_3 (c : Dev nD) (t : Fin cfg1.N) : (dat1 V c).after 3 t = X1_3 V c t := by dsimp only [dat1]
theorem after1_4 (c : Dev nD) (t : Fin cfg1.N) : (dat1 V c).after 4 t = iblk V c 4 t := by dsimp only [dat1]
theorem after1_5 (c : Dev nD) (t : Fin cfg1.N) : (dat1 V c).after 5 t = iblk V c 5 t := by dsimp only [dat1]
theorem after1_6 (c : Dev nD) (t : Fin cfg1.N) : (dat1 V c).after 6 t = iblk V c 6 t := by dsimp only [dat1]
theorem after1_7 (c : Dev nD) (t : Fin cfg1.N) : (dat1 V c).after 7 t = iblk V c 7 t := by dsimp only [dat1]
theorem after1_8 (c : Dev nD) (t : Fin cfg1.N) : (dat1 V c).after 8 t = iblk V c 8 t := by dsimp only [dat1]
theorem after1_9 (c : Dev nD) (t : Fin cfg1.N) : (dat1 V c).after 9 t = iblk V c 9 t := by dsimp only [dat1]
theorem after1_10 (c : Dev nD) (t : Fin cfg1.N) : (dat1 V c).after 10 t = iblk V c 10 t := by dsimp only [dat1]
theorem after1_11 (c : Dev nD) (t : Fin cfg1.N) : (dat1 V c).after 11 t = (outsAt1 V c t.val t.isLt).1 := by dsimp only [dat1]
theorem after1_12 (c : Dev nD) (t : Fin cfg1.N) : (dat1 V c).after 12 t = (outsAt1 V c t.val t.isLt).2.1 := by dsimp only [dat1]
theorem after1_13 (c : Dev nD) (t : Fin cfg1.N) : (dat1 V c).after 13 t = (outsAt1 V c t.val t.isLt).2.2.1 := by dsimp only [dat1]
theorem after1_14 (c : Dev nD) (t : Fin cfg1.N) : (dat1 V c).after 14 t = (outsAt1 V c t.val t.isLt).2.2.2.1 := by dsimp only [dat1]

/-- Each input's current staging buffer holds its block at every point, fetched there or not (`beforeK_W_of`). -/
theorem before1_0 (c : Dev nD) (t : Fin cfg1.N) (d) : (dat1 V c).before 0 t d = X1_0 V c t :=
  before1_0_of V (dat1 V c) (A_eq V c 0) (after1_0 V c) t d
theorem before1_1 (c : Dev nD) (t : Fin cfg1.N) (d) : (dat1 V c).before 1 t d = X1_1 V c t :=
  before1_1_of V (dat1 V c) (A_eq V c 1) (after1_1 V c) t d
theorem before1_2 (c : Dev nD) (t : Fin cfg1.N) (d) : (dat1 V c).before 2 t d = X1_2 V c t :=
  before1_2_of V (dat1 V c) (A_eq V c 2) (after1_2 V c) t d
theorem before1_3 (c : Dev nD) (t : Fin cfg1.N) (d) : (dat1 V c).before 3 t d = X1_3 V c t :=
  before1_3_of V (dat1 V c) (A_eq V c 3) (after1_3 V c) t d
theorem before1_4 (c : Dev nD) (t : Fin cfg1.N) (d) : (dat1 V c).before 4 t d = iblk V c 4 t :=
  before1_4_of V (dat1 V c) (A_eq V c 4) (after1_4 V c) t d
theorem before1_5 (c : Dev nD) (t : Fin cfg1.N) (d) : (dat1 V c).before 5 t d = iblk V c 5 t :=
  before1_5_of V (dat1 V c) (A_eq V c 5) (after1_5 V c) t d
theorem before1_6 (c : Dev nD) (t : Fin cfg1.N) (d) : (dat1 V c).before 6 t d = iblk V c 6 t :=
  before1_6_of V (dat1 V c) (A_eq V c 6) (after1_6 V c) t d
theorem before1_7 (c : Dev nD) (t : Fin cfg1.N) (d) : (dat1 V c).before 7 t d = iblk V c 7 t :=
  before1_7_of V (dat1 V c) (A_eq V c 7) (after1_7 V c) t d
theorem before1_8 (c : Dev nD) (t : Fin cfg1.N) (d) : (dat1 V c).before 8 t d = iblk V c 8 t :=
  before1_8_of V (dat1 V c) (A_eq V c 8) (after1_8 V c) t d
theorem before1_9 (c : Dev nD) (t : Fin cfg1.N) (d) : (dat1 V c).before 9 t d = iblk V c 9 t :=
  before1_9_of V (dat1 V c) (A_eq V c 9) (after1_9 V c) t d
theorem before1_10 (c : Dev nD) (t : Fin cfg1.N) (d) : (dat1 V c).before 10 t d = iblk V c 10 t :=
  before1_10_of V (dat1 V c) (A_eq V c 10) (after1_10 V c) t d
/-- At a point of case B output 12's current staging buffer holds what the body left at the point before: the point is
    not the first, the buffer was not written back between (`flush1_12`), the window is live and uncut (Lib/Pipeline/Frame.lean
    `Dat.before_out_kept`). -/
theorem before1_12_B (c : Dev nD) (t : Fin cfg1.N) (h0 : ¬t.val % 32 = 0) (d) :
    (dat1 V c).before 12 t d = (outsAt1 V c (t.val - 1) (Nat.lt_of_le_of_lt (Nat.sub_le _ _) t.isLt)).2.1 := by
  have hN : t.val < 32 := lt_of_lt_of_eq t.isLt (show cfg1.N = 32 from N_1)
  rw [Dat.before_out_kept _ 12 rfl t (by omega) (Bool.eq_false_iff.mpr fun h => by have := (flush1_12 _).mp h; dsimp only at this; omega)
    (fun _ => rfl) (fun _ _ => rfl)]
  dsimp only [dat1]
/-- At a point of case B output 13's current staging buffer holds what the body left at the point before: the point is
    not the first, the buffer was not written back between (`flush1_13`), the window is live and uncut (Lib/Pipeline/Frame.lean
    `Dat.before_out_kept`). -/
theorem before1_13_B (c : Dev nD) (t : Fin cfg1.N) (h0 : ¬t.val % 32 = 0) (d) :
    (dat1 V c).before 13 t d = (outsAt1 V c (t.val - 1) (Nat.lt_of_le_of_lt (Nat.sub_le _ _) t.isLt)).2.2.1 := by
  have hN : t.val < 32 := lt_of_lt_of_eq t.isLt (show cfg1.N = 32 from N_1)
  rw [Dat.before_out_kept _ 13 rfl t (by omega) (Bool.eq_false_iff.mpr fun h => by have := (flush1_13 _).mp h; dsimp only at this; omega)
    (fun _ => rfl) (fun _ _ => rfl)]
  dsimp only [dat1]
/-- At a point of case B output 14's current staging buffer holds what the body left at the point before: the point is
    not the first, the buffer was not written back between (`flush1_14`), the window is live and uncut (Lib/Pipeline/Frame.lean
    `Dat.before_out_kept`). -/
theorem before1_14_B (c : Dev nD) (t : Fin cfg1.N) (h0 : ¬t.val % 32 = 0) (d) :
    (dat1 V c).before 14 t d = (outsAt1 V c (t.val - 1) (Nat.lt_of_le_of_lt (Nat.sub_le _ _) t.isLt)).2.2.2.1 := by
  have hN : t.val < 32 := lt_of_lt_of_eq t.isLt (show cfg1.N = 32 from N_1)
  rw [Dat.before_out_kept _ 14 rfl t (by omega) (Bool.eq_false_iff.mpr fun h => by have := (flush1_14 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

/-- and what it returns. -/
def bodyPost (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t))

set_option maxHeartbeats 12800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8, before1_9, before1_10]
  rw [show (dat1 V c).owesAt () t.succ = (dat1 V c).owesAt () t.castSucc from rfl,
    after1_0, after1_1, after1_2, after1_3, after1_4, after1_5, after1_6, after1_7, after1_8, after1_9, after1_10, after1_11, after1_12, after1_13, after1_14]
  rw [show (dat1 V c).Φ t.succ = PhiS V c (t.val + 1) t.isLt from rfl, PhiS_succ]
  have hN : t.val < 32 := lt_of_lt_of_eq t.isLt (show cfg1.N = 32 from N_1)
  by_cases h0 : t.val % 32 = 0
  · by_cases hz : t.val = 0
    · rw [PhiS_castSucc V c t, PhiS_zero V c _ _ hz, PhiA1_eq]
      rw [outsAt1_A V c t h0]
      unfold out1_A_11 out1_A_12 out1_A_13 out1_A_14 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ _ _ ((hcond1_0 t).mpr h0) (X1_0 V c t) (X1_1 V c t) (X1_2 V c t) (X1_3 V c t) (iblk V c 4 t) (iblk V c 5 t) (iblk V c 6 t) (iblk V c 7 t) (iblk V c 8 t) (iblk V c 9 t) (iblk V c 10 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover1_A_13 c _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg1.N = 32 from N_1); omega
  · by_cases hz : t.val = 0
    · exfalso; have hN : t.val < 32 := lt_of_lt_of_eq t.isLt (show cfg1.N = 32 from N_1); omega
    · rw [PhiS_castSucc V c t, PhiS_pos V c _ _ hz]
      rw [outsAt1_B V c t h0]
      simp only [before1_12_B V c t h0, before1_13_B V c t h0, before1_14_B V c t h0]
      unfold out1_B_11 out1_B_12 out1_B_13 out1_B_14 sout1_B_0 sout1_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_B c (grid1.coords t) _ _ _ _ _ _ _ _ _ _ _ _ _ _ _ _ _ _ _ _ _ _ _ _ _ _ _ _ _ _ _ _ _ _ (fun h => h0 ((hcond1_0 t).mp h)) (X1_0 V c t) (X1_1 V c t) (X1_2 V c t) (X1_3 V c t) (iblk V c 4 t) (iblk V c 5 t) (iblk V c 6 t) (iblk V c 7 t) (iblk V c 8 t) (iblk V c 9 t) (iblk V c 10 t) _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_B_12 c _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover1_B_13 c _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover1_B_14 c _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat1 (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat1 V c).Φ (Fin.last cfg1.N) ⊢ Pipeline.ΦA spec1 c :=
  Phi_out V c _ (by rw [Fin.val_last]; have : cfg1.N = 32 := N_1; omega)

end Cert.KernelIdeal.Bwd

end
-- ==== Proof.Launch.lean ====
module

public import proofs.«01_k».proof.Proof.Fwd
public import proofs.«01_k».proof.Proof.Bwd
public import proofs.«01_k».proof.Proof.Gen.KernelIdeal.Regions
public import Idealize.ShloMosaic.Lib.Pipeline.RegionsLoop

@[expose] public section

set_option maxRecDepth 16384

noncomputable section

/-! The launch: the two regions as segments between the host stretches, the valuations they leave, and the run. -/

namespace Cert.KernelIdeal.Launch

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers as region 0 finds them. -/
abbrev VA (c : Dev nD) (b : Ref sig .tc) : Buf (Elt F) ((c : Thread nD τ).loc b) := V5 m c b
/-- Core `c`'s unscoped buffers after region 0: its two results at what its proof data leave. -/
def W6 (c : Dev nD) : Valuation τ sig (Elt F) :=
  Function.update (Function.update (V5 m c) main_v5_0 ((Fwd.dat0 (VA m) c).arrAt 8 cfg0.N)) main_v5_1 ((Fwd.dat0 (VA m) c).arrAt 9 cfg0.N)
/-- Core `c`'s buffers as region 1 finds them. -/
abbrev VB (c : Dev nD) (b : Ref sig .tc) : Buf (Elt F) ((c : Thread nD τ).loc b) := W6 m c b
/-- Core `c`'s unscoped buffers after region 1: its four results at what its proof data leave. -/
def W7 (c : Dev nD) : Valuation τ sig (Elt F) :=
  Function.update (Function.update (Function.update (Function.update (W6 m c) main_v6_0 ((Bwd.dat1 (VB m) c).arrAt 11 cfg1.N))
    main_v6_1 ((Bwd.dat1 (VB m) c).arrAt 12 cfg1.N)) main_v6_2 ((Bwd.dat1 (VB m) c).arrAt 13 cfg1.N)) main_v6_3 ((Bwd.dat1 (VB m) c).arrAt 14 cfg1.N)
/-- Core `c`'s unscoped buffers at the end. -/
abbrev W8 (c : Dev nD) : Valuation τ sig (Elt F) := StableHlo.after hostOps2 (W7 m c)

theorem W6_of (c : Dev nD) (r : Ref sig .tc) (h : r ∉ ([main_v5_0, main_v5_1] : List (Ref sig .tc))) : W6 m c r = V5 m c r := by
  simp only [List.mem_cons, List.not_mem_nil, or_false, not_or] at h
  unfold W6
  rw [Function.update_of_ne (StableHlo.devRef_ne_of_ne h.2), Function.update_of_ne (StableHlo.devRef_ne_of_ne h.1)]
theorem W6_v5_0 (c : Dev nD) : W6 m c main_v5_0 = (Fwd.dat0 (VA m) c).arrAt 8 cfg0.N := by
  unfold W6
  rw [Function.update_of_ne (StableHlo.devRef_ne_of_ne (by decide)), Function.update_self]
theorem W6_v5_1 (c : Dev nD) : W6 m c main_v5_1 = (Fwd.dat0 (VA m) c).arrAt 9 cfg0.N := by
  unfold W6
  rw [Function.update_self]
theorem W7_of (c : Dev nD) (r : Ref sig .tc) (h : r ∉ ([main_v6_0, main_v6_1, main_v6_2, main_v6_3] : List (Ref sig .tc))) : W7 m c r = W6 m c r := by
  simp only [List.mem_cons, List.not_mem_nil, or_false, not_or] at h
  unfold W7
  rw [Function.update_of_ne (StableHlo.devRef_ne_of_ne h.2.2.2), Function.update_of_ne (StableHlo.devRef_ne_of_ne h.2.2.1),
    Function.update_of_ne (StableHlo.devRef_ne_of_ne h.2.1), Function.update_of_ne (StableHlo.devRef_ne_of_ne h.1)]
theorem W7_v6_0 (c : Dev nD) : W7 m c main_v6_0 = (Bwd.dat1 (VB m) c).arrAt 11 cfg1.N := by
  unfold W7
  rw [Function.update_of_ne (StableHlo.devRef_ne_of_ne (by decide)), Function.update_of_ne (StableHlo.devRef_ne_of_ne (by decide)),
    Function.update_of_ne (StableHlo.devRef_ne_of_ne (by decide)), Function.update_self]
theorem W7_v6_1 (c : Dev nD) : W7 m c main_v6_1 = (Bwd.dat1 (VB m) c).arrAt 12 cfg1.N := by
  unfold W7
  rw [Function.update_of_ne (StableHlo.devRef_ne_of_ne (by decide)), Function.update_of_ne (StableHlo.devRef_ne_of_ne (by decide)),
    Function.update_self]
theorem W7_v6_2 (c : Dev nD) : W7 m c main_v6_2 = (Bwd.dat1 (VB m) c).arrAt 13 cfg1.N := by
  unfold W7
  rw [Function.update_of_ne (StableHlo.devRef_ne_of_ne (by decide)), Function.update_self]
theorem W7_v6_3 (c : Dev nD) : W7 m c main_v6_3 = (Bwd.dat1 (VB m) c).arrAt 14 cfg1.N := by
  unfold W7
  rw [Function.update_self]
theorem W8_of (c : Dev nD) (r : Ref sig .tc) (h : r ∉ hostOps2_W) : W8 m c r = W7 m c r :=
  StableHlo.after_of_writes_sub hostOps2 _ hostOps2_writes h

/-- The proof data of the two pipelines. -/
def pdats : (p : Fin 2) → (c : Dev nD) → Dat τ (Elt F) Unit ℕ (UR sig nD τ) ℕ (cfgs p) c
  | 0, c => Fwd.dat0 (VA m) c
  | 1, c => Bwd.dat1 (VB m) c

/-- No level is assigned. -/
abbrev Lv : GSem nD τ sig → Finset Unit := fun _ => ∅
abbrev lv : GSem nD τ sig → Unit → ℕ := fun _ _ => 0

/-- What rides beside the buffers: the generator register at some state, and the core owing nothing. -/
abbrev Rid (c : Dev nD) : sProp 𝕄 := iprop((∃ r, prngReg c r) ∗ ∃ W, owes (c.tc : Thread nD τ) (0 : CellTallies nD τ sig Unit) W)

/-- Region `p` entered from every unscoped buffer at `V₁`, left with them at `V₂`. -/
def mkReg (p : Fin 2) (kit : Pipeline.LaunchFacts₀ (nD := nD) (τ := τ) cfgs p)
    (hbody : ∀ c, BodyObligationLoose (pdats m p c) (defs₀ (F := F)) Variants.none () Set.univ)
    (hq : ∀ c w, ((cfgs p).spec w).isOut = false → (pdats m p c).q w = Pipeline.shareOf (cfgs p).spec w)
    (howed : ∀ c t, (pdats m p c).owed t = 0) (hrec : ∀ c, (pdats m p c).recorded 0 = Set.univ)
    (V₁ V₂ : Dev nD → Valuation τ sig (Elt F))
    (hA : ∀ c w, (pdats m p c).A w = V₁ c (Proc.devRef .tc (Pipeline.arrRef (cfgs p).spec w)))
    (hF : ∀ c w, (pdats m p c).arrAt w (cfgs p).N = V₂ c (Proc.devRef .tc (Pipeline.arrRef (cfgs p).spec w)))
    (hrest : ∀ c (b : Ref sig .tc), b ∉ Finset.univ.image (Pipeline.arrRef (cfgs p).spec) → V₂ c (Proc.devRef .tc b) = V₁ c (Proc.devRef .tc b))
    (hin : ∀ c, Pipeline.ΦA (cfgs p).spec c ⊢ (pdats m p c).Φ 0)
    (hout : ∀ c, (pdats m p c).Φ (Fin.last (cfgs p).N) ⊢ Pipeline.ΦA (cfgs p).spec c) :
    RegionSeg (pcfgs (F := F)) adm (pdats m) () defs₀ Variants.none Lv lv p where
  win := kit.win
  block_pos := kit.block_pos
  stage_whole := kit.stage_whole
  K := PEmpty
  osem := fun k => k.elim
  ho := Pipeline.OwnSemFacts.none _
  hbody := hbody
  hwaits := Pipeline.hwaits_of_owed_zero (pcfgs (F := F)) adm (pdats m) () Lv lv p howed
  pre c := iprop(StableHlo.held (c.tc : Thread nD τ) (Pipeline.ucRefs τ sig) (V₁ c) ∗ Rid c)
  post c := iprop(StableHlo.held (c.tc : Thread nD τ) (Pipeline.ucRefs τ sig) (V₂ c) ∗ Rid c)
  X c := iprop(∃ r, prngReg c r)
  Y c := iprop(∃ r, prngReg c r)
  Z c := Pipeline.unscopedRest (Ix := Unit) (Name := ℕ) (U := UR sig nD τ) (Lvl := ℕ) (cfgs p).spec c (fun b => V₁ c (Proc.devRef .tc b))
  hentry c := by
    rw [Pipeline.ownSems0_none,
      show StableHlo.held (c.tc : Thread nD τ) (Pipeline.ucRefs τ sig) (V₁ c) = unscopedBufs c (fun b => V₁ c (Proc.devRef .tc b))
        from (Pipeline.unscopedBufs_held (Ix := Unit) (Name := ℕ) (U := UR sig nD τ) (Lvl := ℕ) c (V₁ c)).symm]
    have hsplit := Pipeline.arrays_of_unscopedBufs_shared (p := p) (pcfgs (F := F)) adm (pdats m) kit.win kit.sharedIn kit.arr_whole c (hq c)
      (fun b => V₁ c (Proc.devRef .tc b)) (fun w => hA c w)
    iintro ⟨⟨Hub, Hp, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, Idealize.SL.BI.bigSep_empty])
      iempintro
    isplitl [HO]
    · unfold Pipeline.Dat.owesAt Pipeline.owesWithin
      rw [howed c 0]
      unfold Pipeline.Dat.bound; rw [hrec c]
      icases HO with ⟨%W, HO⟩
      iexists W; isplitr; · ipureintro; exact fun _ _ => Or.inl trivial
      iexact HO
    isplitl [Hp]; · iexact Hp
    iexact Hrest
  hin c := (show _ ⊢ Pipeline.ΦA (cfgs p).spec c from by
    unfold Pipeline.ΦA; iintro ⟨Hp, -, Hr⟩
    isplitl [Hr] <;> iassumption).trans (hin c)
  hout c := (hout c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays_shared (p := p) (pcfgs (F := F)) adm (Ix := Unit) (Name := ℕ) (U := UR sig nD τ) (Lvl := ℕ)
      kit.win kit.sharedIn kit.arr_whole c (pdats m) (hq c)
      (fun b => V₁ c (Proc.devRef .tc b)) (fun b => V₂ c (Proc.devRef .tc b)) ((pdats m p c).arrAt · (cfgs p).N)
      (fun w => hF c w) (fun b hb => hrest c b hb)
    rw [show StableHlo.held (c.tc : Thread nD τ) (Pipeline.ucRefs τ sig) (V₂ c) = unscopedBufs c (fun b => V₂ c (Proc.devRef .tc b))
        from (Pipeline.unscopedBufs_held (Ix := Unit) (Name := ℕ) (U := UR sig nD τ) (Lvl := ℕ) c (V₂ c)).symm]
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    rw [howed c (Fin.last _)]
    icases HO with ⟨%W, -, HO⟩; iexists W; iexact HO

/-- Region 0 as a segment. -/
def R0 : RegionSeg (pcfgs (F := F)) adm (pdats m) () defs₀ Variants.none Lv lv 0 :=
  mkReg m 0 launch₀0 (fun c => (Fwd.body_obligation (VA m) c).loose) (fun _ _ _ => rfl) (fun _ _ => rfl) (fun _ => rfl) (V5 m) (W6 m)
    (fun c w => Fwd.A_eq (VA m) c w)
    (fun c w => by
      have hin : ∀ w : Fin cfg0.W, (spec0 w).isOut = false → Pipeline.arrRef spec0 w ∉ ([main_v5_0, main_v5_1] : List (Ref sig .tc)) := by decide
      rcases h : (spec0 w).isOut with _ | _
      · exact ((Fwd.dat0 (VA m) c).arrAt_in w h _).trans ((Fwd.A_eq (VA m) c w).trans (W6_of m c _ (hin w h)).symm)
      · have hw : ∀ w : Fin cfg0.W, (spec0 w).isOut = true → w = 8 ∨ w = 9 := by decide
        rcases hw w h with rfl | rfl
        · exact (W6_v5_0 m c).symm
        · exact (W6_v5_1 m c).symm)
    (fun c b hb => W6_of m c b (by
      intro hm
      apply hb
      have h2 : ∀ r ∈ ([main_v5_0, main_v5_1] : List (Ref sig .tc)), r ∈ Finset.univ.image (Pipeline.arrRef spec0) := by decide
      exact h2 b hm))
    (fun c => Fwd.hin (VA m) c) (fun c => Fwd.hout (VA m) c)

/-- Region 1 as a segment. -/
def R1 : RegionSeg (pcfgs (F := F)) adm (pdats m) () defs₀ Variants.none Lv lv 1 :=
  mkReg m 1 launch₀1 (fun c => (Bwd.body_obligation (VB m) c).loose) (fun _ _ _ => rfl) (fun _ _ => rfl) (fun _ => rfl) (W6 m) (W7 m)
    (fun c w => Bwd.A_eq (VB m) c w)
    (fun c w => by
      have hin : ∀ w : Fin cfg1.W, (spec1 w).isOut = false → Pipeline.arrRef spec1 w ∉ ([main_v6_0, main_v6_1, main_v6_2, main_v6_3] : List (Ref sig .tc)) := by decide
      rcases h : (spec1 w).isOut with _ | _
      · exact ((Bwd.dat1 (VB m) c).arrAt_in w h _).trans ((Bwd.A_eq (VB m) c w).trans (W7_of m c _ (hin w h)).symm)
      · have hw : ∀ w : Fin cfg1.W, (spec1 w).isOut = true → w = 11 ∨ w = 12 ∨ w = 13 ∨ w = 14 := by decide
        rcases hw w h with rfl | rfl | rfl | rfl
        · exact (W7_v6_0 m c).symm
        · exact (W7_v6_1 m c).symm
        · exact (W7_v6_2 m c).symm
        · exact (W7_v6_3 m c).symm)
    (fun c b hb => W7_of m c b (by
      intro hm
      apply hb
      have h2 : ∀ r ∈ ([main_v6_0, main_v6_1, main_v6_2, main_v6_3] : List (Ref sig .tc)), r ∈ Finset.univ.image (Pipeline.arrRef spec1) := by decide
      exact h2 b hm))
    (fun c => Bwd.hin (VB m) c) (fun c => Bwd.hout (VB m) c)

/-- The last host stretch. -/
def segZ : HostSeg (Ix := Unit) (Name := ℕ) (U := UR sig nD τ) (Lvl := ℕ) (pcfgs (F := F)) defs₀ Variants.none Lv lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W7 m) Rid

/-- @main's items as segments. -/
abbrev msegs : List (Seg (pcfgs (F := F)) adm (pdats m) () defs₀ Variants.none Lv lv) :=
  [.host (seg0 m Variants.none Lv lv (fun _ => Rid)), .host (seg1 m Variants.none Lv lv (fun _ => Rid)), .host (seg2 m Variants.none Lv lv (fun _ => Rid)),
    .host (seg3 m Variants.none Lv lv (fun _ => Rid)), .host (seg4 m Variants.none Lv lv (fun _ => Rid)), .region (R0 m), .region (R1 m), .host (segZ m)]

theorem W8_arg (c : Dev nD) (r : Ref sig .tc) (h : r ∈ ([main_arg0, main_arg1, main_arg2, main_arg3, main_arg4] : List (Ref sig .tc))) :
    W8 m c r = m ((c : Thread nD τ).loc r) := by
  have e : ∀ r ∈ ([main_arg0, main_arg1, main_arg2, main_arg3, main_arg4] : List (Ref sig .tc)),
      r ∉ hostOps2_W ∧ r ∉ ([main_v6_0, main_v6_1, main_v6_2, main_v6_3] : List (Ref sig .tc)) ∧ r ∉ ([main_v5_0, main_v5_1] : List (Ref sig .tc))
      ∧ r ∉ hostOps0_4_W ∧ r ∉ hostOps0_3_W ∧ r ∉ hostOps0_2_W ∧ r ∉ hostOps0_1_W ∧ r ∉ hostOps0_W := by decide
  obtain ⟨a, b, d, e4, e3, e2, e1, e0⟩ := e r h
  exact (W8_of m c r a).trans <| (W7_of m c r b).trans <| (W6_of m c r d).trans <| (V5_of m c r e4).trans <| (V4_of m c r e3).trans <|
    (V3_of m c r e2).trans <| (V2_of m c r e1).trans <| (V1_of m c r e0).trans rfl

set_option backward.isDefEq.respectTransparency.types false in
/-- The run: every weakly fair execution terminates, each unscoped buffer ends at the last valuation and every counter at zero. -/
theorem run_all : θ_run defs (onTc (τ := τ) (main (F := F))) ⟨m, fun _ => 0, ρ⟩ (fun r =>
    (∀ c : Dev nD, ∀ b ∈ Pipeline.ucRefs τ sig, r.2.mem ((c.tc : Thread nD τ).1, b) = W8 m c b) ∧ r.2.sem = fun _ => 0) := by
  refine Pipeline.θ_run_regions_kit_dev_sems (pcfgs (F := F)) adm (pdats m) () cellOf_inj emb₁ defs₀ Variants.none Lv lv m ρ main
    (fun _ => msegs m)
    (fun c Q => by
      rewrite [main_chain c, Seg.run_eq_chain,
        show (msegs m).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (fun c => by simp only [msegs, Seg.pipes_host, Seg.pipes_region, Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ Idealize.SL.BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [Idealize.SL.BI.bigSep_emp_const])
      iempintro)
    (T₀ := fun c => iprop(StableHlo.held (c.tc : Thread nD τ) (Pipeline.ucRefs τ sig) (V0 m c) ∗ Rid c))
    (Tₙ := fun c => StableHlo.held (c.tc : Thread nD τ) (Pipeline.ucRefs τ sig) (W8 m c))
    (hch := fun c => ⟨.rfl, .rfl, .rfl, .rfl, .rfl, .rfl, .rfl, .rfl,
      (show iprop(StableHlo.held (c.tc : Thread nD τ) (Pipeline.ucRefs τ sig) (W8 m c) ∗ Rid c) ⊢ (_ : sProp 𝕄) from by
        iintro ⟨Hh, -, HO⟩
        isplitl [Hh] <;> iassumption)⟩)
    (hinit := by
      refine Pipeline.initEach Lv lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = W8 m c b)
    (hfin := fun c s' => by
      unfold StableHlo.held
      iintro ⟨Hh, HSI⟩
      ihave Hr := (pointsTo_read_all (Pipeline.ucRefs τ sig) (fun b => ((c.tc : Thread nD τ).1, b)) (W8 m c) s') $$ [Hh HSI]
      · isplitl [Hh] <;> iassumption
      imodintro; iexact Hr)
    (hQ := fun _ h hz => ⟨h, funext fun g => hz g (.inr (regions_no_unscoped g.2))⟩)

/-- The run read at a reference that is not scoped. -/
theorem run_at : θ_run defs (onTc (τ := τ) (main (F := F))) ⟨m, fun _ => 0, ρ⟩ (fun r =>
    (∀ (c : Dev nD) (b : Ref sig .tc), b.isScoped = false → r.2.mem ((c.tc : Thread nD τ).loc b) = W8 m c b) ∧ r.2.sem = fun _ => 0) :=
  (θ_run defs _ _).mono (fun _ h => ⟨fun c b hb => h.1 c _ (Pipeline.devRef_mem_ucRefs hb), h.2⟩) (run_all m ρ)

/-- The frame: each argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (by decide)).trans (W8_arg m c _ (by decide)), (h.1 c _ (by decide)).trans (W8_arg m c _ (by decide)),
      (h.1 c _ (by decide)).trans (W8_arg m c _ (by decide)), (h.1 c _ (by decide)).trans (W8_arg m c _ (by decide)),
      (h.1 c _ (by decide)).trans (W8_arg m c _ (by decide))⟩, h.2⟩) (run_at m ρ)

end Cert.KernelIdeal.Launch

end
-- ==== Proof.RefOps.lean ====
/-
  The reference program's host operations as lists, one list per stretch of its text: the stretches before its first
  loop (`oA…`), between its two loops (`oB…`), after the second (`oC…`) and of the two loops' bodies (`l0o…`, `l1o…`);
  the chain equations that put the program together from them; and what each operation writes.
-/
module

public import proofs.«01_k».proof.Proof.Gen.ReferenceIdeal
public import Idealize.ShloMosaic.Lib.Pipeline.Regions
public import Idealize.ShloMosaic.Lib.StableHlo.RunLoop

@[expose] public section

set_option maxRecDepth 16384

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of `f32`, and the buffers that hold such contents. -/
abbrev A (F : FTy → Type) (s : Shape) : Type := (⟨s, .f32⟩ : BufTy).Contents (Elt F)
abbrev T (s : Shape) : Type := TRef sig ⟨s, .f32⟩

abbrev oA0 : List (HloOp τ sig (Elt F)) :=
  ( unary main_arg0 main_v0 ((extractStridedSlice S2048x1024 ![0, 0] · slices_S2048x6160_S2048x1024_0_0) : A F S2048x6160 → A F S2048x1024)
  :: unary main_arg0 main_v1 ((extractStridedSlice S2048x1024 ![0, 1024] · slices_S2048x6160_S2048x1024_0_1024) : A F S2048x6160 → A F S2048x1024)
  :: unary main_arg0 main_v2 ((extractStridedSlice S2048x2048 ![0, 2048] · slices_S2048x6160_S2048x2048_0_2048) : A F S2048x6160 → A F S2048x2048)
  :: unary main_arg0 main_v3 ((extractStridedSlice S2048x2048 ![0, 4096] · slices_S2048x6160_S2048x2048_0_4096) : A F S2048x6160 → A F S2048x2048)
  :: unary main_arg0 main_v4 ((extractStridedSlice S2048x16 ![0, 6144] · slices_S2048x6160_S2048x16_0_6144) : A F S2048x6160 → A F S2048x16)
  :: binary main_v4 main_arg1 main_v5 ((fun l r => Host.dotGeneral dot_S2048x16_S16x1024_S2048x1024_1_0_0_1_n_n none l r) : A F S2048x16 → A F S16x1024 → A F S2048x1024)
  :: unary main_arg2 main_v6 (broadcastInDim S1x1024 ![1] bcast_S1024_S1x1024_1 : A F S1024 → A F S1x1024)
  :: unary main_v6 main_v7 (broadcastInDim S2048x1024 ![0, 1] bcast_S1x1024_S2048x1024_0_1 : A F S1x1024 → A F S2048x1024)
  :: binary main_v5 main_v7 main_v8 (addf : A F S2048x1024 → A F S2048x1024 → A F S2048x1024)
  :: [] )

theorem oA0_sub : (oA0 : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., unary_bufs_sub .., binary_bufs_sub ..⟩

theorem oA0_fresh : (oA0 : List (HloOp τ sig (Elt F))).Forall fun op => op.fresh = ∅ := forall_fresh_of_map rfl

abbrev oA1 : List (HloOp τ sig (Elt F)) :=
  ( TRef.unary (.of main_v8 : T S2048x1024) (.of main_call0_v0 : T S2048x1024) Host.negf
  :: TRef.nullary (.of main_call0_call0_cst : T S_) (constant S_ .f32 0x00000000#32)
  :: TRef.unary (.of main_call0_call0_cst : T S_) (.of main_call0_call0_v0 : T S2048x1024) (broadcastInDim S2048x1024 ![] bcast_S_S2048x1024)
  :: TRef.binary (.of main_call0_v0 : T S2048x1024) (.of main_call0_call0_v0 : T S2048x1024) (.of main_call0_call0_v1 : T S2048x1024) maximumf
  :: TRef.unary (.of main_call0_call0_cst : T S_) (.of main_call0_call0_v2 : T S2048x1024) (broadcastInDim S2048x1024 ![] bcast_S_S2048x1024)
  :: TRef.binary (.of main_call0_v0 : T S2048x1024) (.of main_call0_call0_v2 : T S2048x1024) (.of main_call0_call0_v3 : T S2048x1024) subf
  :: TRef.binary (.of main_call0_call0_v3 : T S2048x1024) (.of main_call0_call0_v3 : T S2048x1024) (.of main_call0_call0_v4 : TRef sig ⟨S2048x1024, .i1⟩) (cmpf .une)
  :: TRef.unary (.of main_call0_call0_cst : T S_) (.of main_call0_call0_v5 : T S2048x1024) (broadcastInDim S2048x1024 ![] bcast_S_S2048x1024)
  :: TRef.binary (.of main_call0_v0 : T S2048x1024) (.of main_call0_call0_v5 : T S2048x1024) (.of main_call0_call0_v6 : T S2048x1024) addf
  :: TRef.unary (.of main_call0_call0_v3 : T S2048x1024) (.of main_call0_call0_v7 : T S2048x1024) Host.absf
  :: TRef.unary (.of main_call0_call0_v7 : T S2048x1024) (.of main_call0_call0_v8 : T S2048x1024) Host.negf
  :: TRef.unary (.of main_call0_call0_v8 : T S2048x1024) (.of main_call0_call0_v9 : T S2048x1024) Host.exp
  :: TRef.unary (.of main_call0_call0_v9 : T S2048x1024) (.of main_call0_call0_v10 : T S2048x1024) Host.log1p
  :: TRef.binary (.of main_call0_call0_v1 : T S2048x1024) (.of main_call0_call0_v10 : T S2048x1024) (.of main_call0_call0_v11 : T S2048x1024) addf
  :: TRef.ternary (.of main_call0_call0_v4 : TRef sig ⟨S2048x1024, .i1⟩) (.of main_call0_call0_v6 : T S2048x1024) (.of main_call0_call0_v11 : T S2048x1024) (.of main_call0_v1_0 : T S2048x1024) select
  :: TRef.nullary (.of main_call0_call0_cst_0 : T S_) (constant S_ .f32 0x7F800000#32)
  :: TRef.unary (.of main_call0_call0_cst_0 : T S_) (.of main_call0_call0_v13 : T S2048x1024) (broadcastInDim S2048x1024 ![] bcast_S_S2048x1024)
  :: TRef.binary (.of main_call0_v0 : T S2048x1024) (.of main_call0_call0_v13 : T S2048x1024) (.of main_call0_call0_v14 : TRef sig ⟨S2048x1024, .i1⟩) (cmpf .oeq)
  :: TRef.nullary (.of main_call0_call0_cst_1 : T S_) (constant S_ .f32 0x00000000#32)
  :: TRef.unary (.of main_call0_call0_cst_1 : T S_) (.of main_call0_call0_v15 : T S2048x1024) (broadcastInDim S2048x1024 ![] bcast_S_S2048x1024)
  :: TRef.ternary (.of main_call0_call0_v14 : TRef sig ⟨S2048x1024, .i1⟩) (.of main_call0_call0_v15 : T S2048x1024) (.of main_call0_v0 : T S2048x1024) (.of main_call0_call0_v16 : T S2048x1024) select
  :: TRef.nullary (.of main_call0_call0_cst_2 : T S_) (constant S_ .f32 0x7F800000#32)
  :: TRef.unary (.of main_call0_call0_cst_2 : T S_) (.of main_call0_call0_v17 : T S2048x1024) (broadcastInDim S2048x1024 ![] bcast_S_S2048x1024)
  :: TRef.binary (.of main_call0_v1_0 : T S2048x1024) (.of main_call0_call0_v17 : T S2048x1024) (.of main_call0_call0_v18 : TRef sig ⟨S2048x1024, .i1⟩) (cmpf .oeq)
  :: TRef.nullary (.of main_call0_call0_cst_3 : T S_) (constant S_ .f32 0x00000000#32)
  :: TRef.unary (.of main_call0_call0_cst_3 : T S_) (.of main_call0_call0_v19 : T S2048x1024) (broadcastInDim S2048x1024 ![] bcast_S_S2048x1024)
  :: TRef.ternary (.of main_call0_call0_v18 : TRef sig ⟨S2048x1024, .i1⟩) (.of main_call0_call0_v19 : T S2048x1024) (.of main_call0_v1_0 : T S2048x1024) (.of main_call0_call0_v20 : T S2048x1024) select
  :: TRef.binary (.of main_call0_call0_v16 : T S2048x1024) (.of main_call0_call0_v20 : T S2048x1024) (.of main_call0_call0_v21 : T S2048x1024) subf
  :: TRef.unary (.of main_call0_call0_v21 : T S2048x1024) (.of main_v9_1 : T S2048x1024) Host.exp
  :: TRef.nullary (.of main_call0_call0_cst_4 : T S_) (constant S_ .f32 0x00000000#32)
  :: TRef.nullary (.of main_call0_call0_cst_5 : T S_) (constant S_ .f32 0x7F800000#32)
  :: TRef.binary (.of main_call0_call0_cst_4 : T S_) (.of main_call0_call0_cst_5 : T S_) (.of main_call0_call0_v23 : TRef sig ⟨S_, .i1⟩) (cmpf .oeq)
  :: TRef.nullary (.of main_call0_call0_cst_6 : T S_) (constant S_ .f32 0x00000000#32)
  :: TRef.nullary (.of main_call0_call0_cst_7 : T S_) (constant S_ .f32 0x00000000#32)
  :: TRef.ternary (.of main_call0_call0_v23 : TRef sig ⟨S_, .i1⟩) (.of main_call0_call0_cst_7 : T S_) (.of main_call0_call0_cst_6 : T S_) (.of main_call0_call0_v24 : T S_) select
  :: TRef.nullary (.of main_call0_call0_cst_8 : T S_) (constant S_ .f32 0x7F800000#32)
  :: TRef.unary (.of main_call0_call0_cst_8 : T S_) (.of main_call0_call0_v25 : T S2048x1024) (broadcastInDim S2048x1024 ![] bcast_S_S2048x1024)
  :: TRef.binary (.of main_call0_v1_0 : T S2048x1024) (.of main_call0_call0_v25 : T S2048x1024) (.of main_call0_call0_v26 : TRef sig ⟨S2048x1024, .i1⟩) (cmpf .oeq)
  :: TRef.nullary (.of main_call0_call0_cst_9 : T S_) (constant S_ .f32 0x00000000#32)
  :: TRef.unary (.of main_call0_call0_cst_9 : T S_) (.of main_call0_call0_v27 : T S2048x1024) (broadcastInDim S2048x1024 ![] bcast_S_S2048x1024)
  :: TRef.ternary (.of main_call0_call0_v26 : TRef sig ⟨S2048x1024, .i1⟩) (.of main_call0_call0_v27 : T S2048x1024) (.of main_call0_v1_0 : T S2048x1024) (.of main_call0_call0_v28 : T S2048x1024) select
  :: TRef.unary (.of main_call0_call0_v24 : T S_) (.of main_call0_call0_v29 : T S2048x1024) (broadcastInDim S2048x1024 ![] bcast_S_S2048x1024)
  :: TRef.binary (.of main_call0_call0_v29 : T S2048x1024) (.of main_call0_call0_v28 : T S2048x1024) (.of main_call0_call0_v30 : T S2048x1024) subf
  :: TRef.unary (.of main_call0_call0_v30 : T S2048x1024) (.of main_call0_call0_v31 : T S2048x1024) Host.exp
  :: TRef.nullary (.of main_call0_call0_cst_10 : T S_) (constant S_ .f32 0x00000000#32)
  :: TRef.unary (.of main_call0_call0_cst_10 : T S_) (.of main_call0_call0_v32 : T S2048x1024) (broadcastInDim S2048x1024 ![] bcast_S_S2048x1024)
  :: TRef.binary (.of main_call0_call0_v32 : T S2048x1024) (.of main_call0_call0_v31 : T S2048x1024) (.of main_v9_2 : T S2048x1024) mulf
  :: TRef.unary (.of main_call0_v1_0 : T S2048x1024) (.of main_v9_0 : T S2048x1024) Host.negf
  :: [] )

theorem oA1_sub : (oA1 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., binary_bufs_sub .., unary_bufs_sub ..⟩

theorem oA1_fresh : (oA1 : List (HloOp τ sig (Elt F))).Forall fun op => op.fresh = ∅ := forall_fresh_of_map rfl

abbrev oA2 : List (HloOp τ sig (Elt F)) :=
  ( nullary main_cst (constant S_ .f32 0x41800000#32)
  :: unary main_cst main_v10 (broadcastInDim S2048x1024 ![] bcast_S_S2048x1024 : A F S_ → A F S2048x1024)
  :: binary main_v9_0 main_v10 main_v11 (Host.divf : A F S2048x1024 → A F S2048x1024 → A F S2048x1024)
  :: reshape main_v0 main_v12 (rfl : (.f32 : EltTy) = .f32) shapeCasts_S2048x1024_S32x64x4x256
  :: unary main_v12 main_v13 ((transpose S32x4x64x256 [0, 2, 1, 3] · transposes_S32x64x4x256_S32x4x64x256_0_2_1_3) : A F S32x64x4x256 → A F S32x4x64x256)
  :: nullary main_cst_0 (constant S_ .f32 0x3D800000#32)
  :: unary main_cst_0 main_v14 (broadcastInDim S32x4x64x256 ![] bcast_S_S32x4x64x256 : A F S_ → A F S32x4x64x256)
  :: binary main_v13 main_v14 main_v15 (mulf : A F S32x4x64x256 → A F S32x4x64x256 → A F S32x4x64x256)
  :: reshape main_v1 main_v16 (rfl : (.f32 : EltTy) = .f32) shapeCasts_S2048x1024_S32x64x4x256
  :: unary main_v16 main_v17 ((transpose S32x4x64x256 [0, 2, 1, 3] · transposes_S32x64x4x256_S32x4x64x256_0_2_1_3) : A F S32x64x4x256 → A F S32x4x64x256)
  :: reshape main_v2 main_v18 (rfl : (.f32 : EltTy) = .f32) shapeCasts_S2048x2048_S32x64x4x512
  :: unary main_v18 main_v19 ((transpose S32x4x64x512 [0, 2, 1, 3] · transposes_S32x64x4x512_S32x4x64x512_0_2_1_3) : A F S32x64x4x512 → A F S32x4x64x512)
  :: reshape main_v11 main_v20 (rfl : (.f32 : EltTy) = .f32) shapeCasts_S2048x1024_S32x64x4x256
  :: unary main_v20 main_v21 ((transpose S32x4x64x256 [0, 2, 1, 3] · transposes_S32x64x4x256_S32x4x64x256_0_2_1_3) : A F S32x64x4x256 → A F S32x4x64x256)
  :: [] )

theorem oA2_sub : (oA2 : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub .., reshape_bufs_sub .., unary_bufs_sub .., reshape_bufs_sub .., unary_bufs_sub .., reshape_bufs_sub .., unary_bufs_sub ..⟩

theorem oA2_fresh : (oA2 : List (HloOp τ sig (Elt F))).Forall fun op => op.fresh = ∅ := forall_fresh_of_map rfl

abbrev oA3 : List (HloOp τ sig (Elt F)) :=
  ( TRef.nullary (.of main_call1_call0_cst : T S_) (constant S_ .f32 0x00000000#32)
  :: TRef.unary (.of main_call1_call0_cst : T S_) (.of main_call1_call0_v0 : T S_) (broadcastInDim S_ ![] bcast_S_S_)
  :: TRef.binary (.of main_v21 : T S32x4x64x256) (.of main_call1_call0_v0 : T S_) (.of main_v22 : T S32x4x64x256) (fun x v => Host.reduceWindowAdd ![1, 1, 64, 1] ![1, 1, 1, 1] ![0, 0, 63, 0] ![0, 0, 0, 0] x v reduceWindows_S32x4x64x256_S32x4x64x256_w1s1p0_0_w1s1p0_0_w64s1p63_0_w1s1p0_0 h_S_)
  :: [] )

theorem oA3_sub : (oA3 : List (HloOp τ sig (Elt F))).Forall fun op => op.bufs ⊆ tcRefs τ sig :=
  ⟨nullary_bufs_sub .., unary_bufs_sub .., binary_bufs_sub ..⟩

theorem oA3_fresh : (oA3 : List (HloOp τ sig (Elt F))).Forall fun op => op.fresh = ∅ := forall_fresh_of_map rfl

abbrev oA4 : List (HloOp τ sig (Elt F)) :=
  ( unary main_v22 main_v23 ((extractStridedSlice S32x4x1x256 ![0, 0, 63, 0] · slices_S32x4x64x256_S32x4x1x256_0_0_63_0) : A F S32x4x64x256 → A F S32x4x1x256)
  :: unary main_v23 main_v24 (broadcastInDim S32x4x64x256 ![0, 1, 2, 3] bcast_S32x4x1x256_S32x4x64x256_0_1_2_3 : A F S32x4x1x256 → A F S32x4x64x256)
  :: binary main_v24 main_v22 main_v25 (subf : A F S32x4x64x256 → A F S32x4x64x256 → A F S32x4x64x256)
  :: unary main_v25 main_v26 (Host.exp : A F S32x4x64x256 → A F S32x4x64x256)
  :: binary main_v17 main_v26 main_v27 (mulf : A F S32x4x64x256 → A F S32x4x64x256 → A F S32x4x64x256)
  :: reshape main_v23 main_v28 (rfl : (.f32 : EltTy) = .f32) shapeCasts_S32x4x1x256_S32x4x256
  :: unary main_v28 main_v29 (Host.exp : A F S32x4x256 → A F S32x4x256)
  :: nullary main_cst_1 (constant S_ .f32 0x00000000#32)
  :: unary main_cst_1 main_v30 (broadcastInDim S4x256x512 ![] bcast_S_S4x256x512 : A F S_ → A F S4x256x512)
  :: nullary main_cst_2 (constant S_ .f32 0x00000000#32)
  :: unary main_cst_2 main_v31 (broadcastInDim S32x4x64x512 ![] bcast_S_S32x4x64x512 : A F S_ → A F S32x4x64x512)
  :: nullary main_cst_3 (constant S_ .f32 0x00000000#32)
  :: unary main_cst_3 main_v32 (broadcastInDim S32x4x256x512 ![] bcast_S_S32x4x256x512 : A F S_ → A F S32x4x256x512)
  :: nullary main_cst_4 (constant S_ .f32 0x00000000#32)
  :: unary main_cst_4 main_v33 (broadcastInDim S32x4x256x1 ![] bcast_S_S32x4x256x1 : A F S_ → A F S32x4x256x1)
  :: nullary main_cst_5 (constant S_ .f32 0x00000000#32)
  :: unary main_cst_5 main_v34 (broadcastInDim S32x4x256x512 ![] bcast_S_S32x4x256x512 : A F S_ → A F S32x4x256x512)
  :: nullary main_c (constantI S_ 32 0#32)
  :: unary main_v15 main_v35_0 id
  :: unary main_v27 main_v35_1 id
  :: unary main_v19 main_v35_2 id
  :: unary main_v29 main_v35_3 id
  :: unary main_c main_v35_4 id
  :: unary main_v30 main_v35_5 id
  :: unary main_v31 main_v35_6 id
  :: unary main_v32 main_v35_7 id
  :: unary main_v33 main_v35_8 id
  :: unary main_v34 main_v35_9 id
  :: [] )

theorem oA4_sub : (oA4 : List (HloOp τ sig (Elt F))).Forall fun op => op.bufs ⊆ tcRefs τ sig :=
  ⟨unary_bufs_sub .., unary_bufs_sub .., binary_bufs_sub .., unary_bufs_sub .., binary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem oA4_fresh : (oA4 : List (HloOp τ sig (Elt F))).Forall fun op => op.fresh = ∅ := forall_fresh_of_map rfl

/-- The stretches of phase A, the operations in one list, and the references they write, in order. -/
abbrev pA : List (List (HloOp τ sig (Elt F))) := [oA0, oA1, oA2, oA3, oA4]

abbrev fA : List (HloOp τ sig (Elt F)) := List.flatten pA

abbrev wA : List (Ref sig .tc) := [main_v0, main_v1, main_v2, main_v3, main_v4, main_v5, main_v6, main_v7, main_v8, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v9_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v9_2, main_v9_0, main_cst, main_v10, main_v11, main_v12, main_v13, main_cst_0, main_v14, main_v15, main_v16, main_v17, main_v18, main_v19, main_v20, main_v21, main_call1_call0_cst, main_call1_call0_v0, main_v22, main_v23, main_v24, main_v25, main_v26, main_v27, main_v28, main_v29, main_cst_1, main_v30, main_cst_2, main_v31, main_cst_3, main_v32, main_cst_4, main_v33, main_cst_5, main_v34, main_c, main_v35_0, main_v35_1, main_v35_2, main_v35_3, main_v35_4, main_v35_5, main_v35_6, main_v35_7, main_v35_8, main_v35_9]

theorem wA_eq : (fA : List (HloOp τ sig (Elt F))).map HloOp.writes = wA.map fun r => {Proc.devRef (τ := τ) .tc r} := rfl

theorem pA_plain : Plain (pA (F := F)) :=
  .cons oA0_sub (hf := List.forall_iff_forall_mem.mp oA0_fresh) (.cons oA1_sub (hf := List.forall_iff_forall_mem.mp oA1_fresh) (.cons oA2_sub (hf := List.forall_iff_forall_mem.mp oA2_fresh) (.cons oA3_sub (hf := List.forall_iff_forall_mem.mp oA3_fresh) (.cons oA4_sub (hf := List.forall_iff_forall_mem.mp oA4_fresh) (.nil)))))

abbrev oB0 : List (HloOp τ sig (Elt F)) :=
  ( binary main_v35_6 main_v35_6 main_v36 (mulf : A F S32x4x64x512 → A F S32x4x64x512 → A F S32x4x64x512)
  :: nullary main_cst_6 (constant S_ .f32 0x00000000#32)
  :: binary main_v36 main_cst_6 main_v37 ((fun x v => Host.reduceAdd x v reducesTo_S32x4x64x512_S32x4x64_d3 h_S_) : A F S32x4x64x512 → A F S_ → A F S32x4x64)
  :: unary main_v37 main_v38 (broadcastInDim S32x4x64x1 ![0, 1, 2] bcast_S32x4x64_S32x4x64x1_0_1_2 : A F S32x4x64 → A F S32x4x64x1)
  :: nullary main_cst_7 (constant S_ .f32 0x44000000#32)
  :: unary main_cst_7 main_v39 (broadcastInDim S32x4x64x1 ![] bcast_S_S32x4x64x1 : A F S_ → A F S32x4x64x1)
  :: [] )

theorem oB0_sub : (oB0 : List (HloOp τ sig (Elt F))).Forall fun op => op.bufs ⊆ tcRefs τ sig :=
  ⟨binary_bufs_sub .., nullary_bufs_sub .., binary_bufs_sub .., unary_bufs_sub .., nullary_bufs_sub .., unary_bufs_sub ..⟩

theorem oB0_fresh : (oB0 : List (HloOp τ sig (Elt F))).Forall fun op => op.fresh = ∅ := forall_fresh_of_map rfl

abbrev oB1 : List (HloOp τ sig (Elt F)) :=
  ( binary main_v38 main_v39 main_v40 (Host.divf : A F S32x4x64x1 → A F S32x4x64x1 → A F S32x4x64x1)
  :: nullary main_cst_8 (constant S_ .f32 0x358637BD#32)
  :: unary main_cst_8 main_v41 (broadcastInDim S32x4x64x1 ![] bcast_S_S32x4x64x1 : A F S_ → A F S32x4x64x1)
  :: binary main_v40 main_v41 main_v42 (addf : A F S32x4x64x1 → A F S32x4x64x1 → A F S32x4x64x1)
  :: unary main_v42 main_v43 (Host.rsqrt : A F S32x4x64x1 → A F S32x4x64x1)
  :: binary main_v43 main_v42 main_v44 (Host.divf : A F S32x4x64x1 → A F S32x4x64x1 → A F S32x4x64x1)
  :: nullary main_cst_9 (constant S_ .f32 0xBF000000#32)
  :: unary main_cst_9 main_v45 (broadcastInDim S32x4x64x1 ![] bcast_S_S32x4x64x1 : A F S_ → A F S32x4x64x1)
  :: binary main_v45 main_v44 main_v46 (mulf : A F S32x4x64x1 → A F S32x4x64x1 → A F S32x4x64x1)
  :: unary main_v43 main_v47 (broadcastInDim S32x4x64x512 ![0, 1, 2, 3] bcast_S32x4x64x1_S32x4x64x512_0_1_2_3 : A F S32x4x64x1 → A F S32x4x64x512)
  :: binary main_v35_6 main_v47 main_v48 (mulf : A F S32x4x64x512 → A F S32x4x64x512 → A F S32x4x64x512)
  :: unary main_arg3 main_v49 (broadcastInDim S1x1x1x512 ![3] bcast_S512_S1x1x1x512_3 : A F S512 → A F S1x1x1x512)
  :: unary main_v49 main_v50 (broadcastInDim S32x4x64x512 ![0, 1, 2, 3] bcast_S1x1x1x512_S32x4x64x512_0_1_2_3 : A F S1x1x1x512 → A F S32x4x64x512)
  :: binary main_v48 main_v50 main_v51 (mulf : A F S32x4x64x512 → A F S32x4x64x512 → A F S32x4x64x512)
  :: unary main_v51 main_v52 ((transpose S32x64x4x512 [0, 2, 1, 3] · transposes_S32x4x64x512_S32x64x4x512_0_2_1_3) : A F S32x4x64x512 → A F S32x64x4x512)
  :: reshape main_v52 main_v53 (rfl : (.f32 : EltTy) = .f32) shapeCasts_S32x64x4x512_S2048x2048
  :: [] )

theorem oB1_sub : (oB1 : List (HloOp τ sig (Elt F))).Forall fun op => op.bufs ⊆ tcRefs τ sig :=
  ⟨binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., reshape_bufs_sub ..⟩

theorem oB1_fresh : (oB1 : List (HloOp τ sig (Elt F))).Forall fun op => op.fresh = ∅ := forall_fresh_of_map rfl

abbrev oB2 : List (HloOp τ sig (Elt F)) :=
  ( TRef.unary (.of main_v3 : T S2048x2048) (.of main_call10_v0 : T S2048x2048) Host.negf
  :: TRef.unary (.of main_call10_v0 : T S2048x2048) (.of main_call10_v1 : T S2048x2048) Host.exp
  :: TRef.nullary (.of main_call10_cst : T S_) (constant S_ .f32 0x3F800000#32)
  :: TRef.unary (.of main_call10_cst : T S_) (.of main_call10_v2 : T S2048x2048) (broadcastInDim S2048x2048 ![] bcast_S_S2048x2048)
  :: TRef.binary (.of main_call10_v2 : T S2048x2048) (.of main_call10_v1 : T S2048x2048) (.of main_call10_v3 : T S2048x2048) addf
  :: TRef.nullary (.of main_call10_cst_0 : T S_) (constant S_ .f32 0x3F800000#32)
  :: TRef.unary (.of main_call10_cst_0 : T S_) (.of main_call10_v4 : T S2048x2048) (broadcastInDim S2048x2048 ![] bcast_S_S2048x2048)
  :: TRef.binary (.of main_call10_v4 : T S2048x2048) (.of main_call10_v3 : T S2048x2048) (.of main_v54_2 : T S2048x2048) Host.divf
  :: TRef.nullary (.of main_call10_cst_1 : T S_) (constant S_ .f32 0x3F800000#32)
  :: TRef.unary (.of main_call10_cst_1 : T S_) (.of main_call10_v6 : T S2048x2048) (broadcastInDim S2048x2048 ![] bcast_S_S2048x2048)
  :: TRef.binary (.of main_call10_v6 : T S2048x2048) (.of main_v54_2 : T S2048x2048) (.of main_call10_v7 : T S2048x2048) subf
  :: TRef.binary (.of main_v54_2 : T S2048x2048) (.of main_call10_v7 : T S2048x2048) (.of main_v54_1 : T S2048x2048) mulf
  :: TRef.binary (.of main_v3 : T S2048x2048) (.of main_v54_2 : T S2048x2048) (.of main_v54_0 : T S2048x2048) mulf
  :: [] )

theorem oB2_sub : (oB2 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub ..⟩

theorem oB2_fresh : (oB2 : List (HloOp τ sig (Elt F))).Forall fun op => op.fresh = ∅ := forall_fresh_of_map rfl

abbrev oB3 : List (HloOp τ sig (Elt F)) :=
  ( binary main_v53 main_v54_0 main_v55 (mulf : A F S2048x2048 → A F S2048x2048 → A F S2048x2048)
  :: nullary main_cst_10 (constant S_ .f32 0x00000000#32)
  :: unary main_cst_10 main_v56 (broadcastInDim S4x256x512 ![] bcast_S_S4x256x512 : A F S_ → A F S4x256x512)
  :: binary main_v53 main_arg4 main_v57 (mulf : A F S2048x2048 → A F S2048x2048 → A F S2048x2048)
  :: binary main_arg4 main_v54_0 main_v58 (mulf : A F S2048x2048 → A F S2048x2048 → A F S2048x2048)
  :: [] )

theorem oB3_sub : (oB3 : List (HloOp τ sig (Elt F))).Forall fun op => op.bufs ⊆ tcRefs τ sig :=
  ⟨binary_bufs_sub .., nullary_bufs_sub .., unary_bufs_sub .., binary_bufs_sub .., binary_bufs_sub ..⟩

theorem oB3_fresh : (oB3 : List (HloOp τ sig (Elt F))).Forall fun op => op.fresh = ∅ := forall_fresh_of_map rfl

abbrev oB4 : List (HloOp τ sig (Elt F)) :=
  ( TRef.binary (.of main_v3 : T S2048x2048) (.of main_v57 : T S2048x2048) (.of main_call11_v0 : T S2048x2048) mulf
  :: TRef.binary (.of main_v57 : T S2048x2048) (.of main_v54_2 : T S2048x2048) (.of main_call11_v1 : T S2048x2048) mulf
  :: TRef.binary (.of main_call11_v0 : T S2048x2048) (.of main_v54_1 : T S2048x2048) (.of main_call11_v2 : T S2048x2048) mulf
  :: TRef.binary (.of main_call11_v1 : T S2048x2048) (.of main_call11_v2 : T S2048x2048) (.of main_v59 : T S2048x2048) addf
  :: [] )

theorem oB4_sub : (oB4 : List (HloOp τ sig (Elt F))).Forall fun op => op.bufs ⊆ tcRefs τ sig :=
  ⟨binary_bufs_sub .., binary_bufs_sub .., binary_bufs_sub .., binary_bufs_sub ..⟩

theorem oB4_fresh : (oB4 : List (HloOp τ sig (Elt F))).Forall fun op => op.fresh = ∅ := forall_fresh_of_map rfl

abbrev oB5 : List (HloOp τ sig (Elt F)) :=
  ( reshape main_v58 main_v60 (rfl : (.f32 : EltTy) = .f32) shapeCasts_S2048x2048_S32x64x4x512
  :: unary main_v60 main_v61 ((transpose S32x4x64x512 [0, 2, 1, 3] · transposes_S32x64x4x512_S32x4x64x512_0_2_1_3) : A F S32x64x4x512 → A F S32x4x64x512)
  :: binary main_v48 main_v61 main_v62 (mulf : A F S32x4x64x512 → A F S32x4x64x512 → A F S32x4x64x512)
  :: nullary main_cst_11 (constant S_ .f32 0x00000000#32)
  :: binary main_v62 main_cst_11 main_v63 ((fun x v => Host.reduceAdd x v reducesTo_S32x4x64x512_S512_d0_1_2 h_S_) : A F S32x4x64x512 → A F S_ → A F S512)
  :: reshape main_v63 main_v64 (rfl : (.f32 : EltTy) = .f32) shapeCasts_S512_S1x1x1x512
  :: unary main_v49 main_v65 (broadcastInDim S32x4x64x512 ![0, 1, 2, 3] bcast_S1x1x1x512_S32x4x64x512_0_1_2_3 : A F S1x1x1x512 → A F S32x4x64x512)
  :: binary main_v61 main_v65 main_v66 (mulf : A F S32x4x64x512 → A F S32x4x64x512 → A F S32x4x64x512)
  :: nullary main_cst_12 (constant S_ .f32 0x00000000#32)
  :: binary main_v64 main_cst_12 main_v67 ((fun x v => Host.reduceAdd x v reducesTo_S1x1x1x512_S512_d0_1_2 h_S_) : A F S1x1x1x512 → A F S_ → A F S512)
  :: binary main_v35_6 main_v66 main_v68 (mulf : A F S32x4x64x512 → A F S32x4x64x512 → A F S32x4x64x512)
  :: nullary main_cst_13 (constant S_ .f32 0x00000000#32)
  :: binary main_v68 main_cst_13 main_v69 ((fun x v => Host.reduceAdd x v reducesTo_S32x4x64x512_S32x4x64_d3 h_S_) : A F S32x4x64x512 → A F S_ → A F S32x4x64)
  :: reshape main_v69 main_v70 (rfl : (.f32 : EltTy) = .f32) shapeCasts_S32x4x64_S32x4x64x1
  :: unary main_v43 main_v71 (broadcastInDim S32x4x64x512 ![0, 1, 2, 3] bcast_S32x4x64x1_S32x4x64x512_0_1_2_3 : A F S32x4x64x1 → A F S32x4x64x512)
  :: binary main_v66 main_v71 main_v72 (mulf : A F S32x4x64x512 → A F S32x4x64x512 → A F S32x4x64x512)
  :: binary main_v70 main_v46 main_v73 (mulf : A F S32x4x64x1 → A F S32x4x64x1 → A F S32x4x64x1)
  :: nullary main_cst_14 (constant S_ .f32 0x44000000#32)
  :: unary main_cst_14 main_v74 (broadcastInDim S32x4x64x1 ![] bcast_S_S32x4x64x1 : A F S_ → A F S32x4x64x1)
  :: binary main_v73 main_v74 main_v75 (Host.divf : A F S32x4x64x1 → A F S32x4x64x1 → A F S32x4x64x1)
  :: nullary main_cst_15 (constant S_ .f32 0x00000000#32)
  :: binary main_v75 main_cst_15 main_v76 ((fun x v => Host.reduceAdd x v reducesTo_S32x4x64x1_S32x4x64_d3 h_S_) : A F S32x4x64x1 → A F S_ → A F S32x4x64)
  :: unary main_v76 main_v77 (broadcastInDim S32x4x64x512 ![0, 1, 2] bcast_S32x4x64_S32x4x64x512_0_1_2 : A F S32x4x64 → A F S32x4x64x512)
  :: binary main_v35_6 main_v77 main_v78 (mulf : A F S32x4x64x512 → A F S32x4x64x512 → A F S32x4x64x512)
  :: binary main_v72 main_v78 main_v79 (addf : A F S32x4x64x512 → A F S32x4x64x512 → A F S32x4x64x512)
  :: binary main_v77 main_v35_6 main_v80 (mulf : A F S32x4x64x512 → A F S32x4x64x512 → A F S32x4x64x512)
  :: binary main_v79 main_v80 main_v81 (addf : A F S32x4x64x512 → A F S32x4x64x512 → A F S32x4x64x512)
  :: nullary main_cst_16 (constant S_ .f32 0x00000000#32)
  :: unary main_cst_16 main_v82 (broadcastInDim S4x256x512 ![] bcast_S_S4x256x512 : A F S_ → A F S4x256x512)
  :: nullary main_cst_17 (constant S_ .f32 0x00000000#32)
  :: unary main_cst_17 main_v83 (broadcastInDim S32x4x64x256 ![] bcast_S_S32x4x64x256 : A F S_ → A F S32x4x64x256)
  :: nullary main_cst_18 (constant S_ .f32 0x00000000#32)
  :: unary main_cst_18 main_v84 (broadcastInDim S32x4x64x256 ![] bcast_S_S32x4x64x256 : A F S_ → A F S32x4x64x256)
  :: nullary main_cst_19 (constant S_ .f32 0x00000000#32)
  :: unary main_cst_19 main_v85 (broadcastInDim S32x4x64x512 ![] bcast_S_S32x4x64x512 : A F S_ → A F S32x4x64x512)
  :: nullary main_cst_20 (constant S_ .f32 0x00000000#32)
  :: unary main_cst_20 main_v86 (broadcastInDim S32x4x256 ![] bcast_S_S32x4x256 : A F S_ → A F S32x4x256)
  :: [] )

theorem oB5_sub : (oB5 : List (HloOp τ sig (Elt F))).Forall fun op => op.bufs ⊆ tcRefs τ sig :=
  ⟨reshape_bufs_sub .., unary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., nullary_bufs_sub .., unary_bufs_sub .., nullary_bufs_sub .., unary_bufs_sub .., nullary_bufs_sub .., unary_bufs_sub .., nullary_bufs_sub .., unary_bufs_sub .., nullary_bufs_sub .., unary_bufs_sub ..⟩

theorem oB5_fresh : (oB5 : List (HloOp τ sig (Elt F))).Forall fun op => op.fresh = ∅ := forall_fresh_of_map rfl

abbrev oB6 : List (HloOp τ sig (Elt F)) :=
  ( nullary main_c_21 (constantI S_ 32 0#32)
  :: unary main_v81 main_v87_0 id
  :: unary main_v35_7 main_v87_1 id
  :: unary main_v35_8 main_v87_2 id
  :: unary main_v19 main_v87_3 id
  :: unary main_v27 main_v87_4 id
  :: unary main_v35_9 main_v87_5 id
  :: unary main_v15 main_v87_6 id
  :: unary main_c_21 main_v87_7 id
  :: unary main_v82 main_v87_8 id
  :: unary main_v83 main_v87_9 id
  :: unary main_v84 main_v87_10 id
  :: unary main_v85 main_v87_11 id
  :: unary main_v86 main_v87_12 id
  :: [] )

theorem oB6_sub : (oB6 : List (HloOp τ sig (Elt F))).Forall fun op => op.bufs ⊆ tcRefs τ sig :=
  ⟨nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem oB6_fresh : (oB6 : List (HloOp τ sig (Elt F))).Forall fun op => op.fresh = ∅ := forall_fresh_of_map rfl

/-- The stretches of phase B, the operations in one list, and the references they write, in order. -/
abbrev pB : List (List (HloOp τ sig (Elt F))) := [oB0, oB1, oB2, oB3, oB4, oB5, oB6]

abbrev fB : List (HloOp τ sig (Elt F)) := List.flatten pB

abbrev wB : List (Ref sig .tc) := [main_v36, main_cst_6, main_v37, main_v38, main_cst_7, main_v39, main_v40, main_cst_8, main_v41, main_v42, main_v43, main_v44, main_cst_9, main_v45, main_v46, main_v47, main_v48, main_v49, main_v50, main_v51, main_v52, main_v53, main_call10_v0, main_call10_v1, main_call10_cst, main_call10_v2, main_call10_v3, main_call10_cst_0, main_call10_v4, main_v54_2, main_call10_cst_1, main_call10_v6, main_call10_v7, main_v54_1, main_v54_0, main_v55, main_cst_10, main_v56, main_v57, main_v58, main_call11_v0, main_call11_v1, main_call11_v2, main_v59, main_v60, main_v61, main_v62, main_cst_11, main_v63, main_v64, main_v65, main_v66, main_cst_12, main_v67, main_v68, main_cst_13, main_v69, main_v70, main_v71, main_v72, main_v73, main_cst_14, main_v74, main_v75, main_cst_15, main_v76, main_v77, main_v78, main_v79, main_v80, main_v81, main_cst_16, main_v82, main_cst_17, main_v83, main_cst_18, main_v84, main_cst_19, main_v85, main_cst_20, main_v86, main_c_21, main_v87_0, main_v87_1, main_v87_2, main_v87_3, main_v87_4, main_v87_5, main_v87_6, main_v87_7, main_v87_8, main_v87_9, main_v87_10, main_v87_11, main_v87_12]

theorem wB_eq : (fB : List (HloOp τ sig (Elt F))).map HloOp.writes = wB.map fun r => {Proc.devRef (τ := τ) .tc r} := rfl

theorem pB_plain : Plain (pB (F := F)) :=
  .cons oB0_sub (hf := List.forall_iff_forall_mem.mp oB0_fresh) (.cons oB1_sub (hf := List.forall_iff_forall_mem.mp oB1_fresh) (.cons oB2_sub (hf := List.forall_iff_forall_mem.mp oB2_fresh) (.cons oB3_sub (hf := List.forall_iff_forall_mem.mp oB3_fresh) (.cons oB4_sub (hf := List.forall_iff_forall_mem.mp oB4_fresh) (.cons oB5_sub (hf := List.forall_iff_forall_mem.mp oB5_fresh) (.cons oB6_sub (hf := List.forall_iff_forall_mem.mp oB6_fresh) (.nil)))))))

abbrev oC0 : List (HloOp τ sig (Elt F)) :=
  ( binary main_v87_12 main_v29 main_v88 (mulf : A F S32x4x256 → A F S32x4x256 → A F S32x4x256)
  :: unary main_v88 main_v89 (broadcastInDim S32x4x1x256 ![0, 1, 3] bcast_S32x4x256_S32x4x1x256_0_1_3 : A F S32x4x256 → A F S32x4x1x256)
  :: binary main_v17 main_v87_10 main_v90 (mulf : A F S32x4x64x256 → A F S32x4x64x256 → A F S32x4x64x256)
  :: binary main_v87_10 main_v26 main_v91 (mulf : A F S32x4x64x256 → A F S32x4x64x256 → A F S32x4x64x256)
  :: binary main_v90 main_v26 main_v92 (mulf : A F S32x4x64x256 → A F S32x4x64x256 → A F S32x4x64x256)
  :: nullary main_cst_22 (constant S_ .f32 0x00000000#32)
  :: binary main_v92 main_cst_22 main_v93 ((fun x v => Host.reduceAdd x v reducesTo_S32x4x64x256_S32x4x256_d2 h_S_) : A F S32x4x64x256 → A F S_ → A F S32x4x256)
  :: reshape main_v93 main_v94 (rfl : (.f32 : EltTy) = .f32) shapeCasts_S32x4x256_S32x4x1x256
  :: unary main_v92 main_v95 (Host.negf : A F S32x4x64x256 → A F S32x4x64x256)
  :: binary main_v89 main_v94 main_v96 (addf : A F S32x4x1x256 → A F S32x4x1x256 → A F S32x4x1x256)
  :: nullary main_cst_23 (constant S_ .f32 0x00000000#32)
  :: binary main_v96 main_cst_23 main_v97 ((fun x v => pad S32x4x64x256 ![0, 0, 63, 0] ![0, 0, 0, 0] ![0, 0, 0, 0] x v pads_S32x4x1x256_S32x4x64x256_000_000_6300_000 h_S_) : A F S32x4x1x256 → A F S_ → A F S32x4x64x256)
  :: binary main_v95 main_v97 main_v98 (addf : A F S32x4x64x256 → A F S32x4x64x256 → A F S32x4x64x256)
  :: [] )

theorem oC0_sub : (oC0 : List (HloOp τ sig (Elt F))).Forall fun op => op.bufs ⊆ tcRefs τ sig :=
  ⟨binary_bufs_sub .., unary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub ..⟩

theorem oC0_fresh : (oC0 : List (HloOp τ sig (Elt F))).Forall fun op => op.fresh = ∅ := forall_fresh_of_map rfl

abbrev oC1 : List (HloOp τ sig (Elt F)) :=
  ( TRef.nullary (.of main_call23_call0_cst : T S_) (constant S_ .f32 0x00000000#32)
  :: TRef.unary (.of main_call23_call0_cst : T S_) (.of main_call23_call0_v0 : T S_) (broadcastInDim S_ ![] bcast_S_S_)
  :: TRef.binary (.of main_v98 : T S32x4x64x256) (.of main_call23_call0_v0 : T S_) (.of main_v99 : T S32x4x64x256) (fun x v => Host.reduceWindowAdd ![1, 1, 64, 1] ![1, 1, 1, 1] ![0, 0, 0, 0] ![0, 0, 63, 0] x v reduceWindows_S32x4x64x256_S32x4x64x256_w1s1p0_0_w1s1p0_0_w64s1p0_63_w1s1p0_0 h_S_)
  :: [] )

theorem oC1_sub : (oC1 : List (HloOp τ sig (Elt F))).Forall fun op => op.bufs ⊆ tcRefs τ sig :=
  ⟨nullary_bufs_sub .., unary_bufs_sub .., binary_bufs_sub ..⟩

theorem oC1_fresh : (oC1 : List (HloOp τ sig (Elt F))).Forall fun op => op.fresh = ∅ := forall_fresh_of_map rfl

abbrev oC2 : List (HloOp τ sig (Elt F)) :=
  ( unary main_v99 main_v100 ((transpose S32x64x4x256 [0, 2, 1, 3] · transposes_S32x4x64x256_S32x64x4x256_0_2_1_3) : A F S32x4x64x256 → A F S32x64x4x256)
  :: reshape main_v100 main_v101 (rfl : (.f32 : EltTy) = .f32) shapeCasts_S32x64x4x256_S2048x1024
  :: unary main_v87_11 main_v102 ((transpose S32x64x4x512 [0, 2, 1, 3] · transposes_S32x4x64x512_S32x64x4x512_0_2_1_3) : A F S32x4x64x512 → A F S32x64x4x512)
  :: reshape main_v102 main_v103 (rfl : (.f32 : EltTy) = .f32) shapeCasts_S32x64x4x512_S2048x2048
  :: unary main_v91 main_v104 ((transpose S32x64x4x256 [0, 2, 1, 3] · transposes_S32x4x64x256_S32x64x4x256_0_2_1_3) : A F S32x4x64x256 → A F S32x64x4x256)
  :: reshape main_v104 main_v105 (rfl : (.f32 : EltTy) = .f32) shapeCasts_S32x64x4x256_S2048x1024
  :: nullary main_cst_24 (constant S_ .f32 0x3D800000#32)
  :: unary main_cst_24 main_v106 (broadcastInDim S32x4x64x256 ![] bcast_S_S32x4x64x256 : A F S_ → A F S32x4x64x256)
  :: binary main_v87_9 main_v106 main_v107 (mulf : A F S32x4x64x256 → A F S32x4x64x256 → A F S32x4x64x256)
  :: unary main_v107 main_v108 ((transpose S32x64x4x256 [0, 2, 1, 3] · transposes_S32x4x64x256_S32x64x4x256_0_2_1_3) : A F S32x4x64x256 → A F S32x64x4x256)
  :: reshape main_v108 main_v109 (rfl : (.f32 : EltTy) = .f32) shapeCasts_S32x64x4x256_S2048x1024
  :: nullary main_cst_25 (constant S_ .f32 0x41800000#32)
  :: unary main_cst_25 main_v110 (broadcastInDim S2048x1024 ![] bcast_S_S2048x1024 : A F S_ → A F S2048x1024)
  :: binary main_v101 main_v110 main_v111 (Host.divf : A F S2048x1024 → A F S2048x1024 → A F S2048x1024)
  :: [] )

theorem oC2_sub : (oC2 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub ..⟩

theorem oC2_fresh : (oC2 : List (HloOp τ sig (Elt F))).Forall fun op => op.fresh = ∅ := forall_fresh_of_map rfl

abbrev oC3 : List (HloOp τ sig (Elt F)) :=
  ( TRef.unary (.of main_v111 : T S2048x1024) (.of main_call24_v0 : T S2048x1024) Host.negf
  :: TRef.binary (.of main_call24_v0 : T S2048x1024) (.of main_v9_1 : T S2048x1024) (.of main_call24_v1 : T S2048x1024) mulf
  :: TRef.unary (.of main_call24_v1 : T S2048x1024) (.of main_v112 : T S2048x1024) Host.negf
  :: [] )

theorem oC3_sub : (oC3 : List (HloOp τ sig (Elt F))).Forall fun op => op.bufs ⊆ tcRefs τ sig :=
  ⟨unary_bufs_sub .., binary_bufs_sub .., unary_bufs_sub ..⟩

theorem oC3_fresh : (oC3 : List (HloOp τ sig (Elt F))).Forall fun op => op.fresh = ∅ := forall_fresh_of_map rfl

abbrev oC4 : List (HloOp τ sig (Elt F)) :=
  ( nullary main_cst_26 (constant S_ .f32 0x00000000#32)
  :: binary main_v112 main_cst_26 main_v113 ((fun x v => Host.reduceAdd x v reducesTo_S2048x1024_S1024_d0 h_S_) : A F S2048x1024 → A F S_ → A F S1024)
  :: reshape main_v113 main_v114 (rfl : (.f32 : EltTy) = .f32) shapeCasts_S1024_S1x1024
  :: nullary main_cst_27 (constant S_ .f32 0x00000000#32)
  :: binary main_v114 main_cst_27 main_v115 ((fun x v => Host.reduceAdd x v reducesTo_S1x1024_S1024_d0 h_S_) : A F S1x1024 → A F S_ → A F S1024)
  :: binary main_v112 main_v4 main_v116 ((fun l r => Host.dotGeneral dot_S2048x1024_S2048x16_S1024x16_0_0_1_1_n_n none l r) : A F S2048x1024 → A F S2048x16 → A F S1024x16)
  :: unary main_v116 main_v117 ((transpose S16x1024 [1, 0] · transposes_S1024x16_S16x1024_1_0) : A F S1024x16 → A F S16x1024)
  :: binary main_v112 main_arg1 main_v118 ((fun l r => Host.dotGeneral dot_S2048x1024_S16x1024_S2048x16_1_1_0_0_n_n none l r) : A F S2048x1024 → A F S16x1024 → A F S2048x16)
  :: nary ![main_v109, main_v105, main_v103, main_v59, main_v118] main_v119 (fun u => (concatenate S2048x6160 1 [⟨S2048x1024, (u 0 : A F S2048x1024)⟩, ⟨S2048x1024, (u 1 : A F S2048x1024)⟩, ⟨S2048x2048, (u 2 : A F S2048x2048)⟩, ⟨S2048x2048, (u 3 : A F S2048x2048)⟩, ⟨S2048x16, (u 4 : A F S2048x16)⟩] concatenates_S2048x1024_S2048x1024_S2048x2048_S2048x2048_S2048x16_S2048x6160_d1 : A F S2048x6160))
  :: unary main_v55 main_v120 ((truncf .bf16 · bitsLt_bf16_f32) : A F S2048x2048 → (⟨S2048x2048, .bf16⟩ : BufTy).Contents (Elt F))
  :: unary main_v119 main_v121 ((truncf .bf16 · bitsLt_bf16_f32) : A F S2048x6160 → (⟨S2048x6160, .bf16⟩ : BufTy).Contents (Elt F))
  :: [] )

theorem oC4_sub : (oC4 : List (HloOp τ sig (Elt F))).Forall fun op => op.bufs ⊆ tcRefs τ sig :=
  ⟨nullary_bufs_sub .., binary_bufs_sub .., reshape_bufs_sub .., nullary_bufs_sub .., binary_bufs_sub .., binary_bufs_sub .., unary_bufs_sub .., binary_bufs_sub .., nary_bufs_sub .., unary_bufs_sub .., unary_bufs_sub ..⟩

theorem oC4_fresh : (oC4 : List (HloOp τ sig (Elt F))).Forall fun op => op.fresh = ∅ := forall_fresh_of_map rfl

/-- The stretches of phase C, the operations in one list, and the references they write, in order. -/
abbrev pC : List (List (HloOp τ sig (Elt F))) := [oC0, oC1, oC2, oC3, oC4]

abbrev fC : List (HloOp τ sig (Elt F)) := List.flatten pC

abbrev wC : List (Ref sig .tc) := [main_v88, main_v89, main_v90, main_v91, main_v92, main_cst_22, main_v93, main_v94, main_v95, main_v96, main_cst_23, main_v97, main_v98, main_call23_call0_cst, main_call23_call0_v0, main_v99, main_v100, main_v101, main_v102, main_v103, main_v104, main_v105, main_cst_24, main_v106, main_v107, main_v108, main_v109, main_cst_25, main_v110, main_v111, main_call24_v0, main_call24_v1, main_v112, main_cst_26, main_v113, main_v114, main_cst_27, main_v115, main_v116, main_v117, main_v118, main_v119, main_v120, main_v121]

theorem wC_eq : (fC : List (HloOp τ sig (Elt F))).map HloOp.writes = wC.map fun r => {Proc.devRef (τ := τ) .tc r} := rfl

theorem pC_plain : Plain (pC (F := F)) :=
  .cons oC0_sub (hf := List.forall_iff_forall_mem.mp oC0_fresh) (.cons oC1_sub (hf := List.forall_iff_forall_mem.mp oC1_fresh) (.cons oC2_sub (hf := List.forall_iff_forall_mem.mp oC2_fresh) (.cons oC3_sub (hf := List.forall_iff_forall_mem.mp oC3_fresh) (.cons oC4_sub (hf := List.forall_iff_forall_mem.mp oC4_fresh) (.nil)))))

abbrev l0o0 : List (HloOp τ sig (Elt F)) :=
  ( TRef.nullary (.of main_while0b_call2_c : TRef sig ⟨S_, .i32⟩) (constantI S_ 32 0#32)
  :: TRef.nullary (.of main_while0b_call2_c_0 : TRef sig ⟨S_, .i32⟩) (constantI S_ 32 0#32)
  :: TRef.nullary (.of main_while0b_call2_c_1 : TRef sig ⟨S_, .i32⟩) (constantI S_ 32 0#32)
  :: TRef.unaryIndexed (.of main_v35_0 : T S32x4x64x256) ![(.of main_v35_4 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : T S1x4x64x256) (fun x i => Host.dynamicSlice S1x4x64x256 x (fun k => (i k (Shape.Idx.first h_S_)).toInt) sliceFits_S32x4x64x256_S1x4x64x256)
  :: TRef.reshape (.of main_while0b_call2_v0 : T S1x4x64x256) (.of main_while0b_v122 : T S4x64x256) (rfl : (.f32 : EltTy) = .f32) shapeCasts_S1x4x64x256_S4x64x256
  :: [] )

theorem l0o0_sub : (l0o0 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l0o0_fresh : (l0o0 : List (HloOp τ sig (Elt F))).Forall fun op => op.fresh = ∅ := forall_fresh_of_map rfl

abbrev l0o1 : List (HloOp τ sig (Elt F)) :=
  ( TRef.nullary (.of main_while0b_call3_c : TRef sig ⟨S_, .i32⟩) (constantI S_ 32 0#32)
  :: TRef.nullary (.of main_while0b_call3_c_0 : TRef sig ⟨S_, .i32⟩) (constantI S_ 32 0#32)
  :: TRef.nullary (.of main_while0b_call3_c_1 : TRef sig ⟨S_, .i32⟩) (constantI S_ 32 0#32)
  :: TRef.unaryIndexed (.of main_v35_1 : T S32x4x64x256) ![(.of main_v35_4 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : T S1x4x64x256) (fun x i => Host.dynamicSlice S1x4x64x256 x (fun k => (i k (Shape.Idx.first h_S_)).toInt) sliceFits_S32x4x64x256_S1x4x64x256)
  :: TRef.reshape (.of main_while0b_call3_v0 : T S1x4x64x256) (.of main_while0b_v123 : T S4x64x256) (rfl : (.f32 : EltTy) = .f32) shapeCasts_S1x4x64x256_S4x64x256
  :: [] )

theorem l0o1_sub : (l0o1 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l0o1_fresh : (l0o1 : List (HloOp τ sig (Elt F))).Forall fun op => op.fresh = ∅ := forall_fresh_of_map rfl

abbrev l0o2 : List (HloOp τ sig (Elt F)) :=
  ( TRef.nullary (.of main_while0b_call4_c : TRef sig ⟨S_, .i32⟩) (constantI S_ 32 0#32)
  :: TRef.nullary (.of main_while0b_call4_c_0 : TRef sig ⟨S_, .i32⟩) (constantI S_ 32 0#32)
  :: TRef.nullary (.of main_while0b_call4_c_1 : TRef sig ⟨S_, .i32⟩) (constantI S_ 32 0#32)
  :: TRef.unaryIndexed (.of main_v35_2 : T S32x4x64x512) ![(.of main_v35_4 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : T S1x4x64x512) (fun x i => Host.dynamicSlice S1x4x64x512 x (fun k => (i k (Shape.Idx.first h_S_)).toInt) sliceFits_S32x4x64x512_S1x4x64x512)
  :: TRef.reshape (.of main_while0b_call4_v0 : T S1x4x64x512) (.of main_while0b_v124 : T S4x64x512) (rfl : (.f32 : EltTy) = .f32) shapeCasts_S1x4x64x512_S4x64x512
  :: [] )

theorem l0o2_sub : (l0o2 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l0o2_fresh : (l0o2 : List (HloOp τ sig (Elt F))).Forall fun op => op.fresh = ∅ := forall_fresh_of_map rfl

abbrev l0o3 : List (HloOp τ sig (Elt F)) :=
  ( TRef.nullary (.of main_while0b_call5_c : TRef sig ⟨S_, .i32⟩) (constantI S_ 32 0#32)
  :: TRef.nullary (.of main_while0b_call5_c_0 : TRef sig ⟨S_, .i32⟩) (constantI S_ 32 0#32)
  :: TRef.unaryIndexed (.of main_v35_3 : T S32x4x256) ![(.of main_v35_4 : TRef sig ⟨S_, .i32⟩), (.of main_while0b_call5_c : TRef sig ⟨S_, .i32⟩), (.of main_while0b_call5_c_0 : TRef sig ⟨S_, .i32⟩)] (.of main_while0b_call5_v0 : T S1x4x256) (fun x i => Host.dynamicSlice S1x4x256 x (fun k => (i k (Shape.Idx.first h_S_)).toInt) sliceFits_S32x4x256_S1x4x256)
  :: TRef.reshape (.of main_while0b_call5_v0 : T S1x4x256) (.of main_while0b_v125 : T S4x256) (rfl : (.f32 : EltTy) = .f32) shapeCasts_S1x4x256_S4x256
  :: [] )

theorem l0o3_sub : (l0o3 : List (HloOp τ sig (Elt F))).Forall fun op => op.bufs ⊆ tcRefs τ sig :=
  ⟨nullary_bufs_sub .., nullary_bufs_sub .., unaryIndexed_bufs_sub .., reshape_bufs_sub ..⟩

theorem l0o3_fresh : (l0o3 : List (HloOp τ sig (Elt F))).Forall fun op => op.fresh = ∅ := forall_fresh_of_map rfl

abbrev l0o4 : List (HloOp τ sig (Elt F)) :=
  ( unary main_while0b_v125 main_while0b_v126 (broadcastInDim S4x256x1 ![0, 1] bcast_S4x256_S4x256x1_0_1 : A F S4x256 → A F S4x256x1)
  :: unary main_while0b_v126 main_while0b_v127 (broadcastInDim S4x256x512 ![0, 1, 2] bcast_S4x256x1_S4x256x512_0_1_2 : A F S4x256x1 → A F S4x256x512)
  :: binary main_while0b_v127 main_v35_5 main_while0b_v128 (mulf : A F S4x256x512 → A F S4x256x512 → A F S4x256x512)
  :: binary main_while0b_v123 main_while0b_v124 main_while0b_v129 ((fun l r => Host.dotGeneral dot_S4x64x256_S4x64x512_S4x256x512_1_1_2_2_0_0 none l r) : A F S4x64x256 → A F S4x64x512 → A F S4x256x512)
  :: binary main_while0b_v128 main_while0b_v129 main_while0b_v130 (addf : A F S4x256x512 → A F S4x256x512 → A F S4x256x512)
  :: binary main_while0b_v122 main_while0b_v130 main_while0b_v131 ((fun l r => Host.dotGeneral dot_S4x64x256_S4x256x512_S4x64x512_2_1_1_2_0_0 none l r) : A F S4x64x256 → A F S4x256x512 → A F S4x64x512)
  :: [] )

theorem l0o4_sub : (l0o4 : List (HloOp τ sig (Elt F))).Forall fun op => op.bufs ⊆ tcRefs τ sig :=
  ⟨unary_bufs_sub .., unary_bufs_sub .., binary_bufs_sub .., binary_bufs_sub .., binary_bufs_sub .., binary_bufs_sub ..⟩

theorem l0o4_fresh : (l0o4 : List (HloOp τ sig (Elt F))).Forall fun op => op.fresh = ∅ := forall_fresh_of_map rfl

abbrev l0o5 : List (HloOp τ sig (Elt F)) :=
  ( TRef.unary (.of main_while0b_v131 : T S4x64x512) (.of main_while0b_call6_v0 : T S1x4x64x512) (broadcastInDim S1x4x64x512 ![1, 2, 3] bcast_S4x64x512_S1x4x64x512_1_2_3)
  :: TRef.nullary (.of main_while0b_call6_c : TRef sig ⟨S_, .i32⟩) (constantI S_ 32 0#32)
  :: TRef.nullary (.of main_while0b_call6_c_0 : TRef sig ⟨S_, .i32⟩) (constantI S_ 32 0#32)
  :: TRef.nullary (.of main_while0b_call6_c_1 : TRef sig ⟨S_, .i32⟩) (constantI S_ 32 0#32)
  :: TRef.binaryIndexed (.of main_v35_6 : T S32x4x64x512) (.of main_while0b_call6_v0 : T S1x4x64x512) ![(.of main_v35_4 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v132 : T S32x4x64x512) (fun x u i => Host.dynamicUpdateSlice x u (fun k => (i k (Shape.Idx.first h_S_)).toInt) updateFits_S32x4x64x512_S1x4x64x512)
  :: [] )

theorem l0o5_sub : (l0o5 : List (HloOp τ sig (Elt F))).Forall fun op => op.bufs ⊆ tcRefs τ sig :=
  ⟨unary_bufs_sub .., nullary_bufs_sub .., nullary_bufs_sub .., nullary_bufs_sub .., binaryIndexed_bufs_sub ..⟩

theorem l0o5_fresh : (l0o5 : List (HloOp τ sig (Elt F))).Forall fun op => op.fresh = ∅ := forall_fresh_of_map rfl

abbrev l0o6 : List (HloOp τ sig (Elt F)) :=
  ( TRef.unary (.of main_v35_5 : T S4x256x512) (.of main_while0b_call7_v0 : T S1x4x256x512) (broadcastInDim S1x4x256x512 ![1, 2, 3] bcast_S4x256x512_S1x4x256x512_1_2_3)
  :: TRef.nullary (.of main_while0b_call7_c : TRef sig ⟨S_, .i32⟩) (constantI S_ 32 0#32)
  :: TRef.nullary (.of main_while0b_call7_c_0 : TRef sig ⟨S_, .i32⟩) (constantI S_ 32 0#32)
  :: TRef.nullary (.of main_while0b_call7_c_1 : TRef sig ⟨S_, .i32⟩) (constantI S_ 32 0#32)
  :: TRef.binaryIndexed (.of main_v35_7 : T S32x4x256x512) (.of main_while0b_call7_v0 : T S1x4x256x512) ![(.of main_v35_4 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v133 : T S32x4x256x512) (fun x u i => Host.dynamicUpdateSlice x u (fun k => (i k (Shape.Idx.first h_S_)).toInt) updateFits_S32x4x256x512_S1x4x256x512)
  :: [] )

theorem l0o6_sub : (l0o6 : List (HloOp τ sig (Elt F))).Forall fun op => op.bufs ⊆ tcRefs τ sig :=
  ⟨unary_bufs_sub .., nullary_bufs_sub .., nullary_bufs_sub .., nullary_bufs_sub .., binaryIndexed_bufs_sub ..⟩

theorem l0o6_fresh : (l0o6 : List (HloOp τ sig (Elt F))).Forall fun op => op.fresh = ∅ := forall_fresh_of_map rfl

abbrev l0o7 : List (HloOp τ sig (Elt F)) :=
  ( TRef.unary (.of main_while0b_v126 : T S4x256x1) (.of main_while0b_call8_v0 : T S1x4x256x1) (broadcastInDim S1x4x256x1 ![1, 2, 3] bcast_S4x256x1_S1x4x256x1_1_2_3)
  :: TRef.nullary (.of main_while0b_call8_c : TRef sig ⟨S_, .i32⟩) (constantI S_ 32 0#32)
  :: TRef.nullary (.of main_while0b_call8_c_0 : TRef sig ⟨S_, .i32⟩) (constantI S_ 32 0#32)
  :: TRef.nullary (.of main_while0b_call8_c_1 : TRef sig ⟨S_, .i32⟩) (constantI S_ 32 0#32)
  :: TRef.binaryIndexed (.of main_v35_8 : T S32x4x256x1) (.of main_while0b_call8_v0 : T S1x4x256x1) ![(.of main_v35_4 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v134 : T S32x4x256x1) (fun x u i => Host.dynamicUpdateSlice x u (fun k => (i k (Shape.Idx.first h_S_)).toInt) updateFits_S32x4x256x1_S1x4x256x1)
  :: [] )

theorem l0o7_sub : (l0o7 : List (HloOp τ sig (Elt F))).Forall fun op => op.bufs ⊆ tcRefs τ sig :=
  ⟨unary_bufs_sub .., nullary_bufs_sub .., nullary_bufs_sub .., nullary_bufs_sub .., binaryIndexed_bufs_sub ..⟩

theorem l0o7_fresh : (l0o7 : List (HloOp τ sig (Elt F))).Forall fun op => op.fresh = ∅ := forall_fresh_of_map rfl

abbrev l0o8 : List (HloOp τ sig (Elt F)) :=
  ( TRef.unary (.of main_while0b_v130 : T S4x256x512) (.of main_while0b_call9_v0 : T S1x4x256x512) (broadcastInDim S1x4x256x512 ![1, 2, 3] bcast_S4x256x512_S1x4x256x512_1_2_3)
  :: TRef.nullary (.of main_while0b_call9_c : TRef sig ⟨S_, .i32⟩) (constantI S_ 32 0#32)
  :: TRef.nullary (.of main_while0b_call9_c_0 : TRef sig ⟨S_, .i32⟩) (constantI S_ 32 0#32)
  :: TRef.nullary (.of main_while0b_call9_c_1 : TRef sig ⟨S_, .i32⟩) (constantI S_ 32 0#32)
  :: TRef.binaryIndexed (.of main_v35_9 : T S32x4x256x512) (.of main_while0b_call9_v0 : T S1x4x256x512) ![(.of main_v35_4 : TRef sig ⟨S_, .i32⟩), (.of main_while0b_call9_c : TRef sig ⟨S_, .i32⟩), (.of main_while0b_call9_c_0 : TRef sig ⟨S_, .i32⟩), (.of main_while0b_call9_c_1 : TRef sig ⟨S_, .i32⟩)] (.of main_while0b_v135 : T S32x4x256x512) (fun x u i => Host.dynamicUpdateSlice x u (fun k => (i k (Shape.Idx.first h_S_)).toInt) updateFits_S32x4x256x512_S1x4x256x512)
  :: [] )

theorem l0o8_sub : (l0o8 : List (HloOp τ sig (Elt F))).Forall fun op => op.bufs ⊆ tcRefs τ sig :=
  ⟨unary_bufs_sub .., nullary_bufs_sub .., nullary_bufs_sub .., nullary_bufs_sub .., binaryIndexed_bufs_sub ..⟩

theorem l0o8_fresh : (l0o8 : List (HloOp τ sig (Elt F))).Forall fun op => op.fresh = ∅ := forall_fresh_of_map rfl

abbrev l0o9 : List (HloOp τ sig (Elt F)) :=
  ( nullary main_while0b_c_37 (constantI S_ 32 1#32)
  :: binary main_v35_4 main_while0b_c_37 main_while0b_v136 (addi : (⟨S_, .i32⟩ : BufTy).Contents (Elt F) → (⟨S_, .i32⟩ : BufTy).Contents (Elt F) → (⟨S_, .i32⟩ : BufTy).Contents (Elt F))
  :: unary main_while0b_v136 main_v35_4 id
  :: unary main_while0b_v130 main_v35_5 id
  :: unary main_while0b_v132 main_v35_6 id
  :: unary main_while0b_v133 main_v35_7 id
  :: unary main_while0b_v134 main_v35_8 id
  :: unary main_while0b_v135 main_v35_9 id
  :: [] )

theorem l0o9_sub : (l0o9 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩

theorem l0o9_fresh : (l0o9 : List (HloOp τ sig (Elt F))).Forall fun op => op.fresh = ∅ := forall_fresh_of_map rfl

/-- The stretches of phase L0, the operations in one list, and the references they write, in order. -/
abbrev pL0 : List (List (HloOp τ sig (Elt F))) := [l0o0, l0o1, l0o2, l0o3, l0o4, l0o5, l0o6, l0o7, l0o8, l0o9]

abbrev fL0 : List (HloOp τ sig (Elt F)) := List.flatten pL0

abbrev wL0 : List (Ref sig .tc) := [main_while0b_call2_c, main_while0b_call2_c_0, main_while0b_call2_c_1, main_while0b_call2_v0, main_while0b_v122, main_while0b_call3_c, main_while0b_call3_c_0, main_while0b_call3_c_1, main_while0b_call3_v0, main_while0b_v123, main_while0b_call4_c, main_while0b_call4_c_0, main_while0b_call4_c_1, main_while0b_call4_v0, main_while0b_v124, main_while0b_call5_c, main_while0b_call5_c_0, main_while0b_call5_v0, main_while0b_v125, main_while0b_v126, main_while0b_v127, main_while0b_v128, main_while0b_v129, main_while0b_v130, main_while0b_v131, main_while0b_call6_v0, main_while0b_call6_c, main_while0b_call6_c_0, main_while0b_call6_c_1, main_while0b_v132, main_while0b_call7_v0, main_while0b_call7_c, main_while0b_call7_c_0, main_while0b_call7_c_1, main_while0b_v133, main_while0b_call8_v0, main_while0b_call8_c, main_while0b_call8_c_0, main_while0b_call8_c_1, main_while0b_v134, main_while0b_call9_v0, main_while0b_call9_c, main_while0b_call9_c_0, main_while0b_call9_c_1, main_while0b_v135, main_while0b_c_37, main_while0b_v136, main_v35_4, main_v35_5, main_v35_6, main_v35_7, main_v35_8, main_v35_9]

theorem wL0_eq : (fL0 : List (HloOp τ sig (Elt F))).map HloOp.writes = wL0.map fun r => {Proc.devRef (τ := τ) .tc r} := rfl

theorem pL0_plain : Plain (pL0 (F := F)) :=
  .cons l0o0_sub (hf := List.forall_iff_forall_mem.mp l0o0_fresh) (.cons l0o1_sub (hf := List.forall_iff_forall_mem.mp l0o1_fresh) (.cons l0o2_sub (hf := List.forall_iff_forall_mem.mp l0o2_fresh) (.cons l0o3_sub (hf := List.forall_iff_forall_mem.mp l0o3_fresh) (.cons l0o4_sub (hf := List.forall_iff_forall_mem.mp l0o4_fresh) (.cons l0o5_sub (hf := List.forall_iff_forall_mem.mp l0o5_fresh) (.cons l0o6_sub (hf := List.forall_iff_forall_mem.mp l0o6_fresh) (.cons l0o7_sub (hf := List.forall_iff_forall_mem.mp l0o7_fresh) (.cons l0o8_sub (hf := List.forall_iff_forall_mem.mp l0o8_fresh) (.cons l0o9_sub (hf := List.forall_iff_forall_mem.mp l0o9_fresh) (.nil))))))))))

abbrev l1o0 : List (HloOp τ sig (Elt F)) :=
  ( nullary main_while1b_c_40 (constantI S_ 32 32#32)
  :: binary main_while1b_c_40 main_v87_7 main_while1b_v122 (subi : (⟨S_, .i32⟩ : BufTy).Contents (Elt F) → (⟨S_, .i32⟩ : BufTy).Contents (Elt F) → (⟨S_, .i32⟩ : BufTy).Contents (Elt F))
  :: nullary main_while1b_c_41 (constantI S_ 32 1#32)
  :: binary main_while1b_v122 main_while1b_c_41 main_while1b_v123 (subi : (⟨S_, .i32⟩ : BufTy).Contents (Elt F) → (⟨S_, .i32⟩ : BufTy).Contents (Elt F) → (⟨S_, .i32⟩ : BufTy).Contents (Elt F))
  :: [] )

theorem l1o0_sub : (l1o0 : List (HloOp τ sig (Elt F))).Forall fun op => op.bufs ⊆ tcRefs τ sig :=
  ⟨nullary_bufs_sub .., binary_bufs_sub .., nullary_bufs_sub .., binary_bufs_sub ..⟩

theorem l1o0_fresh : (l1o0 : List (HloOp τ sig (Elt F))).Forall fun op => op.fresh = ∅ := forall_fresh_of_map rfl

abbrev l1o1 : List (HloOp τ sig (Elt F)) :=
  ( TRef.nullary (.of main_while1b_call12_c : TRef sig ⟨S_, .i32⟩) (constantI S_ 32 0#32)
  :: TRef.nullary (.of main_while1b_call12_c_0 : TRef sig ⟨S_, .i32⟩) (constantI S_ 32 0#32)
  :: TRef.nullary (.of main_while1b_call12_c_1 : TRef sig ⟨S_, .i32⟩) (constantI S_ 32 0#32)
  :: TRef.unaryIndexed (.of main_v87_0 : T S32x4x64x512) ![(.of main_while1b_v123 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : T S1x4x64x512) (fun x i => Host.dynamicSlice S1x4x64x512 x (fun k => (i k (Shape.Idx.first h_S_)).toInt) sliceFits_S32x4x64x512_S1x4x64x512)
  :: TRef.reshape (.of main_while1b_call12_v0 : T S1x4x64x512) (.of main_while1b_v124 : T S4x64x512) (rfl : (.f32 : EltTy) = .f32) shapeCasts_S1x4x64x512_S4x64x512
  :: [] )

theorem l1o1_sub : (l1o1 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l1o1_fresh : (l1o1 : List (HloOp τ sig (Elt F))).Forall fun op => op.fresh = ∅ := forall_fresh_of_map rfl

abbrev l1o2 : List (HloOp τ sig (Elt F)) :=
  ( TRef.nullary (.of main_while1b_call13_c : TRef sig ⟨S_, .i32⟩) (constantI S_ 32 0#32)
  :: TRef.nullary (.of main_while1b_call13_c_0 : TRef sig ⟨S_, .i32⟩) (constantI S_ 32 0#32)
  :: TRef.nullary (.of main_while1b_call13_c_1 : TRef sig ⟨S_, .i32⟩) (constantI S_ 32 0#32)
  :: TRef.unaryIndexed (.of main_v87_1 : T S32x4x256x512) ![(.of main_while1b_v123 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : T S1x4x256x512) (fun x i => Host.dynamicSlice S1x4x256x512 x (fun k => (i k (Shape.Idx.first h_S_)).toInt) sliceFits_S32x4x256x512_S1x4x256x512)
  :: TRef.reshape (.of main_while1b_call13_v0 : T S1x4x256x512) (.of main_while1b_v125 : T S4x256x512) (rfl : (.f32 : EltTy) = .f32) shapeCasts_S1x4x256x512_S4x256x512
  :: [] )

theorem l1o2_sub : (l1o2 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l1o2_fresh : (l1o2 : List (HloOp τ sig (Elt F))).Forall fun op => op.fresh = ∅ := forall_fresh_of_map rfl

abbrev l1o3 : List (HloOp τ sig (Elt F)) :=
  ( TRef.nullary (.of main_while1b_call14_c : TRef sig ⟨S_, .i32⟩) (constantI S_ 32 0#32)
  :: TRef.nullary (.of main_while1b_call14_c_0 : TRef sig ⟨S_, .i32⟩) (constantI S_ 32 0#32)
  :: TRef.nullary (.of main_while1b_call14_c_1 : TRef sig ⟨S_, .i32⟩) (constantI S_ 32 0#32)
  :: TRef.unaryIndexed (.of main_v87_2 : T S32x4x256x1) ![(.of main_while1b_v123 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : T S1x4x256x1) (fun x i => Host.dynamicSlice S1x4x256x1 x (fun k => (i k (Shape.Idx.first h_S_)).toInt) sliceFits_S32x4x256x1_S1x4x256x1)
  :: TRef.reshape (.of main_while1b_call14_v0 : T S1x4x256x1) (.of main_while1b_v126 : T S4x256x1) (rfl : (.f32 : EltTy) = .f32) shapeCasts_S1x4x256x1_S4x256x1
  :: [] )

theorem l1o3_sub : (l1o3 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l1o3_fresh : (l1o3 : List (HloOp τ sig (Elt F))).Forall fun op => op.fresh = ∅ := forall_fresh_of_map rfl

abbrev l1o4 : List (HloOp τ sig (Elt F)) :=
  ( TRef.nullary (.of main_while1b_call15_c : TRef sig ⟨S_, .i32⟩) (constantI S_ 32 0#32)
  :: TRef.nullary (.of main_while1b_call15_c_0 : TRef sig ⟨S_, .i32⟩) (constantI S_ 32 0#32)
  :: TRef.nullary (.of main_while1b_call15_c_1 : TRef sig ⟨S_, .i32⟩) (constantI S_ 32 0#32)
  :: TRef.unaryIndexed (.of main_v87_3 : T S32x4x64x512) ![(.of main_while1b_v123 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : T S1x4x64x512) (fun x i => Host.dynamicSlice S1x4x64x512 x (fun k => (i k (Shape.Idx.first h_S_)).toInt) sliceFits_S32x4x64x512_S1x4x64x512)
  :: TRef.reshape (.of main_while1b_call15_v0 : T S1x4x64x512) (.of main_while1b_v127 : T S4x64x512) (rfl : (.f32 : EltTy) = .f32) shapeCasts_S1x4x64x512_S4x64x512
  :: [] )

theorem l1o4_sub : (l1o4 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l1o4_fresh : (l1o4 : List (HloOp τ sig (Elt F))).Forall fun op => op.fresh = ∅ := forall_fresh_of_map rfl

abbrev l1o5 : List (HloOp τ sig (Elt F)) :=
  ( TRef.nullary (.of main_while1b_call16_c : TRef sig ⟨S_, .i32⟩) (constantI S_ 32 0#32)
  :: TRef.nullary (.of main_while1b_call16_c_0 : TRef sig ⟨S_, .i32⟩) (constantI S_ 32 0#32)
  :: TRef.nullary (.of main_while1b_call16_c_1 : TRef sig ⟨S_, .i32⟩) (constantI S_ 32 0#32)
  :: TRef.unaryIndexed (.of main_v87_4 : T S32x4x64x256) ![(.of main_while1b_v123 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : T S1x4x64x256) (fun x i => Host.dynamicSlice S1x4x64x256 x (fun k => (i k (Shape.Idx.first h_S_)).toInt) sliceFits_S32x4x64x256_S1x4x64x256)
  :: TRef.reshape (.of main_while1b_call16_v0 : T S1x4x64x256) (.of main_while1b_v128 : T S4x64x256) (rfl : (.f32 : EltTy) = .f32) shapeCasts_S1x4x64x256_S4x64x256
  :: [] )

theorem l1o5_sub : (l1o5 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l1o5_fresh : (l1o5 : List (HloOp τ sig (Elt F))).Forall fun op => op.fresh = ∅ := forall_fresh_of_map rfl

abbrev l1o6 : List (HloOp τ sig (Elt F)) :=
  ( TRef.nullary (.of main_while1b_call17_c : TRef sig ⟨S_, .i32⟩) (constantI S_ 32 0#32)
  :: TRef.nullary (.of main_while1b_call17_c_0 : TRef sig ⟨S_, .i32⟩) (constantI S_ 32 0#32)
  :: TRef.nullary (.of main_while1b_call17_c_1 : TRef sig ⟨S_, .i32⟩) (constantI S_ 32 0#32)
  :: TRef.unaryIndexed (.of main_v87_5 : T S32x4x256x512) ![(.of main_while1b_v123 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_call17_v0 : T S1x4x256x512) (fun x i => Host.dynamicSlice S1x4x256x512 x (fun k => (i k (Shape.Idx.first h_S_)).toInt) sliceFits_S32x4x256x512_S1x4x256x512)
  :: TRef.reshape (.of main_while1b_call17_v0 : T S1x4x256x512) (.of main_while1b_v129 : T S4x256x512) (rfl : (.f32 : EltTy) = .f32) shapeCasts_S1x4x256x512_S4x256x512
  :: [] )

theorem l1o6_sub : (l1o6 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l1o6_fresh : (l1o6 : List (HloOp τ sig (Elt F))).Forall fun op => op.fresh = ∅ := forall_fresh_of_map rfl

abbrev l1o7 : List (HloOp τ sig (Elt F)) :=
  ( TRef.nullary (.of main_while1b_call18_c : TRef sig ⟨S_, .i32⟩) (constantI S_ 32 0#32)
  :: TRef.nullary (.of main_while1b_call18_c_0 : TRef sig ⟨S_, .i32⟩) (constantI S_ 32 0#32)
  :: TRef.nullary (.of main_while1b_call18_c_1 : TRef sig ⟨S_, .i32⟩) (constantI S_ 32 0#32)
  :: TRef.unaryIndexed (.of main_v87_6 : T S32x4x64x256) ![(.of main_while1b_v123 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_call18_v0 : T S1x4x64x256) (fun x i => Host.dynamicSlice S1x4x64x256 x (fun k => (i k (Shape.Idx.first h_S_)).toInt) sliceFits_S32x4x64x256_S1x4x64x256)
  :: TRef.reshape (.of main_while1b_call18_v0 : T S1x4x64x256) (.of main_while1b_v130 : T S4x64x256) (rfl : (.f32 : EltTy) = .f32) shapeCasts_S1x4x64x256_S4x64x256
  :: [] )

theorem l1o7_sub : (l1o7 : List (HloOp τ sig (Elt F))).Forall fun op => op.bufs ⊆ tcRefs τ sig :=
  ⟨nullary_bufs_sub .., nullary_bufs_sub .., nullary_bufs_sub .., unaryIndexed_bufs_sub .., reshape_bufs_sub ..⟩

theorem l1o7_fresh : (l1o7 : List (HloOp τ sig (Elt F))).Forall fun op => op.fresh = ∅ := forall_fresh_of_map rfl

abbrev l1o8 : List (HloOp τ sig (Elt F)) :=
  ( binary main_while1b_v124 main_while1b_v130 main_while1b_v131 ((fun l r => Host.dotGeneral dot_S4x64x512_S4x64x256_S4x512x256_1_1_2_2_0_0 none l r) : A F S4x64x512 → A F S4x64x256 → A F S4x512x256)
  :: unary main_while1b_v131 main_while1b_v132 ((transpose S4x256x512 [0, 2, 1] · transposes_S4x512x256_S4x256x512_0_2_1) : A F S4x512x256 → A F S4x256x512)
  :: binary main_v87_8 main_while1b_v132 main_while1b_v133 (addf : A F S4x256x512 → A F S4x256x512 → A F S4x256x512)
  :: binary main_while1b_v124 main_while1b_v129 main_while1b_v134 ((fun l r => Host.dotGeneral dot_S4x64x512_S4x256x512_S4x64x256_2_2_1_1_0_0 none l r) : A F S4x64x512 → A F S4x256x512 → A F S4x64x256)
  :: binary main_while1b_v133 main_while1b_v128 main_while1b_v135 ((fun l r => Host.dotGeneral dot_S4x256x512_S4x64x256_S4x512x64_1_2_2_1_0_0 none l r) : A F S4x256x512 → A F S4x64x256 → A F S4x512x64)
  :: unary main_while1b_v135 main_while1b_v136 ((transpose S4x64x512 [0, 2, 1] · transposes_S4x512x64_S4x64x512_0_2_1) : A F S4x512x64 → A F S4x64x512)
  :: binary main_while1b_v133 main_while1b_v127 main_while1b_v137 ((fun l r => Host.dotGeneral dot_S4x256x512_S4x64x512_S4x256x64_2_2_1_1_0_0 none l r) : A F S4x256x512 → A F S4x64x512 → A F S4x256x64)
  :: unary main_while1b_v137 main_while1b_v138 ((transpose S4x64x256 [0, 2, 1] · transposes_S4x256x64_S4x64x256_0_2_1) : A F S4x256x64 → A F S4x64x256)
  :: unary main_while1b_v126 main_while1b_v139 (broadcastInDim S4x256x512 ![0, 1, 2] bcast_S4x256x1_S4x256x512_0_1_2 : A F S4x256x1 → A F S4x256x512)
  :: binary main_while1b_v139 main_while1b_v133 main_while1b_v140 (mulf : A F S4x256x512 → A F S4x256x512 → A F S4x256x512)
  :: binary main_while1b_v133 main_while1b_v125 main_while1b_v141 (mulf : A F S4x256x512 → A F S4x256x512 → A F S4x256x512)
  :: nullary main_while1b_cst_42 (constant S_ .f32 0x00000000#32)
  :: binary main_while1b_v141 main_while1b_cst_42 main_while1b_v142 ((fun x v => Host.reduceAdd x v reducesTo_S4x256x512_S4x256_d2 h_S_) : A F S4x256x512 → A F S_ → A F S4x256)
  :: reshape main_while1b_v142 main_while1b_v143 (rfl : (.f32 : EltTy) = .f32) shapeCasts_S4x256_S4x256x1
  :: nullary main_while1b_cst_43 (constant S_ .f32 0x00000000#32)
  :: binary main_while1b_v143 main_while1b_cst_43 main_while1b_v144 ((fun x v => Host.reduceAdd x v reducesTo_S4x256x1_S4x256_d2 h_S_) : A F S4x256x1 → A F S_ → A F S4x256)
  :: [] )

theorem l1o8_sub : (l1o8 : List (HloOp τ sig (Elt F))).Forall fun op => op.bufs ⊆ tcRefs τ sig :=
  ⟨binary_bufs_sub .., unary_bufs_sub .., binary_bufs_sub .., binary_bufs_sub .., binary_bufs_sub .., unary_bufs_sub .., binary_bufs_sub .., unary_bufs_sub .., unary_bufs_sub .., binary_bufs_sub .., binary_bufs_sub .., nullary_bufs_sub .., binary_bufs_sub .., reshape_bufs_sub .., nullary_bufs_sub .., binary_bufs_sub ..⟩

theorem l1o8_fresh : (l1o8 : List (HloOp τ sig (Elt F))).Forall fun op => op.fresh = ∅ := forall_fresh_of_map rfl

abbrev l1o9 : List (HloOp τ sig (Elt F)) :=
  ( TRef.unary (.of main_while1b_v134 : T S4x64x256) (.of main_while1b_call19_v0 : T S1x4x64x256) (broadcastInDim S1x4x64x256 ![1, 2, 3] bcast_S4x64x256_S1x4x64x256_1_2_3)
  :: TRef.nullary (.of main_while1b_call19_c : TRef sig ⟨S_, .i32⟩) (constantI S_ 32 0#32)
  :: TRef.nullary (.of main_while1b_call19_c_0 : TRef sig ⟨S_, .i32⟩) (constantI S_ 32 0#32)
  :: TRef.nullary (.of main_while1b_call19_c_1 : TRef sig ⟨S_, .i32⟩) (constantI S_ 32 0#32)
  :: TRef.binaryIndexed (.of main_v87_9 : T S32x4x64x256) (.of main_while1b_call19_v0 : T S1x4x64x256) ![(.of main_while1b_v123 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_v145 : T S32x4x64x256) (fun x u i => Host.dynamicUpdateSlice x u (fun k => (i k (Shape.Idx.first h_S_)).toInt) updateFits_S32x4x64x256_S1x4x64x256)
  :: [] )

theorem l1o9_sub : (l1o9 : List (HloOp τ sig (Elt F))).Forall fun op => op.bufs ⊆ tcRefs τ sig :=
  ⟨unary_bufs_sub .., nullary_bufs_sub .., nullary_bufs_sub .., nullary_bufs_sub .., binaryIndexed_bufs_sub ..⟩

theorem l1o9_fresh : (l1o9 : List (HloOp τ sig (Elt F))).Forall fun op => op.fresh = ∅ := forall_fresh_of_map rfl

abbrev l1o10 : List (HloOp τ sig (Elt F)) :=
  ( TRef.unary (.of main_while1b_v138 : T S4x64x256) (.of main_while1b_call20_v0 : T S1x4x64x256) (broadcastInDim S1x4x64x256 ![1, 2, 3] bcast_S4x64x256_S1x4x64x256_1_2_3)
  :: TRef.nullary (.of main_while1b_call20_c : TRef sig ⟨S_, .i32⟩) (constantI S_ 32 0#32)
  :: TRef.nullary (.of main_while1b_call20_c_0 : TRef sig ⟨S_, .i32⟩) (constantI S_ 32 0#32)
  :: TRef.nullary (.of main_while1b_call20_c_1 : TRef sig ⟨S_, .i32⟩) (constantI S_ 32 0#32)
  :: TRef.binaryIndexed (.of main_v87_10 : T S32x4x64x256) (.of main_while1b_call20_v0 : T S1x4x64x256) ![(.of main_while1b_v123 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v146 : T S32x4x64x256) (fun x u i => Host.dynamicUpdateSlice x u (fun k => (i k (Shape.Idx.first h_S_)).toInt) updateFits_S32x4x64x256_S1x4x64x256)
  :: [] )

theorem l1o10_sub : (l1o10 : List (HloOp τ sig (Elt F))).Forall fun op => op.bufs ⊆ tcRefs τ sig :=
  ⟨unary_bufs_sub .., nullary_bufs_sub .., nullary_bufs_sub .., nullary_bufs_sub .., binaryIndexed_bufs_sub ..⟩

theorem l1o10_fresh : (l1o10 : List (HloOp τ sig (Elt F))).Forall fun op => op.fresh = ∅ := forall_fresh_of_map rfl

abbrev l1o11 : List (HloOp τ sig (Elt F)) :=
  ( TRef.unary (.of main_while1b_v136 : T S4x64x512) (.of main_while1b_call21_v0 : T S1x4x64x512) (broadcastInDim S1x4x64x512 ![1, 2, 3] bcast_S4x64x512_S1x4x64x512_1_2_3)
  :: TRef.nullary (.of main_while1b_call21_c : TRef sig ⟨S_, .i32⟩) (constantI S_ 32 0#32)
  :: TRef.nullary (.of main_while1b_call21_c_0 : TRef sig ⟨S_, .i32⟩) (constantI S_ 32 0#32)
  :: TRef.nullary (.of main_while1b_call21_c_1 : TRef sig ⟨S_, .i32⟩) (constantI S_ 32 0#32)
  :: TRef.binaryIndexed (.of main_v87_11 : T S32x4x64x512) (.of main_while1b_call21_v0 : T S1x4x64x512) ![(.of main_while1b_v123 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v147 : T S32x4x64x512) (fun x u i => Host.dynamicUpdateSlice x u (fun k => (i k (Shape.Idx.first h_S_)).toInt) updateFits_S32x4x64x512_S1x4x64x512)
  :: [] )

theorem l1o11_sub : (l1o11 : List (HloOp τ sig (Elt F))).Forall fun op => op.bufs ⊆ tcRefs τ sig :=
  ⟨unary_bufs_sub .., nullary_bufs_sub .., nullary_bufs_sub .., nullary_bufs_sub .., binaryIndexed_bufs_sub ..⟩

theorem l1o11_fresh : (l1o11 : List (HloOp τ sig (Elt F))).Forall fun op => op.fresh = ∅ := forall_fresh_of_map rfl

abbrev l1o12 : List (HloOp τ sig (Elt F)) :=
  ( TRef.unary (.of main_while1b_v144 : T S4x256) (.of main_while1b_call22_v0 : T S1x4x256) (broadcastInDim S1x4x256 ![1, 2] bcast_S4x256_S1x4x256_1_2)
  :: TRef.nullary (.of main_while1b_call22_c : TRef sig ⟨S_, .i32⟩) (constantI S_ 32 0#32)
  :: TRef.nullary (.of main_while1b_call22_c_0 : TRef sig ⟨S_, .i32⟩) (constantI S_ 32 0#32)
  :: TRef.binaryIndexed (.of main_v87_12 : T S32x4x256) (.of main_while1b_call22_v0 : T S1x4x256) ![(.of main_while1b_v123 : TRef sig ⟨S_, .i32⟩), (.of main_while1b_call22_c : TRef sig ⟨S_, .i32⟩), (.of main_while1b_call22_c_0 : TRef sig ⟨S_, .i32⟩)] (.of main_while1b_v148 : T S32x4x256) (fun x u i => Host.dynamicUpdateSlice x u (fun k => (i k (Shape.Idx.first h_S_)).toInt) updateFits_S32x4x256_S1x4x256)
  :: [] )

theorem l1o12_sub : (l1o12 : List (HloOp τ sig (Elt F))).Forall fun op => op.bufs ⊆ tcRefs τ sig :=
  ⟨unary_bufs_sub .., nullary_bufs_sub .., nullary_bufs_sub .., binaryIndexed_bufs_sub ..⟩

theorem l1o12_fresh : (l1o12 : List (HloOp τ sig (Elt F))).Forall fun op => op.fresh = ∅ := forall_fresh_of_map rfl

abbrev l1o13 : List (HloOp τ sig (Elt F)) :=
  ( nullary main_while1b_c_44 (constantI S_ 32 1#32)
  :: binary main_v87_7 main_while1b_c_44 main_while1b_v149 (addi : (⟨S_, .i32⟩ : BufTy).Contents (Elt F) → (⟨S_, .i32⟩ : BufTy).Contents (Elt F) → (⟨S_, .i32⟩ : BufTy).Contents (Elt F))
  :: unary main_while1b_v149 main_v87_7 id
  :: unary main_while1b_v140 main_v87_8 id
  :: unary main_while1b_v145 main_v87_9 id
  :: unary main_while1b_v146 main_v87_10 id
  :: unary main_while1b_v147 main_v87_11 id
  :: unary main_while1b_v148 main_v87_12 id
  :: [] )

theorem l1o13_sub : (l1o13 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩

theorem l1o13_fresh : (l1o13 : List (HloOp τ sig (Elt F))).Forall fun op => op.fresh = ∅ := forall_fresh_of_map rfl

/-- The stretches of phase L1, the operations in one list, and the references they write, in order. -/
abbrev pL1 : List (List (HloOp τ sig (Elt F))) := [l1o0, l1o1, l1o2, l1o3, l1o4, l1o5, l1o6, l1o7, l1o8, l1o9, l1o10, l1o11, l1o12, l1o13]

abbrev fL1 : List (HloOp τ sig (Elt F)) := List.flatten pL1

abbrev wL1 : List (Ref sig .tc) := [main_while1b_c_40, main_while1b_v122, main_while1b_c_41, main_while1b_v123, main_while1b_call12_c, main_while1b_call12_c_0, main_while1b_call12_c_1, main_while1b_call12_v0, main_while1b_v124, main_while1b_call13_c, main_while1b_call13_c_0, main_while1b_call13_c_1, main_while1b_call13_v0, main_while1b_v125, main_while1b_call14_c, main_while1b_call14_c_0, main_while1b_call14_c_1, main_while1b_call14_v0, main_while1b_v126, main_while1b_call15_c, main_while1b_call15_c_0, main_while1b_call15_c_1, main_while1b_call15_v0, main_while1b_v127, main_while1b_call16_c, main_while1b_call16_c_0, main_while1b_call16_c_1, main_while1b_call16_v0, main_while1b_v128, main_while1b_call17_c, main_while1b_call17_c_0, main_while1b_call17_c_1, main_while1b_call17_v0, main_while1b_v129, main_while1b_call18_c, main_while1b_call18_c_0, main_while1b_call18_c_1, main_while1b_call18_v0, main_while1b_v130, main_while1b_v131, main_while1b_v132, main_while1b_v133, main_while1b_v134, main_while1b_v135, main_while1b_v136, main_while1b_v137, main_while1b_v138, main_while1b_v139, main_while1b_v140, main_while1b_v141, main_while1b_cst_42, main_while1b_v142, main_while1b_v143, main_while1b_cst_43, main_while1b_v144, main_while1b_call19_v0, main_while1b_call19_c, main_while1b_call19_c_0, main_while1b_call19_c_1, main_while1b_v145, main_while1b_call20_v0, main_while1b_call20_c, main_while1b_call20_c_0, main_while1b_call20_c_1, main_while1b_v146, main_while1b_call21_v0, main_while1b_call21_c, main_while1b_call21_c_0, main_while1b_call21_c_1, main_while1b_v147, main_while1b_call22_v0, main_while1b_call22_c, main_while1b_call22_c_0, main_while1b_v148, main_while1b_c_44, main_while1b_v149, main_v87_7, main_v87_8, main_v87_9, main_v87_10, main_v87_11, main_v87_12]

theorem wL1_eq : (fL1 : List (HloOp τ sig (Elt F))).map HloOp.writes = wL1.map fun r => {Proc.devRef (τ := τ) .tc r} := rfl

theorem pL1_plain : Plain (pL1 (F := F)) :=
  .cons l1o0_sub (hf := List.forall_iff_forall_mem.mp l1o0_fresh) (.cons l1o1_sub (hf := List.forall_iff_forall_mem.mp l1o1_fresh) (.cons l1o2_sub (hf := List.forall_iff_forall_mem.mp l1o2_fresh) (.cons l1o3_sub (hf := List.forall_iff_forall_mem.mp l1o3_fresh) (.cons l1o4_sub (hf := List.forall_iff_forall_mem.mp l1o4_fresh) (.cons l1o5_sub (hf := List.forall_iff_forall_mem.mp l1o5_fresh) (.cons l1o6_sub (hf := List.forall_iff_forall_mem.mp l1o6_fresh) (.cons l1o7_sub (hf := List.forall_iff_forall_mem.mp l1o7_fresh) (.cons l1o8_sub (hf := List.forall_iff_forall_mem.mp l1o8_fresh) (.cons l1o9_sub (hf := List.forall_iff_forall_mem.mp l1o9_fresh) (.cons l1o10_sub (hf := List.forall_iff_forall_mem.mp l1o10_fresh) (.cons l1o11_sub (hf := List.forall_iff_forall_mem.mp l1o11_fresh) (.cons l1o12_sub (hf := List.forall_iff_forall_mem.mp l1o12_fresh) (.cons l1o13_sub (hf := List.forall_iff_forall_mem.mp l1o13_fresh) (.nil))))))))))))))

theorem main_part0_chain (c : Dev nD) : main_part0 (F := F) c = (Pipeline.chainK
  [ seq oA0,
    seq oA1,
    seq oA2,
    seq oA3,
    seq oA4,
    HostLoop.enter 0 ]
  (seq oB0) : Prog _ PUnit) := by
  rewrite [chainK_seq_cons, Pipeline.chainK_cons, chainK_seq_cons, Pipeline.chainK_cons, chainK_seq_cons, Pipeline.chainK_cons]
  chain_rfl

theorem main_part1_chain (c : Dev nD) : main_part1 (F := F) c = (Pipeline.chainK
  [ seq oB1,
    seq oB2,
    seq oB3,
    seq oB4 ]
  (seq oB5) : Prog _ PUnit) := by
  rewrite [chainK_seq_cons, Pipeline.chainK_cons, chainK_seq_cons, Pipeline.chainK_cons]
  chain_rfl

theorem main_part2_chain (c : Dev nD) : main_part2 (F := F) c = (Pipeline.chain
  [ seq oB6,
    HostLoop.enter 1,
    seq oC0,
    seq oC1,
    seq oC2,
    seq oC3,
    seq oC4 ] : Prog _ PUnit) := by
  rewrite [chain_seq_cons, Pipeline.chain_cons, chain_seq_cons, Pipeline.chain_cons, chain_seq_cons, Pipeline.chain_cons, chain_seq_cons]
  chain_rfl

theorem main_chain (c : Dev nD) : main (F := F) c = (Pipeline.chain
  [ seq oA0,
    seq oA1,
    seq oA2,
    seq oA3,
    seq oA4,
    HostLoop.enter 0,
    seq oB0,
    seq oB1,
    seq oB2,
    seq oB3,
    seq oB4,
    seq oB5,
    seq oB6,
    HostLoop.enter 1,
    seq oC0,
    seq oC1,
    seq oC2,
    seq oC3,
    seq oC4 ] : Prog _ PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

theorem while0_body_chain : main_while0_body (F := F) = (Pipeline.chain
  [ seq l0o0,
    seq l0o1,
    seq l0o2,
    seq l0o3,
    seq l0o4,
    seq l0o5,
    seq l0o6,
    seq l0o7,
    seq l0o8,
    seq l0o9 ] : Prog _ PUnit) := by
  rewrite [Pipeline.chain_cons, Pipeline.chain_cons, Pipeline.chain_cons, Pipeline.chain_cons, chain_seq_cons, Pipeline.chain_cons, Pipeline.chain_cons, Pipeline.chain_cons, Pipeline.chain_cons, chain_seq_cons]
  chain_rfl

theorem while1_body_chain : main_while1_body (F := F) = (Pipeline.chain
  [ seq l1o0,
    seq l1o1,
    seq l1o2,
    seq l1o3,
    seq l1o4,
    seq l1o5,
    seq l1o6,
    seq l1o7,
    seq l1o8,
    seq l1o9,
    seq l1o10,
    seq l1o11,
    seq l1o12,
    seq l1o13 ] : Prog _ PUnit) := by
  rewrite [chain_seq_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, chain_seq_cons]
  chain_rfl

end Cert.ReferenceIdeal.Steps

end
-- ==== Proof.RefRun.lean ====
/-
  The reference program's run. The contents of every buffer are followed through the five phases (before the first loop,
  the first loop, between the loops, the second loop, after it); the two trip counters decide the loops' conditions; and
  the run ends with each buffer at the last phase's contents and the arguments unchanged.
-/
module

public import proofs.«01_k».proof.Proof.RefOps
public import Idealize.ShloMosaic.Lib.StableHlo.RunRead
public import Idealize.ShloMosaic.Lib.Scf.ExitTest
public import Idealize.ShloMosaic.Lib.Scf.Counter
public import Idealize.ShloMosaic.Lib.Quiescent

@[expose] public section

set_option maxRecDepth 16384

noncomputable section

namespace Cert.ReferenceIdeal.Steps

open Cert.ReferenceIdeal Cert.ReferenceIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-! ## Reading one operation of a list in which each buffer is written once -/

section Single

variable {τ : Topo} {sig : RefSig} {Val : EltTy → Type}
variable {ops : List (HloOp τ sig Val)} {W : List (Ref sig .tc)}

theorem writes_drop (h : ops.map HloOp.writes = W.map fun r => {Proc.devRef (τ := τ) .tc r}) (i : ℕ) :
    (ops.drop i).Forall fun op => op.writes ⊆ ((W.drop i).map (Proc.devRef (τ := τ) .tc)).toFinset :=
  forall_writes_sub_of_map (by rw [List.map_drop, h, List.map_drop])

theorem writes_take (h : ops.map HloOp.writes = W.map fun r => {Proc.devRef (τ := τ) .tc r}) (i : ℕ) :
    (ops.take i).Forall fun op => op.writes ⊆ ((W.take i).map (Proc.devRef (τ := τ) .tc)).toFinset :=
  forall_writes_sub_of_map (by rw [List.map_take, h, List.map_take])

theorem after_split (a b : List (HloOp τ sig Val)) (V : Valuation τ sig Val) : after (a ++ b) V = after b (after a V) := by
  induction a generalizing V with
  | nil => rfl
  | cons x a ih => exact ih _

/-- A buffer not written from operation `i` on has its last contents already there. -/
theorem read_last (h : ops.map HloOp.writes = W.map fun r => {Proc.devRef (τ := τ) .tc r}) (V : Valuation τ sig Val) (i : ℕ)
    {r : Ref sig .tc} (hr : r ∉ W.drop i) : after (ops.take i) V (Proc.devRef .tc r) = after ops V (Proc.devRef .tc r) := by
  conv_rhs => rw [← List.take_append_drop i ops, after_split]
  exact (after_of_writes_sub _ _ (writes_drop h i) hr).symm

/-- A buffer not written before operation `i` has its first contents still. -/
theorem read_first (h : ops.map HloOp.writes = W.map fun r => {Proc.devRef (τ := τ) .tc r}) (V : Valuation τ sig Val) (i : ℕ)
    {r : Ref sig .tc} (hr : r ∉ W.take i) : after (ops.take i) V (Proc.devRef .tc r) = V (Proc.devRef .tc r) :=
  after_of_writes_sub _ _ (writes_take h i) hr

/-- A buffer no operation of the list writes. -/
theorem read_kept (h : ops.map HloOp.writes = W.map fun r => {Proc.devRef (τ := τ) .tc r}) (V : Valuation τ sig Val)
    {r : Ref sig .tc} (hr : r ∉ W) : after ops V (Proc.devRef .tc r) = V (Proc.devRef .tc r) :=
  after_of_writes_sub _ _ (forall_writes_sub_of_map h) hr

/-- The contents operation `i` leaves, when no later operation writes its buffer. -/
theorem read_op (h : ops.map HloOp.writes = W.map fun r => {Proc.devRef (τ := τ) .tc r}) (V : Valuation τ sig Val) (i : ℕ)
    {op : HloOp τ sig Val} (hop : ops[i]? = some op) {r : Ref sig .tc} (hr : r ∉ W.drop (i + 1)) :
    after ops V (Proc.devRef .tc r) = op.result (after (ops.take i) V) (Proc.devRef .tc r) := by
  have hs : ops = ops.take i ++ (op :: ops.drop (i + 1)) := by
    obtain ⟨hi, he⟩ := List.getElem?_eq_some_iff.mp hop
    rw [← he, List.getElem_cons_drop, List.take_append_drop]
  conv_lhs => rw [hs, after_split]
  exact after_of_writes_sub _ _ (writes_drop h (i + 1)) hr

end Single

variable {F : FTy → Type} [FloatOps F]

/-! ## The phases -/

abbrev cond0 : List (HloOp τ sig (Elt F)) :=
  [ nullary main_while0c_c_37 (constantI S_ 32 32#32), binary main_v35_4 main_while0c_c_37 main_while0c_v122 (cmpi .slt) ]
abbrev cond1 : List (HloOp τ sig (Elt F)) :=
  [ nullary main_while1c_c_40 (constantI S_ 32 32#32), binary main_v87_7 main_while1c_c_40 main_while1c_v122 (cmpi .slt) ]
abbrev wcond0 : List (Ref sig .tc) := [main_while0c_c_37, main_while0c_v122]
abbrev wcond1 : List (Ref sig .tc) := [main_while1c_c_40, main_while1c_v122]
theorem wcond0_eq : (cond0 : List (HloOp τ sig (Elt F))).map HloOp.writes = wcond0.map fun r => {Proc.devRef (τ := τ) .tc r} := rfl
theorem wcond1_eq : (cond1 : List (HloOp τ sig (Elt F))).map HloOp.writes = wcond1.map fun r => {Proc.devRef (τ := τ) .tc r} := rfl

variable (m : (ℓ : Loc nD τ sig) → Buf (Elt F) ℓ) (ρ : Dev nD → PrngReg)

/-- The contents before the first loop; before its `k`-th condition; after it; the same for the second loop; at the end. -/
def E0 (c : Dev nD) : Valuation τ sig (Elt F) := afterL pA (launchContents m c)
def T0 (k : ℕ) (c : Dev nD) : Valuation τ sig (Elt F) := atTrip cond0 pL0 (E0 m) k c
def X0 (c : Dev nD) : Valuation τ sig (Elt F) := after cond0 (T0 m 32 c)
def E1 (c : Dev nD) : Valuation τ sig (Elt F) := afterL pB (X0 m c)
def T1 (k : ℕ) (c : Dev nD) : Valuation τ sig (Elt F) := atTrip cond1 pL1 (E1 m) k c
def X1 (c : Dev nD) : Valuation τ sig (Elt F) := after cond1 (T1 m 32 c)
def Zf (c : Dev nD) : Valuation τ sig (Elt F) := afterL pC (X1 m c)

theorem E0_eq (c : Dev nD) : E0 m c = after fA (launchContents m c) := afterL_eq_after_flatten _ _
theorem E1_eq (c : Dev nD) : E1 m c = after fB (X0 m c) := afterL_eq_after_flatten _ _
theorem Zf_eq (c : Dev nD) : Zf m c = after fC (X1 m c) := afterL_eq_after_flatten _ _
theorem T0_zero (c : Dev nD) : T0 m 0 c = E0 m c := rfl
theorem T1_zero (c : Dev nD) : T1 m 0 c = E1 m c := rfl
theorem T0_succ (k : ℕ) (c : Dev nD) : T0 m (k + 1) c = after fL0 (after cond0 (T0 m k c)) := afterL_eq_after_flatten _ _
theorem T1_succ (k : ℕ) (c : Dev nD) : T1 m (k + 1) c = after fL1 (after cond1 (T1 m k c)) := afterL_eq_after_flatten _ _

/-! ## The counters -/

theorem ctr0_step (V : Valuation τ sig (Elt F)) :
    after fL0 V (Proc.devRef .tc main_v35_4) = addi (V (Proc.devRef .tc main_v35_4)) (constantI S_ 32 1#32) := by
  rw [read_op wL0_eq V 47 rfl (by decide +kernel), unary_result, read_last wL0_eq V 47 (by decide +kernel),
    read_op wL0_eq V 46 rfl (by decide +kernel), binary_result, read_first wL0_eq V 46 (by decide +kernel),
    read_last wL0_eq V 46 (by decide +kernel), read_op wL0_eq V 45 rfl (by decide +kernel), nullary_result]
  rfl

theorem ctr1_step (V : Valuation τ sig (Elt F)) :
    after fL1 V (Proc.devRef .tc main_v87_7) = addi (V (Proc.devRef .tc main_v87_7)) (constantI S_ 32 1#32) := by
  rw [read_op wL1_eq V 76 rfl (by decide +kernel), unary_result, read_last wL1_eq V 76 (by decide +kernel),
    read_op wL1_eq V 75 rfl (by decide +kernel), binary_result, read_first wL1_eq V 75 (by decide +kernel),
    read_last wL1_eq V 75 (by decide +kernel), read_op wL1_eq V 74 rfl (by decide +kernel), nullary_result]
  rfl

theorem ctr0_entry (c : Dev nD) : E0 m c (Proc.devRef .tc main_v35_4) = fun _ => (0#32 : BitVec 32) := by
  rw [E0_eq, read_op wA_eq _ 96 rfl (by decide +kernel), unary_result, read_last wA_eq _ 96 (by decide +kernel),
    read_op wA_eq _ 91 rfl (by decide +kernel), nullary_result]
  rfl

theorem ctr1_entry (c : Dev nD) : E1 m c (Proc.devRef .tc main_v87_7) = fun _ => (0#32 : BitVec 32) := by
  rw [E1_eq, read_op wB_eq _ 89 rfl (by decide +kernel), unary_result, read_last wB_eq _ 89 (by decide +kernel),
    read_op wB_eq _ 81 rfl (by decide +kernel), nullary_result]
  rfl

theorem ctr0_at (c : Dev nD) : ∀ k, T0 m k c (Proc.devRef .tc main_v35_4) = fun _ => Scf.iv 0#32 1#32 k
  | 0 => by rw [T0_zero, ctr0_entry, Scf.iv_zero]
  | k + 1 => by
    rw [T0_succ, ctr0_step, read_kept wcond0_eq _ (by decide +kernel), ctr0_at c k, Scf.iv_succ]
    rfl

theorem ctr1_at (c : Dev nD) : ∀ k, T1 m k c (Proc.devRef .tc main_v87_7) = fun _ => Scf.iv 0#32 1#32 k
  | 0 => by rw [T1_zero, ctr1_entry, Scf.iv_zero]
  | k + 1 => by
    rw [T1_succ, ctr1_step, read_kept wcond1_eq _ (by decide +kernel), ctr1_at c k, Scf.iv_succ]
    rfl

/-! ## The run -/

local notation "𝕄" => MT nD τ sig Unit (Elt F) ℕ (Option PUnit) ℕ

abbrev padm : (p : Fin 0) → ((pcfgs (F := F)) p).Adm := fun p => p.elim0
abbrev ptk : Fin 0 → Pipeline.Ticket (Ix := Unit) (Name := ℕ) (U := Option PUnit) (Lvl := ℕ) (nD := nD) (τ := τ) (pcfgs (F := F)) padm := fun j => j.elim0
abbrev plv0 : GSem nD τ sig → Finset Unit := fun _ => ∅
abbrev plv : GSem nD τ sig → Unit → ℕ := fun _ _ => 0

theorem pinj : Function.Injective (Pipeline.cellOf (nD := nD) (τ := τ) (Pipeline.pin (pcfgs (F := F)) padm)) := fun k => k.1.elim0

/-- What rides beside the buffers. -/
abbrev Rw (c : Dev nD) : sProp 𝕄 := iprop(∃ W, owes (c : Thread nD τ) (0 : CellTallies nD τ sig Unit) W)

set_option backward.isDefEq.respectTransparency.types false in
/-- The first loop's condition holds exactly before the 32nd trip. -/
theorem loop0_cond : LoopCond (pcfgs (F := F)) defs₀ Variants.none loops Rw (main_while0_cond (F := F)) cond0 pL0 (E0 m) 32 := by
  intro k hk c bd
  have hctr := ctr0_at m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v35_4 HostLoop.idx0)
        (HloOp.result _ (T0 m k c) main_while0c_c_37 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

set_option backward.isDefEq.respectTransparency.types false in
/-- The second loop's condition holds exactly before the 32nd trip. -/
theorem loop1_cond : LoopCond (pcfgs (F := F)) defs₀ Variants.none loops Rw (main_while1_cond (F := F)) cond1 pL1 (E1 m) 32 := by
  intro k hk c bd
  have hctr := ctr1_at m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v87_7 HostLoop.idx0)
        (HloOp.result _ (T1 m k c) main_while1c_c_40 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

abbrev seg0 := loopSeg (Name := ℕ) (U := Option PUnit) (Lvl := ℕ) (pcfgs (F := F)) padm defs₀ Variants.none plv0 plv loops ptk 0 main_while0_cond main_while0_body rfl
  cond0 pL0 pL0_plain (by rw [while0_body_chain]; rfl) 32 (E0 m) Rw (loop0_cond m)
abbrev seg1 := loopSeg (Name := ℕ) (U := Option PUnit) (Lvl := ℕ) (pcfgs (F := F)) padm defs₀ Variants.none plv0 plv loops ptk 1 main_while1_cond main_while1_body rfl
  cond1 pL1 pL1_plain (by rw [while1_body_chain]; rfl) 32 (E1 m) Rw (loop1_cond m)

/-- The program as segments: three runs of operations around the two loops. -/
def segs : List (Pipeline.CSeg (pcfgs (F := F)) padm defs₀ Variants.none plv0 plv loops ptk) :=
  segsOf _ _ _ _ _ _ _ _ Rw pA pA_plain (launchContents m)
    ++ seg0 m :: (segsOf _ _ _ _ _ _ _ _ Rw pB pB_plain (X0 m) ++ seg1 m :: segsOf _ _ _ _ _ _ _ _ Rw pC pC_plain (X1 m))

theorem segs_prog : (segs m).map Pipeline.CSeg.prog
    = (pA.map fun ops => (seq ops : Prog _ PUnit)) ++ HostLoop.enter 0 :: ((pB.map fun ops => (seq ops : Prog _ PUnit))
      ++ HostLoop.enter 1 :: pC.map fun ops => (seq ops : Prog _ PUnit)) := by
  unfold segs
  rw [List.map_append, List.map_cons, List.map_append, List.map_cons, segsOf_prog, segsOf_prog, segsOf_prog]
  rfl

theorem main_items (c : Dev nD) : main (F := F) c = Pipeline.chain
    ((pA.map fun ops => (seq ops : Prog _ PUnit)) ++ HostLoop.enter 0 :: ((pB.map fun ops => (seq ops : Prog _ PUnit))
      ++ HostLoop.enter 1 :: pC.map fun ops => (seq ops : Prog _ PUnit))) := by
  rw [main_chain c]
  rfl

theorem segs_chains : Pipeline.CSeg.Chains (fun c => iprop(held (c : Thread nD τ) (ucRefs τ sig) (launchContents m c) ∗ Rw c)) (segs m)
    (fun c => iprop(iprop(held (c : Thread nD τ) (ucRefs τ sig) (Zf m c)) ∗ ∃ W, owes (c : Thread nD τ) (0 : CellTallies nD τ sig Unit) W)) := by
  unfold segs
  exact Pipeline.CSeg.Chains.append (segsOf_chains _ _ _ _ _ _ _ _ Rw pA pA_plain _)
    ⟨fun _ => .rfl, Pipeline.CSeg.Chains.append (segsOf_chains _ _ _ _ _ _ _ _ Rw pB pB_plain _)
      ⟨fun _ => .rfl, segsOf_chains _ _ _ _ _ _ _ _ Rw pC pC_plain _⟩⟩

/-- Every weakly fair execution terminates, each unscoped buffer at the last phase's contents. -/
theorem run_all : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Zf m c (Proc.devRef .tc b)) :=
  Pipeline.θ_run_regions_loop_kit (Ix := Unit) (Name := ℕ) (U := Option PUnit) (Lvl := ℕ) (J := Fin 0) (P := Fin 0) (Val := Elt F)
    (pcfgs (F := F)) padm pinj defs₀ Variants.none plv0 plv loops ptk m ρ main (segs m)
    (fun c Q => by
      rw [main_items c]
      unfold Pipeline.CSeg.runL
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Zf m c)))
    (hch := segs_chains m)
    (hinit := by
      refine Pipeline.initEach plv0 plv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Zf m c b)
    (hfin := fun c s' => by
      unfold held
      iintro ⟨Hh, HSI⟩
      ihave Hr := (pointsTo_read_all (ucRefs τ sig) (fun b => ((c : Dev nD), b)) (fun b => Zf m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## What a phase leaves alone -/

theorem E0_kept (c : Dev nD) {r : Ref sig .tc} (h : r ∉ wA) : E0 m c (Proc.devRef .tc r) = launchContents m c (Proc.devRef .tc r) := by
  rw [E0_eq, read_kept wA_eq _ h]
theorem T0_kept (c : Dev nD) {r : Ref sig .tc} (h : r ∉ wcond0 ++ wL0) : ∀ k, T0 m k c (Proc.devRef .tc r) = E0 m c (Proc.devRef .tc r)
  | 0 => rfl
  | k + 1 => by
    rw [T0_succ, read_kept wL0_eq _ (fun hr => h (List.mem_append_right _ hr)),
      read_kept wcond0_eq _ (fun hr => h (List.mem_append_left _ hr)), T0_kept c h k]
theorem X0_kept (c : Dev nD) {r : Ref sig .tc} (h : r ∉ wcond0 ++ wL0) : X0 m c (Proc.devRef .tc r) = E0 m c (Proc.devRef .tc r) := by
  rw [X0, read_kept wcond0_eq _ (fun hr => h (List.mem_append_left _ hr)), T0_kept m c h]
theorem E1_kept (c : Dev nD) {r : Ref sig .tc} (h : r ∉ wB) : E1 m c (Proc.devRef .tc r) = X0 m c (Proc.devRef .tc r) := by
  rw [E1_eq, read_kept wB_eq _ h]
theorem T1_kept (c : Dev nD) {r : Ref sig .tc} (h : r ∉ wcond1 ++ wL1) : ∀ k, T1 m k c (Proc.devRef .tc r) = E1 m c (Proc.devRef .tc r)
  | 0 => rfl
  | k + 1 => by
    rw [T1_succ, read_kept wL1_eq _ (fun hr => h (List.mem_append_right _ hr)),
      read_kept wcond1_eq _ (fun hr => h (List.mem_append_left _ hr)), T1_kept c h k]
theorem X1_kept (c : Dev nD) {r : Ref sig .tc} (h : r ∉ wcond1 ++ wL1) : X1 m c (Proc.devRef .tc r) = E1 m c (Proc.devRef .tc r) := by
  rw [X1, read_kept wcond1_eq _ (fun hr => h (List.mem_append_left _ hr)), T1_kept m c h]
theorem Zf_kept (c : Dev nD) {r : Ref sig .tc} (h : r ∉ wC) : Zf m c (Proc.devRef .tc r) = X1 m c (Proc.devRef .tc r) := by
  rw [Zf_eq, read_kept wC_eq _ h]

/-- A reference nothing writes ends as launched. -/
theorem Zf_untouched (c : Dev nD) {r : Ref sig .tc} (h : r ∉ wA ++ (wcond0 ++ wL0) ++ wB ++ (wcond1 ++ wL1) ++ wC) :
    Zf m c (Proc.devRef .tc r) = m ((c.tc : Thread nD τ).loc r) := by
  simp only [List.mem_append, not_or] at h
  obtain ⟨⟨⟨⟨ha, h0, h0'⟩, hb⟩, h1, h1'⟩, hc⟩ := h
  rw [Zf_kept m c hc, X1_kept m c (by simp only [List.mem_append, not_or]; exact ⟨h1, h1'⟩), E1_kept m c hb,
    X0_kept m c (by simp only [List.mem_append, not_or]; exact ⟨h0, h0'⟩), E0_kept m c ha]

theorem args_untouched (c : Dev nD) : ∀ r ∈ [main_arg0, main_arg1, main_arg2, main_arg3, main_arg4],
    Zf m c (Proc.devRef .tc r) = m ((c.tc : Thread nD τ).loc r) := fun r hr =>
  Zf_untouched m c ((by decide +kernel : ∀ r ∈ [main_arg0, main_arg1, main_arg2, main_arg3, main_arg4],
    r ∉ wA ++ (wcond0 ++ wL0) ++ wB ++ (wcond1 ++ wL1) ++ wC) r hr)

/-- The frame: each argument as launched, every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h c _ rfl).trans (args_untouched m c _ (by decide)), (h c _ rfl).trans (args_untouched m c _ (by decide)),
      (h c _ rfl).trans (args_untouched m c _ (by decide)), (h c _ rfl).trans (args_untouched m c _ (by decide)),
      (h c _ rfl).trans (args_untouched m c _ (by decide))⟩, sem_eq_zero_of_no_sems rfl r.2⟩) (run_all m ρ)

end Cert.ReferenceIdeal.Steps

end
-- ==== Proof.MlpDz.lean ====
/- The gradient of the MLP's hidden layer: the kernel's result array as one function of the arrays, and the same of the reference. -/
module

public import proofs.«01_k».proof.Defs
public import proofs.«01_k».proof.Proof.Gen.Kernel2Ideal.Value
public import proofs.«01_k».proof.Proof.Gen.Reference2Ideal.Read
public import Idealize.ShloMosaic.Lib.Pointwise

@[expose] public section

set_option maxRecDepth 16384

noncomputable section

namespace Cert.Kernel2Ideal.Product

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What a block's payload holds at a row and a column. -/
theorem pay_apply (a b : S1024x2048.Idx → EReal) (z : S1024x1024.Idx → EReal) (p q : Fin 1024) :
    k0_pay1 (F := Ideal) a b z (ix2 p q)
      = (∑ k : Fin 2048, a (ix2 p k) * b (ix2 q k)) * Ideal.ofBits .f32 0x40000000#32 * max (z (ix2 p q)) 0 := by
  pointwise [k0_pay1]

theorem at_points : ∀ t : Fin cfg0.N,
    win0_0.index t 0 = win0_3.index t 0 ∧ win0_0.index t 1 = 0
    ∧ win0_1.index t 0 = win0_3.index t 1 ∧ win0_1.index t 1 = 0
    ∧ win0_2.index t 0 = win0_3.index t 0 ∧ win0_2.index t 1 = win0_3.index t 1 := by
  decide +kernel

/-- The arrays the kernel's windows read: the two factors in the product's format, and the layer's input. -/
theorem entry0 (c : Dev nD) (i : S2048x2048.Idx) : V m c main_v0 i = m ((c : Thread nD τ).loc main_arg2) i := by
  have h : V m c main_v0 = truncf (F := Ideal) .bf16 (m ((c : Thread nD τ).loc main_arg2)) bitsLt_bf16_f32 := by
    simp only [V, hostOps0]; after_results
  rw [h]; rfl

theorem entry1 (c : Dev nD) (i : S8192x2048.Idx) : V m c main_v1 i = m ((c : Thread nD τ).loc main_arg1) i := by
  have h : V m c main_v1 = truncf (F := Ideal) .bf16 (m ((c : Thread nD τ).loc main_arg1)) bitsLt_bf16_f32 := by
    simp only [V, hostOps0]; after_results
  rw [h]; rfl

/-- The product's array, with the activation's derivative applied, from the three arguments. -/
def dz (z : S2048x8192.Idx → EReal) (w : S8192x2048.Idx → EReal) (dh : S2048x2048.Idx → EReal) : S2048x8192.Idx → EReal :=
  fun i => (∑ k : Fin 2048, dh (ix2 (i 0) k) * w (ix2 (i 1) k)) * Ideal.ofBits .f32 0x40000000#32 * max (z i) 0

abbrev dzAt (c : Dev nD) : Buf (Elt Ideal) ((c : Thread nD τ).loc main_v2) :=
  dz (m ((c : Thread nD τ).loc main_arg0)) (m ((c : Thread nD τ).loc main_arg1)) (m ((c : Thread nD τ).loc main_arg2))

theorem flushed_eq (c : Dev nD) (t : Fin cfg0.N) :
    (dats m 0 c).flushed 3 t = (win0_3.blk t).view.read (Elt Ideal) (dzAt m c) := by
  rw [Value.flushed3]
  unfold out0_3
  rw [View.canon_unit_zero hz, View.ld_unit_zero hz, View.ld_unit_zero hz, View.ld_unit_zero hz]
  obtain ⟨h0, h1, h2, h3, h4, h5⟩ := at_points t
  funext y
  show k0_pay1 (F := Ideal) (iblk m c 0 t) (iblk m c 1 t) (iblk m c 2 t) y = dzAt m c ((win0_3.rect t).emb y)
  obtain ⟨p, q, rfl⟩ : ∃ p q : Fin 1024, y = ix2 p q := ⟨y 0, y 1, funext fun a => by fin_cases a <;> rfl⟩
  rw [pay_apply]
  have e0 : ((win0_3.rect t).emb (ix2 p q) 0 : Nat) = win0_3.index t 0 * 1024 + p := win0_3.rect_emb_val t (ix2 p q) 0
  have e1 : ((win0_3.rect t).emb (ix2 p q) 1 : Nat) = win0_3.index t 1 * 1024 + q := win0_3.rect_emb_val t (ix2 p q) 1
  have r0 : ∀ k : Fin 2048, iblk m c 0 t (ix2 p k) = m ((c : Thread nD τ).loc main_arg2) (ix2 ((win0_3.rect t).emb (ix2 p q) 0) k) := fun k => by
    refine (entry0 m c ((win0_0.rect t).emb (ix2 p k))).trans (congrArg _ (Shape.idx_ext₂ ?_ ?_))
    · rw [win0_0.rect_emb_val t (ix2 p k) 0, h0]; exact e0.symm
    · rw [win0_0.rect_emb_val t (ix2 p k) 1, h1]; exact (congrArg (· + k.val) (Nat.zero_mul _)).trans (Nat.zero_add _)
  have r1 : ∀ k : Fin 2048, iblk m c 1 t (ix2 q k) = m ((c : Thread nD τ).loc main_arg1) (ix2 ((win0_3.rect t).emb (ix2 p q) 1) k) := fun k => by
    refine (entry1 m c ((win0_1.rect t).emb (ix2 q k))).trans (congrArg _ (Shape.idx_ext₂ ?_ ?_))
    · rw [win0_1.rect_emb_val t (ix2 q k) 0, h2]; exact e1.symm
    · rw [win0_1.rect_emb_val t (ix2 q k) 1, h3]; exact (congrArg (· + k.val) (Nat.zero_mul _)).trans (Nat.zero_add _)
  have r2 : iblk m c 2 t (ix2 p q) = m ((c : Thread nD τ).loc main_arg0) ((win0_3.rect t).emb (ix2 p q)) := by
    refine (congrFun (V_main_arg0 m c) ((win0_2.rect t).emb (ix2 p q))).trans (congrArg _ (Shape.idx_ext₂ ?_ ?_))
    · rw [win0_2.rect_emb_val t (ix2 p q) 0, h4]; exact e0.symm
    · rw [win0_2.rect_emb_val t (ix2 p q) 1, h5]; exact e1.symm
  simp only [r0, r1, r2]
  rfl

/-- Every index of the result lies in some block. -/
theorem block_of : ∀ a : Fin 2, ∀ b : Fin 8, ∃ t : Fin cfg0.N, win0_3.index t 0 = a.val ∧ win0_3.index t 1 = b.val := by
  decide +kernel

theorem cover (i : S2048x8192.Idx) : ∃ t : Fin cfg0.N, (cfg0.win 3).flush t = true ∧ i ∈ ((cfg0.win 3).blk t).view.set := by
  have i0 : (i 0 : Nat) < 2048 := (i 0).isLt
  have i1 : (i 1 : Nat) < 8192 := (i 1).isLt
  obtain ⟨t, h0, h1⟩ := block_of ⟨(i 0 : Nat) / 1024, by omega⟩ ⟨(i 1 : Nat) / 1024, by omega⟩
  refine ⟨t, flush0_3 t, ?_⟩
  show i ∈ ((View.whole main_v2).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [h0]; dsimp only; omega
  | ⟨1, _⟩ =>
    show win0_3.index t 1 * 1024 ≤ (i 1 : Nat) ∧ (i 1 : Nat) < win0_3.index t 1 * 1024 + 1024
    rw [h1]; dsimp only; omega

/-- The kernel's result array after the run. -/
theorem final (c : Dev nD) : (dats m 0 c).arrAt 3 cfg0.N = dzAt m c :=
  (dats m 0 c).arrAt_eq_of_cover 3 (dzAt m c) (fun t _ => flushed_eq m c t) cover

end Cert.Kernel2Ideal.Product

namespace Cert.Reference2Ideal.Product

open Cert.Reference2Ideal Cert.Reference2Ideal.Gen Cert.Reference2Ideal.Read Idealize.ShloMosaic Idealize.ShloMosaic.TcCoe Idealize.SL.Sem

theorem two : Ideal.ofBits .f32 0x40000000#32 = 2 := by
  rw [show (2 : EReal) = ((2 : ℝ) : EReal) by norm_cast]
  simp [Ideal.ofBits, Ideal.ieee, -EReal.coe_mul]; norm_num

/-- Twice the positive part, as the kernel has it, and the sum that differentiation leaves. -/
theorem square_slope (a z : EReal) : a * 2 * max z 0 = if 0 < z then max z 0 * a + a * max z 0 else 0 := by
  split
  · rw [mul_right_comm, mul_comm (max z 0) a, ← one_add_one_eq_two, EReal.left_distrib_of_nonneg zero_le_one zero_le_one, mul_one]
  · rename_i h; rw [max_eq_right (not_lt.mp h), mul_zero]

theorem dz_eq (z : S2048x8192.Idx → EReal) (w : S8192x2048.Idx → EReal) (dh : S2048x2048.Idx → EReal) :
    val_main_v12 (F := Ideal) z w dh = Cert.Kernel2Ideal.Product.dz z w dh := by
  funext i
  have hl : ∀ k, lidx_main_v6 i k = ix2 (i 0) k := fun k => funext fun a => by fin_cases a <;> rfl
  have hr : ∀ k, ridx_main_v6 i k = ix2 (i 1) k := fun k => funext fun a => by fin_cases a <;> rfl
  simp only [val_main_v12_apply, val_main_v11_apply, val_main_v2_apply, val_main_v9_apply, val_main_v7_apply, val_main_v8_apply,
    val_main_v0_apply, val_main_v1_apply, val_main_v10_apply, val_main_call0_v0_apply, val_main_call0_cst_apply, val_main_cst_apply,
    val_main_cst_1_apply, val_main_v6_apply, hl, hr]
  simp only [pointwise]
  unfold Cert.Kernel2Ideal.Product.dz
  rw [two, square_slope]
  exact if_congr Iff.rfl rfl rfl

end Cert.Reference2Ideal.Product

namespace Cert.Proof.MlpDz

open Idealize.ShloMosaic Idealize.ShloMosaic.TcCoe Idealize.SL.Sem

/-- The kernel and the reference leave the same array. -/
theorem same : Cert.algebraic_Kernel2Ideal_Reference2Ideal := fun m g m' g' _ hag =>
  ⟨fun c => Cert.Kernel2Ideal.Product.dzAt m c,
    (θ_run Cert.Kernel2Ideal.defs _ _).mono
      (fun _ h c => ⟨(h c).1.trans (Cert.Kernel2Ideal.Product.final m c), (h c).2⟩) (Cert.Kernel2Ideal.Value.run_blocks m g),
    (θ_run Cert.Reference2Ideal.defs _ _).mono
      (fun _ h c => ⟨(h c).1.trans (by
        rw [Cert.Reference2Ideal.Read.val_main_v12_eq, Cert.Reference2Ideal.Product.dz_eq, (hag c).1, (hag c).2.1, (hag c).2.2]), (h c).2⟩)
      (Cert.Reference2Ideal.Value.run m' g')⟩

end Cert.Proof.MlpDz
-- ==== Proof.Dot.lean ====
/- A product's element is one sum; two such sums are equal when their factors are. -/
module

public import Idealize.ShloMosaic.Lib.Pointwise
public import Idealize.ShloMosaic.Lib.Pipeline.ValueKit.Geometry
public import Idealize.ShloMosaic.Lib.Pipeline.ValueKit.Acc

@[expose] public section

namespace Cert.Proof

/-- Equal factors give equal sums. -/
theorem dot_congr {n : ℕ} {f g f' g' : Fin n → EReal} (hf : ∀ k, f k = f' k) (hg : ∀ k, g k = g' k) :
    ∑ k, f k * g k = ∑ k, f' k * g' k :=
  Finset.sum_congr rfl fun k _ => congrArg₂ (· * ·) (hf k) (hg k)

/-- The same with the factors in the other order. -/
theorem dot_swap {n : ℕ} {f g f' g' : Fin n → EReal} (hf : ∀ k, f k = f' k) (hg : ∀ k, g k = g' k) :
    ∑ k, g k * f k = ∑ k, f' k * g' k :=
  Finset.sum_congr rfl fun k _ => (mul_comm _ _).trans (congrArg₂ (· * ·) (hf k) (hg k))

end Cert.Proof
-- ==== Proof.MlpDwDown.lean ====
/- The gradient of the MLP's second weight: the squared positive part of the layer against the incoming gradient. -/
module

public import proofs.«01_k».proof.Defs
public import proofs.«01_k».proof.Proof.Gen.Kernel3Ideal.Value
public import proofs.«01_k».proof.Proof.Gen.Reference3Ideal.Read
public import proofs.«01_k».proof.Proof.Dot

@[expose] public section

set_option maxRecDepth 16384

noncomputable section

namespace Cert.Kernel3Ideal.Product

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What a block's payload holds at a row and a column: columns of the two blocks, multiplied and summed. -/
theorem pay_apply (a b : S2048x1024.Idx → EReal) (p q : Fin 1024) :
    k0_pay1 (F := Ideal) a b (ix2 p q) = ∑ k : Fin 2048, a (ix2 k p) * b (ix2 k q) := by
  pointwise [k0_pay1]

theorem at_points : ∀ t : Fin cfg0.N, win0_0.index t = ![0, win0_2.index t 0] ∧ win0_1.index t = ![0, win0_2.index t 1] := by
  decide +kernel

/-- The layer's activation: the positive part, squared. -/
def sq (x : EReal) : EReal := max x 0 * max x 0

/-- The arrays the kernel's windows read: the activation, made on the host, and the incoming gradient. -/
theorem entry0 (c : Dev nD) (i : S2048x8192.Idx) :
    V m c main_v2 i = sq (m ((c : Thread nD τ).loc main_arg0) i) := by
  have h : V m c main_v2 = truncf (F := Ideal) .bf16 (mulf (F := Ideal) (maximumf (F := Ideal) (m ((c : Thread nD τ).loc main_arg0)) (broadcastInDim S2048x8192 ![] bcast_S_S2048x8192 (constant S_ .f32 0x00000000#32)))
      (maximumf (F := Ideal) (m ((c : Thread nD τ).loc main_arg0)) (broadcastInDim S2048x8192 ![] bcast_S_S2048x8192 (constant S_ .f32 0x00000000#32)))) bitsLt_bf16_f32 := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  generalize m ((c : Thread nD τ).loc main_arg0) = z
  unfold sq
  pointwise

theorem entry1 (c : Dev nD) (i : S2048x2048.Idx) : V m c main_v3 i = m ((c : Thread nD τ).loc main_arg1) i := by
  have h : V m c main_v3 = truncf (F := Ideal) .bf16 (m ((c : Thread nD τ).loc main_arg1)) bitsLt_bf16_f32 := by
    simp only [V, List.flatten_cons, List.flatten_nil, List.append_nil, List.cons_append, List.nil_append]; after_results
  rw [h]; rfl

/-- The gradient's array from the two arguments. -/
def dw (z : S2048x8192.Idx → EReal) (dh : S2048x2048.Idx → EReal) : S8192x2048.Idx → EReal :=
  fun i => ∑ k : Fin 2048, sq (z (ix2 k (i 0))) * dh (ix2 k (i 1))

abbrev dwAt (c : Dev nD) : Buf (Elt Ideal) ((c : Thread nD τ).loc main_v4) :=
  dw (m ((c : Thread nD τ).loc main_arg0)) (m ((c : Thread nD τ).loc main_arg1))

/-- The kernel's result array after the run. -/
theorem final (c : Dev nD) : (dats m 0 c).arrAt 2 cfg0.N = dwAt m c := by
  refine (dats m 0 c).arrAt_eq_of_covers 2 _ (by decide +kernel) fun t _ y => ?_
  blk_simp
  rw [after0_2]
  frame_out
  obtain ⟨h0, h1⟩ := at_points t
  obtain ⟨p, q, rfl⟩ : ∃ (p : Fin 1024) (q : Fin 1024), y = ix2 p q := ⟨y 0, y 1, funext fun a => by fin_cases a <;> rfl⟩
  refine (pay_apply _ _ p q).trans (Cert.Proof.dot_congr (fun k => ?_) fun k => ?_)
  · blk_simp [iblk]
    refine (entry0 m c _).trans (congrArg (fun j => sq (m ((c : Thread nD τ).loc main_arg0) j)) ?_)
    blk_ext [h0]
  · blk_simp [iblk]
    refine (entry1 m c _).trans (congrArg _ ?_)
    blk_ext [h1]

end Cert.Kernel3Ideal.Product

namespace Cert.Reference3Ideal.Product

open Cert.Reference3Ideal Cert.Reference3Ideal.Gen Cert.Reference3Ideal.Read Idealize.ShloMosaic Idealize.ShloMosaic.TcCoe Idealize.SL.Sem

theorem dw_eq (z : S2048x8192.Idx → EReal) (dh : S2048x2048.Idx → EReal) :
    val_main_v6 (F := Ideal) z dh = Cert.Kernel3Ideal.Product.dw z dh := by
  funext i
  have hs : ∀ j, val_main_v2 (F := Ideal) z j = Cert.Kernel3Ideal.Product.sq (z j) := fun j => by
    simp only [val_main_v2_apply, val_main_v1_apply, val_main_call0_v0_apply, val_main_call0_cst_apply]
    simp only [pointwise]
    rfl
  have hl : ∀ k, lidx_main_v4 (idx_main_v5 i) k = ix2 k (i 1) := fun k => funext fun a => by fin_cases a <;> rfl
  have hr : ∀ k, ridx_main_v4 (idx_main_v5 i) k = ix2 k (i 0) := fun k => funext fun a => by fin_cases a <;> rfl
  simp only [val_main_v6_apply, val_main_v5_apply, val_main_v4_apply, hl, hr]
  simp only [pointwise]
  exact Finset.sum_congr rfl fun k _ => (congrArg _ (hs _)).trans (mul_comm _ _)

end Cert.Reference3Ideal.Product

namespace Cert.Proof.MlpDwDown

open Idealize.ShloMosaic Idealize.ShloMosaic.TcCoe Idealize.SL.Sem

/-- The kernel and the reference leave the same array. -/
theorem same : Cert.algebraic_Kernel3Ideal_Reference3Ideal := fun m g m' g' _ hag =>
  ⟨fun c => Cert.Kernel3Ideal.Product.dwAt m c,
    (θ_run Cert.Kernel3Ideal.defs _ _).mono
      (fun _ h c => ⟨(h c).1.trans (Cert.Kernel3Ideal.Product.final m c), (h c).2⟩) (Cert.Kernel3Ideal.Value.run_blocks m g),
    (θ_run Cert.Reference3Ideal.defs _ _).mono
      (fun _ h c => ⟨(h c).1.trans (by
        rw [Cert.Reference3Ideal.Read.val_main_v6_eq, Cert.Reference3Ideal.Product.dw_eq, (hag c).1, (hag c).2]), (h c).2⟩)
      (Cert.Reference3Ideal.Value.run m' g')⟩

end Cert.Proof.MlpDwDown
-- ==== Proof.MlpDwUp.lean ====
/- The gradient of the MLP's first weight, written in the eight column slices that the devices hold. -/
module

public import proofs.«01_k».proof.Defs
public import proofs.«01_k».proof.Proof.Gen.Kernel4Ideal.Value
public import proofs.«01_k».proof.Proof.Gen.Reference4Ideal.Read
public import Idealize.ShloMosaic.Lib.Pointwise

@[expose] public section

set_option maxRecDepth 16384

noncomputable section

namespace Cert.Kernel4Ideal.Product

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- What a block's payload holds at a row and a column: columns of the two blocks, multiplied and summed. -/
theorem pay_apply (a b : S2048x1024.Idx → EReal) (o : Fin 1) (p q : Fin 1024) :
    k0_pay1 (F := Ideal) a b (ix3 o p q) = ∑ k : Fin 2048, a (ix2 k p) * b (ix2 k q) := by
  pointwise [k0_pay1]

theorem at_points : ∀ t : Fin cfg0.N,
    win0_0.index t 0 = 0 ∧ win0_0.index t 1 = win0_2.index t 1
    ∧ win0_1.index t 0 = 0 ∧ win0_1.index t 1 = win0_2.index t 0 ∧ win0_2.index t 2 = 0 := by
  decide +kernel

/-- The arrays the kernel's windows read: the two arguments in the product's format. -/
theorem entry0 (c : Dev nD) (i : S2048x2048.Idx) : V m c main_v0 i = m ((c : Thread nD τ).loc main_arg0) i := by
  have h : V m c main_v0 = truncf (F := Ideal) .bf16 (m ((c : Thread nD τ).loc main_arg0)) bitsLt_bf16_f32 := by
    simp only [V, hostOps0]; after_results
  rw [h]; rfl

theorem entry1 (c : Dev nD) (i : S2048x8192.Idx) : V m c main_v1 i = m ((c : Thread nD τ).loc main_arg1) i := by
  have h : V m c main_v1 = truncf (F := Ideal) .bf16 (m ((c : Thread nD τ).loc main_arg1)) bitsLt_bf16_f32 := by
    simp only [V, hostOps0]; after_results
  rw [h]; rfl

/-- Column `j` of slice `s`, in the whole width. -/
def col (s : Fin 8) (j : Fin 1024) : Fin 8192 := ⟨s.val * 1024 + j.val, by omega⟩

/-- The gradient's array from the two arguments. -/
def dw (x : S2048x2048.Idx → EReal) (dz : S2048x8192.Idx → EReal) : S8x2048x1024.Idx → EReal :=
  fun i => ∑ k : Fin 2048, x (ix2 k (i 1)) * dz (ix2 k (col (i 0) (i 2)))

abbrev dwAt (c : Dev nD) : Buf (Elt Ideal) ((c : Thread nD τ).loc main_v2) :=
  dw (m ((c : Thread nD τ).loc main_arg0)) (m ((c : Thread nD τ).loc main_arg1))

theorem flushed_eq (c : Dev nD) (t : Fin cfg0.N) :
    (dats m 0 c).flushed 2 t = (win0_2.blk t).view.read (Elt Ideal) (dwAt m c) := by
  rw [Value.flushed2]
  unfold out0_2
  rw [View.canon_unit_zero hz3, View.ld_unit_zero hz, View.ld_unit_zero hz]
  obtain ⟨h0, h1, h2, h3, h4⟩ := at_points t
  funext y
  show k0_pay1 (F := Ideal) (iblk m c 0 t) (iblk m c 1 t) y = dwAt m c ((win0_2.rect t).emb y)
  obtain ⟨o, p, q, rfl⟩ : ∃ (o : Fin 1) (p q : Fin 1024), y = ix3 o p q := ⟨y 0, y 1, y 2, funext fun a => by fin_cases a <;> rfl⟩
  rw [pay_apply]
  have e0 : ((win0_2.rect t).emb (ix3 o p q) 0 : Nat) = win0_2.index t 0 * 1 + o := win0_2.rect_emb_val t (ix3 o p q) 0
  have e1 : ((win0_2.rect t).emb (ix3 o p q) 1 : Nat) = win0_2.index t 1 * 1024 + p := win0_2.rect_emb_val t (ix3 o p q) 1
  have e2 : ((win0_2.rect t).emb (ix3 o p q) 2 : Nat) = win0_2.index t 2 * 1024 + q := win0_2.rect_emb_val t (ix3 o p q) 2
  have r0 : ∀ k : Fin 2048, iblk m c 0 t (ix2 k p) = V m c main_v0 (ix2 k ((win0_2.rect t).emb (ix3 o p q) 1)) := fun k => by
    refine congrArg (V m c main_v0) (Shape.idx_ext₂ (x := (win0_0.rect t).emb (ix2 k p)) ?_ ?_)
    · rw [win0_0.rect_emb_val t (ix2 k p) 0, h0]; exact (congrArg (· + k.val) (Nat.zero_mul _)).trans (Nat.zero_add _)
    · rw [win0_0.rect_emb_val t (ix2 k p) 1, h1]; exact e1.symm
  have r1 : ∀ k : Fin 2048, iblk m c 1 t (ix2 k q)
      = V m c main_v1 (ix2 k (col ((win0_2.rect t).emb (ix3 o p q) 0) ((win0_2.rect t).emb (ix3 o p q) 2))) := fun k => by
    refine congrArg (V m c main_v1) (Shape.idx_ext₂ (x := (win0_1.rect t).emb (ix2 k q)) ?_ ?_)
    · rw [win0_1.rect_emb_val t (ix2 k q) 0, h2]; exact (congrArg (· + k.val) (Nat.zero_mul _)).trans (Nat.zero_add _)
    · rw [win0_1.rect_emb_val t (ix2 k q) 1, h3]
      show win0_2.index t 0 * 1024 + q.val = ((win0_2.rect t).emb (ix3 o p q) 0 : Nat) * 1024 + ((win0_2.rect t).emb (ix3 o p q) 2 : Nat)
      rw [e0, e2, h4]; omega
  refine Finset.sum_congr rfl fun k _ => ?_
  rw [r0, r1, entry0, entry1]

/-- Every index of the result lies in some block. -/
theorem block_of : ∀ a : Fin 8, ∀ b : Fin 2, ∃ t : Fin cfg0.N, win0_2.index t 0 = a.val ∧ win0_2.index t 1 = b.val ∧ win0_2.index t 2 = 0 := by
  decide +kernel

theorem cover (i : S8x2048x1024.Idx) : ∃ t : Fin cfg0.N, (cfg0.win 2).flush t = true ∧ i ∈ ((cfg0.win 2).blk t).view.set := by
  have i0 : (i 0 : Nat) < 8 := (i 0).isLt
  have i1 : (i 1 : Nat) < 2048 := (i 1).isLt
  have i2 : (i 2 : Nat) < 1024 := (i 2).isLt
  obtain ⟨t, h0, h1, h2⟩ := block_of ⟨(i 0 : Nat), i0⟩ ⟨(i 1 : Nat) / 1024, by omega⟩
  refine ⟨t, flush0_2 t, ?_⟩
  show i ∈ ((View.whole main_v2).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + 1
    rw [h0]; dsimp only; omega
  | ⟨1, _⟩ =>
    show win0_2.index t 1 * 1024 ≤ (i 1 : Nat) ∧ (i 1 : Nat) < win0_2.index t 1 * 1024 + 1024
    rw [h1]; dsimp only; omega
  | ⟨2, _⟩ =>
    show win0_2.index t 2 * 1024 ≤ (i 2 : Nat) ∧ (i 2 : Nat) < win0_2.index t 2 * 1024 + 1024
    rw [h2]; omega

/-- The kernel's result array after the run. -/
theorem final (c : Dev nD) : (dats m 0 c).arrAt 2 cfg0.N = dwAt m c :=
  (dats m 0 c).arrAt_eq_of_cover 2 (dwAt m c) (fun t _ => flushed_eq m c t) cover

end Cert.Kernel4Ideal.Product

namespace Cert.Reference4Ideal.Product

open Cert.Reference4Ideal Cert.Reference4Ideal.Gen Cert.Reference4Ideal.Read Idealize.ShloMosaic Idealize.ShloMosaic.TcCoe Idealize.SL.Sem

theorem dw_eq (x : S2048x2048.Idx → EReal) (dz : S2048x8192.Idx → EReal) :
    val_main_v6 (F := Ideal) x dz = Cert.Kernel4Ideal.Product.dw x dz := by
  funext i
  have i0 : (i 0 : Nat) < 8 := (i 0).isLt
  have i1 : (i 1 : Nat) < 2048 := (i 1).isLt
  have i2 : (i 2 : Nat) < 1024 := (i 2).isLt
  have hl : ∀ k, lidx_main_v2 (idx_main_v3 (idx_main_v5 (idx_main_v6 i))) k = ix2 k (Cert.Kernel4Ideal.Product.col (i 0) (i 2)) := fun k =>
    Shape.idx_ext₂ rfl (by
      show (((i 1).val * 8 + (i 0).val) * 1024 + (i 2).val) % 8192 = (i 0).val * 1024 + (i 2).val
      omega)
  have hr : ∀ k, ridx_main_v2 (idx_main_v3 (idx_main_v5 (idx_main_v6 i))) k = ix2 k (i 1) := fun k =>
    Shape.idx_ext₂ rfl (by
      show (((i 1).val * 8 + (i 0).val) * 1024 + (i 2).val) / 8192 = (i 1).val
      omega)
  simp only [val_main_v6_apply, val_main_v5_apply, val_main_v4_apply, val_main_v3_apply, val_main_v2_apply, hl, hr]
  simp only [pointwise]
  exact Finset.sum_congr rfl fun k _ => mul_comm _ _

end Cert.Reference4Ideal.Product

namespace Cert.Proof.MlpDwUp

open Idealize.ShloMosaic Idealize.ShloMosaic.TcCoe Idealize.SL.Sem

/-- The kernel and the reference leave the same array. -/
theorem same : Cert.algebraic_Kernel4Ideal_Reference4Ideal := fun m g m' g' _ hag =>
  ⟨fun c => Cert.Kernel4Ideal.Product.dwAt m c,
    (θ_run Cert.Kernel4Ideal.defs _ _).mono
      (fun _ h c => ⟨(h c).1.trans (Cert.Kernel4Ideal.Product.final m c), (h c).2⟩) (Cert.Kernel4Ideal.Value.run_blocks m g),
    (θ_run Cert.Reference4Ideal.defs _ _).mono
      (fun _ h c => ⟨(h c).1.trans (by
        rw [Cert.Reference4Ideal.Read.val_main_v6_eq, Cert.Reference4Ideal.Product.dw_eq, (hag c).1, (hag c).2]), (h c).2⟩)
      (Cert.Reference4Ideal.Value.run m' g')⟩

end Cert.Proof.MlpDwUp
-- ==== Proof.MlpDhn.lean ====
/- The gradient reaching the MLP's input: a product over the whole hidden width, added up in a scratch block over four tiles of
   the width, each tile two of the eight slices that the devices hold of the weight. -/
module

public import proofs.«01_k».proof.Defs
public import proofs.«01_k».proof.Proof.Gen.Kernel5Ideal.Value
public import proofs.«01_k».proof.Proof.Gen.Reference5Ideal.Read
public import Idealize.ShloMosaic.Lib.Pipeline.ValueKit.Acc
public import Idealize.ShloMosaic.Lib.Pointwise

@[expose] public section

set_option maxRecDepth 16384

noncomputable section

namespace Cert.Kernel5Ideal.Product

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## One tile of the width -/

/-- What one tile of the width adds at a row and a column: its first slice's part and its second's. -/
theorem pay_apply (a a' : S1024x1024.Idx → EReal) (b b' : S1x1024x1024.Idx → EReal) (p q : Fin 1024) :
    k0_pay1 (F := Ideal) a b a' b' (ix2 p q)
      = (∑ k : Fin 1024, a (ix2 p k) * b (ix3 0 q k)) + ∑ k : Fin 1024, a' (ix2 p k) * b' (ix3 0 q k) := by
  pointwise [k0_pay1]

/-- The tile that the body adds, from the two blocks it is given. -/
def tile (x : S1024x2048.Idx → EReal) (w : S2x1024x1024.Idx → EReal) : S1024x1024.Idx → EReal :=
  k0_pay1 (F := Ideal) (View.ld x (Rect.unit (s := S1024x2048) ![0, 0] S1024x1024.size inb_S1024x2048_S1024x1024_0_0))
    (View.ld w (Rect.unit (s := S2x1024x1024) ![0, 0, 0] S1x1024x1024.size inb_S2x1024x1024_S1x1024x1024_0_0_0))
    (View.ld x (Rect.unit (s := S1024x2048) ![0, 1024] S1024x1024.size inb_S1024x2048_S1024x1024_0_1024))
    (View.ld w (Rect.unit (s := S2x1024x1024) ![1, 0, 0] S1x1024x1024.size inb_S2x1024x1024_S1x1024x1024_1_0_0))

theorem tile_apply (x : S1024x2048.Idx → EReal) (w : S2x1024x1024.Idx → EReal) (p q : Fin 1024) :
    tile x w (ix2 p q) = (∑ k : Fin 1024, x (ix2 p ⟨k.val, by omega⟩) * w (ix3 0 q k))
      + ∑ k : Fin 1024, x (ix2 p ⟨1024 + k.val, by omega⟩) * w (ix3 1 q k) := by
  unfold tile
  rw [pay_apply]
  refine congrArg₂ (· + ·) (Finset.sum_congr rfl fun k _ => ?_) (Finset.sum_congr rfl fun k _ => ?_)
  · refine congrArg₂ (· * ·) (congrArg x (Shape.idx_ext₂ ?_ ?_)) (congrArg w (funext fun a => Fin.ext ?_))
    · show 0 + 1 * p.val = p.val; omega
    · show 0 + 1 * k.val = k.val; omega
    · fin_cases a
      · rfl
      · show 0 + 1 * q.val = q.val; omega
      · show 0 + 1 * k.val = k.val; omega
  · refine congrArg₂ (· * ·) (congrArg x (Shape.idx_ext₂ ?_ ?_)) (congrArg w (funext fun a => Fin.ext ?_))
    · show 0 + 1 * p.val = p.val; omega
    · show 1024 + 1 * k.val = 1024 + k.val; omega
    · fin_cases a
      · rfl
      · show 0 + 1 * q.val = q.val; omega
      · show 0 + 1 * k.val = k.val; omega

theorem pay2_eq (a a' : S1024x1024.Idx → EReal) (b b' : S1x1024x1024.Idx → EReal) :
    k0_pay2 (F := Ideal) a b a' b' = k0_pay1 (F := Ideal) a b a' b' := by
  unfold k0_pay2; exact shapeCast_id _ _

theorem pay4_apply (a a' s : S1024x1024.Idx → EReal) (b b' : S1x1024x1024.Idx → EReal) (j : S1024x1024.Idx) :
    k0_pay4 (F := Ideal) a b a' b' s j = s j + k0_pay1 (F := Ideal) a b a' b' j := rfl

theorem pay3_apply (a a' s : S1024x1024.Idx → EReal) (b b' : S1x1024x1024.Idx → EReal) (j : S1024x1024.Idx) :
    k0_pay3 (F := Ideal) a b a' b' s j = s j + k0_pay1 (F := Ideal) a b a' b' j := by
  unfold k0_pay3; rw [shapeCast_id]; rfl

/-! ## What each point leaves -/

/-- At the first tile the scratch is stored. -/
theorem scratch_first (c : Dev nD) (t : Fin cfg0.N) (h : t.val % 4 = 0) (j : S1024x1024.Idx) :
    (outsAt0 m c t.val t.isLt).2 j = tile (iblk m c 0 t) (iblk m c 1 t) j := by
  rw [outsAt0_A m c t h (by omega) (by omega)]
  frame_out
  rw [pay2_eq]; rfl

/-- At the second and third it is added to. -/
theorem scratch_next (c : Dev nD) (t : Fin cfg0.N) (h : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j + tile (iblk m c 0 t) (iblk m c 1 t) j := by
  rw [outsAt0_B m c t (by omega) h (by omega)]
  frame_out
  rw [pay3_apply]
  refine congrArg₂ (· + ·) ?_ rfl
  exact congrFun ((Memref.isWhole_whole cc0_scratch0).read_unread _) j

/-- At the last the sum goes to the result's block. -/
theorem out_last (c : Dev nD) (t : Fin cfg0.N) (h : t.val % 4 = 3) (j : S1024x1024.Idx) :
    (outsAt0 m c t.val t.isLt).1 j
      = (outsAt0 m c (t.val - 1) (Nat.lt_of_le_of_lt (Nat.sub_le _ _) t.isLt)).2 j + tile (iblk m c 0 t) (iblk m c 1 t) j := by
  rw [outsAt0_C m c t (by omega) (by omega) h]
  frame_out
  rw [pay4_apply]
  refine congrArg₂ (· + ·) ?_ rfl
  exact congrFun ((Memref.isWhole_whole cc0_scratch0).read_unread _) j

/-! ## The blocks and the arguments -/

/-- The point that stores tile `k` of the result's block `(a, b)`. -/
def pt (a b : Fin 2) (k : Fin 4) : Fin cfg0.N := ⟨(a.val * 2 + b.val) * 4 + k.val, lt_of_lt_of_eq (by omega) N_0.symm⟩

theorem at_points : ∀ (a b : Fin 2) (k : Fin 4),
    (win0_2.index (pt a b k) 0 = a.val ∧ win0_2.index (pt a b k) 1 = b.val)
    ∧ (win0_0.index (pt a b k) 0 = a.val ∧ win0_0.index (pt a b k) 1 = k.val)
    ∧ win0_1.index (pt a b k) 0 = k.val ∧ win0_1.index (pt a b k) 1 = b.val ∧ win0_1.index (pt a b k) 2 = 0 := by
  decide +kernel

theorem entry1 (c : Dev nD) (s : Fin 8) (r : Fin 2048) (j : Fin 1024) :
    V m c main_v2 (ix3 s r j) = m ((c : Thread nD τ).loc main_arg0) (ix2 r ⟨s.val * 1024 + j.val, by omega⟩) := by
  have h : V m c main_v2 = truncf (F := Ideal) .bf16 (transpose S8x2048x1024 [1, 0, 2]
      (shapeCast S2048x8x1024 (m ((c : Thread nD τ).loc main_arg0)) shapeCasts_S2048x8192_S2048x8x1024)
      transposes_S2048x8x1024_S8x2048x1024_1_0_2) bitsLt_bf16_f32 := by
    simp only [V, hostOps0]; after_results; rfl
  rw [h]
  generalize m ((c : Thread nD τ).loc main_arg0) = w
  pointwise

theorem entry0 (c : Dev nD) (i : S2048x8192.Idx) : V m c main_v3 i = m ((c : Thread nD τ).loc main_arg1) i := by
  have h : V m c main_v3 = truncf (F := Ideal) .bf16 (m ((c : Thread nD τ).loc main_arg1)) bitsLt_bf16_f32 := by
    simp only [V, hostOps0]; after_results
  rw [h]; rfl

/-- What a column of the width adds to the result, from the two arguments: the weight and the gradient at the hidden layer. -/
def term (w dz : S2048x8192.Idx → EReal) (i : S2048x2048.Idx) (k : Fin 8192) : EReal := dz (ix2 (i 0) k) * w (ix2 (i 1) k)

/-- The result. -/
def dhn (w dz : S2048x8192.Idx → EReal) : S2048x2048.Idx → EReal := fun i => ∑ k : Fin 8192, term w dz i k

abbrev dhnAt (c : Dev nD) : Buf (Elt Ideal) ((c : Thread nD τ).loc main_v4) :=
  dhn (m ((c : Thread nD τ).loc main_arg0)) (m ((c : Thread nD τ).loc main_arg1))

/-- A tile of the width, in the arguments. -/
theorem tile_eq (c : Dev nD) (a b : Fin 2) (k : Fin 4) (p q : Fin 1024) (i : S2048x2048.Idx)
    (e0 : (i 0 : Nat) = a.val * 1024 + p) (e1 : (i 1 : Nat) = b.val * 1024 + q) :
    tile (iblk m c 0 (pt a b k)) (iblk m c 1 (pt a b k)) (ix2 p q)
      = ∑ l : Fin 2048, term (m ((c : Thread nD τ).loc main_arg0)) (m ((c : Thread nD τ).loc main_arg1)) i
          ⟨k.val * 2048 + l.val, by omega⟩ := by
  obtain ⟨-, ⟨h1, h2⟩, h3, h4, h5⟩ := at_points a b k
  have r0 : ∀ l : Fin 2048, iblk m c 0 (pt a b k) (ix2 p l)
      = V m c main_v3 (ix2 (i 0) (⟨k.val * 2048 + l.val, by omega⟩ : Fin 8192)) := fun l => by
    refine congrArg (V m c main_v3) (Shape.idx_ext₂ (x := (win0_0.rect (pt a b k)).emb (ix2 p l)) ?_ ?_)
    · rw [win0_0.rect_emb_val (pt a b k) (ix2 p l) 0, h1]; exact e0.symm
    · rw [win0_0.rect_emb_val (pt a b k) (ix2 p l) 1, h2]; rfl
  have r1 : ∀ (s : Fin 2) (l : Fin 1024), iblk m c 1 (pt a b k) (ix3 s q l)
      = V m c main_v2 (ix3 (⟨k.val * 2 + s.val, by omega⟩ : Fin 8) (i 1) l) := fun s l => by
    refine congrArg (V m c main_v2) (funext fun d => Fin.ext ?_)
    fin_cases d
    · exact (win0_1.rect_emb_val (pt a b k) (ix3 s q l) 0).trans (by rw [h3]; rfl)
    · exact (win0_1.rect_emb_val (pt a b k) (ix3 s q l) 1).trans (by rw [h4]; exact e1.symm)
    · exact (win0_1.rect_emb_val (pt a b k) (ix3 s q l) 2).trans (by rw [h5]; exact (congrArg (· + l.val) (Nat.zero_mul _)).trans (Nat.zero_add _))
  rw [tile_apply, Fin.sum_univ_two_halves 1024 1024 rfl]
  refine congrArg₂ (· + ·) (Finset.sum_congr rfl fun l _ => ?_) (Finset.sum_congr rfl fun l _ => ?_)
  · refine congrArg₂ (· * ·) ((r0 _).trans (entry0 m c _)) ((r1 0 l).trans ((entry1 m c _ _ _).trans (congrArg _ (Shape.idx_ext₂ rfl ?_))))
    show (k.val * 2 + 0) * 1024 + l.val = k.val * 2048 + l.val
    omega
  · refine congrArg₂ (· * ·) ((r0 _).trans (entry0 m c _)) ((r1 1 l).trans ((entry1 m c _ _ _).trans (congrArg _ (Shape.idx_ext₂ rfl ?_))))
    show (k.val * 2 + 1) * 1024 + l.val = k.val * 2048 + (1024 + l.val)
    omega

/-! ## The result -/

/-- What the last tile of a block leaves: the four tiles, added. -/
theorem four_tiles (c : Dev nD) (a b : Fin 2) (j : S1024x1024.Idx) :
    (outsAt0 m c (pt a b 3).val (pt a b 3).isLt).1 j
      = ∑ k : Fin 4, tile (iblk m c 0 (pt a b k)) (iblk m c 1 (pt a b k)) j := by
  rw [Fin.sum_univ_four]
  have mod : ∀ k : Fin 4, (pt a b k).val % 4 = k.val := fun k => by
    show ((a.val * 2 + b.val) * 4 + k.val) % 4 = k.val; omega
  refine (out_last m c (pt a b 3) (mod 3) j).trans (congrArg (· + _) ?_)
  refine (scratch_next m c (pt a b 2) (by rw [mod]; decide) j).trans (congrArg (· + _) ?_)
  refine (scratch_next m c (pt a b 1) (by rw [mod]; decide) j).trans (congrArg (· + _) ?_)
  exact scratch_first m c (pt a b 0) (mod 0) j

/-- The point that writes a block back is the last of its four. -/
theorem last_of (t : Fin cfg0.N) (h : t.val % 4 = 3) : ∃ a b : Fin 2, t = pt a b 3 := by
  have hN : t.val < 16 := lt_of_lt_of_eq t.isLt N_0
  refine ⟨⟨t.val / 8, by omega⟩, ⟨t.val / 4 % 2, by omega⟩, Fin.ext ?_⟩
  show t.val = (t.val / 8 * 2 + t.val / 4 % 2) * 4 + 3
  omega

theorem flushed_eq (c : Dev nD) (t : Fin cfg0.N) (hf : (cfg0.win 2).flush t = true) :
    (dats m 0 c).flushed 2 t = (win0_2.blk t).view.read (Elt Ideal) (dhnAt m c) := by
  obtain ⟨a, b, rfl⟩ := last_of t ((flush0_2 t).mp hf)
  rw [Value.flushed2]
  obtain ⟨⟨h0, h1⟩, -⟩ := at_points a b 3
  funext y
  show (outsAt0 m c (pt a b 3).val (pt a b 3).isLt).1 y = dhnAt m c ((win0_2.rect (pt a b 3)).emb y)
  obtain ⟨p, q, rfl⟩ : ∃ p q : Fin 1024, y = ix2 p q := ⟨y 0, y 1, funext fun a => by fin_cases a <;> rfl⟩
  have e0 : ((win0_2.rect (pt a b 3)).emb (ix2 p q) 0 : Nat) = a.val * 1024 + p :=
    (win0_2.rect_emb_val (pt a b 3) (ix2 p q) 0).trans (by rw [h0]; rfl)
  have e1 : ((win0_2.rect (pt a b 3)).emb (ix2 p q) 1 : Nat) = b.val * 1024 + q :=
    (win0_2.rect_emb_val (pt a b 3) (ix2 p q) 1).trans (by rw [h1]; rfl)
  rw [four_tiles]
  refine (Finset.sum_congr rfl fun k _ => tile_eq m c a b k p q _ e0 e1).trans ?_
  exact (Fin.sum_univ_tiles 4 2048 rfl (term (m ((c : Thread nD τ).loc main_arg0)) (m ((c : Thread nD τ).loc main_arg1)) _)).symm

/-- The kernel's result array after the run. -/
theorem final (c : Dev nD) : (dats m 0 c).arrAt 2 cfg0.N = dhnAt m c :=
  (dats m 0 c).arrAt_eq_of_cover 2 (dhnAt m c) (fun t hf => flushed_eq m c t hf) (fun i => (Value.covered_iff2 i).2 (by
    have h0 : (i 0).val < 2048 := (i 0).isLt
    have h1 : (i 1).val < 2048 := (i 1).isLt
    omega))

end Cert.Kernel5Ideal.Product

namespace Cert.Reference5Ideal.Product

open Cert.Reference5Ideal Cert.Reference5Ideal.Gen Cert.Reference5Ideal.Read Idealize.ShloMosaic Idealize.ShloMosaic.TcCoe Idealize.SL.Sem

theorem dhn_eq (w dz : S2048x8192.Idx → EReal) : val_main_v2 (F := Ideal) w dz = Cert.Kernel5Ideal.Product.dhn w dz := by
  funext i
  have hl : ∀ k, lidx_main_v2 i k = ix2 (i 0) k := fun k => funext fun a => by fin_cases a <;> rfl
  have hr : ∀ k, ridx_main_v2 i k = ix2 (i 1) k := fun k => funext fun a => by fin_cases a <;> rfl
  simp only [val_main_v2_apply, hl, hr]
  rfl

end Cert.Reference5Ideal.Product

namespace Cert.Proof.MlpDhn

open Idealize.ShloMosaic Idealize.ShloMosaic.TcCoe Idealize.SL.Sem

/-- The kernel and the reference leave the same array. -/
theorem same : Cert.algebraic_Kernel5Ideal_Reference5Ideal := fun m g m' g' _ hag =>
  ⟨fun c => Cert.Kernel5Ideal.Product.dhnAt m c,
    (θ_run Cert.Kernel5Ideal.defs _ _).mono
      (fun _ h c => ⟨(h c).1.trans (Cert.Kernel5Ideal.Product.final m c), (h c).2⟩) (Cert.Kernel5Ideal.Value.run_blocks m g),
    (θ_run Cert.Reference5Ideal.defs _ _).mono
      (fun _ h c => ⟨(h c).1.trans (by
        rw [Cert.Reference5Ideal.Read.val_main_v2_eq, Cert.Reference5Ideal.Product.dhn_eq, (hag c).1, (hag c).2]), (h c).2⟩)
      (Cert.Reference5Ideal.Value.run m' g')⟩

end Cert.Proof.MlpDhn
-- ==== Proof.MlpUp.lean ====
/- The MLP's first product, with the layer's activation, from the weight in the eight column slices that the devices hold. -/
module

public import proofs.«01_k».proof.Defs
public import proofs.«01_k».proof.Proof.Gen.Kernel6Ideal.Value
public import proofs.«01_k».proof.Proof.Gen.Reference6Ideal.Read
public import Idealize.ShloMosaic.Lib.Pointwise

@[expose] public section

set_option maxRecDepth 16384

noncomputable section

namespace Cert.Kernel6Ideal.Product

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The layer's activation: the positive part, squared. -/
def sq (x : EReal) : EReal := max x 0 * max x 0

/-- What a block's payloads hold at a row and a column: the product, and its activation. -/
theorem pay_apply (a : S1024x2048.Idx → EReal) (b : S1x2048x1024.Idx → EReal) (p q : Fin 1024) :
    k0_pay1 (F := Ideal) a b (ix2 p q) = ∑ k : Fin 2048, a (ix2 p k) * b (ix3 0 k q) := by
  pointwise [k0_pay1]

theorem pay_sq (a : S1024x2048.Idx → EReal) (b : S1x2048x1024.Idx → EReal) (j : S1024x1024.Idx) :
    k0_pay2 (F := Ideal) a b j = sq (k0_pay1 (F := Ideal) a b j) := by
  unfold k0_pay2
  generalize k0_pay1 (F := Ideal) a b = x
  unfold sq
  pointwise

theorem at_points : ∀ t : Fin cfg0.N,
    win0_0.index t 0 = win0_2.index t 0 ∧ win0_0.index t 1 = 0
    ∧ win0_1.index t 0 = win0_2.index t 1 ∧ win0_1.index t 1 = 0 ∧ win0_1.index t 2 = 0
    ∧ win0_3.index t 0 = win0_2.index t 0 ∧ win0_3.index t 1 = win0_2.index t 1 := by
  decide +kernel

/-- Column `j` of the whole width, as a slice and a column of it. -/
theorem entry1 (c : Dev nD) (s : Fin 8) (k : Fin 2048) (j : Fin 1024) (J : Fin 8192) (hJ : J.val = s.val * 1024 + j.val) :
    V m c main_v2 (ix3 s k j) = m ((c : Thread nD τ).loc main_arg1) (ix2 k J) := by
  have h : V m c main_v2 = truncf (F := Ideal) .bf16 (transpose S8x2048x1024 [1, 0, 2]
      (shapeCast S2048x8x1024 (m ((c : Thread nD τ).loc main_arg1)) shapeCasts_S2048x8192_S2048x8x1024)
      transposes_S2048x8x1024_S8x2048x1024_1_0_2) bitsLt_bf16_f32 := by
    simp only [V, hostOps0]; after_results; rfl
  rw [h]
  generalize m ((c : Thread nD τ).loc main_arg1) = w
  pointwise
  exact congrArg w (Shape.idx_ext₂ rfl hJ.symm)

theorem entry0 (c : Dev nD) (i : S2048x2048.Idx) : V m c main_v3 i = m ((c : Thread nD τ).loc main_arg0) i := by
  have h : V m c main_v3 = truncf (F := Ideal) .bf16 (m ((c : Thread nD τ).loc main_arg0)) bitsLt_bf16_f32 := by
    simp only [V, hostOps0]; after_results
  rw [h]; rfl

/-- The two results from the two arguments. -/
def up (x : S2048x2048.Idx → EReal) (w : S2048x8192.Idx → EReal) : S2048x8192.Idx → EReal :=
  fun i => ∑ k : Fin 2048, x (ix2 (i 0) k) * w (ix2 k (i 1))
def act (x : S2048x2048.Idx → EReal) (w : S2048x8192.Idx → EReal) : S2048x8192.Idx → EReal := fun i => sq (up x w i)

abbrev upAt (c : Dev nD) : Buf (Elt Ideal) ((c : Thread nD τ).loc main_v4_0) :=
  up (m ((c : Thread nD τ).loc main_arg0)) (m ((c : Thread nD τ).loc main_arg1))
abbrev actAt (c : Dev nD) : Buf (Elt Ideal) ((c : Thread nD τ).loc main_v4_1) :=
  act (m ((c : Thread nD τ).loc main_arg0)) (m ((c : Thread nD τ).loc main_arg1))

/-- A block of the product, at its row and column in the whole array. -/
theorem block_eq (c : Dev nD) (t : Fin cfg0.N) (p q : Fin 1024) (i : S2048x8192.Idx)
    (e0 : (i 0 : Nat) = win0_2.index t 0 * 1024 + p) (e1 : (i 1 : Nat) = win0_2.index t 1 * 1024 + q) :
    k0_pay1 (F := Ideal) (iblk m c 0 t) (iblk m c 1 t) (ix2 p q)
      = up (m ((c : Thread nD τ).loc main_arg0)) (m ((c : Thread nD τ).loc main_arg1)) i := by
  obtain ⟨h0, h1, h2, h3, h4, -, -⟩ := at_points t
  have i1 : (i 1 : Nat) < 8192 := (i 1).isLt
  have hq := q.isLt
  obtain ⟨s, hs⟩ : ∃ s : Fin 8, s.val = win0_2.index t 1 := ⟨⟨win0_2.index t 1, by omega⟩, rfl⟩
  rw [← hs] at e1
  rw [pay_apply]
  have r0 : ∀ k : Fin 2048, iblk m c 0 t (ix2 p k) = V m c main_v3 (ix2 (i 0) k) := fun k => by
    refine congrArg (V m c main_v3) (Shape.idx_ext₂ (x := (win0_0.rect t).emb (ix2 p k)) ?_ ?_)
    · rw [win0_0.rect_emb_val t (ix2 p k) 0, h0]; exact e0.symm
    · rw [win0_0.rect_emb_val t (ix2 p k) 1, h1]; exact (congrArg (· + k.val) (Nat.zero_mul _)).trans (Nat.zero_add _)
  have r1 : ∀ k : Fin 2048, iblk m c 1 t (ix3 0 k q)
      = V m c main_v2 (ix3 s k q) := fun k => by
    refine congrArg (V m c main_v2) (funext fun a => Fin.ext ?_)
    fin_cases a
    · exact (win0_1.rect_emb_val t (ix3 0 k q) 0).trans (by rw [h2, ← hs]; exact Nat.mul_one _)
    · exact (win0_1.rect_emb_val t (ix3 0 k q) 1).trans (by rw [h3]; exact (congrArg (· + k.val) (Nat.zero_mul _)).trans (Nat.zero_add _))
    · exact (win0_1.rect_emb_val t (ix3 0 k q) 2).trans (by rw [h4]; exact (congrArg (· + q.val) (Nat.zero_mul _)).trans (Nat.zero_add _))
  refine Finset.sum_congr rfl fun k _ => ?_
  rw [r0, r1, entry0, entry1 m c s k q (i 1) e1]

theorem flushed_up (c : Dev nD) (t : Fin cfg0.N) :
    (dats m 0 c).flushed 2 t = (win0_2.blk t).view.read (Elt Ideal) (upAt m c) := by
  rw [Value.flushed2]
  unfold out0_2
  rw [View.canon_unit_zero hz, View.ld_unit_zero hz, View.ld_unit_zero hz3]
  funext y
  show k0_pay1 (F := Ideal) (iblk m c 0 t) (iblk m c 1 t) y = upAt m c ((win0_2.rect t).emb y)
  obtain ⟨p, q, rfl⟩ : ∃ p q : Fin 1024, y = ix2 p q := ⟨y 0, y 1, funext fun a => by fin_cases a <;> rfl⟩
  exact block_eq m c t p q _ (win0_2.rect_emb_val t (ix2 p q) 0) (win0_2.rect_emb_val t (ix2 p q) 1)

theorem flushed_act (c : Dev nD) (t : Fin cfg0.N) :
    (dats m 0 c).flushed 3 t = (win0_3.blk t).view.read (Elt Ideal) (actAt m c) := by
  rw [Value.flushed3]
  unfold out0_3
  rw [View.canon_unit_zero hz, View.ld_unit_zero hz, View.ld_unit_zero hz3]
  obtain ⟨-, -, -, -, -, h5, h6⟩ := at_points t
  funext y
  show k0_pay2 (F := Ideal) (iblk m c 0 t) (iblk m c 1 t) y = actAt m c ((win0_3.rect t).emb y)
  obtain ⟨p, q, rfl⟩ : ∃ p q : Fin 1024, y = ix2 p q := ⟨y 0, y 1, funext fun a => by fin_cases a <;> rfl⟩
  rw [pay_sq]
  exact congrArg sq (block_eq m c t p q _ ((win0_3.rect_emb_val t (ix2 p q) 0).trans (by rw [h5]; rfl))
    ((win0_3.rect_emb_val t (ix2 p q) 1).trans (by rw [h6]; rfl)))

/-- Every index of a result lies in some block. -/
theorem block_of : ∀ a : Fin 2, ∀ b : Fin 8, ∃ t : Fin cfg0.N, (win0_2.index t 0 = a.val ∧ win0_2.index t 1 = b.val)
    ∧ win0_3.index t 0 = a.val ∧ win0_3.index t 1 = b.val := by
  decide +kernel

theorem cover_up (i : S2048x8192.Idx) : ∃ t : Fin cfg0.N, (cfg0.win 2).flush t = true ∧ i ∈ ((cfg0.win 2).blk t).view.set := by
  have i0 : (i 0 : Nat) < 2048 := (i 0).isLt
  have i1 : (i 1 : Nat) < 8192 := (i 1).isLt
  obtain ⟨t, ⟨h0, h1⟩, -⟩ := block_of ⟨(i 0 : Nat) / 1024, by omega⟩ ⟨(i 1 : Nat) / 1024, by omega⟩
  refine ⟨t, flush0_2 t, ?_⟩
  show i ∈ ((View.whole main_v4_0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [h0]; dsimp only; omega
  | ⟨1, _⟩ =>
    show win0_2.index t 1 * 1024 ≤ (i 1 : Nat) ∧ (i 1 : Nat) < win0_2.index t 1 * 1024 + 1024
    rw [h1]; dsimp only; omega

theorem cover_act (i : S2048x8192.Idx) : ∃ t : Fin cfg0.N, (cfg0.win 3).flush t = true ∧ i ∈ ((cfg0.win 3).blk t).view.set := by
  have i0 : (i 0 : Nat) < 2048 := (i 0).isLt
  have i1 : (i 1 : Nat) < 8192 := (i 1).isLt
  obtain ⟨t, -, h0, h1⟩ := block_of ⟨(i 0 : Nat) / 1024, by omega⟩ ⟨(i 1 : Nat) / 1024, by omega⟩
  refine ⟨t, flush0_3 t, ?_⟩
  show i ∈ ((View.whole main_v4_1).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [h0]; dsimp only; omega
  | ⟨1, _⟩ =>
    show win0_3.index t 1 * 1024 ≤ (i 1 : Nat) ∧ (i 1 : Nat) < win0_3.index t 1 * 1024 + 1024
    rw [h1]; dsimp only; omega

/-- The kernel's result arrays after the run. -/
theorem final_up (c : Dev nD) : (dats m 0 c).arrAt 2 cfg0.N = upAt m c :=
  (dats m 0 c).arrAt_eq_of_cover 2 (upAt m c) (fun t _ => flushed_up m c t) cover_up
theorem final_act (c : Dev nD) : (dats m 0 c).arrAt 3 cfg0.N = actAt m c :=
  (dats m 0 c).arrAt_eq_of_cover 3 (actAt m c) (fun t _ => flushed_act m c t) cover_act

end Cert.Kernel6Ideal.Product

namespace Cert.Reference6Ideal.Product

open Cert.Reference6Ideal Cert.Reference6Ideal.Gen Cert.Reference6Ideal.Read Idealize.ShloMosaic Idealize.ShloMosaic.TcCoe Idealize.SL.Sem

theorem up_eq (x : S2048x2048.Idx → EReal) (w : S2048x8192.Idx → EReal) :
    val_main_v0 (F := Ideal) x w = Cert.Kernel6Ideal.Product.up x w := by
  funext i
  have hl : ∀ k, lidx_main_v0 i k = ix2 (i 0) k := fun k => funext fun a => by fin_cases a <;> rfl
  have hr : ∀ k, ridx_main_v0 i k = ix2 k (i 1) := fun k => funext fun a => by fin_cases a <;> rfl
  simp only [val_main_v0_apply, hl, hr]
  rfl

theorem act_eq (x : S2048x2048.Idx → EReal) (w : S2048x8192.Idx → EReal) :
    val_main_v3 (F := Ideal) x w = Cert.Kernel6Ideal.Product.act x w := by
  funext i
  simp only [val_main_v3_apply, val_main_v2_apply, val_main_v1_apply, val_main_call0_v0_apply, val_main_call0_cst_apply, up_eq]
  simp only [pointwise]
  rfl

end Cert.Reference6Ideal.Product

namespace Cert.Proof.MlpUp

open Idealize.ShloMosaic Idealize.ShloMosaic.TcCoe Idealize.SL.Sem

/-- The kernel and the reference leave the same arrays. -/
theorem same : Cert.algebraic_Kernel6Ideal_Reference6Ideal := fun m g m' g' _ hag =>
  ⟨fun c => Cert.Kernel6Ideal.Product.upAt m c, fun c => Cert.Kernel6Ideal.Product.actAt m c,
    (θ_run Cert.Kernel6Ideal.defs _ _).mono
      (fun _ h c => ⟨(h c).1.trans (Cert.Kernel6Ideal.Product.final_up m c),
        (h c).2.1.trans (Cert.Kernel6Ideal.Product.final_act m c), (h c).2.2⟩) (Cert.Kernel6Ideal.Value.run_blocks m g),
    (θ_run Cert.Reference6Ideal.defs _ _).mono
      (fun _ h c => ⟨(h c).1.trans (by
          rw [Cert.Reference6Ideal.Read.val_main_v0_eq, Cert.Reference6Ideal.Product.up_eq, (hag c).1, (hag c).2]),
        (h c).2.1.trans (by
          rw [Cert.Reference6Ideal.Read.val_main_v3_eq, Cert.Reference6Ideal.Product.act_eq, (hag c).1, (hag c).2]), (h c).2.2⟩)
      (Cert.Reference6Ideal.Value.run m' g')⟩

end Cert.Proof.MlpUp
-- ==== Proof.MlpDown.lean ====
/- The MLP's second product, added to the layer's input: a product over the whole hidden width, added up in a scratch block over
   four tiles of the width. -/
module

public import proofs.«01_k».proof.Defs
public import proofs.«01_k».proof.Proof.Gen.Kernel7Ideal.Value
public import proofs.«01_k».proof.Proof.Gen.Reference7Ideal.Read
public import Idealize.ShloMosaic.Lib.Pipeline.ValueKit.Acc
public import Idealize.ShloMosaic.Lib.Pointwise

@[expose] public section

set_option maxRecDepth 16384

noncomputable section

namespace Cert.Kernel7Ideal.Product

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## One tile of the width -/

/-- What one tile of the width adds at a row and a column. -/
theorem pay_apply (a : S1024x2048.Idx → EReal) (b : S2048x1024.Idx → EReal) (p q : Fin 1024) :
    k0_pay1 (F := Ideal) a b (ix2 p q) = ∑ k : Fin 2048, a (ix2 p k) * b (ix2 k q) := by
  pointwise [k0_pay1]

theorem pay2_eq (a : S1024x2048.Idx → EReal) (b : S2048x1024.Idx → EReal) :
    k0_pay2 (F := Ideal) a b = k0_pay1 (F := Ideal) a b := by
  unfold k0_pay2; exact shapeCast_id _ _

theorem pay3_apply (a : S1024x2048.Idx → EReal) (b : S2048x1024.Idx → EReal) (s : S1024x1024.Idx → EReal) (j : S1024x1024.Idx) :
    k0_pay3 (F := Ideal) a b s j = s j + k0_pay1 (F := Ideal) a b j := by
  unfold k0_pay3; rw [shapeCast_id]; rfl

theorem pay4_apply (a : S1024x2048.Idx → EReal) (b : S2048x1024.Idx → EReal) (s r : S1024x1024.Idx → EReal) (j : S1024x1024.Idx) :
    k0_pay4 (F := Ideal) a b s r j = (s j + k0_pay1 (F := Ideal) a b j) + r j := rfl

/-! ## What each point leaves -/

/-- At the first tile the scratch is stored. -/
theorem scratch_first (c : Dev nD) (t : Fin cfg0.N) (h : t.val % 4 = 0) (j : S1024x1024.Idx) :
    (outsAt0 m c t.val t.isLt).2 j = k0_pay1 (F := Ideal) (iblk m c 0 t) (iblk m c 1 t) j := by
  rw [outsAt0_A m c t h (by omega) (by omega)]
  frame_out
  rw [pay2_eq]

/-- At the second and third it is added to. -/
theorem scratch_next (c : Dev nD) (t : Fin cfg0.N) (h : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j
        + k0_pay1 (F := Ideal) (iblk m c 0 t) (iblk m c 1 t) j := by
  rw [outsAt0_B m c t (by omega) h (by omega)]
  frame_out
  rw [pay3_apply]
  refine congrArg₂ (· + ·) ?_ rfl
  exact congrFun ((Memref.isWhole_whole cc0_scratch0).read_unread _) j

/-- At the last the sum and the layer's input go to the result's block. -/
theorem out_last (c : Dev nD) (t : Fin cfg0.N) (h : t.val % 4 = 3) (j : S1024x1024.Idx) :
    (outsAt0 m c t.val t.isLt).1 j
      = ((outsAt0 m c (t.val - 1) (Nat.lt_of_le_of_lt (Nat.sub_le _ _) t.isLt)).2 j
        + k0_pay1 (F := Ideal) (iblk m c 0 t) (iblk m c 1 t) j) + iblk m c 2 t j := by
  rw [outsAt0_C m c t (by omega) (by omega) h]
  frame_out
  rw [pay4_apply]
  refine congrArg (· + _) (congrArg (· + _) ?_)
  exact congrFun ((Memref.isWhole_whole cc0_scratch0).read_unread _) j

/-! ## The blocks and the arguments -/

/-- The point that stores tile `k` of the result's block `(a, b)`. -/
def pt (a b : Fin 2) (k : Fin 4) : Fin cfg0.N := ⟨(a.val * 2 + b.val) * 4 + k.val, lt_of_lt_of_eq (by omega) N_0.symm⟩

theorem at_points : ∀ (a b : Fin 2) (k : Fin 4),
    (win0_3.index (pt a b k) 0 = a.val ∧ win0_3.index (pt a b k) 1 = b.val)
    ∧ (win0_0.index (pt a b k) 0 = a.val ∧ win0_0.index (pt a b k) 1 = k.val)
    ∧ (win0_1.index (pt a b k) 0 = k.val ∧ win0_1.index (pt a b k) 1 = b.val)
    ∧ win0_2.index (pt a b k) 0 = a.val ∧ win0_2.index (pt a b k) 1 = b.val := by
  decide +kernel

/-- The layer's activation: the positive part, squared. -/
def sq (x : EReal) : EReal := max x 0 * max x 0

/-- The arrays the kernel's windows read: the activation, made on the host, the weight, and the layer's input. -/
theorem entry0 (c : Dev nD) (i : S2048x8192.Idx) : V m c main_v2 i = sq (m ((c : Thread nD τ).loc main_arg0) i) := by
  have h : V m c main_v2 = truncf (F := Ideal) .bf16 (mulf (F := Ideal) (maximumf (F := Ideal) (m ((c : Thread nD τ).loc main_arg0)) (broadcastInDim S2048x8192 ![] bcast_S_S2048x8192 (constant S_ .f32 0x00000000#32)))
      (maximumf (F := Ideal) (m ((c : Thread nD τ).loc main_arg0)) (broadcastInDim S2048x8192 ![] bcast_S_S2048x8192 (constant S_ .f32 0x00000000#32)))) bitsLt_bf16_f32 := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  generalize m ((c : Thread nD τ).loc main_arg0) = z
  unfold sq
  pointwise

theorem entry1 (c : Dev nD) (i : S8192x2048.Idx) : V m c main_v3 i = m ((c : Thread nD τ).loc main_arg1) i := by
  have h : V m c main_v3 = truncf (F := Ideal) .bf16 (m ((c : Thread nD τ).loc main_arg1)) bitsLt_bf16_f32 := by
    simp only [V, List.flatten_cons, List.flatten_nil, List.append_nil, List.cons_append, List.nil_append]; after_results
  rw [h]; rfl

/-- What a column of the width adds to the result. -/
def term (z : S2048x8192.Idx → EReal) (w : S8192x2048.Idx → EReal) (i : S2048x2048.Idx) (k : Fin 8192) : EReal :=
  sq (z (ix2 (i 0) k)) * w (ix2 k (i 1))

/-- The result: the layer's input and the product. -/
def down (z : S2048x8192.Idx → EReal) (w : S8192x2048.Idx → EReal) (h : S2048x2048.Idx → EReal) : S2048x2048.Idx → EReal :=
  fun i => h i + ∑ k : Fin 8192, term z w i k

abbrev downAt (c : Dev nD) : Buf (Elt Ideal) ((c : Thread nD τ).loc main_v4) :=
  down (m ((c : Thread nD τ).loc main_arg0)) (m ((c : Thread nD τ).loc main_arg1)) (m ((c : Thread nD τ).loc main_arg2))

/-- A tile of the width, in the arguments. -/
theorem tile_eq (c : Dev nD) (a b : Fin 2) (k : Fin 4) (p q : Fin 1024) (i : S2048x2048.Idx)
    (e0 : (i 0 : Nat) = a.val * 1024 + p) (e1 : (i 1 : Nat) = b.val * 1024 + q) :
    k0_pay1 (F := Ideal) (iblk m c 0 (pt a b k)) (iblk m c 1 (pt a b k)) (ix2 p q)
      = ∑ l : Fin 2048, term (m ((c : Thread nD τ).loc main_arg0)) (m ((c : Thread nD τ).loc main_arg1)) i
          ⟨k.val * 2048 + l.val, by omega⟩ := by
  obtain ⟨-, ⟨h1, h2⟩, ⟨h3, h4⟩, -⟩ := at_points a b k
  rw [pay_apply]
  refine Finset.sum_congr rfl fun l _ => congrArg₂ (· * ·) (Eq.trans ?_ (entry0 m c _)) (Eq.trans ?_ (entry1 m c _))
  · refine congrArg (V m c main_v2) (Shape.idx_ext₂ (x := (win0_0.rect (pt a b k)).emb (ix2 p l)) ?_ ?_)
    · rw [win0_0.rect_emb_val (pt a b k) (ix2 p l) 0, h1]; exact e0.symm
    · rw [win0_0.rect_emb_val (pt a b k) (ix2 p l) 1, h2]; rfl
  · refine congrArg (V m c main_v3) (Shape.idx_ext₂ (x := (win0_1.rect (pt a b k)).emb (ix2 l q)) ?_ ?_)
    · rw [win0_1.rect_emb_val (pt a b k) (ix2 l q) 0, h3]; rfl
    · rw [win0_1.rect_emb_val (pt a b k) (ix2 l q) 1, h4]; exact e1.symm

/-! ## The result -/

/-- What the last tile of a block leaves: the four tiles, added, and the layer's input. -/
theorem four_tiles (c : Dev nD) (a b : Fin 2) (j : S1024x1024.Idx) :
    (outsAt0 m c (pt a b 3).val (pt a b 3).isLt).1 j
      = (∑ k : Fin 4, k0_pay1 (F := Ideal) (iblk m c 0 (pt a b k)) (iblk m c 1 (pt a b k)) j) + iblk m c 2 (pt a b 3) j := by
  rw [Fin.sum_univ_four]
  have mod : ∀ k : Fin 4, (pt a b k).val % 4 = k.val := fun k => by
    show ((a.val * 2 + b.val) * 4 + k.val) % 4 = k.val; omega
  refine (out_last m c (pt a b 3) (mod 3) j).trans (congrArg (· + _) (congrArg (· + _) ?_))
  refine (scratch_next m c (pt a b 2) (by rw [mod]; decide) j).trans (congrArg (· + _) ?_)
  refine (scratch_next m c (pt a b 1) (by rw [mod]; decide) j).trans (congrArg (· + _) ?_)
  exact scratch_first m c (pt a b 0) (mod 0) j

/-- The point that writes a block back is the last of its four. -/
theorem last_of (t : Fin cfg0.N) (h : t.val % 4 = 3) : ∃ a b : Fin 2, t = pt a b 3 := by
  have hN : t.val < 16 := lt_of_lt_of_eq t.isLt N_0
  refine ⟨⟨t.val / 8, by omega⟩, ⟨t.val / 4 % 2, by omega⟩, Fin.ext ?_⟩
  show t.val = (t.val / 8 * 2 + t.val / 4 % 2) * 4 + 3
  omega

theorem flushed_eq (c : Dev nD) (t : Fin cfg0.N) (hf : (cfg0.win 3).flush t = true) :
    (dats m 0 c).flushed 3 t = (win0_3.blk t).view.read (Elt Ideal) (downAt m c) := by
  obtain ⟨a, b, rfl⟩ := last_of t ((flush0_3 t).mp hf)
  rw [Value.flushed3]
  obtain ⟨⟨h0, h1⟩, -, -, h5, h6⟩ := at_points a b 3
  funext y
  show (outsAt0 m c (pt a b 3).val (pt a b 3).isLt).1 y = downAt m c ((win0_3.rect (pt a b 3)).emb y)
  obtain ⟨p, q, rfl⟩ : ∃ p q : Fin 1024, y = ix2 p q := ⟨y 0, y 1, funext fun a => by fin_cases a <;> rfl⟩
  have e0 : ((win0_3.rect (pt a b 3)).emb (ix2 p q) 0 : Nat) = a.val * 1024 + p :=
    (win0_3.rect_emb_val (pt a b 3) (ix2 p q) 0).trans (by rw [h0]; rfl)
  have e1 : ((win0_3.rect (pt a b 3)).emb (ix2 p q) 1 : Nat) = b.val * 1024 + q :=
    (win0_3.rect_emb_val (pt a b 3) (ix2 p q) 1).trans (by rw [h1]; rfl)
  have e2 : iblk m c 2 (pt a b 3) (ix2 p q) = m ((c : Thread nD τ).loc main_arg2) ((win0_3.rect (pt a b 3)).emb (ix2 p q)) := by
    rw [← V_main_arg2 m c]
    refine congrArg (V m c main_arg2) (Shape.idx_ext₂ (x := (win0_2.rect (pt a b 3)).emb (ix2 p q)) ?_ ?_)
    · rw [win0_2.rect_emb_val (pt a b 3) (ix2 p q) 0, h5]; exact e0.symm
    · rw [win0_2.rect_emb_val (pt a b 3) (ix2 p q) 1, h6]; exact e1.symm
  rw [four_tiles]
  refine (add_comm _ _).trans (congrArg₂ (· + ·) e2 ?_)
  refine (Finset.sum_congr rfl fun k _ => tile_eq m c a b k p q _ e0 e1).trans ?_
  exact (Fin.sum_univ_tiles 4 2048 rfl (term (m ((c : Thread nD τ).loc main_arg0)) (m ((c : Thread nD τ).loc main_arg1)) _)).symm

/-- The kernel's result array after the run. -/
theorem final (c : Dev nD) : (dats m 0 c).arrAt 3 cfg0.N = downAt m c :=
  (dats m 0 c).arrAt_eq_of_cover 3 (downAt m c) (fun t hf => flushed_eq m c t hf) (fun i => (Value.covered_iff3 i).2 (by
    have h0 : (i 0).val < 2048 := (i 0).isLt
    have h1 : (i 1).val < 2048 := (i 1).isLt
    omega))

end Cert.Kernel7Ideal.Product

namespace Cert.Reference7Ideal.Product

open Cert.Reference7Ideal Cert.Reference7Ideal.Gen Cert.Reference7Ideal.Read Idealize.ShloMosaic Idealize.ShloMosaic.TcCoe Idealize.SL.Sem

theorem down_eq (z : S2048x8192.Idx → EReal) (w : S8192x2048.Idx → EReal) (h : S2048x2048.Idx → EReal) :
    val_main_v3 (F := Ideal) z w h = Cert.Kernel7Ideal.Product.down z w h := by
  funext i
  have hs : ∀ j, val_main_v1 (F := Ideal) z j = Cert.Kernel7Ideal.Product.sq (z j) := fun j => by
    simp only [val_main_v1_apply, val_main_v0_apply, val_main_call0_v0_apply, val_main_call0_cst_apply]
    simp only [pointwise]
    rfl
  have hl : ∀ k, lidx_main_v2 i k = ix2 (i 0) k := fun k => funext fun a => by fin_cases a <;> rfl
  have hr : ∀ k, ridx_main_v2 i k = ix2 k (i 1) := fun k => funext fun a => by fin_cases a <;> rfl
  simp only [val_main_v3_apply, val_main_v2_apply, hl, hr]
  exact congrArg (h i + ·) (Finset.sum_congr rfl fun k _ => congrArg (· * _) (hs _))

end Cert.Reference7Ideal.Product

namespace Cert.Proof.MlpDown

open Idealize.ShloMosaic Idealize.ShloMosaic.TcCoe Idealize.SL.Sem

/-- The kernel and the reference leave the same array. -/
theorem same : Cert.algebraic_Kernel7Ideal_Reference7Ideal := fun m g m' g' _ hag =>
  ⟨fun c => Cert.Kernel7Ideal.Product.downAt m c,
    (θ_run Cert.Kernel7Ideal.defs _ _).mono
      (fun _ h c => ⟨(h c).1.trans (Cert.Kernel7Ideal.Product.final m c), (h c).2⟩) (Cert.Kernel7Ideal.Value.run_blocks m g),
    (θ_run Cert.Reference7Ideal.defs _ _).mono
      (fun _ h c => ⟨(h c).1.trans (by
        rw [Cert.Reference7Ideal.Read.val_main_v3_eq, Cert.Reference7Ideal.Product.down_eq, (hag c).1, (hag c).2.1, (hag c).2.2]), (h c).2⟩)
      (Cert.Reference7Ideal.Value.run m' g')⟩

end Cert.Proof.MlpDown
-- ==== Proof.Padded.lean ====
/- A matrix of 6160 columns with 112 columns of zeros after them, as the host hands the attention layer's weight and gradient to
   the products, whose tiles are 896 columns wide. -/
module

public import proofs.«01_k».proof.Proof.Gen.Kernel8Ideal
public import Idealize.ShloMosaic.Lib.Pointwise

@[expose] public section

set_option maxRecDepth 16384

noncomputable section

namespace Cert.Proof.Padded

open Idealize.ShloMosaic Cert.Kernel8Ideal Cert.Kernel8Ideal.Gen

/-- The matrix with the columns of zeros. -/
def padded (w : S2048x6160.Idx → EReal) : S2048x6272.Idx → EReal := fun i =>
  if h : (i 1).val < 6160 then w (ix2 (i 0) ⟨(i 1).val, h⟩) else 0

theorem padded_of_lt (w : S2048x6160.Idx → EReal) (r : Fin 2048) (k : Fin 6160) :
    padded w (ix2 r ⟨k.val, by omega⟩) = w (ix2 r k) := dif_pos k.isLt

theorem padded_of_ge (w : S2048x6160.Idx → EReal) (i : S2048x6272.Idx) (h : 6160 ≤ (i 1).val) : padded w i = 0 :=
  dif_neg (by omega)

/-- The host's pad is that matrix. -/
theorem pad_eq (w : S2048x6160.Idx → EReal) (e : S_.Idx → EReal) (he : ∀ i, e i = 0)
    (h : S2048x6160.Pads ![0, 0] ![0, 112] ![0, 0] S2048x6272) (hu : 0 < S_.numel) :
    pad S2048x6272 ![0, 0] ![0, 112] ![0, 0] w e h hu = padded w := by
  funext i
  have i0 : (i 0).val < 2048 := (i 0).isLt
  unfold pad padded
  by_cases hk : (i 1).val < 6160
  · rw [dif_pos hk, dif_pos]
    · exact congrArg w (funext fun a => Fin.ext (by fin_cases a <;> exact (Nat.div_one _).trans (Nat.sub_zero _)))
    · intro a
      fin_cases a
      · exact ⟨Nat.zero_le _, Nat.mod_one _, (Nat.div_one _).trans_lt i0⟩
      · exact ⟨Nat.zero_le _, Nat.mod_one _, (Nat.div_one _).trans_lt hk⟩
  · rw [dif_neg hk, dif_neg, he]
    intro hin
    exact hk ((Nat.div_one _).symm.trans_lt (hin 1).2.2)

/-- The host's filling value. -/
theorem fill {t : FTy} : FloatOps.sitofp (F := Ideal) t (0#32) = (0 : EReal) := by
  show (((0#32 : BitVec 32).toInt : ℝ) : EReal) = 0
  simp

/-- A product with the columns of zeros is the product, with columns of zeros. -/
theorem padded_sum (a : Fin 2048 → Fin 2048 → EReal) (w : S2048x6160.Idx → EReal) (i : S2048x6272.Idx) :
    padded (fun j => ∑ k : Fin 2048, a (j 0) k * w (ix2 k (j 1))) i = ∑ k : Fin 2048, a (i 0) k * padded w (ix2 k (i 1)) := by
  by_cases h : (i 1).val < 6160
  · refine (dif_pos h).trans (Finset.sum_congr rfl fun k _ => congrArg (a (i 0) k * ·) ?_)
    exact (padded_of_lt w k ⟨(i 1).val, h⟩).symm
  · refine (dif_neg h).trans (Finset.sum_eq_zero fun k _ => ?_).symm
    exact (congrArg (a (i 0) k * ·) (padded_of_ge w (ix2 k (i 1)) (not_lt.mp h))).trans (mul_zero _)

/-- A sum over all columns whose terms vanish on the columns of zeros is the sum over the matrix's own. -/
theorem sum_eq (f : Fin 6272 → EReal) (h : ∀ k : Fin 6272, 6160 ≤ k.val → f k = 0) :
    ∑ k, f k = ∑ k : Fin 6160, f ⟨k.val, by omega⟩ := by
  rw [Fin.sum_univ_two_halves 6160 112 rfl, Finset.sum_eq_zero (s := (Finset.univ : Finset (Fin 112))), add_zero]
  exact fun k _ => h _ (Nat.le_add_right _ _)

end Cert.Proof.Padded
-- ==== Proof.GlaDhn.lean ====
/- The gradient reaching the gated linear attention's input from its first product: a product over the width of the projection, whose
   6160 columns are filled up with zeros to seven tiles of 896, added up in a scratch block. -/
module

public import proofs.«01_k».proof.Defs
public import proofs.«01_k».proof.Proof.Gen.Kernel8Ideal.Value
public import proofs.«01_k».proof.Proof.Gen.Reference8Ideal.Read
public import proofs.«01_k».proof.Proof.Padded
public import Idealize.ShloMosaic.Lib.Pipeline.ValueKit.Acc
public import Idealize.ShloMosaic.Lib.Pointwise

@[expose] public section

set_option maxRecDepth 16384

noncomputable section

namespace Cert.Kernel8Ideal.Product

open Cert.Kernel8Ideal Cert.Kernel8Ideal.Gen Idealize.ShloMosaic Idealize.ShloMosaic.TcCoe Idealize.SL.Sem
open Idealize.ShloMosaic.Pipeline (Dat)
open Cert.Proof.Padded

variable (m : (ℓ : Loc nD τ sig) → Buf (Elt Ideal) ℓ) (ρ : Dev nD → PrngReg)

/-! ## One tile of the width -/

/-- What one tile of the width adds at a row and a column. -/
theorem pay_apply (a b : S1024x896.Idx → EReal) (p q : Fin 1024) :
    k0_pay1 (F := Ideal) a b (ix2 p q) = ∑ k : Fin 896, a (ix2 p k) * b (ix2 q k) := by
  pointwise [k0_pay1]

theorem pay2_eq (a b : S1024x896.Idx → EReal) :
    k0_pay2 (F := Ideal) a b = k0_pay1 (F := Ideal) a b := by
  unfold k0_pay2; exact shapeCast_id _ _

theorem pay3_apply (a b : S1024x896.Idx → EReal) (s : S1024x1024.Idx → EReal) (j : S1024x1024.Idx) :
    k0_pay3 (F := Ideal) a b s j = s j + k0_pay1 (F := Ideal) a b j := by
  unfold k0_pay3; rw [shapeCast_id]; rfl

theorem pay4_apply (a b : S1024x896.Idx → EReal) (s : S1024x1024.Idx → EReal) (j : S1024x1024.Idx) :
    k0_pay4 (F := Ideal) a b s j = s j + k0_pay1 (F := Ideal) a b j := rfl

/-! ## What each point leaves -/

/-- At the first tile the scratch is stored. -/
theorem scratch_first (c : Dev nD) (t : Fin cfg0.N) (h : t.val % 7 = 0) (j : S1024x1024.Idx) :
    (outsAt0 m c t.val t.isLt).2 j = k0_pay1 (F := Ideal) (iblk m c 0 t) (iblk m c 1 t) j := by
  rw [outsAt0_A m c t h (by omega) (by omega)]
  frame_out
  rw [pay2_eq]

/-- At the next five it is added to. -/
theorem scratch_next (c : Dev nD) (t : Fin cfg0.N) (h : 1 ≤ t.val % 7 ∧ t.val % 7 ≤ 5) (j : S1024x1024.Idx) :
    (outsAt0 m c t.val t.isLt).2 j
      = (outsAt0 m c (t.val - 1) (Nat.lt_of_le_of_lt (Nat.sub_le _ _) t.isLt)).2 j
        + k0_pay1 (F := Ideal) (iblk m c 0 t) (iblk m c 1 t) j := by
  rw [outsAt0_B m c t (by omega) h (by omega)]
  frame_out
  rw [pay3_apply]
  refine congrArg₂ (· + ·) ?_ rfl
  exact congrFun ((Memref.isWhole_whole cc0_scratch0).read_unread _) j

/-- At the last the sum goes to the result's block. -/
theorem out_last (c : Dev nD) (t : Fin cfg0.N) (h : t.val % 7 = 6) (j : S1024x1024.Idx) :
    (outsAt0 m c t.val t.isLt).1 j
      = (outsAt0 m c (t.val - 1) (Nat.lt_of_le_of_lt (Nat.sub_le _ _) t.isLt)).2 j
        + k0_pay1 (F := Ideal) (iblk m c 0 t) (iblk m c 1 t) j := by
  rw [outsAt0_C m c t (by omega) (by omega) h]
  frame_out
  rw [pay4_apply]
  refine congrArg (· + _) ?_
  exact congrFun ((Memref.isWhole_whole cc0_scratch0).read_unread _) j

/-! ## The blocks and the arguments -/

/-- The point that stores tile `k` of the result's block `(a, b)`. -/
def pt (a b : Fin 2) (k : Fin 7) : Fin cfg0.N := ⟨(a.val * 2 + b.val) * 7 + k.val, lt_of_lt_of_eq (by omega) N_0.symm⟩

theorem at_points : ∀ (a b : Fin 2) (k : Fin 7),
    (win0_2.index (pt a b k) 0 = a.val ∧ win0_2.index (pt a b k) 1 = b.val)
    ∧ (win0_0.index (pt a b k) 0 = a.val ∧ win0_0.index (pt a b k) 1 = k.val)
    ∧ win0_1.index (pt a b k) 0 = b.val ∧ win0_1.index (pt a b k) 1 = k.val := by
  decide +kernel

/-- The arrays the kernel's windows read: the gradient at the projection and the weight, with their columns of zeros. -/
theorem entry0 (c : Dev nD) : V m c main_v3 = padded (m ((c : Thread nD τ).loc main_arg1)) := by
  have h : V m c main_v3 = truncf (F := Ideal) .bf16 (pad S2048x6272 ![0, 0] ![0, 112] ![0, 0] (m ((c : Thread nD τ).loc main_arg1))
      (sitofp (F := Ideal) .f32 (constantI S_ 32 0#32)) pads_S2048x6160_S2048x6272_000_01120 h_S_) bitsLt_bf16_f32 := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  exact pad_eq _ _ (fun _ => fill) pads_S2048x6160_S2048x6272_000_01120 h_S_

theorem entry1 (c : Dev nD) : V m c main_v1 = padded (m ((c : Thread nD τ).loc main_arg0)) := by
  have h : V m c main_v1 = truncf (F := Ideal) .bf16 (pad S2048x6272 ![0, 0] ![0, 112] ![0, 0] (m ((c : Thread nD τ).loc main_arg0))
      (sitofp (F := Ideal) .f32 (constantI S_ 32 0#32)) pads_S2048x6160_S2048x6272_000_01120 h_S_) bitsLt_bf16_f32 := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  exact pad_eq _ _ (fun _ => fill) pads_S2048x6160_S2048x6272_000_01120 h_S_

/-- What a column of the padded width adds to the result. -/
def term (w dp : S2048x6160.Idx → EReal) (i : S2048x2048.Idx) (k : Fin 6272) : EReal :=
  padded dp (ix2 (i 0) k) * padded w (ix2 (i 1) k)

/-- The result: the product over the 6160 columns. -/
def dhn (w dp : S2048x6160.Idx → EReal) : S2048x2048.Idx → EReal :=
  fun i => ∑ k : Fin 6160, dp (ix2 (i 0) k) * w (ix2 (i 1) k)

theorem sum_term (w dp : S2048x6160.Idx → EReal) (i : S2048x2048.Idx) : ∑ k, term w dp i k = dhn w dp i := by
  refine (sum_eq (term w dp i) fun k hk => (congrArg (· * _) (padded_of_ge dp _ hk)).trans (zero_mul _)).trans ?_
  exact Finset.sum_congr rfl fun k _ => congrArg₂ (· * ·) (padded_of_lt dp _ k) (padded_of_lt w _ k)

abbrev dhnAt (c : Dev nD) : Buf (Elt Ideal) ((c : Thread nD τ).loc main_v4) :=
  dhn (m ((c : Thread nD τ).loc main_arg0)) (m ((c : Thread nD τ).loc main_arg1))

/-- A tile of the width, in the arguments. -/
theorem tile_eq (c : Dev nD) (a b : Fin 2) (k : Fin 7) (p q : Fin 1024) (i : S2048x2048.Idx)
    (e0 : (i 0 : Nat) = a.val * 1024 + p) (e1 : (i 1 : Nat) = b.val * 1024 + q) :
    k0_pay1 (F := Ideal) (iblk m c 0 (pt a b k)) (iblk m c 1 (pt a b k)) (ix2 p q)
      = ∑ l : Fin 896, term (m ((c : Thread nD τ).loc main_arg0)) (m ((c : Thread nD τ).loc main_arg1)) i
          ⟨k.val * 896 + l.val, by omega⟩ := by
  obtain ⟨-, ⟨h1, h2⟩, h3, h4⟩ := at_points a b k
  rw [pay_apply]
  refine Finset.sum_congr rfl fun l _ => congrArg₂ (· * ·) (Eq.trans ?_ (congrFun (entry0 m c) _)) (Eq.trans ?_ (congrFun (entry1 m c) _))
  · refine congrArg (V m c main_v3) (Shape.idx_ext₂ (x := (win0_0.rect (pt a b k)).emb (ix2 p l)) ?_ ?_)
    · rw [win0_0.rect_emb_val (pt a b k) (ix2 p l) 0, h1]; exact e0.symm
    · rw [win0_0.rect_emb_val (pt a b k) (ix2 p l) 1, h2]; rfl
  · refine congrArg (V m c main_v1) (Shape.idx_ext₂ (x := (win0_1.rect (pt a b k)).emb (ix2 q l)) ?_ ?_)
    · rw [win0_1.rect_emb_val (pt a b k) (ix2 q l) 0, h3]; exact e1.symm
    · rw [win0_1.rect_emb_val (pt a b k) (ix2 q l) 1, h4]; rfl

/-! ## The result -/

theorem pt_mod (a b : Fin 2) (k : Fin 7) : (pt a b k).val % 7 = k.val := by
  show ((a.val * 2 + b.val) * 7 + k.val) % 7 = k.val; omega

/-- The scratch after a tile that is not the last: the tiles up to it, added. -/
theorem scratch_eq (c : Dev nD) (a b : Fin 2) (j : S1024x1024.Idx) : ∀ (n : ℕ) (hn : n < 6),
    (outsAt0 m c (pt a b ⟨n, by omega⟩).val (pt a b ⟨n, by omega⟩).isLt).2 j
      = ∑ k : Fin (n + 1), k0_pay1 (F := Ideal) (iblk m c 0 (pt a b ⟨k.val, by omega⟩)) (iblk m c 1 (pt a b ⟨k.val, by omega⟩)) j
  | 0, _ => by rw [Fin.sum_univ_one]; exact scratch_first m c _ (pt_mod a b 0) j
  | n + 1, hn => by
    rw [Fin.sum_univ_castSucc]
    refine (scratch_next m c _ ?_ j).trans (congrArg (· + _) (scratch_eq c a b j n (by omega)))
    rw [pt_mod]
    dsimp only
    omega

/-- What the last tile of a block leaves: the seven tiles, added. -/
theorem seven_tiles (c : Dev nD) (a b : Fin 2) (j : S1024x1024.Idx) :
    (outsAt0 m c (pt a b 6).val (pt a b 6).isLt).1 j
      = ∑ k : Fin 7, k0_pay1 (F := Ideal) (iblk m c 0 (pt a b k)) (iblk m c 1 (pt a b k)) j := by
  rw [Fin.sum_univ_castSucc]
  exact (out_last m c (pt a b 6) (pt_mod a b 6) j).trans (congrArg (· + _) (scratch_eq m c a b j 5 (by omega)))

/-- The point that writes a block back is the last of its seven. -/
theorem last_of (t : Fin cfg0.N) (h : t.val % 7 = 6) : ∃ a b : Fin 2, t = pt a b 6 := by
  have hN : t.val < 28 := lt_of_lt_of_eq t.isLt N_0
  refine ⟨⟨t.val / 14, by omega⟩, ⟨t.val / 7 % 2, by omega⟩, Fin.ext ?_⟩
  show t.val = (t.val / 14 * 2 + t.val / 7 % 2) * 7 + 6
  omega

theorem flushed_eq (c : Dev nD) (t : Fin cfg0.N) (hf : (cfg0.win 2).flush t = true) :
    (dats m 0 c).flushed 2 t = (win0_2.blk t).view.read (Elt Ideal) (dhnAt m c) := by
  obtain ⟨a, b, rfl⟩ := last_of t ((flush0_2 t).mp hf)
  rw [Value.flushed2]
  obtain ⟨⟨h0, h1⟩, -⟩ := at_points a b 6
  funext y
  show (outsAt0 m c (pt a b 6).val (pt a b 6).isLt).1 y = dhnAt m c ((win0_2.rect (pt a b 6)).emb y)
  obtain ⟨p, q, rfl⟩ : ∃ p q : Fin 1024, y = ix2 p q := ⟨y 0, y 1, funext fun a => by fin_cases a <;> rfl⟩
  have e0 : ((win0_2.rect (pt a b 6)).emb (ix2 p q) 0 : Nat) = a.val * 1024 + p :=
    (win0_2.rect_emb_val (pt a b 6) (ix2 p q) 0).trans (by rw [h0]; rfl)
  have e1 : ((win0_2.rect (pt a b 6)).emb (ix2 p q) 1 : Nat) = b.val * 1024 + q :=
    (win0_2.rect_emb_val (pt a b 6) (ix2 p q) 1).trans (by rw [h1]; rfl)
  rw [seven_tiles]
  refine (Finset.sum_congr rfl fun k _ => tile_eq m c a b k p q _ e0 e1).trans ?_
  exact (Fin.sum_univ_tiles 7 896 rfl (term (m ((c : Thread nD τ).loc main_arg0)) (m ((c : Thread nD τ).loc main_arg1)) _)).symm.trans
    (sum_term _ _ _)

/-- The kernel's result array after the run. -/
theorem final (c : Dev nD) : (dats m 0 c).arrAt 2 cfg0.N = dhnAt m c :=
  (dats m 0 c).arrAt_eq_of_cover 2 (dhnAt m c) (fun t hf => flushed_eq m c t hf) (fun i => (Value.covered_iff2 i).2 (by
    have h0 : (i 0).val < 2048 := (i 0).isLt
    have h1 : (i 1).val < 2048 := (i 1).isLt
    omega))

end Cert.Kernel8Ideal.Product

namespace Cert.Reference8Ideal.Product

open Cert.Reference8Ideal Cert.Reference8Ideal.Gen Cert.Reference8Ideal.Read Idealize.ShloMosaic Idealize.ShloMosaic.TcCoe Idealize.SL.Sem

theorem dhn_eq (w dp : S2048x6160.Idx → EReal) : val_main_v2 (F := Ideal) w dp = Cert.Kernel8Ideal.Product.dhn w dp := by
  funext i
  have hl : ∀ k, lidx_main_v2 i k = ix2 (i 0) k := fun k => funext fun a => by fin_cases a <;> rfl
  have hr : ∀ k, ridx_main_v2 i k = ix2 (i 1) k := fun k => funext fun a => by fin_cases a <;> rfl
  simp only [val_main_v2_apply, hl, hr]
  rfl

end Cert.Reference8Ideal.Product

namespace Cert.Proof.GlaDhn

open Idealize.ShloMosaic Idealize.ShloMosaic.TcCoe Idealize.SL.Sem

/-- The kernel and the reference leave the same array. -/
theorem same : Cert.algebraic_Kernel8Ideal_Reference8Ideal := fun m g m' g' _ hag =>
  ⟨fun c => Cert.Kernel8Ideal.Product.dhnAt m c,
    (θ_run Cert.Kernel8Ideal.defs _ _).mono
      (fun _ h c => ⟨(h c).1.trans (Cert.Kernel8Ideal.Product.final m c), (h c).2⟩) (Cert.Kernel8Ideal.Value.run_blocks m g),
    (θ_run Cert.Reference8Ideal.defs _ _).mono
      (fun _ h c => ⟨(h c).1.trans (by
        rw [Cert.Reference8Ideal.Read.val_main_v2_eq, Cert.Reference8Ideal.Product.dhn_eq, (hag c).1, (hag c).2]), (h c).2⟩)
      (Cert.Reference8Ideal.Value.run m' g')⟩

end Cert.Proof.GlaDhn
-- ==== Proof.GlaDwIn.lean ====
/- The gradient of the gated linear attention's first weight: the normed input against the gradient at the projection, whose 6160
   columns are filled up with zeros to seven tiles of 896. -/
module

public import proofs.«01_k».proof.Defs
public import proofs.«01_k».proof.Proof.Gen.Kernel9Ideal.Value
public import proofs.«01_k».proof.Proof.Gen.Reference9Ideal.Read
public import proofs.«01_k».proof.Proof.Padded
public import proofs.«01_k».proof.Proof.Dot

@[expose] public section

set_option maxRecDepth 16384

noncomputable section

namespace Cert.Kernel9Ideal.Product

open Cert.Kernel9Ideal Cert.Kernel9Ideal.Gen Idealize.ShloMosaic Idealize.ShloMosaic.TcCoe Idealize.SL.Sem
open Idealize.ShloMosaic.Pipeline (Dat)
open Cert.Proof.Padded

variable (m : (ℓ : Loc nD τ sig) → Buf (Elt Ideal) ℓ) (ρ : Dev nD → PrngReg)

/-- What a block's payload holds at a row and a column: columns of the two blocks, multiplied and summed. -/
theorem pay_apply (a : S2048x1024.Idx → EReal) (b : S2048x896.Idx → EReal) (p : Fin 1024) (q : Fin 896) :
    k0_pay1 (F := Ideal) a b (ix2 p q) = ∑ k : Fin 2048, a (ix2 k p) * b (ix2 k q) := by
  pointwise [k0_pay1]

theorem at_points : ∀ t : Fin cfg0.N, win0_0.index t = ![0, win0_2.index t 0] ∧ win0_1.index t = ![0, win0_2.index t 1] := by
  decide +kernel

/-- The arrays the kernel's windows read: the normed input, and the gradient with its columns of zeros. -/
theorem entry0 (c : Dev nD) : V m c main_v2 = m ((c : Thread nD τ).loc main_arg0) := by
  have h : V m c main_v2 = truncf (F := Ideal) .bf16 (m ((c : Thread nD τ).loc main_arg0)) bitsLt_bf16_f32 := by
    simp only [V, List.flatten_cons, List.flatten_nil, List.append_nil, List.cons_append, List.nil_append]; after_results
  rw [h]; rfl

theorem entry1 (c : Dev nD) : V m c main_v1 = padded (m ((c : Thread nD τ).loc main_arg1)) := by
  have h : V m c main_v1 = truncf (F := Ideal) .bf16 (pad S2048x6272 ![0, 0] ![0, 112] ![0, 0] (m ((c : Thread nD τ).loc main_arg1))
      (sitofp (F := Ideal) .f32 (constantI S_ 32 0#32)) pads_S2048x6160_S2048x6272_000_01120 h_S_) bitsLt_bf16_f32 := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  exact pad_eq _ _ (fun _ => fill) pads_S2048x6160_S2048x6272_000_01120 h_S_

/-- The gradient's array from the two arguments, with its columns of zeros. -/
def dw (hn : S2048x2048.Idx → EReal) (dp : S2048x6160.Idx → EReal) : S2048x6272.Idx → EReal :=
  padded fun j => ∑ k : Fin 2048, hn (ix2 k (j 0)) * dp (ix2 k (j 1))

abbrev dwAt (c : Dev nD) : Buf (Elt Ideal) ((c : Thread nD τ).loc main_v3) :=
  dw (m ((c : Thread nD τ).loc main_arg0)) (m ((c : Thread nD τ).loc main_arg1))

/-- The kernel's result array after the run. -/
theorem final (c : Dev nD) : (dats m 0 c).arrAt 2 cfg0.N = dwAt m c := by
  refine (dats m 0 c).arrAt_eq_of_covers 2 _ (by decide +kernel) fun t _ y => ?_
  blk_simp
  rw [after0_2]
  frame_out
  obtain ⟨h0, h1⟩ := at_points t
  obtain ⟨p, q, rfl⟩ : ∃ (p : Fin 1024) (q : Fin 896), y = ix2 p q := ⟨y 0, y 1, funext fun a => by fin_cases a <;> rfl⟩
  refine (pay_apply _ _ p q).trans (Eq.trans (Cert.Proof.dot_congr (fun k => ?_) fun k => ?_)
    (padded_sum (fun r k => m ((c : Thread nD τ).loc main_arg0) (ix2 k r)) _ _).symm)
  · blk_simp [iblk, entry0]
    refine congrArg _ ?_
    blk_ext [h0]
  · blk_simp [iblk]
    refine (congrFun (entry1 m c) _).trans (congrArg _ ?_)
    blk_ext [h1]

end Cert.Kernel9Ideal.Product

namespace Cert.Reference9Ideal.Product

open Cert.Reference9Ideal Cert.Reference9Ideal.Gen Cert.Reference9Ideal.Read Idealize.ShloMosaic Idealize.ShloMosaic.TcCoe Idealize.SL.Sem

theorem dw_eq (hn : S2048x2048.Idx → EReal) (dp : S2048x6160.Idx → EReal) :
    val_main_v5 (F := Ideal) hn dp = Cert.Kernel9Ideal.Product.dw hn dp := by
  refine (Cert.Proof.Padded.pad_eq _ _ (fun _ => Cert.Proof.Padded.fill) pads_S2048x6160_S2048x6272_000_01120 h_S_).trans
    (congrArg Cert.Proof.Padded.padded (funext fun i => ?_))
  have hl : ∀ k, lidx_main_v2 (idx_main_v3 i) k = ix2 k (i 1) := fun k => funext fun a => by fin_cases a <;> rfl
  have hr : ∀ k, ridx_main_v2 (idx_main_v3 i) k = ix2 k (i 0) := fun k => funext fun a => by fin_cases a <;> rfl
  simp only [val_main_v4_apply, val_main_v3_apply, val_main_v2_apply, hl, hr]
  simp only [pointwise]
  exact Finset.sum_congr rfl fun k _ => mul_comm _ _

end Cert.Reference9Ideal.Product

namespace Cert.Proof.GlaDwIn

open Idealize.ShloMosaic Idealize.ShloMosaic.TcCoe Idealize.SL.Sem

/-- The kernel and the reference leave the same array. -/
theorem same : Cert.algebraic_Kernel9Ideal_Reference9Ideal := fun m g m' g' _ hag =>
  ⟨fun c => Cert.Kernel9Ideal.Product.dwAt m c,
    (θ_run Cert.Kernel9Ideal.defs _ _).mono
      (fun _ h c => ⟨(h c).1.trans (Cert.Kernel9Ideal.Product.final m c), (h c).2⟩) (Cert.Kernel9Ideal.Value.run_blocks m g),
    (θ_run Cert.Reference9Ideal.defs _ _).mono
      (fun _ h c => ⟨(h c).1.trans (by
        rw [Cert.Reference9Ideal.Read.val_main_v5_eq, Cert.Reference9Ideal.Product.dw_eq, (hag c).1, (hag c).2]), (h c).2⟩)
      (Cert.Reference9Ideal.Value.run m' g')⟩

end Cert.Proof.GlaDwIn
-- ==== Proof.GlaProj.lean ====
/- The gated linear attention's projection: the normed input times the weight, whose 6160 columns are filled up with zeros to seven
   tiles of 896. -/
module

public import proofs.«01_k».proof.Defs
public import proofs.«01_k».proof.Proof.Gen.Kernel10Ideal.Value
public import proofs.«01_k».proof.Proof.Gen.Reference10Ideal.Read
public import proofs.«01_k».proof.Proof.Padded
public import proofs.«01_k».proof.Proof.Dot

@[expose] public section

set_option maxRecDepth 16384

noncomputable section

namespace Cert.Kernel10Ideal.Product

open Cert.Kernel10Ideal Cert.Kernel10Ideal.Gen Idealize.ShloMosaic Idealize.ShloMosaic.TcCoe Idealize.SL.Sem
open Idealize.ShloMosaic.Pipeline (Dat)
open Cert.Proof.Padded

variable (m : (ℓ : Loc nD τ sig) → Buf (Elt Ideal) ℓ) (ρ : Dev nD → PrngReg)

/-- What a block's payload holds at a row and a column: a row of the first block and a column of the second, multiplied and summed. -/
theorem pay_apply (a : S1024x2048.Idx → EReal) (b : S2048x896.Idx → EReal) (p : Fin 1024) (q : Fin 896) :
    k0_pay1 (F := Ideal) a b (ix2 p q) = ∑ k : Fin 2048, a (ix2 p k) * b (ix2 k q) := by
  pointwise [k0_pay1]

theorem at_points : ∀ t : Fin cfg0.N, win0_0.index t = ![win0_2.index t 0, 0] ∧ win0_1.index t = ![0, win0_2.index t 1] := by
  decide +kernel

/-- The arrays the kernel's windows read: the normed input, and the weight with its columns of zeros. -/
theorem entry0 (c : Dev nD) : V m c main_v2 = m ((c : Thread nD τ).loc main_arg0) := by
  have h : V m c main_v2 = truncf (F := Ideal) .bf16 (m ((c : Thread nD τ).loc main_arg0)) bitsLt_bf16_f32 := by
    simp only [V, List.flatten_cons, List.flatten_nil, List.append_nil, List.cons_append, List.nil_append]; after_results
  rw [h]; rfl

theorem entry1 (c : Dev nD) : V m c main_v1 = padded (m ((c : Thread nD τ).loc main_arg1)) := by
  have h : V m c main_v1 = truncf (F := Ideal) .bf16 (pad S2048x6272 ![0, 0] ![0, 112] ![0, 0] (m ((c : Thread nD τ).loc main_arg1))
      (sitofp (F := Ideal) .f32 (constantI S_ 32 0#32)) pads_S2048x6160_S2048x6272_000_01120 h_S_) bitsLt_bf16_f32 := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  exact pad_eq _ _ (fun _ => fill) pads_S2048x6160_S2048x6272_000_01120 h_S_

/-- The projection from the two arguments, with its columns of zeros. -/
def proj (hn : S2048x2048.Idx → EReal) (w : S2048x6160.Idx → EReal) : S2048x6272.Idx → EReal :=
  padded fun j => ∑ k : Fin 2048, hn (ix2 (j 0) k) * w (ix2 k (j 1))

abbrev projAt (c : Dev nD) : Buf (Elt Ideal) ((c : Thread nD τ).loc main_v3) :=
  proj (m ((c : Thread nD τ).loc main_arg0)) (m ((c : Thread nD τ).loc main_arg1))

/-- The kernel's result array after the run. -/
theorem final (c : Dev nD) : (dats m 0 c).arrAt 2 cfg0.N = projAt m c := by
  refine (dats m 0 c).arrAt_eq_of_covers 2 _ (by decide +kernel) fun t _ y => ?_
  blk_simp
  rw [after0_2]
  frame_out
  obtain ⟨h0, h1⟩ := at_points t
  obtain ⟨p, q, rfl⟩ : ∃ (p : Fin 1024) (q : Fin 896), y = ix2 p q := ⟨y 0, y 1, funext fun a => by fin_cases a <;> rfl⟩
  refine (pay_apply _ _ p q).trans (Eq.trans (Cert.Proof.dot_congr (fun k => ?_) fun k => ?_)
    (padded_sum (fun r k => m ((c : Thread nD τ).loc main_arg0) (ix2 r k)) _ _).symm)
  · blk_simp [iblk, entry0]
    refine congrArg _ ?_
    blk_ext [h0]
  · blk_simp [iblk]
    refine (congrFun (entry1 m c) _).trans (congrArg _ ?_)
    blk_ext [h1]

end Cert.Kernel10Ideal.Product

namespace Cert.Reference10Ideal.Product

open Cert.Reference10Ideal Cert.Reference10Ideal.Gen Cert.Reference10Ideal.Read Idealize.ShloMosaic Idealize.ShloMosaic.TcCoe Idealize.SL.Sem

theorem proj_eq (hn : S2048x2048.Idx → EReal) (w : S2048x6160.Idx → EReal) :
    val_main_v1 (F := Ideal) hn w = Cert.Kernel10Ideal.Product.proj hn w := by
  refine (Cert.Proof.Padded.pad_eq _ _ (fun _ => Cert.Proof.Padded.fill) pads_S2048x6160_S2048x6272_000_01120 h_S_).trans
    (congrArg Cert.Proof.Padded.padded (funext fun i => ?_))
  have hl : ∀ k, lidx_main_v0 i k = ix2 (i 0) k := fun k => funext fun a => by fin_cases a <;> rfl
  have hr : ∀ k, ridx_main_v0 i k = ix2 k (i 1) := fun k => funext fun a => by fin_cases a <;> rfl
  simp only [val_main_v0_apply, hl, hr]
  rfl

end Cert.Reference10Ideal.Product

namespace Cert.Proof.GlaProj

open Idealize.ShloMosaic Idealize.ShloMosaic.TcCoe Idealize.SL.Sem

/-- The kernel and the reference leave the same array. -/
theorem same : Cert.algebraic_Kernel10Ideal_Reference10Ideal := fun m g m' g' _ hag =>
  ⟨fun c => Cert.Kernel10Ideal.Product.projAt m c,
    (θ_run Cert.Kernel10Ideal.defs _ _).mono
      (fun _ h c => ⟨(h c).1.trans (Cert.Kernel10Ideal.Product.final m c), (h c).2⟩) (Cert.Kernel10Ideal.Value.run_blocks m g),
    (θ_run Cert.Reference10Ideal.defs _ _).mono
      (fun _ h c => ⟨(h c).1.trans (by
        rw [Cert.Reference10Ideal.Read.val_main_v1_eq, Cert.Reference10Ideal.Product.proj_eq, (hag c).1, (hag c).2]), (h c).2⟩)
      (Cert.Reference10Ideal.Value.run m' g')⟩

end Cert.Proof.GlaProj
-- ==== Proof.GlaOut.lean ====
/- The last product of the gated linear attention's layer, with the residual added, and its two gradients: at the mixer's output
   and of the weight. Each kernel's array is the reference's value, block by block. -/
module

public import proofs.«01_k».proof.Defs
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Reference12Ideal.Read
public import proofs.«01_k».proof.Proof.Gen.Reference13Ideal.Read
public import proofs.«01_k».proof.Proof.Gen.Reference14Ideal.Read
public import proofs.«01_k».proof.Proof.Dot

@[expose] public section

set_option maxRecDepth 16384

noncomputable section

open Idealize.ShloMosaic Idealize.ShloMosaic.TcCoe Idealize.SL.Sem

/-! ## The product with the residual -/

namespace Cert.Kernel12Ideal.Product

open Cert.Kernel12Ideal Cert.Kernel12Ideal.Gen

variable (m : (ℓ : Loc nD τ sig) → Buf (Elt Ideal) ℓ)

theorem pay_apply (a : S1024x2048.Idx → EReal) (b : S2048x1024.Idx → EReal) (r : S1024x1024.Idx → EReal) (p q : Fin 1024) :
    k0_pay1 (F := Ideal) a b r (ix2 p q) = (∑ k : Fin 2048, a (ix2 p k) * b (ix2 k q)) + r (ix2 p q) := by
  pointwise [k0_pay1]

theorem entry0 (c : Dev nD) : V m c main_v0 = m ((c : Thread nD τ).loc main_arg0) := by
  simp only [V, hostOps0]; after_results; rfl

theorem entry1 (c : Dev nD) : V m c main_v1 = m ((c : Thread nD τ).loc main_arg1) := by
  simp only [V, hostOps0]; after_results; rfl

theorem at_points : ∀ t : Fin cfg0.N, win0_0.index t = ![win0_3.index t 0, 0] ∧ win0_1.index t = ![0, win0_3.index t 1]
    ∧ win0_2.index t = ![win0_3.index t 0, win0_3.index t 1] := by
  decide +kernel

/-- The reference's value at the kernel's arguments. -/
abbrev valueAt (c : Dev nD) : Buf (Elt Ideal) ((c : Thread nD τ).loc main_v2) :=
  Cert.Reference12Ideal.Read.val_main_v1 (F := Ideal) (m ((c : Thread nD τ).loc main_arg0)) (m ((c : Thread nD τ).loc main_arg1))
    (m ((c : Thread nD τ).loc main_arg2))

theorem final (c : Dev nD) : (dats m 0 c).arrAt 3 cfg0.N = valueAt m c := by
  refine (dats m 0 c).arrAt_eq_of_covers 3 _ (by decide +kernel) fun t _ y => ?_
  blk_simp
  rw [after0_3]
  frame_out
  obtain ⟨h0, h1, h2⟩ := at_points t
  obtain ⟨p, q, rfl⟩ : ∃ p q : Fin 1024, y = ix2 p q := ⟨y 0, y 1, funext fun a => by fin_cases a <;> rfl⟩
  refine (pay_apply _ _ _ p q).trans ((add_comm _ _).trans (Eq.trans ?_ ((Cert.Reference12Ideal.Read.val_main_v1_apply (F := Ideal) _ _ _ _).trans
    (congrArg (_ + ·) (Cert.Reference12Ideal.Read.val_main_v0_apply _ _ _))).symm))
  refine congrArg₂ (· + ·) ?_ (Cert.Proof.dot_congr (fun k => ?_) fun k => ?_)
  · blk_simp [iblk, V_main_arg2]
    refine congrArg _ ?_
    blk_ext [h2]
  · blk_simp [iblk, entry0]
    refine congrArg _ ?_
    blk_ext [h0]
  · blk_simp [iblk, entry1]
    refine congrArg _ ?_
    blk_ext [h1]

end Cert.Kernel12Ideal.Product

/-! ## The gradient at the mixer's output -/

namespace Cert.Kernel13Ideal.Product

open Cert.Kernel13Ideal Cert.Kernel13Ideal.Gen

variable (m : (ℓ : Loc nD τ sig) → Buf (Elt Ideal) ℓ)

theorem pay_apply (a b : S1024x2048.Idx → EReal) (p q : Fin 1024) :
    k0_pay1 (F := Ideal) a b (ix2 p q) = ∑ k : Fin 2048, a (ix2 p k) * b (ix2 q k) := by
  pointwise [k0_pay1]

theorem entry0 (c : Dev nD) : V m c main_v0 = m ((c : Thread nD τ).loc main_arg1) := by
  simp only [V, hostOps0]; after_results; rfl

theorem entry1 (c : Dev nD) : V m c main_v1 = m ((c : Thread nD τ).loc main_arg0) := by
  simp only [V, hostOps0]; after_results; rfl

theorem at_points : ∀ t : Fin cfg0.N, win0_0.index t = ![win0_2.index t 0, 0] ∧ win0_1.index t = ![win0_2.index t 1, 0] := by
  decide +kernel

/-- The reference's value at the kernel's arguments. -/
abbrev valueAt (c : Dev nD) : Buf (Elt Ideal) ((c : Thread nD τ).loc main_v2) :=
  Cert.Reference13Ideal.Read.val_main_v2 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  blk_simp
  rw [after0_2]
  frame_out
  obtain ⟨h0, h1⟩ := at_points t
  obtain ⟨p, q, rfl⟩ : ∃ p q : Fin 1024, y = ix2 p q := ⟨y 0, y 1, funext fun a => by fin_cases a <;> rfl⟩
  refine (pay_apply _ _ p q).trans (Eq.trans (Cert.Proof.dot_congr (fun k => ?_) fun k => ?_)
    (Cert.Reference13Ideal.Read.val_main_v2_apply _ _ _).symm)
  · blk_simp [iblk, entry0]
    refine congrArg _ ?_
    blk_ext [h0]
  · blk_simp [iblk, entry1]
    refine congrArg _ ?_
    blk_ext [h1]

end Cert.Kernel13Ideal.Product

/-! ## The gradient of the weight -/

namespace Cert.Kernel14Ideal.Product

open Cert.Kernel14Ideal Cert.Kernel14Ideal.Gen

variable (m : (ℓ : Loc nD τ sig) → Buf (Elt Ideal) ℓ)

theorem pay_apply (a b : S2048x1024.Idx → EReal) (p q : Fin 1024) :
    k0_pay1 (F := Ideal) a b (ix2 p q) = ∑ k : Fin 2048, a (ix2 k p) * b (ix2 k q) := by
  pointwise [k0_pay1]

theorem entry0 (c : Dev nD) : V m c main_v0 = m ((c : Thread nD τ).loc main_arg0) := by
  simp only [V, hostOps0]; after_results; rfl

theorem entry1 (c : Dev nD) : V m c main_v1 = m ((c : Thread nD τ).loc main_arg1) := by
  simp only [V, hostOps0]; after_results; rfl

theorem at_points : ∀ t : Fin cfg0.N, win0_0.index t = ![0, win0_2.index t 0] ∧ win0_1.index t = ![0, win0_2.index t 1] := by
  decide +kernel

/-- The reference's value at the kernel's arguments. -/
abbrev valueAt (c : Dev nD) : Buf (Elt Ideal) ((c : Thread nD τ).loc main_v2) :=
  Cert.Reference14Ideal.Read.val_main_v4 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  blk_simp
  rw [after0_2]
  frame_out
  obtain ⟨h0, h1⟩ := at_points t
  obtain ⟨p, q, rfl⟩ : ∃ p q : Fin 1024, y = ix2 p q := ⟨y 0, y 1, funext fun a => by fin_cases a <;> rfl⟩
  refine (pay_apply _ _ p q).trans (Eq.trans (Cert.Proof.dot_swap (fun k => ?_) fun k => ?_)
    ((Cert.Reference14Ideal.Read.val_main_v3_apply _ _ _).trans (Cert.Reference14Ideal.Read.val_main_v2_apply _ _ _)).symm)
  · blk_simp [iblk, entry1]
    refine congrArg _ ?_
    blk_ext [h1]
  · blk_simp [iblk, entry0]
    refine congrArg _ ?_
    blk_ext [h0]

end Cert.Kernel14Ideal.Product

namespace Cert.Proof.GlaOut

/-- The product with the residual: kernel and reference leave the same array. -/
theorem same : Cert.algebraic_Kernel12Ideal_Reference12Ideal := fun m g m' g' _ hag =>
  ⟨fun c => Cert.Kernel12Ideal.Product.valueAt m c,
    (θ_run Cert.Kernel12Ideal.defs _ _).mono
      (fun _ h c => ⟨(h c).1.trans (Cert.Kernel12Ideal.Product.final m c), (h c).2⟩) (Cert.Kernel12Ideal.Value.run_blocks m g),
    (θ_run Cert.Reference12Ideal.defs _ _).mono
      (fun _ h c => ⟨(h c).1.trans (by rw [Cert.Reference12Ideal.Read.val_main_v1_eq, (hag c).1, (hag c).2.1, (hag c).2.2]), (h c).2⟩)
      (Cert.Reference12Ideal.Value.run m' g')⟩

/-- The gradient at the mixer's output. -/
theorem same_dy : Cert.algebraic_Kernel13Ideal_Reference13Ideal := fun m g m' g' _ hag =>
  ⟨fun c => Cert.Kernel13Ideal.Product.valueAt m c,
    (θ_run Cert.Kernel13Ideal.defs _ _).mono
      (fun _ h c => ⟨(h c).1.trans (Cert.Kernel13Ideal.Product.final m c), (h c).2⟩) (Cert.Kernel13Ideal.Value.run_blocks m g),
    (θ_run Cert.Reference13Ideal.defs _ _).mono
      (fun _ h c => ⟨(h c).1.trans (by rw [Cert.Reference13Ideal.Read.val_main_v2_eq, (hag c).1, (hag c).2]), (h c).2⟩)
      (Cert.Reference13Ideal.Value.run m' g')⟩

/-- The gradient of the weight. -/
theorem same_dw : Cert.algebraic_Kernel14Ideal_Reference14Ideal := fun m g m' g' _ hag =>
  ⟨fun c => Cert.Kernel14Ideal.Product.valueAt m c,
    (θ_run Cert.Kernel14Ideal.defs _ _).mono
      (fun _ h c => ⟨(h c).1.trans (Cert.Kernel14Ideal.Product.final m c), (h c).2⟩) (Cert.Kernel14Ideal.Value.run_blocks m g),
    (θ_run Cert.Reference14Ideal.defs _ _).mono
      (fun _ h c => ⟨(h c).1.trans (by rw [Cert.Reference14Ideal.Read.val_main_v4_eq, (hag c).1, (hag c).2]), (h c).2⟩)
      (Cert.Reference14Ideal.Value.run m' g')⟩

end Cert.Proof.GlaOut
-- ==== Proof.S5Products.lean ====
/- Products of the S5 layer with whole matrices: its first product, and the gradients of its first weight and at its input. Each
   kernel's array is the reference's value, block by block. -/
module

public import proofs.«01_k».proof.Defs
public import proofs.«01_k».proof.Proof.Gen.Kernel15Ideal.Value
public import proofs.«01_k».proof.Proof.Gen.Kernel18Ideal.Value
public import proofs.«01_k».proof.Proof.Gen.Kernel19Ideal.Value
public import proofs.«01_k».proof.Proof.Gen.Reference15Ideal.Read
public import proofs.«01_k».proof.Proof.Gen.Reference18Ideal.Read
public import proofs.«01_k».proof.Proof.Gen.Reference19Ideal.Read
public import proofs.«01_k».proof.Proof.Dot

@[expose] public section

set_option maxRecDepth 16384

noncomputable section

open Idealize.ShloMosaic Idealize.ShloMosaic.TcCoe Idealize.SL.Sem

/-! ## The first product -/

namespace Cert.Kernel15Ideal.Product

open Cert.Kernel15Ideal Cert.Kernel15Ideal.Gen

variable (m : (ℓ : Loc nD τ sig) → Buf (Elt Ideal) ℓ)

theorem pay_apply (a : S1024x2048.Idx → EReal) (b : S2048x1024.Idx → EReal) (p q : Fin 1024) :
    k0_pay1 (F := Ideal) a b (ix2 p q) = ∑ k : Fin 2048, a (ix2 p k) * b (ix2 k q) := by
  pointwise [k0_pay1]

theorem entry0 (c : Dev nD) : V m c main_v0 = m ((c : Thread nD τ).loc main_arg0) := by
  simp only [V, hostOps0]; after_results; rfl

theorem entry1 (c : Dev nD) : V m c main_v1 = m ((c : Thread nD τ).loc main_arg1) := by
  simp only [V, hostOps0]; after_results; rfl

theorem at_points : ∀ t : Fin cfg0.N, win0_0.index t = ![win0_2.index t 0, 0] ∧ win0_1.index t = ![0, win0_2.index t 1] := by
  decide +kernel

/-- The reference's value at the kernel's arguments. -/
abbrev valueAt (c : Dev nD) : Buf (Elt Ideal) ((c : Thread nD τ).loc main_v2) :=
  Cert.Reference15Ideal.Read.val_main_v0 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  blk_simp
  rw [after0_2]
  frame_out
  obtain ⟨h0, h1⟩ := at_points t
  obtain ⟨p, q, rfl⟩ : ∃ p q : Fin 1024, y = ix2 p q := ⟨y 0, y 1, funext fun a => by fin_cases a <;> rfl⟩
  refine (pay_apply _ _ p q).trans (Eq.trans (Cert.Proof.dot_congr (fun k => ?_) fun k => ?_)
    (Cert.Reference15Ideal.Read.val_main_v0_apply _ _ _).symm)
  · blk_simp [iblk, entry0]
    refine congrArg _ ?_
    blk_ext [h0]
  · blk_simp [iblk, entry1]
    refine congrArg _ ?_
    blk_ext [h1]

end Cert.Kernel15Ideal.Product

/-! ## The gradient of the first weight -/

namespace Cert.Kernel18Ideal.Product

open Cert.Kernel18Ideal Cert.Kernel18Ideal.Gen

variable (m : (ℓ : Loc nD τ sig) → Buf (Elt Ideal) ℓ)

theorem pay_apply (a b : S2048x1024.Idx → EReal) (p q : Fin 1024) :
    k0_pay1 (F := Ideal) a b (ix2 p q) = ∑ k : Fin 2048, a (ix2 k p) * b (ix2 k q) := by
  pointwise [k0_pay1]

theorem entry0 (c : Dev nD) : V m c main_v0 = m ((c : Thread nD τ).loc main_arg0) := by
  simp only [V, hostOps0]; after_results; rfl

theorem at_points : ∀ t : Fin cfg0.N, win0_0.index t = ![0, win0_2.index t 0] ∧ win0_1.index t = ![0, win0_2.index t 1] := by
  decide +kernel

/-- The reference's value at the kernel's arguments. -/
abbrev valueAt (c : Dev nD) : Buf (Elt Ideal) ((c : Thread nD τ).loc main_v1) :=
  Cert.Reference18Ideal.Read.val_main_v4 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  blk_simp
  rw [after0_2]
  frame_out
  obtain ⟨h0, h1⟩ := at_points t
  obtain ⟨p, q, rfl⟩ : ∃ p q : Fin 1024, y = ix2 p q := ⟨y 0, y 1, funext fun a => by fin_cases a <;> rfl⟩
  refine (pay_apply _ _ p q).trans (Eq.trans (Cert.Proof.dot_swap (fun k => ?_) fun k => ?_)
    ((Cert.Reference18Ideal.Read.val_main_v3_apply _ _ _).trans (Cert.Reference18Ideal.Read.val_main_v2_apply _ _ _)).symm)
  · blk_simp [iblk, V_main_arg1]
    refine congrArg _ ?_
    blk_ext [h1]
  · blk_simp [iblk, entry0]
    refine congrArg _ ?_
    blk_ext [h0]

end Cert.Kernel18Ideal.Product

/-! ## The gradient at the layer's input -/

namespace Cert.Kernel19Ideal.Product

open Cert.Kernel19Ideal Cert.Kernel19Ideal.Gen

variable (m : (ℓ : Loc nD τ sig) → Buf (Elt Ideal) ℓ)

theorem pay_apply (a b : S1024x1024.Idx → EReal) (p q : Fin 1024) :
    k0_pay1 (F := Ideal) a b (ix2 p q) = ∑ k : Fin 1024, a (ix2 p k) * b (ix2 q k) := by
  pointwise [k0_pay1]

theorem entry1 (c : Dev nD) : V m c main_v0 = m ((c : Thread nD τ).loc main_arg0) := by
  simp only [V, hostOps0]; after_results; rfl

theorem at_points : ∀ t : Fin cfg0.N, win0_0.index t = ![win0_2.index t 0, 0] ∧ win0_1.index t = ![win0_2.index t 1, 0] := by
  decide +kernel

/-- The reference's value at the kernel's arguments. -/
abbrev valueAt (c : Dev nD) : Buf (Elt Ideal) ((c : Thread nD τ).loc main_v1) :=
  Cert.Reference19Ideal.Read.val_main_v2 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  blk_simp
  rw [after0_2]
  frame_out
  obtain ⟨h0, h1⟩ := at_points t
  obtain ⟨p, q, rfl⟩ : ∃ p q : Fin 1024, y = ix2 p q := ⟨y 0, y 1, funext fun a => by fin_cases a <;> rfl⟩
  refine (pay_apply _ _ p q).trans (Eq.trans (Cert.Proof.dot_congr (fun k => ?_) fun k => ?_)
    (Cert.Reference19Ideal.Read.val_main_v2_apply _ _ _).symm)
  · blk_simp [iblk, V_main_arg1]
    refine congrArg _ ?_
    blk_ext [h0]
  · blk_simp [iblk, entry1]
    refine congrArg _ ?_
    blk_ext [h1]

end Cert.Kernel19Ideal.Product

namespace Cert.Proof.S5Products

/-- The first product: kernel and reference leave the same array. -/
theorem same : Cert.algebraic_Kernel15Ideal_Reference15Ideal := fun m g m' g' _ hag =>
  ⟨fun c => Cert.Kernel15Ideal.Product.valueAt m c,
    (θ_run Cert.Kernel15Ideal.defs _ _).mono
      (fun _ h c => ⟨(h c).1.trans (Cert.Kernel15Ideal.Product.final m c), (h c).2⟩) (Cert.Kernel15Ideal.Value.run_blocks m g),
    (θ_run Cert.Reference15Ideal.defs _ _).mono
      (fun _ h c => ⟨(h c).1.trans (by rw [Cert.Reference15Ideal.Read.val_main_v0_eq, (hag c).1, (hag c).2]), (h c).2⟩)
      (Cert.Reference15Ideal.Value.run m' g')⟩

/-- The gradient of the first weight. -/
theorem same_dw : Cert.algebraic_Kernel18Ideal_Reference18Ideal := fun m g m' g' _ hag =>
  ⟨fun c => Cert.Kernel18Ideal.Product.valueAt m c,
    (θ_run Cert.Kernel18Ideal.defs _ _).mono
      (fun _ h c => ⟨(h c).1.trans (Cert.Kernel18Ideal.Product.final m c), (h c).2⟩) (Cert.Kernel18Ideal.Value.run_blocks m g),
    (θ_run Cert.Reference18Ideal.defs _ _).mono
      (fun _ h c => ⟨(h c).1.trans (by rw [Cert.Reference18Ideal.Read.val_main_v4_eq, (hag c).1, (hag c).2]), (h c).2⟩)
      (Cert.Reference18Ideal.Value.run m' g')⟩

/-- The gradient at the layer's input. -/
theorem same_dhn : Cert.algebraic_Kernel19Ideal_Reference19Ideal := fun m g m' g' _ hag =>
  ⟨fun c => Cert.Kernel19Ideal.Product.valueAt m c,
    (θ_run Cert.Kernel19Ideal.defs _ _).mono
      (fun _ h c => ⟨(h c).1.trans (Cert.Kernel19Ideal.Product.final m c), (h c).2⟩) (Cert.Kernel19Ideal.Value.run_blocks m g),
    (θ_run Cert.Reference19Ideal.defs _ _).mono
      (fun _ h c => ⟨(h c).1.trans (by rw [Cert.Reference19Ideal.Read.val_main_v2_eq, (hag c).1, (hag c).2]), (h c).2⟩)
      (Cert.Reference19Ideal.Value.run m' g')⟩

end Cert.Proof.S5Products
-- ==== Proof.S5Slices.lean ====
/- Products of the S5 layer with its last weight, which the devices hold in eight column slices: the product with it, and its gradient. -/
module

public import proofs.«01_k».proof.Defs
public import proofs.«01_k».proof.Proof.Gen.Kernel16Ideal.Value
public import proofs.«01_k».proof.Proof.Gen.Kernel17Ideal.Value
public import proofs.«01_k».proof.Proof.Gen.Reference16Ideal.Read
public import proofs.«01_k».proof.Proof.Gen.Reference17Ideal.Read
public import proofs.«01_k».proof.Proof.Dot

@[expose] public section

set_option maxRecDepth 16384

noncomputable section

open Idealize.ShloMosaic Idealize.ShloMosaic.TcCoe Idealize.SL.Sem

/-! ## The product -/

namespace Cert.Kernel16Ideal.Product

open Cert.Kernel16Ideal Cert.Kernel16Ideal.Gen

variable (m : (ℓ : Loc nD τ sig) → Buf (Elt Ideal) ℓ)

theorem pay_apply (a : S1024x1024.Idx → EReal) (b : S1x1024x512.Idx → EReal) (p : Fin 1024) (q : Fin 512) :
    k0_pay1 (F := Ideal) a b (ix2 p q) = ∑ k : Fin 1024, a (ix2 p k) * b (ix3 0 k q) := by
  pointwise [k0_pay1]

theorem entry0 (c : Dev nD) : V m c main_v3 = m ((c : Thread nD τ).loc main_arg0) := by
  simp only [V, hostOps0]; after_results; rfl

/-- Slice `s` of the weight holds the columns from `512 s` on. -/
theorem entry1 (c : Dev nD) (s : Fin 8) (r : Fin 1024) (j : Fin 512) :
    V m c main_v2 (ix3 s r j) = m ((c : Thread nD τ).loc main_arg1) (ix2 r ⟨s.val * 512 + j.val, by omega⟩) := by
  have h : V m c main_v2 = truncf (F := Ideal) .bf16 (transpose S8x1024x512 [1, 0, 2]
      (shapeCast S1024x8x512 (m ((c : Thread nD τ).loc main_arg1)) shapeCasts_S1024x4096_S1024x8x512)
      transposes_S1024x8x512_S8x1024x512_1_0_2) bitsLt_bf16_f32 := by
    simp only [V, hostOps0]; after_results; rfl
  rw [h]
  generalize m ((c : Thread nD τ).loc main_arg1) = w
  pointwise

theorem at_points : ∀ t : Fin cfg0.N, win0_0.index t = ![win0_2.index t 0, 0] ∧ win0_1.index t = ![win0_2.index t 1, 0, 0]
    ∧ win0_2.index t 1 < 8 := by
  decide +kernel

/-- The reference's value at the kernel's arguments. -/
abbrev valueAt (c : Dev nD) : Buf (Elt Ideal) ((c : Thread nD τ).loc main_v4) :=
  Cert.Reference16Ideal.Read.val_main_v0 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  blk_simp
  rw [after0_2]
  frame_out
  obtain ⟨h0, h1, h2⟩ := at_points t
  obtain ⟨p, q, rfl⟩ : ∃ (p : Fin 1024) (q : Fin 512), y = ix2 p q := ⟨y 0, y 1, funext fun a => by fin_cases a <;> rfl⟩
  refine (pay_apply _ _ p q).trans (Eq.trans (Cert.Proof.dot_congr (fun k => ?_) fun k => ?_)
    (Cert.Reference16Ideal.Read.val_main_v0_apply _ _ _).symm)
  · blk_simp [iblk, entry0]
    refine congrArg _ ?_
    blk_ext [h0]
  · blk_simp [iblk]
    refine Eq.trans (congrArg (V m c main_v2) (?_ : _ = ix3 (⟨win0_2.index t 1, h2⟩ : Fin 8) k q))
      ((entry1 m c _ _ _).trans (congrArg _ ?_))
    · blk_ext [h1]
    · blk_ext [h1]

end Cert.Kernel16Ideal.Product

/-! ## The gradient of the weight, in slices -/

namespace Cert.Kernel17Ideal.Product

open Cert.Kernel17Ideal Cert.Kernel17Ideal.Gen

variable (m : (ℓ : Loc nD τ sig) → Buf (Elt Ideal) ℓ)

theorem pay_apply (a : S2048x1024.Idx → EReal) (b : S2048x512.Idx → EReal) (o : Fin 1) (p : Fin 1024) (q : Fin 512) :
    k0_pay1 (F := Ideal) a b (ix3 o p q) = ∑ k : Fin 2048, a (ix2 k p) * b (ix2 k q) := by
  pointwise [k0_pay1]

theorem entry0 (c : Dev nD) : V m c main_v0 = m ((c : Thread nD τ).loc main_arg0) := by
  simp only [V, hostOps0]; after_results; rfl

theorem entry1 (c : Dev nD) : V m c main_v1 = m ((c : Thread nD τ).loc main_arg1) := by
  simp only [V, hostOps0]; after_results; rfl

theorem at_points : ∀ t : Fin cfg0.N, win0_0.index t = ![0, 0] ∧ win0_1.index t = ![0, win0_2.index t 0]
    ∧ win0_2.index t 1 = 0 ∧ win0_2.index t 2 = 0 := by
  decide +kernel

/-- The reference's value at the kernel's arguments. -/
abbrev valueAt (c : Dev nD) : Buf (Elt Ideal) ((c : Thread nD τ).loc main_v2) :=
  Cert.Reference17Ideal.Read.val_main_v6 (F := Ideal) (m ((c : Thread nD τ).loc main_arg0)) (m ((c : Thread nD τ).loc main_arg1))

theorem value_apply (yg : S2048x1024.Idx → EReal) (dz : S2048x4096.Idx → EReal) (i : S8x1024x512.Idx) :
    Cert.Reference17Ideal.Read.val_main_v6 (F := Ideal) yg dz i
      = ∑ k : Fin 2048, dz (ix2 k (⟨(i 0).val * 512 + (i 2).val, by have h0 : (i 0).val < 8 := (i 0).isLt; have h2 : (i 2).val < 512 := (i 2).isLt; omega⟩ : Fin 4096))
          * yg (ix2 k (i 1)) := by
  have i0 : (i 0).val < 8 := (i 0).isLt
  have i1 : (i 1).val < 1024 := (i 1).isLt
  have i2 : (i 2).val < 512 := (i 2).isLt
  rw [Cert.Reference17Ideal.Read.val_main_v6_apply, Cert.Reference17Ideal.Read.val_main_v5_apply]
  refine ((Cert.Reference17Ideal.Read.val_main_v3_apply _ _ _).trans (Cert.Reference17Ideal.Read.val_main_v2_apply _ _ _)).trans
    (Cert.Proof.dot_congr (fun k => congrArg dz (Shape.idx_ext₂ rfl ?_)) fun k => congrArg yg (Shape.idx_ext₂ rfl ?_))
  · show (((i 1).val * 8 + (i 0).val) * 512 + (i 2).val) % 4096 = (i 0).val * 512 + (i 2).val
    omega
  · show (((i 1).val * 8 + (i 0).val) * 512 + (i 2).val) / 4096 = (i 1).val
    omega

theorem final (c : Dev nD) : (dats m 0 c).arrAt 2 cfg0.N = valueAt m c := by
  refine (dats m 0 c).arrAt_eq_of_covers 2 _ (by decide +kernel) fun t _ y => ?_
  blk_simp
  rw [after0_2]
  frame_out
  obtain ⟨h0, h1, h2, h3⟩ := at_points t
  obtain ⟨o, p, q, rfl⟩ : ∃ (o : Fin 1) (p : Fin 1024) (q : Fin 512), y = ix3 o p q := ⟨y 0, y 1, y 2, funext fun a => by fin_cases a <;> rfl⟩
  refine (pay_apply _ _ o p q).trans (Eq.trans (Cert.Proof.dot_swap (fun k => ?_) fun k => ?_) (value_apply _ _ _).symm)
  · blk_simp [iblk, entry1]
    refine congrArg _ ?_
    blk_ext [h1, h3]
  · blk_simp [iblk, entry0]
    refine congrArg _ ?_
    blk_ext [h0, h2]

end Cert.Kernel17Ideal.Product

namespace Cert.Proof.S5Slices

/-- The product: kernel and reference leave the same array. -/
theorem same : Cert.algebraic_Kernel16Ideal_Reference16Ideal := fun m g m' g' _ hag =>
  ⟨fun c => Cert.Kernel16Ideal.Product.valueAt m c,
    (θ_run Cert.Kernel16Ideal.defs _ _).mono
      (fun _ h c => ⟨(h c).1.trans (Cert.Kernel16Ideal.Product.final m c), (h c).2⟩) (Cert.Kernel16Ideal.Value.run_blocks m g),
    (θ_run Cert.Reference16Ideal.defs _ _).mono
      (fun _ h c => ⟨(h c).1.trans (by rw [Cert.Reference16Ideal.Read.val_main_v0_eq, (hag c).1, (hag c).2]), (h c).2⟩)
      (Cert.Reference16Ideal.Value.run m' g')⟩

/-- The gradient of the weight. -/
theorem same_dw : Cert.algebraic_Kernel17Ideal_Reference17Ideal := fun m g m' g' _ hag =>
  ⟨fun c => Cert.Kernel17Ideal.Product.valueAt m c,
    (θ_run Cert.Kernel17Ideal.defs _ _).mono
      (fun _ h c => ⟨(h c).1.trans (Cert.Kernel17Ideal.Product.final m c), (h c).2⟩) (Cert.Kernel17Ideal.Value.run_blocks m g),
    (θ_run Cert.Reference17Ideal.defs _ _).mono
      (fun _ h c => ⟨(h c).1.trans (by rw [Cert.Reference17Ideal.Read.val_main_v6_eq, (hag c).1, (hag c).2]), (h c).2⟩)
      (Cert.Reference17Ideal.Value.run m' g')⟩

end Cert.Proof.S5Slices
-- ==== Proof.S5Dyg.lean ====
/- The gradient reaching the S5 layer's gated value: a product over the whole output width, added up in a scratch block over two
   tiles of the width, each tile four of the eight slices that the devices hold of the weight. -/
module

public import proofs.«01_k».proof.Defs
public import proofs.«01_k».proof.Proof.Gen.Kernel20Ideal.Value
public import proofs.«01_k».proof.Proof.Gen.Reference20Ideal.Read
public import proofs.«01_k».proof.Proof.Dot

@[expose] public section

set_option maxRecDepth 16384

noncomputable section

open Idealize.ShloMosaic Idealize.ShloMosaic.TcCoe Idealize.SL.Sem

namespace Cert.Kernel20Ideal.Product

open Cert.Kernel20Ideal Cert.Kernel20Ideal.Gen

variable (m : (ℓ : Loc nD τ sig) → Buf (Elt Ideal) ℓ)

/-! ## One tile of the width -/

theorem pay_apply (a0 a1 a2 a3 : S1024x512.Idx → EReal) (b0 b1 b2 b3 : S1x1024x512.Idx → EReal) (p q : Fin 1024) :
    k0_pay3 (F := Ideal) a0 b0 a1 b1 a2 b2 a3 b3 (ix2 p q)
      = (∑ k : Fin 512, a0 (ix2 p k) * b0 (ix3 0 q k)) + (∑ k : Fin 512, a1 (ix2 p k) * b1 (ix3 0 q k))
        + (∑ k : Fin 512, a2 (ix2 p k) * b2 (ix3 0 q k)) + ∑ k : Fin 512, a3 (ix2 p k) * b3 (ix3 0 q k) := by
  pointwise [k0_pay3]

/-- The tile that the body adds, from the two blocks it is given. -/
def tile (x : S1024x2048.Idx → EReal) (w : S4x1024x512.Idx → EReal) : S1024x1024.Idx → EReal :=
  k0_pay3 (F := Ideal) (View.ld x (Rect.unit (s := S1024x2048) ![0, 0] S1024x512.size inb_S1024x2048_S1024x512_0_0))
    (View.ld w (Rect.unit (s := S4x1024x512) ![0, 0, 0] S1x1024x512.size inb_S4x1024x512_S1x1024x512_0_0_0))
    (View.ld x (Rect.unit (s := S1024x2048) ![0, 512] S1024x512.size inb_S1024x2048_S1024x512_0_512))
    (View.ld w (Rect.unit (s := S4x1024x512) ![1, 0, 0] S1x1024x512.size inb_S4x1024x512_S1x1024x512_1_0_0))
    (View.ld x (Rect.unit (s := S1024x2048) ![0, 1024] S1024x512.size inb_S1024x2048_S1024x512_0_1024))
    (View.ld w (Rect.unit (s := S4x1024x512) ![2, 0, 0] S1x1024x512.size inb_S4x1024x512_S1x1024x512_2_0_0))
    (View.ld x (Rect.unit (s := S1024x2048) ![0, 1536] S1024x512.size inb_S1024x2048_S1024x512_0_1536))
    (View.ld w (Rect.unit (s := S4x1024x512) ![3, 0, 0] S1x1024x512.size inb_S4x1024x512_S1x1024x512_3_0_0))

/-- The part of one slice: its columns of the one block, and the slice of the other. -/
theorem part (x : S1024x2048.Idx → EReal) (w : S4x1024x512.Idx → EReal) (s : Fin 4) (n d : ℕ) (hn : n = s.val * 512) (hd : d = s.val)
    (hx : ∀ a, (![0, n] : Fin 2 → ℕ) a + S1024x512.size a ≤ S1024x2048.size a)
    (hw : ∀ a, (![d, 0, 0] : Fin 3 → ℕ) a + S1x1024x512.size a ≤ S4x1024x512.size a) (p q : Fin 1024) :
    (∑ k : Fin 512, (View.ld (Val := Elt Ideal) (e' := .bf16) x (Rect.unit (s := S1024x2048) ![0, n] S1024x512.size hx) : S1024x512.Idx → EReal) (ix2 p k)
        * (View.ld (Val := Elt Ideal) (e' := .bf16) w (Rect.unit (s := S4x1024x512) ![d, 0, 0] S1x1024x512.size hw) : S1x1024x512.Idx → EReal) (ix3 0 q k))
      = ∑ k : Fin 512, x (ix2 p ⟨s.val * 512 + k.val, by omega⟩) * w (ix3 s q k) := by
  subst hn hd
  refine Cert.Proof.dot_congr (fun k => congrArg x (Shape.idx_ext₂ ?_ ?_)) fun k => congrArg w (funext fun a => Fin.ext ?_)
  · show 0 + 1 * p.val = p.val; omega
  · show s.val * 512 + 1 * k.val = s.val * 512 + k.val; omega
  · fin_cases a
    · show s.val + 1 * 0 = s.val; omega
    · show 0 + 1 * q.val = q.val; omega
    · show 0 + 1 * k.val = k.val; omega

theorem tile_apply (x : S1024x2048.Idx → EReal) (w : S4x1024x512.Idx → EReal) (p q : Fin 1024) :
    tile x w (ix2 p q) = ∑ s : Fin 4, ∑ k : Fin 512, x (ix2 p ⟨s.val * 512 + k.val, by omega⟩) * w (ix3 s q k) := by
  unfold tile
  rw [pay_apply, Fin.sum_univ_four]
  exact congrArg₂ (· + ·) (congrArg₂ (· + ·) (congrArg₂ (· + ·) (part x w 0 _ _ rfl rfl _ _ p q) (part x w 1 _ _ rfl rfl _ _ p q))
    (part x w 2 _ _ rfl rfl _ _ p q)) (part x w 3 _ _ rfl rfl _ _ p q)

/-! ## What each point leaves -/

/-- At the first tile the scratch is stored. -/
theorem scratch_first (c : Dev nD) (t : Fin cfg0.N) (h : t.val % 2 = 0) (j : S1024x1024.Idx) :
    (outsAt0 m c t.val t.isLt).2 j = tile (iblk m c 0 t) (iblk m c 1 t) j := by
  rw [outsAt0_A m c t h (by omega)]
  frame_out
  unfold k0_pay4
  rw [shapeCast_id]; rfl

/-- At the second the sum goes to the result's block. -/
theorem out_last (c : Dev nD) (t : Fin cfg0.N) (h : t.val % 2 = 1) (j : S1024x1024.Idx) :
    (outsAt0 m c t.val t.isLt).1 j
      = (outsAt0 m c (t.val - 1) (Nat.lt_of_le_of_lt (Nat.sub_le _ _) t.isLt)).2 j + tile (iblk m c 0 t) (iblk m c 1 t) j := by
  rw [outsAt0_B m c t (by omega) h]
  frame_out
  refine congrArg₂ (· + ·) ?_ rfl
  exact congrFun ((Memref.isWhole_whole cc0_scratch0).read_unread _) j

/-! ## The blocks and the arguments -/

/-- The point that stores tile `k` of the result's rows `a`. -/
def pt (a k : Fin 2) : Fin cfg0.N := ⟨a.val * 2 + k.val, lt_of_lt_of_eq (by omega) N_0.symm⟩

theorem at_points : ∀ a k : Fin 2, win0_2.index (pt a k) = ![a.val, 0] ∧ win0_0.index (pt a k) = ![a.val, k.val]
    ∧ win0_1.index (pt a k) = ![k.val, 0, 0] := by
  decide +kernel

theorem entry0 (c : Dev nD) : V m c main_v3 = m ((c : Thread nD τ).loc main_arg1) := by
  simp only [V, hostOps0]; after_results; rfl

/-- Slice `s` of the weight holds the columns from `512 s` on. -/
theorem entry1 (c : Dev nD) (s : Fin 8) (r : Fin 1024) (j : Fin 512) :
    V m c main_v2 (ix3 s r j) = m ((c : Thread nD τ).loc main_arg0) (ix2 r ⟨s.val * 512 + j.val, by omega⟩) := by
  have h : V m c main_v2 = truncf (F := Ideal) .bf16 (transpose S8x1024x512 [1, 0, 2]
      (shapeCast S1024x8x512 (m ((c : Thread nD τ).loc main_arg0)) shapeCasts_S1024x4096_S1024x8x512)
      transposes_S1024x8x512_S8x1024x512_1_0_2) bitsLt_bf16_f32 := by
    simp only [V, hostOps0]; after_results; rfl
  rw [h]
  generalize m ((c : Thread nD τ).loc main_arg0) = w
  pointwise

/-- What a column of the width adds to the result, from the two arguments: the weight and the gradient of the output. -/
def term (w : S1024x4096.Idx → EReal) (dz : S2048x4096.Idx → EReal) (i : S2048x1024.Idx) (k : Fin 4096) : EReal :=
  dz (ix2 (i 0) k) * w (ix2 (i 1) k)

/-- A tile of the width, in the arguments. -/
theorem tile_eq (c : Dev nD) (a k : Fin 2) (p q : Fin 1024) (i : S2048x1024.Idx)
    (e0 : (i 0 : Nat) = a.val * 1024 + p) (e1 : (i 1 : Nat) = q) :
    tile (iblk m c 0 (pt a k)) (iblk m c 1 (pt a k)) (ix2 p q)
      = ∑ l : Fin 2048, term (m ((c : Thread nD τ).loc main_arg0)) (m ((c : Thread nD τ).loc main_arg1)) i
          ⟨k.val * 2048 + l.val, by omega⟩ := by
  obtain ⟨-, h0, h1⟩ := at_points a k
  rw [tile_apply, Fin.sum_univ_tiles 4 512 rfl]
  refine Finset.sum_congr rfl fun s _ => Cert.Proof.dot_congr (fun l => ?_) fun l => ?_
  · blk_simp [iblk, entry0]
    refine congrArg _ ?_
    blk_ext [h0, e0]
  · blk_simp [iblk]
    refine Eq.trans (congrArg (V m c main_v2) (?_ : _ = ix3 (⟨k.val * 4 + s.val, by omega⟩ : Fin 8) q l))
      ((entry1 m c _ _ _).trans (congrArg _ ?_))
    · blk_ext [h1]
    · blk_ext [e1]

/-! ## The result -/

/-- The reference's value at the kernel's arguments. -/
abbrev valueAt (c : Dev nD) : Buf (Elt Ideal) ((c : Thread nD τ).loc main_v4) :=
  Cert.Reference20Ideal.Read.val_main_v2 (F := Ideal) (m ((c : Thread nD τ).loc main_arg0)) (m ((c : Thread nD τ).loc main_arg1))

/-- The reference's sum over the width, as two tiles. -/
theorem value_apply (w : S1024x4096.Idx → EReal) (dz : S2048x4096.Idx → EReal) (i : S2048x1024.Idx) :
    Cert.Reference20Ideal.Read.val_main_v2 (F := Ideal) w dz i
      = (∑ l : Fin 2048, term w dz i ⟨(0 : Fin 2).val * 2048 + l.val, by omega⟩)
        + ∑ l : Fin 2048, term w dz i ⟨(1 : Fin 2).val * 2048 + l.val, by omega⟩ := by
  have h : Cert.Reference20Ideal.Read.val_main_v2 (F := Ideal) w dz i = ∑ k : Fin 4096, term w dz i k :=
    (Cert.Reference20Ideal.Read.val_main_v2_apply _ _ _).trans (Cert.Proof.dot_congr (fun k => congrArg dz (Shape.idx_ext₂ rfl rfl))
      fun k => congrArg w (Shape.idx_ext₂ rfl rfl))
  rw [h, Fin.sum_univ_tiles 2 2048 rfl, Fin.sum_univ_two]

theorem flushed_eq (c : Dev nD) (t : Fin cfg0.N) (hf : (cfg0.win 2).flush t = true) :
    (dats m 0 c).flushed 2 t = (win0_2.blk t).view.read (Elt Ideal) (valueAt m c) := by
  have hm := (flush0_2 t).mp hf
  obtain ⟨a, rfl⟩ : ∃ a : Fin 2, t = pt a 1 := by
    have hN : t.val < 4 := lt_of_lt_of_eq t.isLt N_0
    refine ⟨⟨t.val / 2, by omega⟩, Fin.ext ?_⟩
    show t.val = t.val / 2 * 2 + 1
    omega
  obtain ⟨h0, -⟩ := at_points a 1
  rw [Value.flushed2]
  funext y
  show (outsAt0 m c (pt a 1).val (pt a 1).isLt).1 y = valueAt m c ((win0_2.rect (pt a 1)).emb y)
  obtain ⟨p, q, rfl⟩ : ∃ p q : Fin 1024, y = ix2 p q := ⟨y 0, y 1, funext fun a => by fin_cases a <;> rfl⟩
  have e0 : ((win0_2.rect (pt a 1)).emb (ix2 p q) 0 : Nat) = a.val * 1024 + p :=
    (win0_2.rect_emb_val (pt a 1) (ix2 p q) 0).trans (by rw [h0]; rfl)
  have e1 : ((win0_2.rect (pt a 1)).emb (ix2 p q) 1 : Nat) = q :=
    (win0_2.rect_emb_val (pt a 1) (ix2 p q) 1).trans (by rw [h0]; exact (congrArg (· + q.val) (Nat.zero_mul _)).trans (Nat.zero_add _))
  refine (out_last m c (pt a 1) hm _).trans (Eq.trans ?_ (value_apply _ _ _).symm)
  refine congrArg₂ (· + ·) ?_ (tile_eq m c a 1 p q _ e0 e1)
  exact (scratch_first m c (pt a 0) (by show (a.val * 2 + 0) % 2 = 0; omega) _).trans (tile_eq m c a 0 p q _ e0 e1)

/-- The kernel's result array after the run. -/
theorem final (c : Dev nD) : (dats m 0 c).arrAt 2 cfg0.N = valueAt m c :=
  (dats m 0 c).arrAt_eq_of_cover 2 (valueAt m c) (fun t hf => flushed_eq m c t hf) (fun i => (Value.covered_iff2 i).2 (by
    have h0 : (i 0).val < 2048 := (i 0).isLt
    have h1 : (i 1).val < 1024 := (i 1).isLt
    omega))

end Cert.Kernel20Ideal.Product

namespace Cert.Proof.S5Dyg

/-- The kernel and the reference leave the same array. -/
theorem same : Cert.algebraic_Kernel20Ideal_Reference20Ideal := fun m g m' g' _ hag =>
  ⟨fun c => Cert.Kernel20Ideal.Product.valueAt m c,
    (θ_run Cert.Kernel20Ideal.defs _ _).mono
      (fun _ h c => ⟨(h c).1.trans (Cert.Kernel20Ideal.Product.final m c), (h c).2⟩) (Cert.Kernel20Ideal.Value.run_blocks m g),
    (θ_run Cert.Reference20Ideal.defs _ _).mono
      (fun _ h c => ⟨(h c).1.trans (by rw [Cert.Reference20Ideal.Read.val_main_v2_eq, (hag c).1, (hag c).2]), (h c).2⟩)
      (Cert.Reference20Ideal.Value.run m' g')⟩

end Cert.Proof.S5Dyg
-- ==== Proof.S5Gate.lean ====
/- The gradient of the S5 layer's gate, at the two halves of the product it multiplies. -/
module

public import proofs.«01_k».proof.Defs
public import proofs.«01_k».proof.Proof.Gen.Kernel21Ideal.Value
public import proofs.«01_k».proof.Proof.Gen.Reference21Ideal.Read
public import proofs.«01_k».proof.Proof.Dot

@[expose] public section

set_option maxRecDepth 16384

noncomputable section

open Idealize.ShloMosaic Idealize.ShloMosaic.TcCoe Idealize.SL.Sem

namespace Cert.Kernel21Ideal.Gate

open Cert.Kernel21Ideal Cert.Kernel21Ideal.Gen

variable (m : (ℓ : Loc nD τ sig) → Buf (Elt Ideal) ℓ)

/-- The gradient at column `q`, from the row of the product and the row of the gradient of the gated value: at the value's half the
   sigmoid of the gate, at the gate's half the value times the sigmoid's derivative. -/
def grad (z : Fin 4096 → EReal) (d : Fin 2048 → EReal) (q : Fin 4096) : EReal :=
  if h : q.val < 2048 then d ⟨q.val, h⟩ * Ideal.logistic (z ⟨2048 + q.val, by omega⟩)
  else d ⟨q.val - 2048, by omega⟩ * z ⟨q.val - 2048, by omega⟩ * Ideal.logistic (z ⟨2048 + (q.val - 2048), by omega⟩)
    * (1 - Ideal.logistic (z ⟨2048 + (q.val - 2048), by omega⟩))

theorem pay_apply (z : S128x4096.Idx → EReal) (d : S128x2048.Idx → EReal) (p : Fin 128) (q : Fin 4096) :
    k0_pay1 (F := Ideal) z d (ix2 p q) = grad (fun k => z (ix2 p k)) (fun k => d (ix2 p k)) q := by
  unfold grad
  pointwise [k0_pay1]

theorem value_apply (z : S2048x4096.Idx → EReal) (d : S2048x2048.Idx → EReal) (p : Fin 2048) (q : Fin 4096) :
    Cert.Reference21Ideal.Read.val_main_v16 (F := Ideal) z d (ix2 p q) = grad (fun k => z (ix2 p k)) (fun k => d (ix2 p k)) q := by
  rw [← Cert.Reference21Ideal.Read.val_main_v16_eq]
  unfold grad Ideal.logistic
  pointwise
  by_cases h : q.val < 2048
  · rw [dif_pos h, dif_pos h]
  · rw [dif_neg h, dif_neg h, mul_comm (d _) (z _), mul_assoc (z _ * d _)]

theorem at_points : ∀ t : Fin cfg0.N, win0_0.index t = ![win0_2.index t 0, 0] ∧ win0_1.index t = ![win0_2.index t 0, 0]
    ∧ win0_2.index t 1 = 0 ∧ win0_2.index t 0 < 16 := by
  decide +kernel

/-- The reference's value at the kernel's arguments. -/
abbrev valueAt (c : Dev nD) : Buf (Elt Ideal) ((c : Thread nD τ).loc main_v0) :=
  Cert.Reference21Ideal.Read.val_main_v16 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  blk_simp
  rw [after0_2]
  frame_out
  obtain ⟨h0, h1, h2, h3⟩ := at_points t
  obtain ⟨p, q, rfl⟩ : ∃ (p : Fin 128) (q : Fin 4096), y = ix2 p q := ⟨y 0, y 1, funext fun a => by fin_cases a <;> rfl⟩
  refine (pay_apply _ _ p q).trans (Eq.trans ?_ ((congrArg (valueAt m c)
    (?_ : _ = ix2 (⟨win0_2.index t 0 * 128 + p.val, by omega⟩ : Fin 2048) q)).trans (value_apply _ _ _ _)).symm)
  · refine congrArg₂ (grad · · q) (funext fun k => ?_) (funext fun k => ?_)
    · blk_simp [iblk, V_main_arg0]
      refine congrArg _ ?_
      blk_ext [h0]
    · blk_simp [iblk, V_main_arg1]
      refine congrArg _ ?_
      blk_ext [h1]
  · blk_ext [h2]

end Cert.Kernel21Ideal.Gate

namespace Cert.Proof.S5Gate

/-- The kernel and the reference leave the same array. -/
theorem same : Cert.algebraic_Kernel21Ideal_Reference21Ideal := fun m g m' g' _ hag =>
  ⟨fun c => Cert.Kernel21Ideal.Gate.valueAt m c,
    (θ_run Cert.Kernel21Ideal.defs _ _).mono
      (fun _ h c => ⟨(h c).1.trans (Cert.Kernel21Ideal.Gate.final m c), (h c).2⟩) (Cert.Kernel21Ideal.Value.run_blocks m g),
    (θ_run Cert.Reference21Ideal.defs _ _).mono
      (fun _ h c => ⟨(h c).1.trans (by rw [Cert.Reference21Ideal.Read.val_main_v16_eq, (hag c).1, (hag c).2]), (h c).2⟩)
      (Cert.Reference21Ideal.Value.run m' g')⟩

end Cert.Proof.S5Gate
-- ==== Proof.S5Diag.lean ====
/- The gradient of the S5 layer's input matrix: one small product per group of channels. The kernel multiplies sixteen groups at once,
   adds the product up in a scratch block over two tiles of the rows, keeps the blocks on the diagonal and folds them together. -/
module

public import proofs.«01_k».proof.Defs
public import proofs.«01_k».proof.Proof.Gen.Kernel22Ideal.Value
public import proofs.«01_k».proof.Proof.Gen.Reference22Ideal.Read
public import proofs.«01_k».proof.Proof.Dot

@[expose] public section

set_option maxRecDepth 16384

noncomputable section

open Idealize.ShloMosaic Idealize.ShloMosaic.TcCoe Idealize.SL.Sem

namespace Cert.Kernel22Ideal.Product

open Cert.Kernel22Ideal Cert.Kernel22Ideal.Gen

variable (m : (ℓ : Loc nD τ sig) → Buf (Elt Ideal) ℓ)

theorem pay_apply (a : S1024x256.Idx → EReal) (b : S1024x1024.Idx → EReal) (p : Fin 256) (q : Fin 1024) :
    k0_pay1 (F := Ideal) a b (ix2 p q) = ∑ k : Fin 1024, a (ix2 k p) * b (ix2 k q) := by
  pointwise [k0_pay1]

/-! ## The blocks kept, and the fold -/

/-- The quotient as it is printed, rounded down. -/
def quo (d x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The remainder as it is printed. -/
def rest (d x : BitVec 32) : BitVec 32 :=
  Scalar.select (IntOp.andi (IntOp.xori (IntOp.cmpi .slt (IntOp.remsi .vector x d) 0#32) (Scalar.cmpi .slt d 0#32))
      (IntOp.cmpi .ne (IntOp.remsi .vector x d) 0#32))
    (IntOp.addi (IntOp.remsi .vector x d) d) (IntOp.remsi .vector x d)

theorem quo_row : ∀ r : Fin 256, quo 16#32 (BitVec.ofNat 32 r.val) = BitVec.ofNat 32 (r.val / 16) := by decide +kernel

theorem quo_col : ∀ n : Fin 1024, quo 64#32 (BitVec.ofNat 32 n.val) = BitVec.ofNat 32 (n.val / 64) := by decide +kernel

theorem rest_col : ∀ n : Fin 1024, rest 64#32 (BitVec.ofNat 32 n.val) = BitVec.ofNat 32 (n.val % 64) := by decide +kernel

/-- Small numbers are equal when their words are. -/
theorem select_word {α : Type} (a b : ℕ) (ha : a < 1024) (hb : b < 1024) (x y : α) :
    Scalar.select (IntOp.cmpi .eq (BitVec.ofNat 32 a) (BitVec.ofNat 32 b)) x y = if a = b then x else y := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases e : a = b
  · subst e
    rw [if_pos rfl]
    exact if_pos (by simp [IntOp.cmpi])
  · rw [if_neg e]
    have h' : (BitVec.ofNat 32 a == BitVec.ofNat 32 b) = false := beq_eq_false_iff_ne.mpr fun w => e (h.1 w)
    exact if_neg (by simp [IntOp.cmpi, h'])

/-- The element that the fold reads: of row `r` the block of the row's own group. -/
theorem fold_apply (v : S256x1024.Idx → EReal) (r : Fin 256) (b : Fin 64) :
    k0_pay4 (F := Ideal) v k0_pay6 k0_pay7 k0_pay8 k0_pay9 (ix3 0 r b) = v (ix2 r ⟨r.val / 16 * 64 + b.val, by omega⟩) := by
  have h : k0_pay4 (F := Ideal) v k0_pay6 k0_pay7 k0_pay8 k0_pay9 (ix3 0 r b)
      = ∑ n : Fin 1024, Scalar.select (IntOp.cmpi .eq (rest 64#32 (BitVec.ofNat 32 n.val)) (BitVec.ofNat 32 b.val))
          (Scalar.select (IntOp.cmpi .eq (quo 16#32 (BitVec.ofNat 32 r.val)) (quo 64#32 (BitVec.ofNat 32 n.val))) (v (ix2 r n)) 0) 0 := by
    pointwise [k0_pay4, k0_pay6, k0_pay7, k0_pay8, k0_pay9]
    rfl
  rw [h, Finset.sum_eq_single ⟨r.val / 16 * 64 + b.val, by omega⟩]
  · rw [rest_col, quo_row, quo_col, select_word _ _ (by omega) (by omega), select_word _ _ (by omega) (by omega), if_pos (by show (r.val / 16 * 64 + b.val) % 64 = b.val; omega),
      if_pos (by show r.val / 16 = (r.val / 16 * 64 + b.val) / 64; omega)]
  · intro n _ hn
    rw [rest_col, quo_row, quo_col, select_word _ _ (by omega) (by omega), select_word _ _ (by omega) (by omega)]
    by_cases h1 : n.val % 64 = b.val
    · rw [if_pos h1, if_neg fun h2 => hn (Fin.ext (by show n.val = r.val / 16 * 64 + b.val; omega))]
    · rw [if_neg h1]
  · exact fun hn => absurd (Finset.mem_univ _) hn

/-! ## What each point leaves -/

/-- At the first tile the scratch is stored. -/
theorem scratch_first (c : Dev nD) (t : Fin cfg0.N) (h : t.val % 2 = 0) (j : S256x1024.Idx) :
    (outsAt0 m c t.val t.isLt).2 j = k0_pay1 (iblk m c 0 t) (iblk m c 1 t) j := by
  rw [outsAt0_A m c t h (by omega)]
  frame_out
  unfold k0_pay2
  rw [shapeCast_id]

/-- At the second the sum is folded into the result's block. -/
theorem out_last (c : Dev nD) (t : Fin cfg0.N) (h : t.val % 2 = 1) (r : Fin 256) (b : Fin 64) :
    (outsAt0 m c t.val t.isLt).1 (ix3 0 r b)
      = (outsAt0 m c (t.val - 1) (Nat.lt_of_le_of_lt (Nat.sub_le _ _) t.isLt)).2 (ix2 r ⟨r.val / 16 * 64 + b.val, by omega⟩)
        + k0_pay1 (iblk m c 0 t) (iblk m c 1 t) (ix2 r ⟨r.val / 16 * 64 + b.val, by omega⟩) := by
  rw [outsAt0_B m c t (by omega) h]
  frame_out
  refine (fold_apply _ r b).trans (congrArg₂ (· + ·) ?_ rfl)
  exact congrFun ((Memref.isWhole_whole cc0_scratch0).read_unread _) _

/-! ## The blocks and the arguments -/

/-- The point that adds the rows' tile `k` to the result's block `i`. -/
def pt (i : Fin 4) (k : Fin 2) : Fin cfg0.N := ⟨i.val * 2 + k.val, lt_of_lt_of_eq (by omega) N_0.symm⟩

theorem at_points : ∀ (i : Fin 4) (k : Fin 2), win0_2.index (pt i k) = ![i.val, 0, 0] ∧ win0_0.index (pt i k) = ![k.val, i.val]
    ∧ win0_1.index (pt i k) = ![k.val, i.val] := by
  decide +kernel

/-- What a row adds to the result's element at block `i`, channel `r` and state `b`. -/
def term (u : S2048x1024.Idx → EReal) (l : S2048x4096.Idx → EReal) (i : Fin 4) (r : Fin 256) (b : Fin 64) (k : Fin 2048) : EReal :=
  u (ix2 k ⟨i.val * 256 + r.val, by omega⟩) * l (ix2 k ⟨i.val * 1024 + (r.val / 16 * 64 + b.val), by omega⟩)

/-- A tile of the rows, in the arguments. -/
theorem tile_eq (c : Dev nD) (i : Fin 4) (k : Fin 2) (r : Fin 256) (b : Fin 64) :
    k0_pay1 (F := Ideal) (iblk m c 0 (pt i k)) (iblk m c 1 (pt i k)) (ix2 r ⟨r.val / 16 * 64 + b.val, by omega⟩)
      = ∑ l : Fin 1024, term (m ((c : Thread nD τ).loc main_arg0)) (m ((c : Thread nD τ).loc main_arg1)) i r b
          ⟨k.val * 1024 + l.val, by omega⟩ := by
  obtain ⟨-, h0, h1⟩ := at_points i k
  refine (pay_apply _ _ _ _).trans (Cert.Proof.dot_congr (fun l => ?_) fun l => ?_)
  · blk_simp [iblk, V_main_arg0]
    refine congrArg _ ?_
    blk_ext [h0]
  · blk_simp [iblk, V_main_arg1]
    refine congrArg _ ?_
    blk_ext [h1]

/-! ## The result -/

/-- The reference's value at the kernel's arguments. -/
abbrev valueAt (c : Dev nD) : Buf (Elt Ideal) ((c : Thread nD τ).loc main_v0) :=
  Cert.Reference22Ideal.Read.val_main_v8 (F := Ideal) (m ((c : Thread nD τ).loc main_arg0)) (m ((c : Thread nD τ).loc main_arg1))

/-- The reference's sum over the rows, as two tiles. -/
theorem value_apply (u : S2048x1024.Idx → EReal) (l : S2048x4096.Idx → EReal) (i : Fin 4) (r : Fin 256) (b : Fin 64) :
    Cert.Reference22Ideal.Read.val_main_v8 (F := Ideal) u l (ix3 i r b)
      = (∑ k : Fin 1024, term u l i r b ⟨(0 : Fin 2).val * 1024 + k.val, by omega⟩)
        + ∑ k : Fin 1024, term u l i r b ⟨(1 : Fin 2).val * 1024 + k.val, by omega⟩ := by
  have h : Cert.Reference22Ideal.Read.val_main_v8 (F := Ideal) u l (ix3 i r b) = ∑ k : Fin 2048, term u l i r b k := by
    rw [← Cert.Reference22Ideal.Read.val_main_v8_eq]
    pointwise
    refine Cert.Proof.dot_swap (fun k => congrArg u (Shape.idx_ext₂ rfl ?_)) fun k => congrArg l (Shape.idx_ext₂ rfl ?_)
    · show (i.val * 16 + r.val / 16) * 16 + r.val % 16 = i.val * 256 + r.val; omega
    · show (i.val * 16 + r.val / 16) * 64 + b.val = i.val * 1024 + (r.val / 16 * 64 + b.val); omega
  rw [h, Fin.sum_univ_tiles 2 1024 rfl, Fin.sum_univ_two]

theorem flushed_eq (c : Dev nD) (t : Fin cfg0.N) (hf : (cfg0.win 2).flush t = true) :
    (dats m 0 c).flushed 2 t = (win0_2.blk t).view.read (Elt Ideal) (valueAt m c) := by
  have hm := (flush0_2 t).mp hf
  obtain ⟨i, rfl⟩ : ∃ i : Fin 4, t = pt i 1 := by
    have hN : t.val < 8 := lt_of_lt_of_eq t.isLt N_0
    refine ⟨⟨t.val / 2, by omega⟩, Fin.ext ?_⟩
    show t.val = t.val / 2 * 2 + 1
    omega
  obtain ⟨h0, -⟩ := at_points i 1
  rw [Value.flushed2]
  funext y
  show (outsAt0 m c (pt i 1).val (pt i 1).isLt).1 y = valueAt m c ((win0_2.rect (pt i 1)).emb y)
  obtain ⟨r, b, rfl⟩ : ∃ (r : Fin 256) (b : Fin 64), y = ix3 0 r b :=
    ⟨y 1, y 2, funext fun a => by fin_cases a <;> first | rfl | exact Fin.ext (by have h : (y 0).val < 1 := (y 0).isLt; show (y 0).val = 0; omega)⟩
  have e : (win0_2.rect (pt i 1)).emb (ix3 0 r b) = ix3 i r b := by
    funext a
    refine Fin.ext ((win0_2.rect_emb_val (pt i 1) (ix3 0 r b) a).trans ?_)
    rw [h0]
    fin_cases a
    · show i.val * 1 + 0 = i.val; omega
    · show 0 * 256 + r.val = r.val; omega
    · show 0 * 64 + b.val = b.val; omega
  refine (out_last m c (pt i 1) hm r b).trans (Eq.trans ?_ ((congrArg (valueAt m c) e).trans (value_apply _ _ _ _ _)).symm)
  refine congrArg₂ (· + ·) ?_ (tile_eq m c i 1 r b)
  exact (scratch_first m c (pt i 0) (by show (i.val * 2 + 0) % 2 = 0; omega) _).trans (tile_eq m c i 0 r b)

/-- The kernel's result array after the run. -/
theorem final (c : Dev nD) : (dats m 0 c).arrAt 2 cfg0.N = valueAt m c :=
  (dats m 0 c).arrAt_eq_of_cover 2 (valueAt m c) (fun t hf => flushed_eq m c t hf) (fun i => (Value.covered_iff2 i).2 (by
    have h0 : (i 0).val < 4 := (i 0).isLt
    have h1 : (i 1).val < 256 := (i 1).isLt
    have h2 : (i 2).val < 64 := (i 2).isLt
    omega))

end Cert.Kernel22Ideal.Product

namespace Cert.Proof.S5Diag

/-- The kernel and the reference leave the same array. -/
theorem same : Cert.algebraic_Kernel22Ideal_Reference22Ideal := fun m g m' g' _ hag =>
  ⟨fun c => Cert.Kernel22Ideal.Product.valueAt m c,
    (θ_run Cert.Kernel22Ideal.defs _ _).mono
      (fun _ h c => ⟨(h c).1.trans (Cert.Kernel22Ideal.Product.final m c), (h c).2⟩) (Cert.Kernel22Ideal.Value.run_blocks m g),
    (θ_run Cert.Reference22Ideal.defs _ _).mono
      (fun _ h c => ⟨(h c).1.trans (by rw [Cert.Reference22Ideal.Read.val_main_v8_eq, (hag c).1, (hag c).2]), (h c).2⟩)
      (Cert.Reference22Ideal.Value.run m' g')⟩

end Cert.Proof.S5Diag
-- ==== Proof.NormBwd.lean ====
/- The gradient of the root-mean-square norm: at its input, in two formats, and of its scale, added up over eight tiles of the rows. -/
module

public import proofs.«01_k».proof.Defs
public import proofs.«01_k».proof.Proof.Gen.Kernel23Ideal.Value
public import proofs.«01_k».proof.Proof.Gen.Reference23Ideal.Read
public import proofs.«01_k».proof.Proof.Dot

@[expose] public section

set_option maxRecDepth 16384

noncomputable section

open Idealize.ShloMosaic Idealize.ShloMosaic.TcCoe Idealize.SL.Sem

namespace Cert.Kernel23Ideal.Norm

/-! ## One row -/

theorem width : Ideal.ofBits .f32 0x45000000#32 = ((2048 : ℝ) : EReal) := by
  simp [Ideal.ofBits, Ideal.ieee]; rw [← EReal.coe_mul]; norm_num

theorem half : Ideal.ofBits .f32 0xBF000000#32 = ((-(1 / 2) : ℝ) : EReal) := by
  simp [Ideal.ofBits, Ideal.ieee]; rw [← EReal.coe_mul]; norm_num

theorem eps : ∃ e : ℝ, 0 < e ∧ Ideal.ofBits .f32 0x358637BD#32 = (e : EReal) := by
  refine ⟨_, ?_, (by simp [Ideal.ofBits, Ideal.ieee]; rfl)⟩
  positivity

/-- The mean of the squares, with the small number added. -/
def level {n : ℕ} (x : Fin n → EReal) : EReal :=
  Ideal.div (∑ k, x k * x k) (Ideal.ofBits .f32 0x45000000#32) + Ideal.ofBits .f32 0x358637BD#32

/-- The gradient at the row as the kernel computes it. -/
def direct {n : ℕ} (x w : Fin n → EReal) (j : Fin n) : EReal :=
  Ideal.rsqrt (level x) * (w j - x j * Ideal.rsqrt (level x)
    * Ideal.div (∑ k, w k * (x k * Ideal.rsqrt (level x))) (Ideal.ofBits .f32 0x45000000#32))

/-- What reaches each element's square through the mean, in the reference. -/
def through {n : ℕ} (x w : Fin n → EReal) : EReal :=
  Ideal.div ((∑ k, x k * w k) * (Ideal.ofBits .f32 0xBF000000#32 * Ideal.div (Ideal.rsqrt (level x)) (level x)))
    (Ideal.ofBits .f32 0x45000000#32)

/-- Multiplication by a nonnegative real goes into a sum. -/
theorem sum_scale {n : ℕ} (f : Fin n → EReal) (r : ℝ) (hr : 0 ≤ r) : ∑ k, f k * (r : EReal) = (∑ k, f k) * (r : EReal) := by
  induction n with
  | zero => simp
  | succ n ih =>
    rw [Fin.sum_univ_castSucc, Fin.sum_univ_castSucc, ih,
      EReal.right_distrib_of_nonneg_of_ne_top (EReal.coe_nonneg.mpr hr) (EReal.coe_ne_top r)]

/-- A sum of reals, taken in the reals. -/
theorem sum_coe {n : ℕ} (f : Fin n → ℝ) : ∑ k, (f k : EReal) = ((∑ k, f k : ℝ) : EReal) := by
  induction n with
  | zero => simp
  | succ n ih => rw [Fin.sum_univ_castSucc, Fin.sum_univ_castSucc, ih, EReal.coe_add]

/-- Multiplication by a nonnegative real goes into a difference. -/
theorem scale_sub (r : ℝ) (hr : 0 ≤ r) (a b : EReal) : (r : EReal) * (a - b) = r * a + -(r * b) := by
  rw [sub_eq_add_neg, EReal.left_distrib_of_nonneg_of_ne_top (EReal.coe_nonneg.mpr hr) (EReal.coe_ne_top r), mul_neg]

/-- A multiple taken twice. -/
theorem twice (s : EReal) (a : ℝ) : s * (a : EReal) + s * (a : EReal) = s * ((2 * a : ℝ) : EReal) := by
  have h : ∀ y : EReal, y + y = y * ((2 : ℝ) : EReal) := fun y => by
    induction y with
    | bot => rw [EReal.bot_mul_coe_of_pos two_pos]; rfl
    | top => rw [EReal.top_mul_coe_of_pos two_pos]; rfl
    | coe y => rw [← EReal.coe_add, ← EReal.coe_mul, mul_two]
  rw [h, mul_assoc, ← EReal.coe_mul, mul_comm a 2]

theorem square_nonneg (y : EReal) : 0 ≤ y * y := by
  rcases le_total 0 y with h | h
  · exact mul_nonneg h h
  · rw [← neg_mul_neg]
    exact mul_nonneg (EReal.neg_nonneg.mpr h) (EReal.neg_nonneg.mpr h)

/-- A row whose squares have a finite sum is finite. -/
theorem finite_of_sum {n : ℕ} (x : Fin n → EReal) (h : ∑ k, x k * x k ≠ ⊤) (j : Fin n) : ∃ y : ℝ, x j = (y : EReal) := by
  have hj : x j * x j ≠ ⊤ := fun e => h (by
    refine top_le_iff.mp (e ▸ ?_)
    exact Finset.single_le_sum (f := fun k => x k * x k) (fun k _ => square_nonneg (x k)) (Finset.mem_univ j))
  induction hx : x j with
  | bot => exact absurd (by rw [hx]; rfl) hj
  | top => exact absurd (by rw [hx]; rfl) hj
  | coe y => exact ⟨y, rfl⟩

/-- The two spellings agree, whatever the row holds. -/
theorem row_eq {n : ℕ} (x w : Fin n → EReal) (j : Fin n) (d : EReal) :
    d + direct x w j = d + w j * Ideal.rsqrt (level x) + x j * through x w + through x w * x j := by
  obtain ⟨e, he, hb⟩ := eps
  unfold direct through
  by_cases h : ∑ k, x k * x k = ⊤
  · have hl : level x = ⊤ := by
      unfold level
      rw [h, hb, width, Ideal.div_coe (by norm_num), EReal.top_mul_coe_of_pos (by norm_num)]; rfl
    rw [hl, Ideal.rsqrt_top, width]
    simp [Ideal.div_coe, Ideal.div]
  · choose y hy using finite_of_sum x h
    obtain rfl : x = fun k => (y k : EReal) := funext hy
    obtain ⟨v, hv, hl⟩ : ∃ v : ℝ, 0 < v ∧ level (fun k => (y k : EReal)) = (v : EReal) := by
      refine ⟨(∑ k, y k * y k) * (1 / 2048) + e, by have := Finset.sum_nonneg fun k (_ : k ∈ Finset.univ) => mul_self_nonneg (y k); positivity, ?_⟩
      unfold level
      rw [hb, width, Ideal.div_coe (by norm_num), EReal.coe_add, EReal.coe_mul, ← sum_coe]
      simp only [EReal.coe_mul]
    have hr : Ideal.rsqrt ((v : ℝ) : EReal) = (((Real.sqrt v)⁻¹ : ℝ) : EReal) := by
      rw [Ideal.rsqrt_coe, if_neg hv.not_gt, if_neg hv.ne']
    have hq : 0 ≤ (Real.sqrt v)⁻¹ := by positivity
    have hqv : (Real.sqrt v)⁻¹ * (Real.sqrt v)⁻¹ = 1 / v := by
      rw [← mul_inv, Real.mul_self_sqrt hv.le, one_div]
    rw [hl, hr, width, half]
    generalize (Real.sqrt v)⁻¹ = q at hq hqv
    have hs : ∑ k, w k * ((y k : EReal) * (q : EReal)) = (∑ k, (y k : EReal) * w k) * (q : EReal) := by
      rw [← sum_scale _ q hq]
      exact Finset.sum_congr rfl fun k _ => by rw [← mul_assoc, mul_comm (w k)]
    rw [hs, scale_sub q hq, Ideal.div_coe (by norm_num), Ideal.div_coe (by norm_num), Ideal.div_coe hv.ne']
    generalize (∑ k, (y k : EReal) * w k) = s
    have h1 : (y j : EReal) * (s * (((-(1 / 2) : ℝ) : EReal) * ((q : EReal) * ((1 / v : ℝ) : EReal))) * ((1 / 2048 : ℝ) : EReal))
        = s * ((y j * (-(1 / 2) * (q * (1 / v)) * (1 / 2048)) : ℝ) : EReal) := by
      push_cast; ac_rfl
    have h2 : -((q : EReal) * ((y j : EReal) * (q : EReal) * (s * (q : EReal) * ((1 / 2048 : ℝ) : EReal))))
        = s * ((2 * (y j * (-(1 / 2) * (q * (1 / v)) * (1 / 2048))) : ℝ) : EReal) := by
      have : (2 * (y j * (-(1 / 2) * (q * (1 / v)) * (1 / 2048))) : ℝ) = -(q * y j * q * q * (1 / 2048)) := by
        rw [← hqv]; ring
      rw [this, EReal.coe_neg, mul_neg]
      congr 1
      push_cast; ac_rfl
    rw [mul_comm _ (y j : EReal), h1, h2, ← twice, mul_comm (q : EReal) (w j)]
    simp only [add_assoc]

/-! ## The kernel's blocks and the reference's rows -/

open Cert.Kernel23Ideal Cert.Kernel23Ideal.Gen

variable (m : (ℓ : Loc nD τ sig) → Buf (Elt Ideal) ℓ)

theorem pay_apply (x w d : S256x2048.Idx → EReal) (g : S1x2048.Idx → EReal) (p : Fin 256) (q : Fin 2048) :
    k0_pay4 (F := Ideal) x w d g (ix2 p q) = d (ix2 p q) + direct (fun k => x (ix2 p k)) (fun k => w (ix2 p k) * g (ix2 0 k)) q := by
  unfold direct level
  pointwise [k0_pay4, k0_pay3, k0_pay2]

theorem scale_apply (x w : S256x2048.Idx → EReal) (q : Fin 2048) :
    k0_pay5 (F := Ideal) x w (ix2 0 q) = ∑ p : Fin 256, w (ix2 p q) * (x (ix2 p q) * Ideal.rsqrt (level fun k => x (ix2 p k))) := by
  unfold level
  pointwise [k0_pay5, k0_pay3, k0_pay2]

theorem value_apply (x : S2048x2048.Idx → EReal) (g : S1x2048.Idx → EReal) (w d : S2048x2048.Idx → EReal) (p q : Fin 2048) :
    Cert.Reference23Ideal.Read.val_main_v34 (F := Ideal) x g w d (ix2 p q)
      = d (ix2 p q) + direct (fun k => x (ix2 p k)) (fun k => w (ix2 p k) * g (ix2 0 k)) q := by
  rw [row_eq, ← Cert.Reference23Ideal.Read.val_main_v34_eq]
  unfold through level
  pointwise
  simp only [Fin.sum_univ_one]

theorem scale_value_apply (x w : S2048x2048.Idx → EReal) (q : Fin 2048) :
    Cert.Reference23Ideal.Read.val_main_v17 (F := Ideal) x w (ix2 0 q)
      = ∑ p : Fin 2048, w (ix2 p q) * (x (ix2 p q) * Ideal.rsqrt (level fun k => x (ix2 p k))) := by
  rw [← Cert.Reference23Ideal.Read.val_main_v17_eq]
  unfold level
  pointwise
  exact Finset.sum_congr rfl fun p _ => mul_comm _ _

theorem at_points : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] := by
  decide +kernel

/-! ## The two gradients at the input -/

/-- What each point leaves of the gradient at the input, in either format. -/
theorem out_apply (c : Dev nD) (t : Fin cfg0.N) (j : S256x2048.Idx) :
    (outsAt0 m c t.val t.isLt).1 j = k0_pay4 (iblk m c 0 t) (iblk m c 1 t) (iblk m c 2 t) (iblk m c 3 t) j
    ∧ (outsAt0 m c t.val t.isLt).2.1 j = k0_pay4 (iblk m c 0 t) (iblk m c 1 t) (iblk m c 2 t) (iblk m c 3 t) j := by
  by_cases h : t.val % 8 = 0
  · rw [outsAt0_A m c t h]
    constructor <;> frame_out
    rfl
  · rw [outsAt0_B m c t h]
    constructor <;> frame_out
    rfl

/-- The reference's value at the kernel's arguments. -/
abbrev valueAt (c : Dev nD) : S2048x2048.Idx → EReal :=
  Cert.Reference23Ideal.Read.val_main_v34 (F := Ideal) (m ((c : Thread nD τ).loc main_arg0)) (m ((c : Thread nD τ).loc main_arg1))
    (m ((c : Thread nD τ).loc main_arg2)) (m ((c : Thread nD τ).loc main_arg3))

/-- A block of the gradient is the reference's at its rows. -/
theorem block_eq (c : Dev nD) (t : Fin cfg0.N) (p : Fin 256) (q : Fin 2048) (i : S2048x2048.Idx)
    (hi : i = ix2 (⟨t.val * 256 + p.val, by have := lt_of_lt_of_eq t.isLt N_0; omega⟩ : Fin 2048) q) :
    k0_pay4 (F := Ideal) (iblk m c 0 t) (iblk m c 1 t) (iblk m c 2 t) (iblk m c 3 t) (ix2 p q) = valueAt m c i := by
  subst hi
  obtain ⟨h0, h1, h2, h3, -⟩ := at_points t
  refine (pay_apply _ _ _ _ p q).trans (Eq.trans ?_ (value_apply _ _ _ _ _ _).symm)
  refine congrArg₂ (· + ·) ?_ (congrArg₂ (direct · · q) (funext fun k => ?_) (funext fun k => congrArg₂ (· * ·) ?_ ?_))
  · blk_simp [iblk, V_main_arg3]
    refine congrArg _ ?_
    blk_ext [h2]
  · blk_simp [iblk, V_main_arg0]
    refine congrArg _ ?_
    blk_ext [h0]
  · blk_simp [iblk, V_main_arg2]
    refine congrArg _ ?_
    blk_ext [h1]
  · blk_simp [iblk, V_main_arg1]
    refine congrArg _ ?_
    blk_ext [h3]

theorem final4 (c : Dev nD) : (dats m 0 c).arrAt 4 cfg0.N = valueAt m c := by
  refine (dats m 0 c).arrAt_eq_of_covers 4 _ (by decide +kernel) fun t _ y => ?_
  blk_simp
  rw [after0_4]
  obtain ⟨-, -, -, -, h4, -⟩ := at_points t
  obtain ⟨p, q, rfl⟩ : ∃ (p : Fin 256) (q : Fin 2048), y = ix2 p q := ⟨y 0, y 1, funext fun a => by fin_cases a <;> rfl⟩
  refine (out_apply m c t _).1.trans (block_eq m c t p q _ ?_)
  blk_ext [h4]

theorem final5 (c : Dev nD) : (dats m 0 c).arrAt 5 cfg0.N = valueAt m c := by
  refine (dats m 0 c).arrAt_eq_of_covers 5 _ (by decide +kernel) fun t _ y => ?_
  blk_simp
  rw [after0_5]
  obtain ⟨-, -, -, -, -, h5, -⟩ := at_points t
  obtain ⟨p, q, rfl⟩ : ∃ (p : Fin 256) (q : Fin 2048), y = ix2 p q := ⟨y 0, y 1, funext fun a => by fin_cases a <;> rfl⟩
  refine (out_apply m c t _).2.trans (block_eq m c t p q _ ?_)
  blk_ext [h5]

/-! ## The gradient of the scale -/

theorem add_apply (a b : S1x2048.Idx → EReal) (j : S1x2048.Idx) : k0_pay1 (F := Ideal) a b j = b j + a j := by
  unfold k0_pay1
  rw [shapeCast_id]; rfl

/-- The scale's block after point `n`: the tiles up to it, added. -/
theorem scale_eq (c : Dev nD) (j : S1x2048.Idx) : ∀ (n : ℕ) (hn : n < cfg0.N),
    (outsAt0 m c n hn).2.2 j = ∑ k : Fin (n + 1), k0_pay5 (F := Ideal) (iblk m c 0 ⟨k.val, by omega⟩) (iblk m c 1 ⟨k.val, by omega⟩) j
  | 0, hn => by
    rw [Fin.sum_univ_one, outsAt0_A m c ⟨0, hn⟩ rfl]
    frame_out
    rw [add_apply]
    pointwise [k0_pay7]
  | n + 1, hn => by
    have hN : n + 1 < 8 := lt_of_lt_of_eq hn N_0
    rw [Fin.sum_univ_castSucc, outsAt0_B m c ⟨n + 1, hn⟩ (by show ¬ (n + 1) % 8 = 0; omega)]
    frame_out
    rw [add_apply]
    exact congrArg (· + _) (scale_eq c j n (by omega))

/-- The reference's gradient of the scale at the kernel's arguments. -/
abbrev scaleAt (c : Dev nD) : S1x2048.Idx → EReal :=
  Cert.Reference23Ideal.Read.val_main_v17 (F := Ideal) (m ((c : Thread nD τ).loc main_arg0)) (m ((c : Thread nD τ).loc main_arg2))

/-- What a row adds to the scale's gradient. -/
def term (x w : S2048x2048.Idx → EReal) (q p : Fin 2048) : EReal :=
  w (ix2 p q) * (x (ix2 p q) * Ideal.rsqrt (level fun k => x (ix2 p k)))

theorem tile_eq (c : Dev nD) (t : Fin cfg0.N) (q : Fin 2048) :
    k0_pay5 (F := Ideal) (iblk m c 0 t) (iblk m c 1 t) (ix2 0 q)
      = ∑ p : Fin 256, term (m ((c : Thread nD τ).loc main_arg0)) (m ((c : Thread nD τ).loc main_arg2)) q
          ⟨t.val * 256 + p.val, by have := lt_of_lt_of_eq t.isLt N_0; omega⟩ := by
  obtain ⟨h0, h1, -⟩ := at_points t
  have hx : ∀ (p : Fin 256) (k : Fin 2048), iblk m c 0 t (ix2 p k)
      = m ((c : Thread nD τ).loc main_arg0) (ix2 (⟨t.val * 256 + p.val, by have := lt_of_lt_of_eq t.isLt N_0; omega⟩ : Fin 2048) k) := fun p k => by
    blk_simp [iblk, V_main_arg0]
    refine congrArg _ ?_
    blk_ext [h0]
  refine (scale_apply _ _ q).trans (Cert.Proof.dot_congr (fun p => ?_) fun p =>
    congrArg₂ (fun a b => a * Ideal.rsqrt (level b)) (hx p q) (funext fun k => hx p k))
  blk_simp [iblk, V_main_arg2]
  refine congrArg _ ?_
  blk_ext [h1]

theorem final6 (c : Dev nD) : (dats m 0 c).arrAt 6 cfg0.N = scaleAt m c := by
  refine (dats m 0 c).arrAt_eq_of_covers 6 _ (by decide +kernel) fun t hf y => ?_
  have ht := (flush0_6 t).mp hf
  have hN := lt_of_lt_of_eq t.isLt N_0
  blk_simp
  rw [after0_6]
  obtain ⟨-, -, -, -, -, -, h6⟩ := at_points t
  obtain ⟨q, rfl⟩ : ∃ q : Fin 2048, y = ix2 0 q :=
    ⟨y 1, funext fun a => by fin_cases a <;> first | rfl | exact Fin.ext (by have h : (y 0).val < 1 := (y 0).isLt; show (y 0).val = 0; omega)⟩
  refine (scale_eq m c _ t.val t.isLt).trans (Eq.trans ?_ ((congrArg (scaleAt m c) (?_ : _ = ix2 0 q)).trans (scale_value_apply _ _ _)).symm)
  · obtain rfl : t = ⟨7, by rw [N_0]; decide⟩ := Fin.ext (by show t.val = 7; omega)
    refine Eq.trans ?_ (Fin.sum_univ_tiles 8 256 rfl (term (m ((c : Thread nD τ).loc main_arg0)) (m ((c : Thread nD τ).loc main_arg2)) q)).symm
    exact Finset.sum_congr rfl fun k _ => tile_eq m c _ q
  · blk_ext [h6]

end Cert.Kernel23Ideal.Norm

namespace Cert.Proof.NormBwd

open Cert.Kernel23Ideal.Norm

/-- The kernel and the reference leave the same three arrays. -/
theorem same : Cert.algebraic_Kernel23Ideal_Reference23Ideal := fun m g m' g' _ hag =>
  ⟨fun c => valueAt m c, fun c => valueAt m c, fun c => scaleAt m c,
    (θ_run Cert.Kernel23Ideal.defs _ _).mono
      (fun _ h c => ⟨(h c).1.trans (final4 m c), (h c).2.1.trans (final5 m c), (h c).2.2.1.trans (final6 m c), (h c).2.2.2⟩)
      (Cert.Kernel23Ideal.Value.run_blocks m g),
    (θ_run Cert.Reference23Ideal.defs _ _).mono
      (fun _ h c => ⟨(h c).1.trans (by rw [Cert.Reference23Ideal.Read.val_main_v34_eq, (hag c).1, (hag c).2.1, (hag c).2.2.1, (hag c).2.2.2]),
        (h c).2.1.trans (by rw [Cert.Reference23Ideal.Read.val_main_v35_eq, (hag c).1, (hag c).2.1, (hag c).2.2.1, (hag c).2.2.2]; rfl),
        (h c).2.2.1.trans (by rw [Cert.Reference23Ideal.Read.val_main_v17_eq, (hag c).1, (hag c).2.2.1]), (h c).2.2.2⟩)
      (Cert.Reference23Ideal.Value.run m' g')⟩

end Cert.Proof.NormBwd
-- ==== Proof.RowMaps.lean ====
/- The forward calls that act row by row: the norm, the S5 layer's activation and its gate. -/
module

public import proofs.«01_k».proof.Proof.NormBwd
public import proofs.«01_k».proof.Proof.Gen.Kernel25Ideal.Value
public import proofs.«01_k».proof.Proof.Gen.Reference25Ideal.Read
public import proofs.«01_k».proof.Proof.Gen.Kernel26Ideal.Value
public import proofs.«01_k».proof.Proof.Gen.Reference26Ideal.Read
public import proofs.«01_k».proof.Proof.Gen.Kernel27Ideal.Value
public import proofs.«01_k».proof.Proof.Gen.Reference27Ideal.Read

@[expose] public section

set_option maxRecDepth 16384

noncomputable section

open Idealize.ShloMosaic Idealize.ShloMosaic.TcCoe Idealize.SL.Sem

/-- An index of a matrix is the pair of its row and its column. -/
theorem Cert.Proof.pair_of {n k : ℕ} (y : (⟨2, ![n, k]⟩ : Shape).Idx) : ∃ (p : Fin n) (q : Fin k), y = ix2 p q :=
  ⟨y 0, y 1, funext fun a => by fin_cases a <;> rfl⟩

namespace Cert.Kernel25Ideal.NormFwd

open Cert.Kernel25Ideal Cert.Kernel25Ideal.Gen
open Cert.Kernel23Ideal.Norm (level)

variable (m : (ℓ : Loc nD τ sig) → Buf (Elt Ideal) ℓ)

theorem pay_apply (x : S256x2048.Idx → EReal) (g : S1x2048.Idx → EReal) (p : Fin 256) (q : Fin 2048) :
    k0_pay1 (F := Ideal) x g (ix2 p q) = x (ix2 p q) * Ideal.rsqrt (level fun k => x (ix2 p k)) * g (ix2 0 q) := by
  unfold level
  pointwise [k0_pay1]

theorem value_apply (x : S2048x2048.Idx → EReal) (g : S1x2048.Idx → EReal) (p q : Fin 2048) :
    Cert.Reference25Ideal.Read.val_main_v12 (F := Ideal) x g (ix2 p q)
      = x (ix2 p q) * Ideal.rsqrt (level fun k => x (ix2 p k)) * g (ix2 0 q) := by
  rw [← Cert.Reference25Ideal.Read.val_main_v12_eq]
  unfold level
  pointwise

theorem at_points : ∀ t : Fin cfg0.N, win0_0.index t = ![t.val, 0] ∧ win0_1.index t = ![0, 0] ∧ win0_2.index t = ![t.val, 0] := by
  decide +kernel

/-- The reference's value at the kernel's arguments. -/
abbrev valueAt (c : Dev nD) : Buf (Elt Ideal) ((c : Thread nD τ).loc main_v0) :=
  Cert.Reference25Ideal.Read.val_main_v12 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  have hN := lt_of_lt_of_eq t.isLt N_0
  blk_simp
  rw [after0_2]
  frame_out
  obtain ⟨h0, h1, h2⟩ := at_points t
  obtain ⟨p, q, rfl⟩ := Cert.Proof.pair_of (n := 256) (k := 2048) y
  have hx : ∀ k : Fin 2048, iblk m c 0 t (ix2 p k)
      = m ((c : Thread nD τ).loc main_arg0) (ix2 (⟨t.val * 256 + p.val, by omega⟩ : Fin 2048) k) := fun k => by
    blk_simp [iblk, V_main_arg0]
    refine congrArg _ ?_
    blk_ext [h0]
  refine (pay_apply _ _ p q).trans (Eq.trans ?_ ((congrArg (valueAt m c)
    (?_ : _ = ix2 (⟨t.val * 256 + p.val, by omega⟩ : Fin 2048) q)).trans (value_apply _ _ _ _)).symm)
  · refine congrArg₂ (· * ·) (congrArg₂ (fun a b => a * Ideal.rsqrt (level b)) (hx q) (funext hx)) ?_
    blk_simp [iblk, V_main_arg1]
    refine congrArg _ ?_
    blk_ext [h1]
  · blk_ext [h2]

end Cert.Kernel25Ideal.NormFwd

namespace Cert.Kernel26Ideal.Act

open Cert.Kernel26Ideal Cert.Kernel26Ideal.Gen

variable (m : (ℓ : Loc nD τ sig) → Buf (Elt Ideal) ℓ)

/-- The value before the activation: the scan's output with the skip. -/
def before (x u d : EReal) : EReal := x + d * u

/-- The activation, at one value. -/
def gelu (y : EReal) : EReal :=
  y * (Ideal.ofBits .f32 0x3F000000#32 * (1 + Ideal.tanh (Ideal.ofBits .f32 0x3F4C422A#32
    * (y + Ideal.ofBits .f32 0x3D372713#32 * (y * (y * y))))))

theorem pay_apply (x u : S256x1024.Idx → EReal) (d : S1x1024.Idx → EReal) (p : Fin 256) (q : Fin 1024) :
    k0_pay1 (F := Ideal) x u d (ix2 p q) = before (x (ix2 p q)) (u (ix2 p q)) (d (ix2 0 q)) := by
  unfold before
  pointwise [k0_pay1]

theorem act_apply (x u : S256x1024.Idx → EReal) (d : S1x1024.Idx → EReal) (p : Fin 256) (q : Fin 1024) :
    k0_pay2 (F := Ideal) x u d (ix2 p q) = gelu (before (x (ix2 p q)) (u (ix2 p q)) (d (ix2 0 q))) := by
  unfold gelu before
  pointwise [k0_pay2, k0_pay1]

theorem value_apply (x u : S2048x1024.Idx → EReal) (d : S1x1024.Idx → EReal) (p : Fin 2048) (q : Fin 1024) :
    Cert.Reference26Ideal.Read.val_main_v2 (F := Ideal) x u d (ix2 p q) = before (x (ix2 p q)) (u (ix2 p q)) (d (ix2 0 q)) := by
  unfold before
  rw [← Cert.Reference26Ideal.Read.val_main_v2_eq]
  pointwise

theorem act_value_apply (x u : S2048x1024.Idx → EReal) (d : S1x1024.Idx → EReal) (p : Fin 2048) (q : Fin 1024) :
    Cert.Reference26Ideal.Read.val_main_v16 (F := Ideal) x u d (ix2 p q) = gelu (before (x (ix2 p q)) (u (ix2 p q)) (d (ix2 0 q))) := by
  rw [← Cert.Reference26Ideal.Read.val_main_v16_eq]
  unfold gelu before
  pointwise
  simp only [mul_assoc]

theorem at_points : ∀ t : Fin cfg0.N, win0_0.index t = ![t.val, 0] ∧ win0_1.index t = ![t.val, 0] ∧ win0_2.index t = ![0, 0]
    ∧ win0_3.index t = ![t.val, 0] ∧ win0_4.index t = ![t.val, 0] := by
  decide +kernel

/-- The value before the activation, from the arguments' blocks and from the arguments. -/
theorem block_eq (c : Dev nD) (t : Fin cfg0.N) (p : Fin 256) (q : Fin 1024) (r : Fin 2048) (hr : r.val = t.val * 256 + p.val) :
    before (iblk m c 0 t (ix2 p q)) (iblk m c 1 t (ix2 p q)) (iblk m c 2 t (ix2 0 q))
      = before (m ((c : Thread nD τ).loc main_arg0) (ix2 r q)) (m ((c : Thread nD τ).loc main_arg1) (ix2 r q))
        (m ((c : Thread nD τ).loc main_arg2) (ix2 0 q)) := by
  obtain ⟨h0, h1, h2, -⟩ := at_points t
  refine congrArg₂ (· + ·) ?_ (congrArg₂ (· * ·) ?_ ?_)
  · blk_simp [iblk, V_main_arg0]
    refine congrArg _ ?_
    blk_ext [h0, hr]
  · blk_simp [iblk, V_main_arg2]
    refine congrArg _ ?_
    blk_ext [h2]
  · blk_simp [iblk, V_main_arg1]
    refine congrArg _ ?_
    blk_ext [h1, hr]

/-- The reference's two values at the kernel's arguments. -/
abbrev valueAt (c : Dev nD) : S2048x1024.Idx → EReal :=
  Cert.Reference26Ideal.Read.val_main_v2 (F := Ideal) (m ((c : Thread nD τ).loc main_arg0)) (m ((c : Thread nD τ).loc main_arg1))
    (m ((c : Thread nD τ).loc main_arg2))
@[inherit_doc valueAt]
abbrev actAt (c : Dev nD) : S2048x1024.Idx → EReal :=
  Cert.Reference26Ideal.Read.val_main_v16 (F := Ideal) (m ((c : Thread nD τ).loc main_arg0)) (m ((c : Thread nD τ).loc main_arg1))
    (m ((c : Thread nD τ).loc main_arg2))

theorem final3 (c : Dev nD) : (dats m 0 c).arrAt 3 cfg0.N = valueAt m c := by
  refine (dats m 0 c).arrAt_eq_of_covers 3 _ (by decide +kernel) fun t _ y => ?_
  have hN := lt_of_lt_of_eq t.isLt N_0
  blk_simp
  rw [after0_3]
  frame_out
  obtain ⟨-, -, -, h3, -⟩ := at_points t
  obtain ⟨p, q, rfl⟩ := Cert.Proof.pair_of (n := 256) (k := 1024) y
  refine (pay_apply _ _ _ p q).trans ((block_eq m c t p q ⟨t.val * 256 + p.val, by omega⟩ rfl).trans
    ((congrArg (valueAt m c) (?_ : _ = ix2 _ q)).trans (value_apply _ _ _ _ _)).symm)
  blk_ext [h3]

theorem final4 (c : Dev nD) : (dats m 0 c).arrAt 4 cfg0.N = actAt m c := by
  refine (dats m 0 c).arrAt_eq_of_covers 4 _ (by decide +kernel) fun t _ y => ?_
  have hN := lt_of_lt_of_eq t.isLt N_0
  blk_simp
  rw [after0_4]
  frame_out
  obtain ⟨-, -, -, -, h4⟩ := at_points t
  obtain ⟨p, q, rfl⟩ := Cert.Proof.pair_of (n := 256) (k := 1024) y
  refine (act_apply _ _ _ p q).trans ((congrArg gelu (block_eq m c t p q ⟨t.val * 256 + p.val, by omega⟩ rfl)).trans
    ((congrArg (actAt m c) (?_ : _ = ix2 _ q)).trans (act_value_apply _ _ _ _ _)).symm)
  blk_ext [h4]

end Cert.Kernel26Ideal.Act

namespace Cert.Kernel27Ideal.Glu

open Cert.Kernel27Ideal Cert.Kernel27Ideal.Gen

variable (m : (ℓ : Loc nD τ sig) → Buf (Elt Ideal) ℓ)

/-- The gated value with the residual, at column `q` of a row of the product. -/
def gated (z : Fin 4096 → EReal) (h : EReal) (q : Fin 2048) : EReal :=
  h + z ⟨q.val, by omega⟩ * Ideal.logistic (z ⟨2048 + q.val, by omega⟩)

theorem pay_apply (z : S128x4096.Idx → EReal) (h : S128x2048.Idx → EReal) (p : Fin 128) (q : Fin 2048) :
    k0_pay1 (F := Ideal) z h (ix2 p q) = gated (fun k => z (ix2 p k)) (h (ix2 p q)) q := by
  unfold gated
  pointwise [k0_pay1]

theorem value_apply (z : S2048x4096.Idx → EReal) (h : S2048x2048.Idx → EReal) (p q : Fin 2048) :
    Cert.Reference27Ideal.Read.val_main_v9 (F := Ideal) z h (ix2 p q) = gated (fun k => z (ix2 p k)) (h (ix2 p q)) q := by
  rw [← Cert.Reference27Ideal.Read.val_main_v9_eq]
  unfold gated Ideal.logistic
  pointwise

theorem at_points : ∀ t : Fin cfg0.N, win0_0.index t = ![t.val, 0] ∧ win0_1.index t = ![t.val, 0] ∧ win0_2.index t = ![t.val, 0] := by
  decide +kernel

/-- The reference's value at the kernel's arguments. -/
abbrev valueAt (c : Dev nD) : Buf (Elt Ideal) ((c : Thread nD τ).loc main_v0) :=
  Cert.Reference27Ideal.Read.val_main_v9 (F := Ideal) (m ((c : Thread nD τ).loc main_arg0)) (m ((c : Thread nD τ).loc main_arg1))

theorem final (c : Dev nD) : (dats m 0 c).arrAt 2 cfg0.N = valueAt m c := by
  refine (dats m 0 c).arrAt_eq_of_covers 2 _ (by decide +kernel) fun t _ y => ?_
  have hN := lt_of_lt_of_eq t.isLt N_0
  blk_simp
  rw [after0_2]
  frame_out
  obtain ⟨h0, h1, h2⟩ := at_points t
  obtain ⟨p, q, rfl⟩ := Cert.Proof.pair_of (n := 128) (k := 2048) y
  refine (pay_apply _ _ p q).trans (Eq.trans ?_ ((congrArg (valueAt m c)
    (?_ : _ = ix2 (⟨t.val * 128 + p.val, by omega⟩ : Fin 2048) q)).trans (value_apply _ _ _ _)).symm)
  · refine congrArg₂ (gated · · q) (funext fun k => ?_) ?_
    · blk_simp [iblk, V_main_arg0]
      refine congrArg _ ?_
      blk_ext [h0]
    · blk_simp [iblk, V_main_arg1]
      refine congrArg _ ?_
      blk_ext [h1]
  · blk_ext [h2]

end Cert.Kernel27Ideal.Glu

namespace Cert.Proof.RowMaps

/-- The norm: the kernel and the reference leave the same array. -/
theorem same_norm : Cert.algebraic_Kernel25Ideal_Reference25Ideal := fun m g m' g' _ hag =>
  ⟨fun c => Cert.Kernel25Ideal.NormFwd.valueAt m c,
    (θ_run Cert.Kernel25Ideal.defs _ _).mono
      (fun _ h c => ⟨(h c).1.trans (Cert.Kernel25Ideal.NormFwd.final m c), (h c).2⟩) (Cert.Kernel25Ideal.Value.run_blocks m g),
    (θ_run Cert.Reference25Ideal.defs _ _).mono
      (fun _ h c => ⟨(h c).1.trans (by rw [Cert.Reference25Ideal.Read.val_main_v12_eq, (hag c).1, (hag c).2]), (h c).2⟩)
      (Cert.Reference25Ideal.Value.run m' g')⟩

/-- The activation: the two arrays. -/
theorem same_act : Cert.algebraic_Kernel26Ideal_Reference26Ideal := fun m g m' g' _ hag =>
  ⟨fun c => Cert.Kernel26Ideal.Act.valueAt m c, fun c => Cert.Kernel26Ideal.Act.actAt m c,
    (θ_run Cert.Kernel26Ideal.defs _ _).mono
      (fun _ h c => ⟨(h c).1.trans (Cert.Kernel26Ideal.Act.final3 m c), (h c).2.1.trans (Cert.Kernel26Ideal.Act.final4 m c), (h c).2.2⟩)
      (Cert.Kernel26Ideal.Value.run_blocks m g),
    (θ_run Cert.Reference26Ideal.defs _ _).mono
      (fun _ h c => ⟨(h c).1.trans (by rw [Cert.Reference26Ideal.Read.val_main_v2_eq, (hag c).1, (hag c).2.1, (hag c).2.2]),
        (h c).2.1.trans (by rw [Cert.Reference26Ideal.Read.val_main_v16_eq, (hag c).1, (hag c).2.1, (hag c).2.2]), (h c).2.2⟩)
      (Cert.Reference26Ideal.Value.run m' g')⟩

/-- The gate. -/
theorem same_glu : Cert.algebraic_Kernel27Ideal_Reference27Ideal := fun m g m' g' _ hag =>
  ⟨fun c => Cert.Kernel27Ideal.Glu.valueAt m c,
    (θ_run Cert.Kernel27Ideal.defs _ _).mono
      (fun _ h c => ⟨(h c).1.trans (Cert.Kernel27Ideal.Glu.final m c), (h c).2⟩) (Cert.Kernel27Ideal.Value.run_blocks m g),
    (θ_run Cert.Reference27Ideal.defs _ _).mono
      (fun _ h c => ⟨(h c).1.trans (by rw [Cert.Reference27Ideal.Read.val_main_v9_eq, (hag c).1, (hag c).2]), (h c).2⟩)
      (Cert.Reference27Ideal.Value.run m' g')⟩

end Cert.Proof.RowMaps
-- ==== Proof.S5Dact.lean ====
/- The gradient of the S5 layer's activation: at the scan's output, at the layer's input, and of the skip's scale, added up over eight
   tiles of the rows. -/
module

public import proofs.«01_k».proof.Proof.RowMaps
public import proofs.«01_k».proof.Proof.Gen.Kernel24Ideal.Value
public import proofs.«01_k».proof.Proof.Gen.Reference24Ideal.Read

@[expose] public section

set_option maxRecDepth 16384

noncomputable section

open Idealize.ShloMosaic Idealize.ShloMosaic.TcCoe Idealize.SL.Sem

namespace Cert.Kernel24Ideal.Dact

open Cert.Kernel24Ideal Cert.Kernel24Ideal.Gen

variable (m : (ℓ : Loc nD τ sig) → Buf (Elt Ideal) ℓ)

/-- The bend of the activation at `y`: the hyperbolic tangent of the cubic. -/
def bend (y : EReal) : EReal :=
  Ideal.tanh (Ideal.ofBits .f32 0x3F4C422A#32 * (y + Ideal.ofBits .f32 0x3D372713#32 * (y * (y * y))))

/-- What reaches the cubic's argument from the gradient `g` of the activation at `y`. -/
def reach (g y : EReal) : EReal :=
  Ideal.ofBits .f32 0x3F4C422A#32 * (Ideal.ofBits .f32 0x3F000000#32 * (y * g) * ((1 + bend y) * (1 - bend y)))

/-- The gradient before the activation. -/
def slope (g y : EReal) : EReal :=
  g * (Ideal.ofBits .f32 0x3F000000#32 * (1 + bend y)) + reach g y
    + Ideal.ofBits .f32 0x3D372713#32 * reach g y * (Ideal.ofBits .f32 0x40400000#32 * (y * y))

theorem pay_apply (g y : S256x1024.Idx → EReal) (i : S256x1024.Idx) : k0_pay3 (F := Ideal) g y i = slope (g i) (y i) := by
  unfold slope reach bend
  pointwise [k0_pay3]

theorem skip_apply (g y : S256x1024.Idx → EReal) (d : S1x1024.Idx → EReal) (p : Fin 256) (q : Fin 1024) :
    k0_pay4 (F := Ideal) g y d (ix2 p q) = slope (g (ix2 p q)) (y (ix2 p q)) * d (ix2 0 q) := by
  refine Eq.trans ?_ (congrArg (· * _) (pay_apply g y _))
  pointwise [k0_pay4]

theorem scale_apply (g y u : S256x1024.Idx → EReal) (q : Fin 1024) :
    k0_pay5 (F := Ideal) g y u (ix1 q) = ∑ p : Fin 256, slope (g (ix2 p q)) (y (ix2 p q)) * u (ix2 p q) := by
  refine Eq.trans ?_ (Finset.sum_congr rfl fun p _ => congrArg (· * _) (pay_apply g y _))
  pointwise [k0_pay5]

theorem value_apply (g y : S2048x1024.Idx → EReal) (p : Fin 2048) (q : Fin 1024) :
    Cert.Reference24Ideal.Read.val_main_v32 (F := Ideal) g y (ix2 p q) = slope (g (ix2 p q)) (y (ix2 p q)) := by
  rw [← Cert.Reference24Ideal.Read.val_main_v32_eq]
  unfold slope reach bend
  pointwise
  simp only [mul_assoc]

theorem skip_value_apply (g y : S2048x1024.Idx → EReal) (d : S1x1024.Idx → EReal) (p : Fin 2048) (q : Fin 1024) :
    Cert.Reference24Ideal.Read.val_main_v36 (F := Ideal) g y d (ix2 p q) = slope (g (ix2 p q)) (y (ix2 p q)) * d (ix2 0 q) := by
  refine Eq.trans ?_ ((mul_comm _ _).trans (congrArg (· * _) (value_apply g y p q)))
  pointwise [Cert.Reference24Ideal.Read.val_main_v36, Cert.Reference24Ideal.Read.val_main_v35]

theorem scale_value_apply (g y u : S2048x1024.Idx → EReal) (q : Fin 1024) :
    Cert.Reference24Ideal.Read.val_main_v39 (F := Ideal) g y u (ix2 0 q)
      = ∑ p : Fin 2048, slope (g (ix2 p q)) (y (ix2 p q)) * u (ix2 p q) := by
  refine Eq.trans ?_ (Finset.sum_congr rfl fun p _ => congrArg (· * _) (value_apply g y p q))
  pointwise [Cert.Reference24Ideal.Read.val_main_v39, Cert.Reference24Ideal.Read.val_main_v38, Cert.Reference24Ideal.Read.val_main_v37,
    Cert.Reference24Ideal.Read.val_main_cst_9]

theorem at_points : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] := by
  decide +kernel

/-! ## The two gradients by rows -/

theorem out_apply (c : Dev nD) (t : Fin cfg0.N) (j : S256x1024.Idx) :
    (outsAt0 m c t.val t.isLt).1 j = k0_pay3 (iblk m c 0 t) (iblk m c 1 t) j
    ∧ (outsAt0 m c t.val t.isLt).2.1 j = k0_pay4 (iblk m c 0 t) (iblk m c 1 t) (iblk m c 3 t) j := by
  by_cases h : t.val % 8 = 0
  · rw [outsAt0_A m c t h]
    constructor <;> frame_out
  · rw [outsAt0_B m c t h]
    constructor <;> frame_out

/-- The gradient before the activation, at row `r` of the arguments. -/
abbrev slopeAt (c : Dev nD) (r : Fin 2048) (q : Fin 1024) : EReal :=
  slope (m ((c : Thread nD τ).loc main_arg0) (ix2 r q)) (m ((c : Thread nD τ).loc main_arg1) (ix2 r q))

theorem block_eq (c : Dev nD) (t : Fin cfg0.N) (p : Fin 256) (q : Fin 1024) (r : Fin 2048) (hr : r.val = t.val * 256 + p.val) :
    slope (iblk m c 0 t (ix2 p q)) (iblk m c 1 t (ix2 p q)) = slopeAt m c r q := by
  obtain ⟨h0, h1, -⟩ := at_points t
  refine congrArg₂ slope ?_ ?_
  · blk_simp [iblk, V_main_arg0]
    refine congrArg _ ?_
    blk_ext [h0, hr]
  · blk_simp [iblk, V_main_arg1]
    refine congrArg _ ?_
    blk_ext [h1, hr]

/-- The reference's values at the kernel's arguments. -/
abbrev valueAt (c : Dev nD) : S2048x1024.Idx → EReal :=
  Cert.Reference24Ideal.Read.val_main_v32 (F := Ideal) (m ((c : Thread nD τ).loc main_arg0)) (m ((c : Thread nD τ).loc main_arg1))
@[inherit_doc valueAt]
abbrev skipAt (c : Dev nD) : S2048x1024.Idx → EReal :=
  Cert.Reference24Ideal.Read.val_main_v36 (F := Ideal) (m ((c : Thread nD τ).loc main_arg0)) (m ((c : Thread nD τ).loc main_arg1))
    (m ((c : Thread nD τ).loc main_arg3))
@[inherit_doc valueAt]
abbrev scaleAt (c : Dev nD) : S1x1024.Idx → EReal :=
  Cert.Reference24Ideal.Read.val_main_v39 (F := Ideal) (m ((c : Thread nD τ).loc main_arg0)) (m ((c : Thread nD τ).loc main_arg1))
    (m ((c : Thread nD τ).loc main_arg2))

theorem final4 (c : Dev nD) : (dats m 0 c).arrAt 4 cfg0.N = valueAt m c := by
  refine (dats m 0 c).arrAt_eq_of_covers 4 _ (by decide +kernel) fun t _ y => ?_
  have hN := lt_of_lt_of_eq t.isLt N_0
  blk_simp
  rw [after0_4]
  obtain ⟨-, -, -, -, h4, -⟩ := at_points t
  obtain ⟨p, q, rfl⟩ := Cert.Proof.pair_of (n := 256) (k := 1024) y
  refine (out_apply m c t _).1.trans ((pay_apply _ _ _).trans ((block_eq m c t p q ⟨t.val * 256 + p.val, by omega⟩ rfl).trans
    ((congrArg (valueAt m c) (?_ : _ = ix2 _ q)).trans (value_apply _ _ _ _)).symm))
  blk_ext [h4]

theorem final5 (c : Dev nD) : (dats m 0 c).arrAt 5 cfg0.N = skipAt m c := by
  refine (dats m 0 c).arrAt_eq_of_covers 5 _ (by decide +kernel) fun t _ y => ?_
  have hN := lt_of_lt_of_eq t.isLt N_0
  blk_simp
  rw [after0_5]
  obtain ⟨-, -, -, h3, -, h5, -⟩ := at_points t
  obtain ⟨p, q, rfl⟩ := Cert.Proof.pair_of (n := 256) (k := 1024) y
  refine (out_apply m c t _).2.trans ((skip_apply _ _ _ p q).trans (Eq.trans
    (congrArg₂ (· * ·) (block_eq m c t p q ⟨t.val * 256 + p.val, by omega⟩ rfl) ?_)
    ((congrArg (skipAt m c) (?_ : _ = ix2 _ q)).trans (skip_value_apply _ _ _ _ _)).symm))
  · blk_simp [iblk, V_main_arg3]
    refine congrArg _ ?_
    blk_ext [h3]
  · blk_ext [h5]

/-! ## The gradient of the skip's scale -/

theorem add_apply (a : S1024.Idx → EReal) (b : S1x1024.Idx → EReal) (q : Fin 1024) :
    k0_pay2 (F := Ideal) a b (ix2 0 q) = b (ix2 0 q) + a (ix1 q) := by
  unfold k0_pay2
  rw [shapeCast_id]
  pointwise

/-- The scale's block after point `n`: the tiles up to it, added. -/
theorem scale_eq (c : Dev nD) (q : Fin 1024) : ∀ (n : ℕ) (hn : n < cfg0.N), (outsAt0 m c n hn).2.2 (ix2 0 q)
    = ∑ k : Fin (n + 1), k0_pay5 (F := Ideal) (iblk m c 0 ⟨k.val, by omega⟩) (iblk m c 1 ⟨k.val, by omega⟩) (iblk m c 2 ⟨k.val, by omega⟩) (ix1 q)
  | 0, hn => by
    rw [Fin.sum_univ_one, outsAt0_A m c ⟨0, hn⟩ rfl]
    frame_out
    rw [add_apply]
    pointwise [k0_pay1]
  | n + 1, hn => by
    have hN : n + 1 < 8 := lt_of_lt_of_eq hn N_0
    rw [Fin.sum_univ_castSucc, outsAt0_B m c ⟨n + 1, hn⟩ (by show ¬ (n + 1) % 8 = 0; omega)]
    frame_out
    rw [add_apply]
    exact congrArg (· + _) (scale_eq c q n (by omega))

theorem tile_eq (c : Dev nD) (t : Fin cfg0.N) (q : Fin 1024) :
    k0_pay5 (F := Ideal) (iblk m c 0 t) (iblk m c 1 t) (iblk m c 2 t) (ix1 q)
      = ∑ p : Fin 256, (fun r : Fin 2048 => slopeAt m c r q * m ((c : Thread nD τ).loc main_arg2) (ix2 r q))
          ⟨t.val * 256 + p.val, by have := lt_of_lt_of_eq t.isLt N_0; omega⟩ := by
  obtain ⟨-, -, h2, -⟩ := at_points t
  refine (scale_apply _ _ _ q).trans (Cert.Proof.dot_congr (fun p => block_eq m c t p q _ rfl) fun p => ?_)
  blk_simp [iblk, V_main_arg2]
  refine congrArg _ ?_
  blk_ext [h2]

theorem final6 (c : Dev nD) : (dats m 0 c).arrAt 6 cfg0.N = scaleAt m c := by
  refine (dats m 0 c).arrAt_eq_of_covers 6 _ (by decide +kernel) fun t hf y => ?_
  have ht := (flush0_6 t).mp hf
  have hN := lt_of_lt_of_eq t.isLt N_0
  blk_simp
  rw [after0_6]
  obtain ⟨-, -, -, -, -, -, h6⟩ := at_points t
  obtain ⟨p, q, rfl⟩ := Cert.Proof.pair_of (n := 1) (k := 1024) y
  obtain rfl : p = 0 := Subsingleton.elim _ _
  refine (scale_eq m c q t.val t.isLt).trans (Eq.trans ?_ ((congrArg (scaleAt m c) (?_ : _ = ix2 0 q)).trans (scale_value_apply _ _ _ _)).symm)
  · obtain rfl : t = ⟨7, by rw [N_0]; decide⟩ := Fin.ext (by show t.val = 7; omega)
    refine Eq.trans ?_ (Fin.sum_univ_tiles 8 256 rfl fun r => slopeAt m c r q * m ((c : Thread nD τ).loc main_arg2) (ix2 r q)).symm
    exact Finset.sum_congr rfl fun k _ => tile_eq m c _ q
  · blk_ext [h6]

end Cert.Kernel24Ideal.Dact

namespace Cert.Proof.S5Dact

open Cert.Kernel24Ideal.Dact

/-- The kernel and the reference leave the same three arrays. -/
theorem same : Cert.algebraic_Kernel24Ideal_Reference24Ideal := fun m g m' g' _ hag =>
  ⟨fun c => valueAt m c, fun c => skipAt m c, fun c => scaleAt m c,
    (θ_run Cert.Kernel24Ideal.defs _ _).mono
      (fun _ h c => ⟨(h c).1.trans (final4 m c), (h c).2.1.trans (final5 m c), (h c).2.2.1.trans (final6 m c), (h c).2.2.2⟩)
      (Cert.Kernel24Ideal.Value.run_blocks m g),
    (θ_run Cert.Reference24Ideal.defs _ _).mono
      (fun _ h c => ⟨(h c).1.trans (by rw [Cert.Reference24Ideal.Read.val_main_v32_eq, (hag c).1, (hag c).2.1]),
        (h c).2.1.trans (by rw [Cert.Reference24Ideal.Read.val_main_v36_eq, (hag c).1, (hag c).2.1, (hag c).2.2.2]),
        (h c).2.2.1.trans (by rw [Cert.Reference24Ideal.Read.val_main_v39_eq, (hag c).1, (hag c).2.1, (hag c).2.2.1]), (h c).2.2.2⟩)
      (Cert.Reference24Ideal.Value.run m' g')⟩

end Cert.Proof.S5Dact
-- ==== Proof.GlaRecurrence.lean ====
/- The gated linear attention's recurrence over 32 chunks of 64 rows, as formulas at an index: the log of the decay, its sum along
   a chunk, the state of each head after a chunk, what the queries read of it, and the mixer's result. Beside them the facts that
   the printed programs need of these formulas: a running sum as a sum of a prefix, and the log of the sigmoid in its two spellings. -/
module

public import proofs.«01_k».proof.Proof.Gen.Reference11Ideal
public import Idealize.ShloMosaic.Lib.Pointwise

@[expose] public section

set_option maxRecDepth 16384

noncomputable section

namespace Cert.Proof.Gla

open Idealize.ShloMosaic Cert.Reference11Ideal Cert.Reference11Ideal.Gen

/-! ## The formulas -/

/-- One sixteenth: the temperature of the decay and the scale of the queries. -/
def sixteenth : EReal := Ideal.ofBits .f32 0x3D800000#32

/-- The log of a step's decay, from the gate's value. -/
def logDecay (z : EReal) : EReal := (min z 0 - Ideal.log (1 + Ideal.exp (0 - max z (-z)))) * sixteenth

/-- Row `r` of chunk `n`. -/
def row (n : Fin 32) (r : Fin 64) : Fin 2048 := ⟨n.val * 64 + r.val, by omega⟩

/-- Column `p` of head `h` of the keys, and of the queries and the gates. -/
def keyCol (h : Fin 4) (p : Fin 256) : Fin 1024 := ⟨h.val * 256 + p.val, by omega⟩

/-- Column `a` of head `h` of the values, and of the result. -/
def valCol (h : Fin 4) (a : Fin 512) : Fin 2048 := ⟨h.val * 512 + a.val, by omega⟩

variable (x : S2048x6160.Idx → EReal) (w : S16x1024.Idx → EReal) (b : S1024.Idx → EReal)

/-- The gate's value at a row and a column. -/
def gate (R : Fin 2048) (C : Fin 1024) : EReal :=
  ∑ l : Fin 16, x (ix2 R ⟨6144 + l.val, by omega⟩) * w (ix2 l C) + b (ix1 C)

/-- The log decay, added up from a chunk's first row to row `r`. -/
def cum (n : Fin 32) (r : Fin 64) (C : Fin 1024) : EReal :=
  ∑ s : Fin 64, if s.val ≤ r.val then logDecay (gate x w b (row n s) C) else 0

/-- A key, decayed to the end of its chunk. -/
def key (n : Fin 32) (r : Fin 64) (C : Fin 1024) : EReal :=
  x (ix2 (row n r) ⟨1024 + C.val, by omega⟩) * Ideal.exp (cum x w b n 63 C - cum x w b n r C)

/-- The decay over a whole chunk. -/
def decay (n : Fin 32) (C : Fin 1024) : EReal := Ideal.exp (cum x w b n 63 C)

/-- What a chunk adds to a head's state. -/
def added (n : Fin 32) (h : Fin 4) (p : Fin 256) (a : Fin 512) : EReal :=
  ∑ r : Fin 64, key x w b n r (keyCol h p) * x (ix2 (row n r) ⟨2048 + (valCol h a).val, by omega⟩)

/-- A head's state after `n` chunks. -/
def state : (n : ℕ) → n ≤ 32 → Fin 4 → Fin 256 → Fin 512 → EReal
  | 0, _, _, _, _ => 0
  | n + 1, hn, h, p, a => decay x w b ⟨n, hn⟩ (keyCol h p) * state n (by omega) h p a + added x w b ⟨n, hn⟩ h p a

/-- What the queries of a chunk read of a head's state after that chunk. -/
def out (n : Fin 32) (h : Fin 4) (r : Fin 64) (a : Fin 512) : EReal :=
  ∑ p : Fin 256, x (ix2 (row n r) ⟨(keyCol h p).val, by omega⟩) * sixteenth * state x w b (n.val + 1) n.isLt h p a

/-- One over the root of the mean square of a row of a head's output. -/
def invRms (o : Fin 512 → EReal) : EReal :=
  Ideal.rsqrt (Ideal.div (∑ a, o a * o a) (Ideal.ofBits .f32 0x44000000#32) + Ideal.ofBits .f32 0x358637BD#32)

/-- The mixer's result at row `r` of chunk `n` and column `a` of head `h`: the output, normed, scaled and gated. -/
def mixedAt (g : S512.Idx → EReal) (n : Fin 32) (h : Fin 4) (r : Fin 64) (a : Fin 512) : EReal :=
  out x w b n h r a * invRms (out x w b n h r) * g (ix1 a)
    * (x (ix2 (row n r) ⟨4096 + (valCol h a).val, by omega⟩) * Ideal.logistic (x (ix2 (row n r) ⟨4096 + (valCol h a).val, by omega⟩)))

/-- The mixer's result. -/
def mixed (g : S512.Idx → EReal) : S2048x2048.Idx → EReal := fun i =>
  mixedAt x w b g ⟨(i 0).val / 64, by have := (i 0).isLt; change _ < 2048 at this; omega⟩
    ⟨(i 1).val / 512, by have := (i 1).isLt; change _ < 2048 at this; omega⟩
    ⟨(i 0).val % 64, Nat.mod_lt _ (by omega)⟩ ⟨(i 1).val % 512, Nat.mod_lt _ (by omega)⟩

/-! ## The log of the sigmoid -/

theorem sixteen : Ideal.ofBits .f32 0x41800000#32 = ((16 : ℝ) : EReal) := by
  simp [Ideal.ofBits, Ideal.ieee]; norm_num
  rw [← EReal.coe_mul]; norm_num

theorem sixteenth_eq : sixteenth = ((16 : ℝ)⁻¹ : ℝ) := by
  unfold sixteenth
  simp [Ideal.ofBits, Ideal.ieee]; norm_num
  rw [← EReal.coe_mul]; norm_num

/-- Dividing by sixteen is taking a sixteenth. -/
theorem div_sixteen (y : EReal) : Ideal.div y (Ideal.ofBits .f32 0x41800000#32) = y * sixteenth := by
  rw [sixteen, sixteenth_eq]
  unfold Ideal.div
  rw [if_neg (by norm_num), EReal.coe_inv]

/-- The log term is a real number. -/
theorem log_term (z : EReal) : ∃ t : ℝ, Ideal.log (1 + Ideal.exp (-(max z (-z)))) = (t : EReal) := by
  have pos : ∀ y : ℝ, ∃ t : ℝ, Ideal.log (1 + Ideal.exp ((y : ℝ) : EReal)) = (t : EReal) := fun y => by
    refine ⟨Real.log (1 + Real.exp y), ?_⟩
    have h : (1 : EReal) + Ideal.exp ((y : ℝ) : EReal) = ((1 + Real.exp y : ℝ) : EReal) := by
      show (1 : EReal) + ((Real.exp y : ℝ) : EReal) = _
      push_cast; rfl
    rw [h]
    show (if 1 + Real.exp y ≤ 0 then (⊥ : EReal) else _) = _
    rw [if_neg (by have := Real.exp_pos y; linarith)]
  have inf : ∃ t : ℝ, Ideal.log (1 + Ideal.exp ⊥) = (t : EReal) := by
    refine ⟨Real.log 1, ?_⟩
    show Ideal.log (1 + 0) = _
    rw [add_zero]
    show (if (1 : ℝ) ≤ 0 then (⊥ : EReal) else _) = _
    rw [if_neg (by norm_num)]
  induction z with
  | bot => simpa using inf
  | top => simpa using inf
  | coe y =>
    have h : -(max (y : EReal) (-(y : EReal))) = ((-(max y (-y)) : ℝ) : EReal) := by
      rw [← EReal.coe_neg, ← EReal.coe_strictMono.monotone.map_max, ← EReal.coe_neg]
    rw [h]
    exact pos _

theorem neg_max_neg (z : EReal) : -(max (-z) 0) = min z 0 := by
  rcases le_total z 0 with h | h
  · rw [max_eq_left (EReal.neg_nonneg.mpr h), neg_neg, min_eq_left h]
  · rw [max_eq_right (EReal.neg_le_zero.mpr h), neg_zero, min_eq_right h]

/-- The log decay as the host spells it: minus the softplus of minus the gate, over sixteen. -/
theorem softplus_eq (z : EReal) :
    Ideal.div (-(max (-z) 0 + Ideal.log1p (Ideal.exp (-(max (-z) (- -z)))))) (Ideal.ofBits .f32 0x41800000#32) = logDecay z := by
  rw [div_sixteen, neg_neg, max_comm (-z) z]
  unfold logDecay Ideal.log1p
  obtain ⟨t, ht⟩ := log_term z
  rw [zero_sub, ht, EReal.neg_add (.inr (EReal.coe_ne_top t)) (.inr (EReal.coe_ne_bot t)), neg_max_neg]

/-! ## The running sum -/

/-- Adding up a list from a start. -/
theorem foldl_add {α : Type} (g : α → EReal) : ∀ (l : List α) (v : EReal), l.foldl (fun r n => r + g n) v = v + (l.map g).sum
  | [], v => by simp
  | a :: l, v => by rw [List.foldl_cons, foldl_add g l, List.map_cons, List.sum_cons, add_assoc]

/-- A sum over the window that ends at row `r`, the rows before the first left out, is the sum of the rows up to `r`. -/
theorem sum_window (f : Fin 64 → EReal) (r : Fin 64) :
    (∑ k : Fin 64, if 63 ≤ r.val + k.val then f ⟨r.val + k.val - 63, by omega⟩ else 0) = ∑ s : Fin 64, if s.val ≤ r.val then f s else 0 := by
  rw [← Finset.sum_filter, ← Finset.sum_filter]
  refine Finset.sum_nbij' (fun k => ⟨r.val + k.val - 63, by omega⟩) (fun s => ⟨(s.val + 63 - r.val) % 64, Nat.mod_lt _ (by omega)⟩) ?_ ?_ ?_ ?_ ?_
  · intro k hk
    have := (Finset.mem_filter.mp hk).2
    exact Finset.mem_filter.mpr ⟨Finset.mem_univ _, by dsimp only; omega⟩
  · intro s hs
    have := (Finset.mem_filter.mp hs).2
    exact Finset.mem_filter.mpr ⟨Finset.mem_univ _, by dsimp only; omega⟩
  · intro k hk
    have := (Finset.mem_filter.mp hk).2
    exact Fin.ext (by dsimp only; omega)
  · intro s hs
    have := (Finset.mem_filter.mp hs).2
    exact Fin.ext (by dsimp only; omega)
  · exact fun _ _ => rfl

/-- The window's positions are its rows. -/
def positions : (⟨4, ![1, 1, 64, 1]⟩ : Shape).Idx ≃ Fin 64 where
  toFun i := i 2
  invFun k := ix4 0 0 k 0
  left_inv i := funext fun a => by fin_cases a <;> first | rfl | exact Subsingleton.elim (α := Fin 1) _ _
  right_inv _ := rfl

/-- The host's running sum along a chunk. -/
theorem cumsum_apply (y : S32x4x64x256.Idx → EReal) (e : S_.Idx → EReal) (he : ∀ i, e i = 0) (n : Fin 32) (h : Fin 4) (r : Fin 64) (q : Fin 256) :
    Host.reduceWindowAdd (F := Ideal) (φ := .f32) ![1, 1, 64, 1] ![1, 1, 1, 1] ![0, 0, 63, 0] ![0, 0, 0, 0] y e
      reduceWindows_S32x4x64x256_S32x4x64x256_w1s1p0_0_w1s1p0_0_w64s1p63_0_w1s1p0_0 h_S_ (ix4 n h r q)
      = ∑ s : Fin 64, if s.val ≤ r.val then y (ix4 n h s q) else 0 := by
  unfold Host.reduceWindowAdd
  rw [Ideal.hostReduceWindowAdd_def, he]
  unfold Ideal.hostReduceWindowAdd Host.reduceWindow
  refine (foldl_add _ _ _).trans ?_
  rw [zero_add, ← Fin.sum_univ_def]
  refine Eq.trans ?_ (sum_window (fun s => y (ix4 n h s q)) r)
  refine (Fintype.sum_equiv ((⟨4, ![1, 1, 64, 1]⟩ : Shape).rowMajor.symm.trans positions) _ _ fun k => ?_)
  obtain ⟨s, hs⟩ : ∃ s : Fin 64, (⟨4, ![1, 1, 64, 1]⟩ : Shape).rowMajor.symm k = ix4 0 0 s 0 :=
    ⟨positions ((⟨4, ![1, 1, 64, 1]⟩ : Shape).rowMajor.symm k), (positions.symm_apply_apply _).symm⟩
  rw [Equiv.trans_apply]
  simp only [hs]
  show _ = if 63 ≤ r.val + s.val then y (ix4 n h ⟨r.val + s.val - 63, _⟩ q) else 0
  by_cases hk : 63 ≤ r.val + s.val
  · rw [if_pos hk, dif_pos]
    · exact congrArg y (funext fun a => Fin.ext (by
        fin_cases a
        · show n.val * 1 + 0 - 0 = n.val; omega
        · show h.val * 1 + 0 - 0 = h.val; omega
        · show r.val * 1 + s.val - 63 = r.val + s.val - 63; omega
        · show q.val * 1 + 0 - 0 = q.val; omega))
    · intro a
      fin_cases a
      · show 0 ≤ n.val * 1 + 0 ∧ n.val * 1 + 0 - 0 < 32; omega
      · show 0 ≤ h.val * 1 + 0 ∧ h.val * 1 + 0 - 0 < 4; omega
      · show 63 ≤ r.val * 1 + s.val ∧ r.val * 1 + s.val - 63 < 64; omega
      · show 0 ≤ q.val * 1 + 0 ∧ q.val * 1 + 0 - 0 < 256; omega
  · rw [if_neg hk, dif_neg]
    intro hin
    have h2 : 63 ≤ r.val * 1 + s.val := (hin 2).1
    omega

end Cert.Proof.Gla
-- ==== Proof.GlaMixHeads.lean ====
/- One chunk of one head of the gated linear attention's mixer, as the kernel computes it from the blocks it loads: the head's new state
   and the head's columns of the result. -/
module

public import proofs.«01_k».proof.Defs
public import proofs.«01_k».proof.Proof.GlaRecurrence
public import proofs.«01_k».proof.Proof.Gen.Kernel11Ideal.Value
public import Idealize.ShloMosaic.Lib.Pointwise

@[expose] public section

set_option maxRecDepth 16384

noncomputable section

namespace Cert.Kernel11Ideal.Mix

open Cert.Kernel11Ideal Cert.Kernel11Ideal.Gen Idealize.ShloMosaic Idealize.ShloMosaic.TcCoe Idealize.SL.Sem
open Cert.Proof.Gla

/-! ## The formulas over the loaded blocks -/

/-- A head's new state at row `a` and column `p`. -/
def headNew (kd : S64x1024.Idx → EReal) (dec : S1x1024.Idx → EReal) (S : S1x512x256.Idx → EReal) (v : S64x512.Idx → EReal)
    (h : Fin 4) (a : Fin 512) (p : Fin 256) : EReal :=
  S (ix3 0 a p) * dec (ix2 0 (keyCol h p)) + ∑ r : Fin 64, v (ix2 r a) * kd (ix2 r (keyCol h p))

/-- A head's output from its new state. -/
def headOut (N : Fin 512 → Fin 256 → EReal) (q : S64x256.Idx → EReal) (r : Fin 64) (a : Fin 512) : EReal :=
  ∑ p : Fin 256, q (ix2 r p) * sixteenth * N a p

/-- A head's columns of the result. -/
def headRes (N : Fin 512 → Fin 256 → EReal) (q : S64x256.Idx → EReal) (g : S1x512.Idx → EReal) (z : S64x512.Idx → EReal)
    (r : Fin 64) (a : Fin 512) : EReal :=
  headOut N q r a * invRms (headOut N q r) * g (ix2 0 a) * (z (ix2 r a) * Ideal.logistic (z (ix2 r a)))

variable (kd : S64x1024.Idx → EReal) (dec : S1x1024.Idx → EReal) (S : S1x512x256.Idx → EReal) (v : S64x512.Idx → EReal)
  (q : S64x256.Idx → EReal) (g : S1x512.Idx → EReal) (z : S64x512.Idx → EReal)

/-! ## The states stored -/

theorem state0 (a : Fin 512) (p : Fin 256) : k0_pay7 (F := Ideal) kd dec S v (ix3 0 a p) = headNew kd dec S v 0 a p := by
  pointwise [k0_pay7, k0_pay6]
  simp only [headNew, keyCol, Fin.val_zero, Nat.zero_mul, Nat.zero_add]

theorem state1 (a : Fin 512) (p : Fin 256) : k0_pay12 (F := Ideal) kd dec S v (ix3 0 a p) = headNew kd dec S v 1 a p := by
  pointwise [k0_pay12, k0_pay11]
  rfl

theorem state2 (a : Fin 512) (p : Fin 256) : k0_pay18 (F := Ideal) kd dec S v (ix3 0 a p) = headNew kd dec S v 2 a p := by
  pointwise [k0_pay18, k0_pay17]
  rfl

theorem state3 (a : Fin 512) (p : Fin 256) :
    k0_pay25 (F := Ideal) (k0_pay21 dec S) (k0_pay22 v) (k0_pay23 kd) (ix3 0 a p) = headNew kd dec S v 3 a p := by
  pointwise [k0_pay25, k0_pay24, k0_pay21, k0_pay22, k0_pay23]
  rfl

/-! ## The results stored -/

theorem res0 (r : Fin 64) (a : Fin 512) :
    k0_pay10 (F := Ideal) (k0_pay9 kd dec S v q) g z (ix2 r a) = headRes (headNew kd dec S v 0) q g z r a := by
  pointwise [k0_pay10, k0_pay9, k0_pay6]
  simp only [headRes, headOut, headNew, keyCol, invRms, sixteenth, Fin.val_zero, Nat.zero_mul, Nat.zero_add]

theorem res1 (r : Fin 64) (a : Fin 512) :
    k0_pay16 (F := Ideal) (k0_pay14 kd dec S v q) (k0_pay15 kd dec S v q) g z (ix2 r a) = headRes (headNew kd dec S v 1) q g z r a := by
  pointwise [k0_pay16, k0_pay15, k0_pay14, k0_pay11]
  rfl

theorem res2 (r : Fin 64) (a : Fin 512) :
    k0_pay20 (F := Ideal) (k0_pay17 kd dec S v) q g z (ix2 r a) = headRes (headNew kd dec S v 2) q g z r a := by
  pointwise [k0_pay20, k0_pay17]
  rfl

theorem res3 (r : Fin 64) (a : Fin 512) :
    k0_pay27 (F := Ideal) (k0_pay21 dec S) (k0_pay22 v) (k0_pay23 kd) q g z (ix2 r a) = headRes (headNew kd dec S v 3) q g z r a := by
  pointwise [k0_pay27, k0_pay24, k0_pay21, k0_pay22, k0_pay23]
  rfl

/-! ## The running sums of the gates' logs -/

/-- The gate's value over the loaded blocks. -/
def gateAt (x : S64x128.Idx → EReal) (w : S128x1024.Idx → EReal) (b : S1x1024.Idx → EReal) (r : Fin 64) (C : Fin 1024) : EReal :=
  ∑ l : Fin 128, x (ix2 r l) * w (ix2 l C) + b (ix2 0 C)

/-- The running sum over the loaded blocks. -/
def cumAt (x : S64x128.Idx → EReal) (w : S128x1024.Idx → EReal) (b : S1x1024.Idx → EReal) (r : Fin 64) (C : Fin 1024) : EReal :=
  ∑ s : Fin 64, if s.val ≤ r.val then logDecay (gateAt x w b s C) else 0

variable (x : S64x128.Idx → EReal) (w : S128x1024.Idx → EReal) (b : S1x1024.Idx → EReal)

theorem cum_pay (r : Fin 64) (C : Fin 1024) : k0_pay2 (F := Ideal) x w b (ix2 r C) = cumAt x w b r C := by
  pointwise [k0_pay2]
  refine Finset.sum_congr rfl fun s _ => ?_
  rw [WordCmp.cmpi_sle_ofNat (by omega) (by omega)]
  by_cases h : s.val ≤ r.val
  · rw [if_pos h, decide_eq_true h]; rfl
  · rw [if_neg h, decide_eq_false h]; rfl

theorem keys_pay (k : S64x1024.Idx → EReal) (r : Fin 64) (C : Fin 1024) :
    k0_pay4 (F := Ideal) x w b k (ix2 r C) = k (ix2 r C) * Ideal.exp (cumAt x w b 63 C - cumAt x w b r C) := by
  pointwise [k0_pay4, k0_pay3]
  simp only [cum_pay]

theorem decay_pay (C : Fin 1024) : k0_pay5 (F := Ideal) x w b (ix2 0 C) = Ideal.exp (cumAt x w b 63 C) := by
  pointwise [k0_pay5, k0_pay3]
  simp only [cum_pay]

end Cert.Kernel11Ideal.Mix
-- ==== Proof.GlaMixBlocks.lean ====
/- The blocks that a chunk of the gated linear attention's mixer loads, in the arguments: rows of the projection, the gate's weight with its
   rows of zeros, the bias and the scales. -/
module

public import proofs.«01_k».proof.Proof.GlaMixHeads
public import proofs.«01_k».proof.Proof.Padded

@[expose] public section

set_option maxRecDepth 16384

noncomputable section

namespace Cert.Kernel11Ideal.Mix

open Cert.Kernel11Ideal Cert.Kernel11Ideal.Gen Idealize.ShloMosaic Idealize.ShloMosaic.TcCoe Idealize.SL.Sem
open Idealize.ShloMosaic.Pipeline (Dat)
open Cert.Proof.Gla Cert.Proof.Padded

variable (m : (ℓ : Loc nD τ sig) → Buf (Elt Ideal) ℓ) (c : Dev nD)

/-! ## The arrays before the first chunk -/

/-- The gate's weight with 112 rows of zeros below it. -/
def tall (w : S16x1024.Idx → EReal) : S128x1024.Idx → EReal := fun i =>
  if h : (i 0).val < 16 then w (ix2 ⟨(i 0).val, h⟩ (i 1)) else 0

theorem tall_eq (w : S16x1024.Idx → EReal) (e : S_.Idx → EReal) (he : ∀ i, e i = 0)
    (h : S16x1024.Pads ![0, 0] ![112, 0] ![0, 0] S128x1024) (hu : 0 < S_.numel) :
    pad S128x1024 ![0, 0] ![112, 0] ![0, 0] w e h hu = tall w := by
  funext i
  have i1 : (i 1).val < 1024 := (i 1).isLt
  unfold pad tall
  by_cases hk : (i 0).val < 16
  · rw [dif_pos hk, dif_pos]
    · exact congrArg w (funext fun a => Fin.ext (by fin_cases a <;> exact (Nat.div_one _).trans (Nat.sub_zero _)))
    · intro a
      fin_cases a
      · exact ⟨Nat.zero_le _, Nat.mod_one _, (Nat.div_one _).trans_lt hk⟩
      · exact ⟨Nat.zero_le _, Nat.mod_one _, (Nat.div_one _).trans_lt i1⟩
  · rw [dif_neg hk, dif_neg, he]
    intro hin
    exact hk ((Nat.div_one _).symm.trans_lt (hin 0).2.2)

abbrev argX : S2048x6160.Idx → EReal := m ((c : Thread nD τ).loc main_arg0)
abbrev argW : S16x1024.Idx → EReal := m ((c : Thread nD τ).loc main_arg1)
abbrev argB : S1024.Idx → EReal := m ((c : Thread nD τ).loc main_arg2)
abbrev argG : S512.Idx → EReal := m ((c : Thread nD τ).loc main_arg3)

theorem entry0 : V m c main_v0 = padded (argX m c) := by
  have h : V m c main_v0 = pad S2048x6272 ![0, 0] ![0, 112] ![0, 0] (m ((c : Thread nD τ).loc main_arg0))
      (sitofp (F := Ideal) .f32 (constantI S_ 32 0#32)) pads_S2048x6160_S2048x6272_000_01120 h_S_ := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  exact pad_eq _ _ (fun _ => fill) pads_S2048x6160_S2048x6272_000_01120 h_S_

theorem entry5 : V m c main_v2 = tall (argW m c) := by
  have h : V m c main_v2 = truncf (F := Ideal) .bf16 (pad S128x1024 ![0, 0] ![112, 0] ![0, 0] (m ((c : Thread nD τ).loc main_arg1))
      (sitofp (F := Ideal) .f32 (constantI S_ 32 0#32)) pads_S16x1024_S128x1024_01120_000 h_S_) bitsLt_bf16_f32 := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  exact tall_eq _ _ (fun _ => fill) pads_S16x1024_S128x1024_01120_000 h_S_

theorem entry6 (C : Fin 1024) : V m c main_v3 (ix2 0 C) = argB m c (ix1 C) := by
  have h : V m c main_v3 = broadcastInDim S1x1024 ![1] bcast_S1024_S1x1024_1 (m ((c : Thread nD τ).loc main_arg2)) := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  pointwise

theorem entry7 (a : Fin 512) : V m c main_v4 (ix2 0 a) = argG m c (ix1 a) := by
  have h : V m c main_v4 = broadcastInDim S1x512 ![1] bcast_S512_S1x512_1 (m ((c : Thread nD τ).loc main_arg3)) := by
    simp only [V, List.flatten_cons, List.flatten_nil, List.append_nil, List.cons_append, List.nil_append, StableHlo.TRef.binary, StableHlo.TRef.nullary, StableHlo.TRef.unary, StableHlo.TRef.toBuf, StableHlo.TRef.ofBuf, cast_eq]; after_results
  rw [h]
  pointwise

/-! ## A chunk's blocks -/

/-- The chunk that a point works on. -/
def chunk (t : Fin cfg0.N) : Fin 32 := ⟨t.val, lt_of_lt_of_eq t.isLt N_0⟩

theorem at_points : ∀ t : Fin cfg0.N,
    (win0_0.index t 0 = t.val ∧ win0_0.index t 1 = 0) ∧ (win0_1.index t 0 = t.val ∧ win0_1.index t 1 = 1)
    ∧ (win0_2.index t 0 = t.val ∧ win0_2.index t 1 = 1) ∧ (win0_3.index t 0 = t.val ∧ win0_3.index t 1 = 2)
    ∧ (win0_4.index t 0 = t.val ∧ win0_4.index t 1 = 48) ∧ (win0_5.index t 0 = 0 ∧ win0_5.index t 1 = 0)
    ∧ (win0_6.index t 0 = 0 ∧ win0_6.index t 1 = 0) ∧ (win0_7.index t 0 = 0 ∧ win0_7.index t 1 = 0)
    ∧ win0_8.index t 0 = t.val ∧ win0_8.index t 1 = 0 := by
  decide +kernel

variable (t : Fin cfg0.N)

/-- A row and a column of the padded projection within the argument's columns. -/
theorem entry_at (R : Fin 2048) (C : Fin 6272) (h : C.val < 6160) : V m c main_v0 (ix2 R C) = argX m c (ix2 R ⟨C.val, h⟩) :=
  (congrFun (entry0 m c) _).trans (padded_of_lt (argX m c) R ⟨C.val, h⟩)

theorem queries (r : Fin 64) (k : Fin 1024) : X0_0 m c t (ix2 r k) = argX m c (ix2 (row (chunk t) r) ⟨k.val, by omega⟩) := by
  obtain ⟨⟨h0, h1⟩, -⟩ := at_points t
  obtain ⟨y, ⟨y0, y1⟩, e⟩ : ∃ y : (win0_0.xblock (grid0.coords t)).Idx, ((y 0).val = r.val ∧ (y 1).val = k.val) ∧ X0_0 m c t (ix2 r k) = iblk m c 0 t y :=
    ⟨fun a => ⟨(ix2 r k a).val, (win0_0.moved_iff _ _).mp (moved0_0 t (ix2 r k)) a⟩, ⟨rfl, rfl⟩, dif_pos (moved0_0 t (ix2 r k))⟩
  refine e.trans (Eq.trans ?_ (entry_at m c _ ⟨k.val, by omega⟩ _))
  refine congrArg (V m c main_v0) (Shape.idx_ext₂ (x := (win0_0.rect t).emb y) ?_ ?_)
  · rw [win0_0.rect_emb_val t y 0, h0, y0]; rfl
  · rw [win0_0.rect_emb_val t y 1, h1, y1]; exact (congrArg (· + k.val) (Nat.zero_mul _)).trans (Nat.zero_add _)

theorem keys (r : Fin 64) (k : Fin 1024) : X0_1 m c t (ix2 r k) = argX m c (ix2 (row (chunk t) r) ⟨1024 + k.val, by omega⟩) := by
  obtain ⟨-, ⟨h0, h1⟩, -⟩ := at_points t
  obtain ⟨y, ⟨y0, y1⟩, e⟩ : ∃ y : (win0_1.xblock (grid0.coords t)).Idx, ((y 0).val = r.val ∧ (y 1).val = k.val) ∧ X0_1 m c t (ix2 r k) = iblk m c 1 t y :=
    ⟨fun a => ⟨(ix2 r k a).val, (win0_1.moved_iff _ _).mp (moved0_1 t (ix2 r k)) a⟩, ⟨rfl, rfl⟩, dif_pos (moved0_1 t (ix2 r k))⟩
  refine e.trans (Eq.trans ?_ (entry_at m c _ ⟨1024 + k.val, by omega⟩ _))
  refine congrArg (V m c main_v0) (Shape.idx_ext₂ (x := (win0_1.rect t).emb y) ?_ ?_)
  · rw [win0_1.rect_emb_val t y 0, h0, y0]; rfl
  · rw [win0_1.rect_emb_val t y 1, h1, y1]; rfl

theorem values (r : Fin 64) (k : Fin 2048) : X0_2 m c t (ix2 r k) = argX m c (ix2 (row (chunk t) r) ⟨2048 + k.val, by omega⟩) := by
  obtain ⟨-, -, ⟨h0, h1⟩, -⟩ := at_points t
  obtain ⟨y, ⟨y0, y1⟩, e⟩ : ∃ y : (win0_2.xblock (grid0.coords t)).Idx, ((y 0).val = r.val ∧ (y 1).val = k.val) ∧ X0_2 m c t (ix2 r k) = iblk m c 2 t y :=
    ⟨fun a => ⟨(ix2 r k a).val, (win0_2.moved_iff _ _).mp (moved0_2 t (ix2 r k)) a⟩, ⟨rfl, rfl⟩, dif_pos (moved0_2 t (ix2 r k))⟩
  refine e.trans (Eq.trans ?_ (entry_at m c _ ⟨2048 + k.val, by omega⟩ _))
  refine congrArg (V m c main_v0) (Shape.idx_ext₂ (x := (win0_2.rect t).emb y) ?_ ?_)
  · rw [win0_2.rect_emb_val t y 0, h0, y0]; rfl
  · rw [win0_2.rect_emb_val t y 1, h1, y1]; rfl

theorem gates (r : Fin 64) (k : Fin 2048) : X0_3 m c t (ix2 r k) = argX m c (ix2 (row (chunk t) r) ⟨4096 + k.val, by omega⟩) := by
  obtain ⟨-, -, -, ⟨h0, h1⟩, -⟩ := at_points t
  obtain ⟨y, ⟨y0, y1⟩, e⟩ : ∃ y : (win0_3.xblock (grid0.coords t)).Idx, ((y 0).val = r.val ∧ (y 1).val = k.val) ∧ X0_3 m c t (ix2 r k) = iblk m c 3 t y :=
    ⟨fun a => ⟨(ix2 r k a).val, (win0_3.moved_iff _ _).mp (moved0_3 t (ix2 r k)) a⟩, ⟨rfl, rfl⟩, dif_pos (moved0_3 t (ix2 r k))⟩
  refine e.trans (Eq.trans ?_ (entry_at m c _ ⟨4096 + k.val, by omega⟩ _))
  refine congrArg (V m c main_v0) (Shape.idx_ext₂ (x := (win0_3.rect t).emb y) ?_ ?_)
  · rw [win0_3.rect_emb_val t y 0, h0, y0]; rfl
  · rw [win0_3.rect_emb_val t y 1, h1, y1]; rfl

theorem low (r : Fin 64) (k : Fin 128) : iblk m c 4 t (ix2 r k) = padded (argX m c) (ix2 (row (chunk t) r) ⟨6144 + k.val, by omega⟩) := by
  obtain ⟨-, -, -, -, ⟨h0, h1⟩, -⟩ := at_points t
  refine Eq.trans ?_ (congrFun (entry0 m c) _)
  refine congrArg (V m c main_v0) (Shape.idx_ext₂ (x := (win0_4.rect t).emb (ix2 r k)) ?_ ?_)
  · rw [win0_4.rect_emb_val t (ix2 r k) 0, h0]; rfl
  · rw [win0_4.rect_emb_val t (ix2 r k) 1, h1]; rfl

theorem weight (k : Fin 128) (C : Fin 1024) : iblk m c 5 t (ix2 k C) = tall (argW m c) (ix2 k C) := by
  obtain ⟨-, -, -, -, -, ⟨h0, h1⟩, -⟩ := at_points t
  refine Eq.trans ?_ (congrFun (entry5 m c) _)
  refine congrArg (V m c main_v2) (Shape.idx_ext₂ (x := (win0_5.rect t).emb (ix2 k C)) ?_ ?_)
  · rw [win0_5.rect_emb_val t (ix2 k C) 0, h0]; exact (congrArg (· + k.val) (Nat.zero_mul _)).trans (Nat.zero_add _)
  · rw [win0_5.rect_emb_val t (ix2 k C) 1, h1]; exact (congrArg (· + C.val) (Nat.zero_mul _)).trans (Nat.zero_add _)

theorem bias (C : Fin 1024) : iblk m c 6 t (ix2 0 C) = argB m c (ix1 C) := by
  obtain ⟨-, -, -, -, -, -, ⟨h0, h1⟩, -⟩ := at_points t
  refine Eq.trans ?_ (entry6 m c C)
  refine congrArg (V m c main_v3) (Shape.idx_ext₂ (x := (win0_6.rect t).emb (ix2 0 C)) ?_ ?_)
  · rw [win0_6.rect_emb_val t (ix2 0 C) 0, h0]; rfl
  · rw [win0_6.rect_emb_val t (ix2 0 C) 1, h1]; exact (congrArg (· + C.val) (Nat.zero_mul _)).trans (Nat.zero_add _)

theorem scales (a : Fin 512) : iblk m c 7 t (ix2 0 a) = argG m c (ix1 a) := by
  obtain ⟨-, -, -, -, -, -, -, ⟨h0, h1⟩, -⟩ := at_points t
  refine Eq.trans ?_ (entry7 m c a)
  refine congrArg (V m c main_v4) (Shape.idx_ext₂ (x := (win0_7.rect t).emb (ix2 0 a)) ?_ ?_)
  · rw [win0_7.rect_emb_val t (ix2 0 a) 0, h0]; rfl
  · rw [win0_7.rect_emb_val t (ix2 0 a) 1, h1]; exact (congrArg (· + a.val) (Nat.zero_mul _)).trans (Nat.zero_add _)

/-! ## The chunk's decayed keys and its decay -/

theorem gate_eq (r : Fin 64) (C : Fin 1024) :
    gateAt (iblk m c 4 t) (iblk m c 5 t) (iblk m c 6 t) r C = gate (argX m c) (argW m c) (argB m c) (row (chunk t) r) C := by
  unfold gateAt gate
  rw [bias, Fin.sum_univ_two_halves 16 112 rfl]
  refine congrArg (· + _) ?_
  rw [Finset.sum_eq_zero (s := (Finset.univ : Finset (Fin 112))), add_zero]
  · refine Finset.sum_congr rfl fun l _ => congrArg₂ (· * ·) ?_ ?_
    · exact (low m c t r _).trans (padded_of_lt (argX m c) _ ⟨6144 + l.val, by omega⟩)
    · exact (weight m c t _ C).trans (dif_pos l.isLt)
  · intro l _
    exact mul_eq_zero_of_right (M₀ := EReal) _ ((weight m c t _ C).trans (dif_neg (Nat.not_lt.mpr (Nat.le_add_right 16 l.val))))

theorem cum_eq (r : Fin 64) (C : Fin 1024) :
    cumAt (iblk m c 4 t) (iblk m c 5 t) (iblk m c 6 t) r C = cum (argX m c) (argW m c) (argB m c) (chunk t) r C := by
  unfold cumAt cum
  simp only [gate_eq]

/-- The chunk's keys as the kernel decays them. -/
abbrev kd : S64x1024.Idx → EReal := k0_pay4 (F := Ideal) (iblk m c 4 t) (iblk m c 5 t) (iblk m c 6 t) (X0_1 m c t)
/-- The chunk's decay as the kernel computes it. -/
abbrev dec : S1x1024.Idx → EReal := k0_pay5 (F := Ideal) (iblk m c 4 t) (iblk m c 5 t) (iblk m c 6 t)

theorem kd_eq (r : Fin 64) (C : Fin 1024) : kd m c t (ix2 r C) = key (argX m c) (argW m c) (argB m c) (chunk t) r C := by
  refine (keys_pay _ _ _ _ r C).trans ?_
  rw [cum_eq, cum_eq, keys]
  rfl

theorem dec_eq (C : Fin 1024) : dec m c t (ix2 0 C) = decay (argX m c) (argW m c) (argB m c) (chunk t) C := by
  refine (decay_pay _ _ _ C).trans ?_
  rw [cum_eq]
  rfl

end Cert.Kernel11Ideal.Mix
-- ==== Proof.GlaMixTrips.lean ====
/- The run of the forward mixer's reference, stated over one trip of its loop: at buffers that hold a state, the trip's values are
   those of `Step.step`, and the run's result is read off the states that start at `init` and go on by `step`. The text is that of
   the generated module of the same run, with the last lemma of the trip given directly by the one before it. -/
module

public import proofs.«01_k».proof.Proof.Gen.Reference11Ideal.Run
public import proofs.«01_k».proof.Proof.Gen.Reference11Ideal.Step

@[expose] public section

noncomputable section

namespace Cert.Reference11Ideal.StepRun

open Idealize.ShloMosaic Idealize.ShloMosaic.TcCoe Idealize.SL.Sem Idealize.ShloMosaic.StableHlo
open Cert.Reference11Ideal Cert.Reference11Ideal.Gen Cert.Reference11Ideal.Value
open Cert.Reference11Ideal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v34_5) = s.main_v34_5
  f_6 : V0 (Proc.devRef .tc main_v34_6) = s.main_v34_6
  f_0 : V0 (Proc.devRef .tc main_v34_0) = s.main_v34_0
  f_1 : V0 (Proc.devRef .tc main_v34_1) = s.main_v34_1
  f_2 : V0 (Proc.devRef .tc main_v34_2) = s.main_v34_2
  f_3 : V0 (Proc.devRef .tc main_v34_3) = s.main_v34_3
  n_4 : V0 (Proc.devRef .tc main_v34_4) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.Reference11Ideal.Step.b0 j s := by
  unfold Cert.Reference11Ideal.Step.b0
  rfl
set_option maxRecDepth 8192 in
theorem al_1 (h : Holds V0 s j) : (constantI S_ 32 0#32 : (Proc.devRef .tc main_while0b_call2_c_0 : DevRef τ sig).ty.Contents (Elt F)) = Cert.Reference11Ideal.Step.b1 j s := by
  unfold Cert.Reference11Ideal.Step.b1
  rfl
set_option maxRecDepth 8192 in
theorem al_2 (h : Holds V0 s j) : (constantI S_ 32 0#32 : (Proc.devRef .tc main_while0b_call2_c_1 : DevRef τ sig).ty.Contents (Elt F)) = Cert.Reference11Ideal.Step.b2 j s := by
  unfold Cert.Reference11Ideal.Step.b2
  rfl
set_option maxRecDepth 8192 in
theorem al_3 (h : Holds V0 s j) : (Host.dynamicSlice S1x4x64x256 (V0 (Proc.devRef .tc main_v34_0)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x256_S1x4x64x256 : (Proc.devRef .tc main_while0b_call2_v0 : DevRef τ sig).ty.Contents (Elt F)) = Cert.Reference11Ideal.Step.b3 j s := by
  unfold Cert.Reference11Ideal.Step.b3
  rw [← al_0 h, ← al_1 h, ← al_2 h, h.f_0, h.n_4]
  try rfl
set_option maxRecDepth 8192 in
theorem al_4 (h : Holds V0 s j) : (shapeCast S4x64x256 (Host.dynamicSlice S1x4x64x256 (V0 (Proc.devRef .tc main_v34_0)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x256_S1x4x64x256) shapeCasts_S1x4x64x256_S4x64x256 : (Proc.devRef .tc main_while0b_v54 : DevRef τ sig).ty.Contents (Elt F)) = Cert.Reference11Ideal.Step.b4 j s := by
  unfold Cert.Reference11Ideal.Step.b4
  rw [← al_3 h]
  try rfl
set_option maxRecDepth 8192 in
theorem al_5 (h : Holds V0 s j) : (constantI S_ 32 0#32 : (Proc.devRef .tc main_while0b_call3_c : DevRef τ sig).ty.Contents (Elt F)) = Cert.Reference11Ideal.Step.b5 j s := by
  unfold Cert.Reference11Ideal.Step.b5
  rfl
set_option maxRecDepth 8192 in
theorem al_6 (h : Holds V0 s j) : (constantI S_ 32 0#32 : (Proc.devRef .tc main_while0b_call3_c_0 : DevRef τ sig).ty.Contents (Elt F)) = Cert.Reference11Ideal.Step.b6 j s := by
  unfold Cert.Reference11Ideal.Step.b6
  rfl
set_option maxRecDepth 8192 in
theorem al_7 (h : Holds V0 s j) : (constantI S_ 32 0#32 : (Proc.devRef .tc main_while0b_call3_c_1 : DevRef τ sig).ty.Contents (Elt F)) = Cert.Reference11Ideal.Step.b7 j s := by
  unfold Cert.Reference11Ideal.Step.b7
  rfl
set_option maxRecDepth 8192 in
theorem al_8 (h : Holds V0 s j) : (Host.dynamicSlice S1x4x64x256 (V0 (Proc.devRef .tc main_v34_1)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x256_S1x4x64x256 : (Proc.devRef .tc main_while0b_call3_v0 : DevRef τ sig).ty.Contents (Elt F)) = Cert.Reference11Ideal.Step.b8 j s := by
  unfold Cert.Reference11Ideal.Step.b8
  rw [← al_5 h, ← al_6 h, ← al_7 h, h.f_1, h.n_4]
  try rfl
set_option maxRecDepth 8192 in
theorem al_9 (h : Holds V0 s j) : (shapeCast S4x64x256 (Host.dynamicSlice S1x4x64x256 (V0 (Proc.devRef .tc main_v34_1)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x256_S1x4x64x256) shapeCasts_S1x4x64x256_S4x64x256 : (Proc.devRef .tc main_while0b_v55 : DevRef τ sig).ty.Contents (Elt F)) = Cert.Reference11Ideal.Step.b9 j s := by
  unfold Cert.Reference11Ideal.Step.b9
  rw [← al_8 h]
  try rfl
set_option maxRecDepth 8192 in
theorem al_10 (h : Holds V0 s j) : (constantI S_ 32 0#32 : (Proc.devRef .tc main_while0b_call4_c : DevRef τ sig).ty.Contents (Elt F)) = Cert.Reference11Ideal.Step.b10 j s := by
  unfold Cert.Reference11Ideal.Step.b10
  rfl
set_option maxRecDepth 8192 in
theorem al_11 (h : Holds V0 s j) : (constantI S_ 32 0#32 : (Proc.devRef .tc main_while0b_call4_c_0 : DevRef τ sig).ty.Contents (Elt F)) = Cert.Reference11Ideal.Step.b11 j s := by
  unfold Cert.Reference11Ideal.Step.b11
  rfl
set_option maxRecDepth 8192 in
theorem al_12 (h : Holds V0 s j) : (constantI S_ 32 0#32 : (Proc.devRef .tc main_while0b_call4_c_1 : DevRef τ sig).ty.Contents (Elt F)) = Cert.Reference11Ideal.Step.b12 j s := by
  unfold Cert.Reference11Ideal.Step.b12
  rfl
set_option maxRecDepth 8192 in
theorem al_13 (h : Holds V0 s j) : (Host.dynamicSlice S1x4x64x512 (V0 (Proc.devRef .tc main_v34_2)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x512_S1x4x64x512 : (Proc.devRef .tc main_while0b_call4_v0 : DevRef τ sig).ty.Contents (Elt F)) = Cert.Reference11Ideal.Step.b13 j s := by
  unfold Cert.Reference11Ideal.Step.b13
  rw [← al_10 h, ← al_11 h, ← al_12 h, h.f_2, h.n_4]
  try rfl
set_option maxRecDepth 8192 in
theorem al_14 (h : Holds V0 s j) : (shapeCast S4x64x512 (Host.dynamicSlice S1x4x64x512 (V0 (Proc.devRef .tc main_v34_2)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x512_S1x4x64x512) shapeCasts_S1x4x64x512_S4x64x512 : (Proc.devRef .tc main_while0b_v56 : DevRef τ sig).ty.Contents (Elt F)) = Cert.Reference11Ideal.Step.b14 j s := by
  unfold Cert.Reference11Ideal.Step.b14
  rw [← al_13 h]
  try rfl
set_option maxRecDepth 8192 in
theorem al_15 (h : Holds V0 s j) : (constantI S_ 32 0#32 : (Proc.devRef .tc main_while0b_call5_c : DevRef τ sig).ty.Contents (Elt F)) = Cert.Reference11Ideal.Step.b15 j s := by
  unfold Cert.Reference11Ideal.Step.b15
  rfl
set_option maxRecDepth 8192 in
theorem al_16 (h : Holds V0 s j) : (constantI S_ 32 0#32 : (Proc.devRef .tc main_while0b_call5_c_0 : DevRef τ sig).ty.Contents (Elt F)) = Cert.Reference11Ideal.Step.b16 j s := by
  unfold Cert.Reference11Ideal.Step.b16
  rfl
set_option maxRecDepth 8192 in
theorem al_17 (h : Holds V0 s j) : (Host.dynamicSlice S1x4x256 (V0 (Proc.devRef .tc main_v34_3)) (fun k => (((![V0 (Proc.devRef .tc main_v34_4), constantI S_ 32 0#32, constantI S_ 32 0#32] : Fin 3 → (⟨S_, .i32⟩ : BufTy).Contents (Elt F))) k (Shape.Idx.first h_S_)).toInt) sliceFits_S32x4x256_S1x4x256 : (Proc.devRef .tc main_while0b_call5_v0 : DevRef τ sig).ty.Contents (Elt F)) = Cert.Reference11Ideal.Step.b17 j s := by
  unfold Cert.Reference11Ideal.Step.b17
  rw [← al_15 h, ← al_16 h, h.f_3, h.n_4]
  try rfl
set_option maxRecDepth 8192 in
theorem al_18 (h : Holds V0 s j) : (shapeCast S4x256 (Host.dynamicSlice S1x4x256 (V0 (Proc.devRef .tc main_v34_3)) (fun k => (((![V0 (Proc.devRef .tc main_v34_4), constantI S_ 32 0#32, constantI S_ 32 0#32] : Fin 3 → (⟨S_, .i32⟩ : BufTy).Contents (Elt F))) k (Shape.Idx.first h_S_)).toInt) sliceFits_S32x4x256_S1x4x256) shapeCasts_S1x4x256_S4x256 : (Proc.devRef .tc main_while0b_v57 : DevRef τ sig).ty.Contents (Elt F)) = Cert.Reference11Ideal.Step.b18 j s := by
  unfold Cert.Reference11Ideal.Step.b18
  rw [← al_17 h]
  try rfl
set_option maxRecDepth 8192 in
theorem al_19 (h : Holds V0 s j) : (broadcastInDim S4x256x1 ![0, 1] bcast_S4x256_S4x256x1_0_1 (shapeCast S4x256 (Host.dynamicSlice S1x4x256 (V0 (Proc.devRef .tc main_v34_3)) (fun k => (((![V0 (Proc.devRef .tc main_v34_4), constantI S_ 32 0#32, constantI S_ 32 0#32] : Fin 3 → (⟨S_, .i32⟩ : BufTy).Contents (Elt F))) k (Shape.Idx.first h_S_)).toInt) sliceFits_S32x4x256_S1x4x256) shapeCasts_S1x4x256_S4x256) : (Proc.devRef .tc main_while0b_v58 : DevRef τ sig).ty.Contents (Elt F)) = Cert.Reference11Ideal.Step.b19 j s := by
  unfold Cert.Reference11Ideal.Step.b19
  rw [← al_18 h]
  try rfl
set_option maxRecDepth 8192 in
theorem al_20 (h : Holds V0 s j) : (broadcastInDim S4x256x512 ![0, 1, 2] bcast_S4x256x1_S4x256x512_0_1_2 (broadcastInDim S4x256x1 ![0, 1] bcast_S4x256_S4x256x1_0_1 (shapeCast S4x256 (Host.dynamicSlice S1x4x256 (V0 (Proc.devRef .tc main_v34_3)) (fun k => (((![V0 (Proc.devRef .tc main_v34_4), constantI S_ 32 0#32, constantI S_ 32 0#32] : Fin 3 → (⟨S_, .i32⟩ : BufTy).Contents (Elt F))) k (Shape.Idx.first h_S_)).toInt) sliceFits_S32x4x256_S1x4x256) shapeCasts_S1x4x256_S4x256)) : (Proc.devRef .tc main_while0b_v59 : DevRef τ sig).ty.Contents (Elt F)) = Cert.Reference11Ideal.Step.b20 j s := by
  unfold Cert.Reference11Ideal.Step.b20
  rw [← al_19 h]
  try rfl
set_option maxRecDepth 8192 in
theorem al_21 (h : Holds V0 s j) : (mulf (broadcastInDim S4x256x512 ![0, 1, 2] bcast_S4x256x1_S4x256x512_0_1_2 (broadcastInDim S4x256x1 ![0, 1] bcast_S4x256_S4x256x1_0_1 (shapeCast S4x256 (Host.dynamicSlice S1x4x256 (V0 (Proc.devRef .tc main_v34_3)) (fun k => (((![V0 (Proc.devRef .tc main_v34_4), constantI S_ 32 0#32, constantI S_ 32 0#32] : Fin 3 → (⟨S_, .i32⟩ : BufTy).Contents (Elt F))) k (Shape.Idx.first h_S_)).toInt) sliceFits_S32x4x256_S1x4x256) shapeCasts_S1x4x256_S4x256))) (V0 (Proc.devRef .tc main_v34_5)) : (Proc.devRef .tc main_while0b_v60 : DevRef τ sig).ty.Contents (Elt F)) = Cert.Reference11Ideal.Step.b21 j s := by
  unfold Cert.Reference11Ideal.Step.b21
  rw [← al_20 h, h.f_5]
  try rfl
set_option maxRecDepth 8192 in
theorem al_22 (h : Holds V0 s j) : (Host.dotGeneral dot_S4x64x256_S4x64x512_S4x256x512_1_1_2_2_0_0 none (shapeCast S4x64x256 (Host.dynamicSlice S1x4x64x256 (V0 (Proc.devRef .tc main_v34_1)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x256_S1x4x64x256) shapeCasts_S1x4x64x256_S4x64x256) (shapeCast S4x64x512 (Host.dynamicSlice S1x4x64x512 (V0 (Proc.devRef .tc main_v34_2)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x512_S1x4x64x512) shapeCasts_S1x4x64x512_S4x64x512) : (Proc.devRef .tc main_while0b_v61 : DevRef τ sig).ty.Contents (Elt F)) = Cert.Reference11Ideal.Step.b22 j s := by
  unfold Cert.Reference11Ideal.Step.b22
  rw [← al_9 h, ← al_14 h]
  try rfl
set_option maxRecDepth 8192 in
theorem al_23 (h : Holds V0 s j) : (res_main_while0b_v62 V0 : (Proc.devRef .tc main_while0b_v62 : DevRef τ sig).ty.Contents (Elt F)) = Cert.Reference11Ideal.Step.b23 j s := by
  unfold res_main_while0b_v62 Cert.Reference11Ideal.Step.b23
  rw [← al_21 h, ← al_22 h]
  try rfl
set_option maxRecDepth 8192 in
theorem al_24 (h : Holds V0 s j) : (Host.dotGeneral dot_S4x64x256_S4x256x512_S4x64x512_2_1_1_2_0_0 none (shapeCast S4x64x256 (Host.dynamicSlice S1x4x64x256 (V0 (Proc.devRef .tc main_v34_0)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x256_S1x4x64x256) shapeCasts_S1x4x64x256_S4x64x256) (res_main_while0b_v62 V0) : (Proc.devRef .tc main_while0b_v63 : DevRef τ sig).ty.Contents (Elt F)) = Cert.Reference11Ideal.Step.b24 j s := by
  unfold Cert.Reference11Ideal.Step.b24
  rw [← al_4 h, ← al_23 h]
  try rfl
set_option maxRecDepth 8192 in
theorem al_25 (h : Holds V0 s j) : (broadcastInDim S1x4x64x512 ![1, 2, 3] bcast_S4x64x512_S1x4x64x512_1_2_3 (Host.dotGeneral dot_S4x64x256_S4x256x512_S4x64x512_2_1_1_2_0_0 none (shapeCast S4x64x256 (Host.dynamicSlice S1x4x64x256 (V0 (Proc.devRef .tc main_v34_0)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x256_S1x4x64x256) shapeCasts_S1x4x64x256_S4x64x256) (res_main_while0b_v62 V0)) : (Proc.devRef .tc main_while0b_call6_v0 : DevRef τ sig).ty.Contents (Elt F)) = Cert.Reference11Ideal.Step.b25 j s := by
  unfold Cert.Reference11Ideal.Step.b25
  rw [← al_24 h]
  try rfl
set_option maxRecDepth 8192 in
theorem al_26 (h : Holds V0 s j) : (constantI S_ 32 0#32 : (Proc.devRef .tc main_while0b_call6_c : DevRef τ sig).ty.Contents (Elt F)) = Cert.Reference11Ideal.Step.b26 j s := by
  unfold Cert.Reference11Ideal.Step.b26
  rfl
set_option maxRecDepth 8192 in
theorem al_27 (h : Holds V0 s j) : (constantI S_ 32 0#32 : (Proc.devRef .tc main_while0b_call6_c_0 : DevRef τ sig).ty.Contents (Elt F)) = Cert.Reference11Ideal.Step.b27 j s := by
  unfold Cert.Reference11Ideal.Step.b27
  rfl
set_option maxRecDepth 8192 in
theorem al_28 (h : Holds V0 s j) : (constantI S_ 32 0#32 : (Proc.devRef .tc main_while0b_call6_c_1 : DevRef τ sig).ty.Contents (Elt F)) = Cert.Reference11Ideal.Step.b28 j s := by
  unfold Cert.Reference11Ideal.Step.b28
  rfl
set_option maxRecDepth 8192 in
theorem al_29 (h : Holds V0 s j) : (Host.dynamicUpdateSlice (V0 (Proc.devRef .tc main_v34_6)) (broadcastInDim S1x4x64x512 ![1, 2, 3] bcast_S4x64x512_S1x4x64x512_1_2_3 (Host.dotGeneral dot_S4x64x256_S4x256x512_S4x64x512_2_1_1_2_0_0 none (shapeCast S4x64x256 (Host.dynamicSlice S1x4x64x256 (V0 (Proc.devRef .tc main_v34_0)) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) sliceFits_S32x4x64x256_S1x4x64x256) shapeCasts_S1x4x64x256_S4x64x256) (res_main_while0b_v62 V0))) (fun k => (((![V0 (Proc.devRef .tc main_v34_4), constantI S_ 32 0#32, constantI S_ 32 0#32, constantI S_ 32 0#32] : Fin 4 → (⟨S_, .i32⟩ : BufTy).Contents (Elt F))) k (Shape.Idx.first h_S_)).toInt) updateFits_S32x4x64x512_S1x4x64x512 : (Proc.devRef .tc main_while0b_v64 : DevRef τ sig).ty.Contents (Elt F)) = Cert.Reference11Ideal.Step.b29 j s := by
  unfold Cert.Reference11Ideal.Step.b29
  rw [← al_25 h, ← al_26 h, ← al_27 h, ← al_28 h, h.f_6, h.n_4]
  try rfl

/-! One trip's step of the carried values is `step`, field by field; a counter steps to the next number. -/

theorem step_5 (h : Holds V0 s j) : step_main_v34_5 V0 = (step j s).main_v34_5 := by
  unfold step_main_v34_5 Cert.Reference11Ideal.Step.step
  show id (res_main_while0b_v62 V0) = _
  rw [al_23 h]
  try rfl
theorem step_6 (h : Holds V0 s j) : step_main_v34_6 V0 = (step j s).main_v34_6 := by
  unfold step_main_v34_6 Cert.Reference11Ideal.Step.step
  exact al_29 h
theorem step_4 (h : Holds V0 s j) : step_main_v34_4 V0 = constantI S_ 32 (BitVec.ofNat 32 (j + 1)) := by
  unfold step_main_v34_4
  rw [h.n_4]
  funext i
  show BitVec.ofNat 32 j + 1#32 = BitVec.ofNat 32 (j + 1)
  simp only [BitVec.ofNat_add]

set_option maxRecDepth 8192 in
theorem out_main_v53_holds (h : Holds V0 s j) {x_main_arg0 : (⟨S2048x6160, .f32⟩ : BufTy).Contents (Elt F)} (h_main_arg0 : V0 (Proc.devRef .tc main_arg0) = x_main_arg0) {x_main_arg3 : (⟨S512, .f32⟩ : BufTy).Contents (Elt F)} (h_main_arg3 : V0 (Proc.devRef .tc main_arg3) = x_main_arg3) : out_main_v53 V0 = Cert.Reference11Ideal.Step.R_main_v53 s x_main_arg0 x_main_arg3 := by
  unfold out_main_v53 Cert.Reference11Ideal.Step.R_main_v53
  rw [h.f_6, h_main_arg0, h_main_arg3]
  try rfl

/-- One trip keeps the valuation holding: `step` of the state, the same set-up values, the next number. -/
theorem holds_step (h : Holds V0 s j) : Holds (STEP V0) (step j s) (j + 1) where
  f_5 := (STEP_main_v34_5 V0).trans (step_5 h)
  f_6 := (STEP_main_v34_6 V0).trans (step_6 h)
  n_4 := (STEP_main_v34_4 V0).trans (step_4 h)
  f_0 := (STEP_main_v34_0 V0).trans h.f_0
  f_1 := (STEP_main_v34_1 V0).trans h.f_1
  f_2 := (STEP_main_v34_2 V0).trans h.f_2
  f_3 := (STEP_main_v34_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results as `step` iterated: every weakly fair execution of `Reference11Ideal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v53) = Cert.Reference11Ideal.Step.R_main_v53 (it c 32) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 32
    ⟨(h c).1.trans (out_main_v53_holds hk (iter_main_arg0 m c 32) (iter_main_arg3 m c 32)), (h c).2.1, (h c).2.2.1, (h c).2.2.2.1, (h c).2.2.2.2⟩) (Value.run m ρ)

end Cert.Reference11Ideal.StepRun

end
-- ==== Proof.GlaMixRef.lean ====
/- What the reference of the gated linear attention's mixer computes: its loop over the chunks, trip by trip, holds the states of
   the recurrence and the outputs of the chunks already done, and the result is the mixer's formula. -/
module

public import proofs.«01_k».proof.Defs
public import proofs.«01_k».proof.Proof.GlaRecurrence
public import proofs.«01_k».proof.Proof.GlaMixTrips
public import Idealize.ShloMosaic.Lib.DynamicIndex

@[expose] public section

set_option maxRecDepth 16384

noncomputable section

namespace Cert.Reference11Ideal.Mix

open Cert.Reference11Ideal Cert.Reference11Ideal.Gen Cert.Reference11Ideal.Step Idealize.ShloMosaic Idealize.ShloMosaic.TcCoe
open Idealize.SL.Sem Cert.Proof.Gla

variable (x : S2048x6160.Idx → EReal) (w : S16x1024.Idx → EReal) (b : S1024.Idx → EReal)

/-! ## Before the loop -/

theorem gate_apply (R : Fin 2048) (C : Fin 1024) : A_main_v8 (F := Ideal) x w b (ix2 R C) = gate x w b R C := by
  pointwise [A_main_v8, A_main_v7, A_main_v6, A_main_v5, A_main_v4]
  rfl

theorem log_apply (R : Fin 2048) (C : Fin 1024) : A_main_v13 (F := Ideal) x w b (ix2 R C) = logDecay (gate x w b R C) := by
  pointwise [A_main_v13, K_main_v12, K_main_cst, A_main_v11, A_main_v10, A_main_call0_v11, A_main_call0_v10, A_main_call0_v9,
    A_main_call0_v8, A_main_call0_v7, A_main_call0_v6, A_main_call0_v4, A_main_call0_v3, A_main_call0_v1, A_main_v9,
    K_main_call0_v5, K_main_call0_v2, K_main_call0_v0, K_main_call0_cst]
  rw [if_neg (fun h => h rfl), gate_apply]
  exact softplus_eq _

theorem cum_apply (n : Fin 32) (h : Fin 4) (r : Fin 64) (p : Fin 256) :
    A_main_v24 (F := Ideal) x w b (ix4 n h r p) = cum x w b n r (keyCol h p) := by
  refine (cumsum_apply (A_main_v23 (F := Ideal) x w b) _ (fun i => by pointwise [K_main_call1_v0, K_main_call1_cst]) n h r p).trans ?_
  refine Finset.sum_congr rfl fun s _ => ?_
  have e : A_main_v23 (F := Ideal) x w b (ix4 n h s p) = A_main_v13 (F := Ideal) x w b (ix2 (row n s) (keyCol h p)) := by
    pointwise [A_main_v23, A_main_v22]
    rfl
  rw [e, log_apply]

theorem key_apply (n : Fin 32) (h : Fin 4) (r : Fin 64) (p : Fin 256) :
    A_main_v29 (F := Ideal) x w b (ix4 n h r p) = key x w b n r (keyCol h p) := by
  pointwise [A_main_v29, A_main_v28, A_main_v27, A_main_v26, A_main_v25, A_main_v19, A_main_v18, A_main_v1]
  rw [cum_apply, cum_apply]
  rfl

theorem decay_apply (n : Fin 32) (h : Fin 4) (p : Fin 256) :
    A_main_v31 (F := Ideal) x w b (ix3 n h p) = decay x w b n (keyCol h p) := by
  pointwise [A_main_v31, A_main_v30, A_main_v25]
  rw [cum_apply]
  rfl

theorem query_apply (n : Fin 32) (h : Fin 4) (r : Fin 64) (p : Fin 256) :
    A_main_v17 (F := Ideal) x w b (ix4 n h r p) = x (ix2 (row n r) ⟨(keyCol h p).val, by omega⟩) * sixteenth := by
  pointwise [A_main_v17, A_main_v15, A_main_v14, A_main_v0, K_main_v16, K_main_cst_0]
  rfl

theorem value_apply (n : Fin 32) (h : Fin 4) (r : Fin 64) (a : Fin 512) :
    A_main_v21 (F := Ideal) x w b (ix4 n h r a) = x (ix2 (row n r) ⟨2048 + (valCol h a).val, by omega⟩) := by
  pointwise [A_main_v21, A_main_v20, A_main_v2]
  rfl

/-! ## One trip -/

/-- A start that is the trip's number on the first axis and zero on the others. -/
theorem starts (j : ℕ) (hj : j < 32) : (constantI S_ 32 (BitVec.ofNat 32 j) (Shape.Idx.first h_S_)).toInt = (j : Int) :=
  toInt_ofNat_of_lt (by omega)

variable (s : State Ideal) (n : Fin 32)

/-- The chunk that a slice at the trip's number takes. -/
theorem chunk_slice {A B C : Nat} (y : (⟨4, ![32, A, B, C]⟩ : Shape).Idx → EReal) (st : Fin 4 → Int) (h0 : st 0 = (n.val : Int))
    (h1 : st 1 = ((0 : ℕ) : Int)) (h2 : st 2 = ((0 : ℕ) : Int)) (h3 : st 3 = ((0 : ℕ) : Int))
    (hs : (⟨4, ![32, A, B, C]⟩ : Shape).Slices (fun _ => 0) ⟨4, ![1, A, B, C]⟩) (i : Fin A) (j : Fin B) (k : Fin C) :
    Host.dynamicSlice ⟨4, ![1, A, B, C]⟩ y st hs (ix4 0 i j k) = y (ix4 n i j k) := by
  rw [Host.dynamicSlice_apply]
  refine congrArg y (funext fun a => Fin.ext ?_)
  have hn := n.isLt
  fin_cases a
  · exact Host.clampedStart_of_le hs.1 st 0 n.val h0 (by show n.val + 1 ≤ 32; omega)
  · exact (congrArg (· + i.val) (Host.clampedStart_of_le hs.1 st 1 0 h1 (by show 0 + A ≤ A; omega))).trans (Nat.zero_add _)
  · exact (congrArg (· + j.val) (Host.clampedStart_of_le hs.1 st 2 0 h2 (by show 0 + B ≤ B; omega))).trans (Nat.zero_add _)
  · exact (congrArg (· + k.val) (Host.clampedStart_of_le hs.1 st 3 0 h3 (by show 0 + C ≤ C; omega))).trans (Nat.zero_add _)

theorem queries_at (h : Fin 4) (r : Fin 64) (p : Fin 256) : b4 n.val s (ix3 h r p) = s.main_v34_0 (ix4 n h r p) := by
  pointwise [b4]
  exact chunk_slice n s.main_v34_0 _ (starts n.val n.isLt) rfl rfl rfl sliceFits_S32x4x64x256_S1x4x64x256 h r p

theorem keys_at (h : Fin 4) (r : Fin 64) (p : Fin 256) : b9 n.val s (ix3 h r p) = s.main_v34_1 (ix4 n h r p) := by
  pointwise [b9]
  exact chunk_slice n s.main_v34_1 _ (starts n.val n.isLt) rfl rfl rfl sliceFits_S32x4x64x256_S1x4x64x256 h r p

theorem values_at (h : Fin 4) (r : Fin 64) (a : Fin 512) : b14 n.val s (ix3 h r a) = s.main_v34_2 (ix4 n h r a) := by
  pointwise [b14]
  exact chunk_slice n s.main_v34_2 _ (starts n.val n.isLt) rfl rfl rfl sliceFits_S32x4x64x512_S1x4x64x512 h r a

/-- The chunk that a slice of the decays at the trip's number takes. -/
theorem chunk_slice3 {A B : Nat} (y : (⟨3, ![32, A, B]⟩ : Shape).Idx → EReal) (st : Fin 3 → Int) (h0 : st 0 = (n.val : Int))
    (h1 : st 1 = ((0 : ℕ) : Int)) (h2 : st 2 = ((0 : ℕ) : Int))
    (hs : (⟨3, ![32, A, B]⟩ : Shape).Slices (fun _ => 0) ⟨3, ![1, A, B]⟩) (i : Fin A) (j : Fin B) :
    Host.dynamicSlice ⟨3, ![1, A, B]⟩ y st hs (ix3 0 i j) = y (ix3 n i j) := by
  rw [Host.dynamicSlice_apply]
  refine congrArg y (funext fun a => Fin.ext ?_)
  have hn := n.isLt
  fin_cases a
  · exact Host.clampedStart_of_le hs.1 st 0 n.val h0 (by show n.val + 1 ≤ 32; omega)
  · exact (congrArg (· + i.val) (Host.clampedStart_of_le hs.1 st 1 0 h1 (by show 0 + A ≤ A; omega))).trans (Nat.zero_add _)
  · exact (congrArg (· + j.val) (Host.clampedStart_of_le hs.1 st 2 0 h2 (by show 0 + B ≤ B; omega))).trans (Nat.zero_add _)

theorem decays_at (h : Fin 4) (p : Fin 256) : b18 n.val s (ix2 h p) = s.main_v34_3 (ix3 n h p) := by
  pointwise [b18]
  exact chunk_slice3 n s.main_v34_3 _ (starts n.val n.isLt) rfl rfl sliceFits_S32x4x256_S1x4x256 h p

/-- The new state of a trip. -/
theorem state_at (h : Fin 4) (p : Fin 256) (a : Fin 512) :
    b23 n.val s (ix3 h p a) = s.main_v34_3 (ix3 n h p) * s.main_v34_5 (ix3 h p a)
      + ∑ r : Fin 64, s.main_v34_1 (ix4 n h r p) * s.main_v34_2 (ix4 n h r a) := by
  pointwise [b23, b22, b21, b20, b19]
  simp only [decays_at, keys_at, values_at]

/-- The trip's output, read from its new state. -/
theorem output_at (h : Fin 4) (r : Fin 64) (a : Fin 512) :
    b25 n.val s (ix4 0 h r a) = ∑ p : Fin 256, s.main_v34_0 (ix4 n h r p) * b23 n.val s (ix3 h p a) := by
  pointwise [b25, b24]
  simp only [queries_at]

/-- The outputs after the trip: the trip's own at its chunk, the others as they were. -/
theorem outputs_at (k : Fin 32) (h : Fin 4) (r : Fin 64) (a : Fin 512) :
    b29 n.val s (ix4 k h r a) = if k = n then b25 n.val s (ix4 0 h r a) else s.main_v34_6 (ix4 k h r a) := by
  have hn := n.isLt
  have e : ∀ a : Fin 4, Host.clampedStart S32x4x64x512 S1x4x64x512 updateFits_S32x4x64x512_S1x4x64x512.1
      (fun k => (((![(constantI S_ 32 (BitVec.ofNat 32 n.val)), b26 n.val s, b27 n.val s, b28 n.val s] :
        Fin 4 → (⟨S_, .i32⟩ : BufTy).Contents (Elt Ideal))) k (Shape.Idx.first h_S_)).toInt) a = (![n.val, 0, 0, 0] : Fin 4 → ℕ) a := by
    intro a
    fin_cases a
    · exact Host.clampedStart_of_le _ _ 0 n.val (starts n.val n.isLt) (by show n.val + 1 ≤ 32; omega)
    · exact Host.clampedStart_of_le _ _ 1 0 rfl (by decide)
    · exact Host.clampedStart_of_le _ _ 2 0 rfl (by decide)
    · exact Host.clampedStart_of_le _ _ 3 0 rfl (by decide)
  have e0 := e 0
  have e1 := e 1
  have e2 := e 2
  have e3 := e 3
  simp only [Matrix.cons_val] at e0 e1 e2 e3
  pointwise [b29]
  simp only [e0, e1, e2, e3]
  by_cases hk : k = n
  · subst hk
    rw [if_pos rfl, dif_pos ⟨⟨le_rfl, Nat.lt_succ_self _⟩, Nat.zero_le _, Nat.zero_le _, Nat.zero_le _⟩]
    refine congrArg (b25 k.val s) (funext fun a => Fin.ext ?_)
    fin_cases a
    · exact Nat.sub_self _
    all_goals rfl
  · rw [if_neg hk, dif_neg fun q => hk (Fin.ext (by omega))]

/-! ## The loop -/

/-- The states of the loop from the arguments. -/
def trips : ℕ → State Ideal
  | 0 => init x w b
  | n + 1 => step n (trips n)

/-- What the loop reads does not change. -/
theorem trips_read : ∀ n : ℕ, (trips x w b n).main_v34_0 = A_main_v17 (F := Ideal) x w b ∧ (trips x w b n).main_v34_1 = A_main_v29 (F := Ideal) x w b
    ∧ (trips x w b n).main_v34_2 = A_main_v21 (F := Ideal) x w b ∧ (trips x w b n).main_v34_3 = A_main_v31 (F := Ideal) x w b
  | 0 => ⟨rfl, rfl, rfl, rfl⟩
  | n + 1 => trips_read n

/-- After `n` trips the carried state is the recurrence's after `n` chunks. -/
theorem trips_state (h : Fin 4) (p : Fin 256) (a : Fin 512) : ∀ (n : ℕ) (hn : n ≤ 32),
    (trips x w b n).main_v34_5 (ix3 h p a) = state x w b n hn h p a
  | 0, _ => by
    show K_main_v32 (F := Ideal) (ix3 h p a) = 0
    pointwise [K_main_v32, K_main_cst_1]
  | n + 1, hn => by
    obtain ⟨-, h1, h2, h3⟩ := trips_read x w b n
    refine (state_at (trips x w b n) ⟨n, hn⟩ h p a).trans ?_
    rw [h1, h2, h3, trips_state h p a n (by omega), decay_apply]
    refine congrArg (_ + ·) (Finset.sum_congr rfl fun r _ => ?_)
    rw [key_apply, value_apply]

/-- After `n` trips the first `n` chunks' outputs are in place. -/
theorem trips_out (k : Fin 32) (h : Fin 4) (r : Fin 64) (a : Fin 512) : ∀ (n : ℕ) (_ : n ≤ 32), k.val < n →
    (trips x w b n).main_v34_6 (ix4 k h r a) = out x w b k h r a
  | 0, _, hk => absurd hk (Nat.not_lt_zero _)
  | n + 1, hn, hk => by
    refine (outputs_at (trips x w b n) ⟨n, hn⟩ k h r a).trans ?_
    by_cases e : k = ⟨n, hn⟩
    · subst e
      rw [if_pos rfl, output_at]
      refine Finset.sum_congr rfl fun p _ => congrArg₂ (· * ·) ?_ (trips_state x w b h p a (n + 1) hn)
      rw [(trips_read x w b n).1, query_apply]
    · rw [if_neg e]
      exact trips_out k h r a n (by omega) (by have : k.val ≠ n := fun q => e (Fin.ext q); omega)

/-! ## The result -/

theorem result (g : S512.Idx → EReal) : R_main_v53 (F := Ideal) (trips x w b 32) x g = mixed x w b g := by
  funext i
  obtain ⟨p, q, rfl⟩ : ∃ p q : Fin 2048, i = ix2 p q := ⟨i 0, i 1, funext fun a => by fin_cases a <;> rfl⟩
  pointwise [R_main_v53]
  simp only [trips_out x w b _ _ _ _ 32 le_rfl (Fin.isLt _)]
  have hr : row ⟨p.val / 64, by omega⟩ ⟨p.val % 64, Nat.mod_lt _ (by omega)⟩ = p := Fin.ext (by show p.val / 64 * 64 + p.val % 64 = p.val; omega)
  have hc : valCol ⟨q.val / 512, by omega⟩ ⟨q.val % 512, Nat.mod_lt _ (by omega)⟩ = q := Fin.ext (by show q.val / 512 * 512 + q.val % 512 = q.val; omega)
  show _ = mixedAt x w b g ⟨p.val / 64, by omega⟩ ⟨q.val / 512, by omega⟩ ⟨p.val % 64, Nat.mod_lt _ (by omega)⟩ ⟨q.val % 512, Nat.mod_lt _ (by omega)⟩
  unfold mixedAt
  simp only [hr, hc]
  rfl

end Cert.Reference11Ideal.Mix
-- ==== Proof.GlaMix.lean ====
/- The gated linear attention's mixer, chunk by chunk: the scratch holds the recurrence's states, each chunk's block of the result is the
   mixer's formula, and the kernel and the reference leave the same array. -/
module

public import proofs.«01_k».proof.Proof.GlaMixBlocks
public import proofs.«01_k».proof.Proof.GlaMixRef
public import Idealize.ShloMosaic.Lib.Pipeline.ValueKit.Acc
public import Idealize.ShloMosaic.Lib.Pipeline.ReadBack

@[expose] public section

set_option maxRecDepth 16384

noncomputable section

namespace Cert.Kernel11Ideal.Mix

open Cert.Kernel11Ideal Cert.Kernel11Ideal.Gen Idealize.ShloMosaic Idealize.ShloMosaic.TcCoe Idealize.SL.Sem
open Idealize.ShloMosaic.Pipeline (Dat)
open Cert.Proof.Gla Cert.Proof.Padded

/-! ## The heads' stores -/

/-- The block of one head's state in the scratch. -/
abbrev rectS (k : ℕ) (inb : ∀ a, (![k, 0, 0] : Fin 3 → ℕ) a + (![1, 512, 256] : Fin 3 → ℕ) a ≤ S4x512x256.size a) : Rect S4x512x256 :=
  Rect.unit (s := S4x512x256) ![k, 0, 0] ![1, 512, 256] inb
/-- One head's columns in a block of values, gates or results. -/
abbrev rectV (k : ℕ) (inb : ∀ a, (![0, k] : Fin 2 → ℕ) a + (![64, 512] : Fin 2 → ℕ) a ≤ S64x2048.size a) : Rect S64x2048 :=
  Rect.unit (s := S64x2048) ![0, k] ![64, 512] inb
/-- One head's columns in a block of queries. -/
abbrev rectQ (k : ℕ) (inb : ∀ a, (![0, k] : Fin 2 → ℕ) a + (![64, 256] : Fin 2 → ℕ) a ≤ S64x1024.size a) : Rect S64x1024 :=
  Rect.unit (s := S64x1024) ![0, k] ![64, 256] inb
/-- The loads at those blocks. -/
abbrev ldS (P : S4x512x256.Idx → EReal) (k : ℕ)
    (inb : ∀ a, (![k, 0, 0] : Fin 3 → ℕ) a + (![1, 512, 256] : Fin 3 → ℕ) a ≤ S4x512x256.size a) : S1x512x256.Idx → EReal := fun x => P ((rectS k inb).idx x)
abbrev ldV (X : S64x2048.Idx → EReal) (k : ℕ)
    (inb : ∀ a, (![0, k] : Fin 2 → ℕ) a + (![64, 512] : Fin 2 → ℕ) a ≤ S64x2048.size a) : S64x512.Idx → EReal := fun x => X ((rectV k inb).idx x)
abbrev ldQ (Q : S64x1024.Idx → EReal) (k : ℕ)
    (inb : ∀ a, (![0, k] : Fin 2 → ℕ) a + (![64, 256] : Fin 2 → ℕ) a ≤ S64x1024.size a) : S64x256.Idx → EReal := fun x => Q ((rectQ k inb).idx x)

/-- A store of another head's state is not read. -/
theorem skip_state (k : ℕ) (inb)
    (w : S1x512x256.Idx → EReal) (L : List (View.Piece (Elt Ideal) S4x512x256 .f32)) (h : Fin 4) (a : Fin 512) (p : Fin 256) (hk : h.val ≠ k) :
    View.canon (⟨rectS k inb, w⟩ :: L) (ix3 h a p) = View.canon L (ix3 h a p) := by
  refine View.canon_cons_of_not_mem _ _ fun hm => ?_
  obtain ⟨h1, h2⟩ := (Rect.mem_set_unit (s := S4x512x256) (inb := inb)).mp hm 0
  have h1' : k ≤ h.val := h1
  have h2' : h.val < k + 1 := h2
  omega

/-- A store of the head's state is what is read. -/
theorem take_state (k : ℕ) (inb)
    (w : S1x512x256.Idx → EReal) (L : List (View.Piece (Elt Ideal) S4x512x256 .f32)) (h : Fin 4) (a : Fin 512) (p : Fin 256) (hk : h.val = k) :
    View.canon (⟨rectS k inb, w⟩ :: L) (ix3 h a p) = w (ix3 0 a p) := by
  refine Eq.trans (congrArg (View.canon _) ?_) (View.canon_cons_emb (Val := Elt Ideal) (e := .f32) (rectS k inb) w L (ix3 0 a p))
  funext b
  fin_cases b
  · exact Fin.ext (by show h.val = k + 1 * 0; omega)
  · exact Fin.ext (by show a.val = 0 + 1 * a.val; omega)
  · exact Fin.ext (by show p.val = 0 + 1 * p.val; omega)

/-- A store of another head's columns is not read. -/
theorem skip_out (k : ℕ) (inb)
    (w : S64x512.Idx → EReal) (L : List (View.Piece (Elt Ideal) S64x2048 .bf16)) (r : Fin 64) (q : Fin 2048) (hk : q.val < k ∨ k + 512 ≤ q.val) :
    View.canon (⟨rectV k inb, w⟩ :: L) (ix2 r q) = View.canon L (ix2 r q) := by
  refine View.canon_cons_of_not_mem _ _ fun hm => ?_
  obtain ⟨h1, h2⟩ := (Rect.mem_set_unit (s := S64x2048) (inb := inb)).mp hm 1
  have h1' : k ≤ q.val := h1
  have h2' : q.val < k + 512 := h2
  omega

/-- A store of the head's columns is what is read. -/
theorem take_out (k : ℕ) (inb)
    (w : S64x512.Idx → EReal) (L : List (View.Piece (Elt Ideal) S64x2048 .bf16)) (r : Fin 64) (q : Fin 2048) (a : Fin 512) (hk : q.val = k + a.val) :
    View.canon (⟨rectV k inb, w⟩ :: L) (ix2 r q) = w (ix2 r a) := by
  refine Eq.trans (congrArg (View.canon _) ?_) (View.canon_cons_emb (Val := Elt Ideal) (e := .bf16) (rectV k inb) w L (ix2 r a))
  funext b
  fin_cases b
  · exact Fin.ext (by show r.val = 0 + 1 * r.val; omega)
  · exact Fin.ext (by show q.val = k + 1 * a.val; omega)

/-! ## The heads' loads -/

/-- A head's state in the scratch. -/
def slS (P : S4x512x256.Idx → EReal) (h : Fin 4) : S1x512x256.Idx → EReal := fun i => P (ix3 h (i 1) (i 2))
/-- A head's columns of a block of queries. -/
def slQ (Q : S64x1024.Idx → EReal) (h : Fin 4) : S64x256.Idx → EReal := fun i => Q (ix2 (i 0) (keyCol h (i 1)))
/-- A head's columns of a block of values, or of gates. -/
def slV (X : S64x2048.Idx → EReal) (h : Fin 4) : S64x512.Idx → EReal := fun i => X (ix2 (i 0) (valCol h (i 1)))

theorem ld_state (P : S4x512x256.Idx → EReal) (k : ℕ) (inb)
    (h : Fin 4) (hk : h.val = k) : ldS P k inb = slS P h := by
  funext i
  refine congrArg P (funext fun b => Fin.ext ?_)
  fin_cases b
  · have : (i 0).val < 1 := (i 0).isLt
    show k + 1 * (i 0).val = h.val
    omega
  · show 0 + 1 * (i 1).val = (i 1).val; omega
  · show 0 + 1 * (i 2).val = (i 2).val; omega

theorem ld_query (Q : S64x1024.Idx → EReal) (k : ℕ) (inb)
    (h : Fin 4) (hk : k = h.val * 256) : ldQ Q k inb = slQ Q h := by
  funext i
  refine congrArg Q (funext fun b => Fin.ext ?_)
  fin_cases b
  · show 0 + 1 * (i 0).val = (i 0).val; omega
  · show k + 1 * (i 1).val = h.val * 256 + (i 1).val; omega

theorem ld_value (X : S64x2048.Idx → EReal) (k : ℕ) (inb)
    (h : Fin 4) (hk : k = h.val * 512) : ldV X k inb = slV X h := by
  funext i
  refine congrArg X (funext fun b => Fin.ext ?_)
  fin_cases b
  · show 0 + 1 * (i 0).val = (i 0).val; omega
  · show k + 1 * (i 1).val = h.val * 512 + (i 1).val; omega

/-! ## A chunk's stores, from the states it loads -/

section Stores

variable (kd : S64x1024.Idx → EReal) (dec : S1x1024.Idx → EReal) (P : S4x512x256.Idx → EReal) (Q : S64x1024.Idx → EReal)
  (X : S64x2048.Idx → EReal) (Z : S64x2048.Idx → EReal) (g : S1x512.Idx → EReal)

/-- The four heads' stores of their new states, over earlier ones. -/
def storesS (L : List (View.Piece (Elt Ideal) S4x512x256 .f32)) : List (View.Piece (Elt Ideal) S4x512x256 .f32) :=
  ⟨rectS 3 inb_S4x512x256_S1x512x256_3_0_0, k0_pay25 (F := Ideal)
    (k0_pay21 dec (ldS P 3 inb_S4x512x256_S1x512x256_3_0_0))
    (k0_pay22 (ldV X 1536 inb_S64x2048_S64x512_0_1536)) (k0_pay23 kd)⟩ ::
  ⟨rectS 2 inb_S4x512x256_S1x512x256_2_0_0, k0_pay18 (F := Ideal) kd dec
    (ldS P 2 inb_S4x512x256_S1x512x256_2_0_0)
    (ldV X 1024 inb_S64x2048_S64x512_0_1024)⟩ ::
  ⟨rectS 1 inb_S4x512x256_S1x512x256_1_0_0, k0_pay12 (F := Ideal) kd dec
    (ldS P 1 inb_S4x512x256_S1x512x256_1_0_0)
    (ldV X 512 inb_S64x2048_S64x512_0_512)⟩ ::
  ⟨rectS 0 inb_S4x512x256_S1x512x256_0_0_0, k0_pay7 (F := Ideal) kd dec
    (ldS P 0 inb_S4x512x256_S1x512x256_0_0_0)
    (ldV X 0 inb_S64x2048_S64x512_0_0)⟩ :: L

theorem storesS_apply (L : List (View.Piece (Elt Ideal) S4x512x256 .f32)) (a : Fin 512) (p : Fin 256) : ∀ h : Fin 4,
    View.canon (storesS kd dec P X L) (ix3 h a p) = headNew kd dec (slS P h) (slV X h) h a p
  | 0 => by
    unfold storesS
    rw [skip_state _ _ _ _ _ _ _ (by decide), skip_state _ _ _ _ _ _ _ (by decide), skip_state _ _ _ _ _ _ _ (by decide),
      take_state 0 _ _ _ 0 _ _ rfl]
    refine (state0 _ _ _ _ _ _).trans ?_
    rw [ld_state P 0 _ 0 rfl, ld_value X 0 _ 0 rfl]
  | 1 => by
    unfold storesS
    rw [skip_state _ _ _ _ _ _ _ (by decide), skip_state _ _ _ _ _ _ _ (by decide), take_state 1 _ _ _ 1 _ _ rfl]
    refine (state1 _ _ _ _ _ _).trans ?_
    rw [ld_state P 1 _ 1 rfl, ld_value X 512 _ 1 rfl]
  | 2 => by
    unfold storesS
    rw [skip_state _ _ _ _ _ _ _ (by decide), take_state 2 _ _ _ 2 _ _ rfl]
    refine (state2 _ _ _ _ _ _).trans ?_
    rw [ld_state P 2 _ 2 rfl, ld_value X 1024 _ 2 rfl]
  | 3 => by
    unfold storesS
    rw [take_state 3 _ _ _ 3 _ _ rfl]
    refine (state3 _ _ _ _ _ _).trans ?_
    rw [ld_state P 3 _ 3 rfl, ld_value X 1536 _ 3 rfl]

/-- The four heads' stores of their columns of the result. -/
def storesY : List (View.Piece (Elt Ideal) S64x2048 .bf16) :=
  [⟨rectV 1536 inb_S64x2048_S64x512_0_1536, k0_pay27 (F := Ideal)
    (k0_pay21 dec (ldS P 3 inb_S4x512x256_S1x512x256_3_0_0))
    (k0_pay22 (ldV X 1536 inb_S64x2048_S64x512_0_1536)) (k0_pay23 kd)
    (ldQ Q 768 inb_S64x1024_S64x256_0_768) g
    (ldV Z 1536 inb_S64x2048_S64x512_0_1536)⟩,
   ⟨rectV 1024 inb_S64x2048_S64x512_0_1024, k0_pay20 (F := Ideal)
    (k0_pay17 kd dec (ldS P 2 inb_S4x512x256_S1x512x256_2_0_0)
      (ldV X 1024 inb_S64x2048_S64x512_0_1024))
    (ldQ Q 512 inb_S64x1024_S64x256_0_512) g
    (ldV Z 1024 inb_S64x2048_S64x512_0_1024)⟩,
   ⟨rectV 512 inb_S64x2048_S64x512_0_512, k0_pay16 (F := Ideal)
    (k0_pay14 kd dec (ldS P 1 inb_S4x512x256_S1x512x256_1_0_0)
      (ldV X 512 inb_S64x2048_S64x512_0_512)
      (ldQ Q 256 inb_S64x1024_S64x256_0_256))
    (k0_pay15 kd dec (ldS P 1 inb_S4x512x256_S1x512x256_1_0_0)
      (ldV X 512 inb_S64x2048_S64x512_0_512)
      (ldQ Q 256 inb_S64x1024_S64x256_0_256)) g
    (ldV Z 512 inb_S64x2048_S64x512_0_512)⟩,
   ⟨rectV 0 inb_S64x2048_S64x512_0_0, k0_pay10 (F := Ideal)
    (k0_pay9 kd dec (ldS P 0 inb_S4x512x256_S1x512x256_0_0_0)
      (ldV X 0 inb_S64x2048_S64x512_0_0)
      (ldQ Q 0 inb_S64x1024_S64x256_0_0)) g
    (ldV Z 0 inb_S64x2048_S64x512_0_0)⟩]

theorem storesY_apply (r : Fin 64) (a : Fin 512) : ∀ h : Fin 4,
    View.canon (storesY kd dec P Q X Z g) (ix2 r (valCol h a))
      = headRes (headNew kd dec (slS P h) (slV X h) h) (slQ Q h) g (slV Z h) r a
  | 0 => by
    have ha := a.isLt
    unfold storesY
    rw [skip_out _ _ _ _ _ _ (Or.inl (by show 0 * 512 + a.val < _; omega)), skip_out _ _ _ _ _ _ (Or.inl (by show 0 * 512 + a.val < _; omega)),
      skip_out _ _ _ _ _ _ (Or.inl (by show 0 * 512 + a.val < _; omega)), take_out 0 _ _ _ _ _ a rfl]
    refine (res0 _ _ _ _ _ _ _ _ _).trans ?_
    rw [ld_state P 0 _ 0 rfl, ld_value X 0 _ 0 rfl, ld_value Z 0 _ 0 rfl, ld_query Q 0 _ 0 rfl]
  | 1 => by
    have ha := a.isLt
    unfold storesY
    rw [skip_out _ _ _ _ _ _ (Or.inl (by show 1 * 512 + a.val < _; omega)), skip_out _ _ _ _ _ _ (Or.inl (by show 1 * 512 + a.val < _; omega)),
      take_out 512 _ _ _ _ _ a rfl]
    refine (res1 _ _ _ _ _ _ _ _ _).trans ?_
    rw [ld_state P 1 _ 1 rfl, ld_value X 512 _ 1 rfl, ld_value Z 512 _ 1 rfl, ld_query Q 256 _ 1 rfl]
  | 2 => by
    have ha := a.isLt
    unfold storesY
    rw [skip_out _ _ _ _ _ _ (Or.inl (by show 2 * 512 + a.val < _; omega)), take_out 1024 _ _ _ _ _ a rfl]
    refine (res2 _ _ _ _ _ _ _ _ _).trans ?_
    rw [ld_state P 2 _ 2 rfl, ld_value X 1024 _ 2 rfl, ld_value Z 1024 _ 2 rfl, ld_query Q 512 _ 2 rfl]
  | 3 => by
    have ha := a.isLt
    unfold storesY
    rw [take_out 1536 _ _ _ _ _ a rfl]
    refine (res3 _ _ _ _ _ _ _ _ _).trans ?_
    rw [ld_state P 3 _ 3 rfl, ld_value X 1536 _ 3 rfl, ld_value Z 1536 _ 3 rfl, ld_query Q 768 _ 3 rfl]

end Stores

/-! ## What each point leaves -/

variable (m : (ℓ : Loc nD τ sig) → Buf (Elt Ideal) ℓ) (ρ : Dev nD → PrngReg) (c : Dev nD)

/-- The states that a chunk loads: zeros at the first, what the chunk before left at the others. -/
def before (t : Fin cfg0.N) : S4x512x256.Idx → EReal :=
  if t.val % 32 = 0 then k0_pay1 (F := Ideal) else (outsAt0 m c (t.val - 1) (Nat.lt_of_le_of_lt (Nat.sub_le _ _) t.isLt)).2.2

/-- A chunk's new states. -/
theorem states_at (t : Fin cfg0.N) (h : Fin 4) (a : Fin 512) (p : Fin 256) :
    (outsAt0 m c t.val t.isLt).2.2 (ix3 h a p)
      = headNew (kd m c t) (dec m c t) (slS (before m c t) h) (slV (X0_2 m c t) h) h a p := by
  by_cases h0 : t.val % 32 = 0
  · rw [before, if_pos h0, outsAt0_A m c t h0]
    frame_open
    simp (disch := decide) only [↓ View.readCov_skip, ↓ View.readCov_cons_toLoadRect, ↓ View.readCov_fill]
    frame_out
    exact storesS_apply (kd m c t) (dec m c t) (k0_pay1 (F := Ideal)) (X0_2 m c t) _ a p h
  · rw [before, if_neg h0, outsAt0_B m c t h0]
    frame_out
    simp only [read_unread_whole]
    exact storesS_apply (kd m c t) (dec m c t) _ (X0_2 m c t) [] a p h

/-- A chunk's block of the result. -/
theorem result_at (t : Fin cfg0.N) (h : Fin 4) (r : Fin 64) (a : Fin 512) :
    (outsAt0 m c t.val t.isLt).1 (ix2 r (valCol h a))
      = headRes (headNew (kd m c t) (dec m c t) (slS (before m c t) h) (slV (X0_2 m c t) h) h) (slQ (X0_0 m c t) h) (iblk m c 7 t)
          (slV (X0_3 m c t) h) r a := by
  by_cases h0 : t.val % 32 = 0
  · rw [before, if_pos h0, outsAt0_A m c t h0]
    frame_open
    simp (disch := decide) only [↓ View.readCov_skip, ↓ View.readCov_cons_toLoadRect, ↓ View.readCov_fill]
    frame_out
    exact storesY_apply (kd m c t) (dec m c t) (k0_pay1 (F := Ideal)) (X0_0 m c t) (X0_2 m c t) (X0_3 m c t) (iblk m c 7 t) r a h
  · rw [before, if_neg h0, outsAt0_B m c t h0]
    frame_out
    simp only [read_unread_whole]
    exact storesY_apply (kd m c t) (dec m c t) _ (X0_0 m c t) (X0_2 m c t) (X0_3 m c t) (iblk m c 7 t) r a h

/-! ## The recurrence -/

/-- The recurrence's step over a chunk's loaded states. -/
theorem step_eq (t : Fin cfg0.N) (h : Fin 4) (a : Fin 512) (p : Fin 256)
    (hb : before m c t (ix3 h a p) = state (argX m c) (argW m c) (argB m c) t.val (le_of_lt (chunk t).isLt) h p a) :
    headNew (kd m c t) (dec m c t) (slS (before m c t) h) (slV (X0_2 m c t) h) h a p
      = state (argX m c) (argW m c) (argB m c) (t.val + 1) (chunk t).isLt h p a := by
  unfold headNew
  rw [dec_eq]
  refine congrArg₂ (· + ·) ((congrArg (· * _) hb).trans (mul_comm _ _)) (Finset.sum_congr rfl fun r _ => ?_)
  rw [kd_eq]
  exact (mul_comm _ _).trans (congrArg (_ * ·) (values m c t r (valCol h a)))

/-- The states that chunk `n` loads are the recurrence's after `n` chunks. -/
theorem before_eq (h : Fin 4) (a : Fin 512) (p : Fin 256) : ∀ (n : ℕ) (hn : n < cfg0.N),
    before m c ⟨n, hn⟩ (ix3 h a p) = state (argX m c) (argW m c) (argB m c) n (le_of_lt (lt_of_lt_of_eq hn N_0)) h p a
  | 0, hn => by
    unfold before
    rw [if_pos (Nat.zero_mod 32)]
    pointwise [k0_pay1]
    rfl
  | n + 1, hn => by
    have h32 : n + 1 < 32 := lt_of_lt_of_eq hn N_0
    unfold before
    rw [if_neg (by dsimp only; omega)]
    exact (states_at m c ⟨n, by omega⟩ h a p).trans (step_eq m c ⟨n, by omega⟩ h a p (before_eq h a p n (by omega)))

/-- A chunk's block of the result is the mixer's formula. -/
theorem block_eq (t : Fin cfg0.N) (h : Fin 4) (r : Fin 64) (a : Fin 512) :
    (outsAt0 m c t.val t.isLt).1 (ix2 r (valCol h a)) = mixedAt (argX m c) (argW m c) (argB m c) (argG m c) (chunk t) h r a := by
  rw [result_at]
  have ho : headOut (headNew (kd m c t) (dec m c t) (slS (before m c t) h) (slV (X0_2 m c t) h) h) (slQ (X0_0 m c t) h) r
      = out (argX m c) (argW m c) (argB m c) (chunk t) h r := funext fun b => by
    refine Finset.sum_congr rfl fun p _ => ?_
    rw [step_eq m c t h b p (before_eq m c h b p t.val t.isLt)]
    exact congrArg (· * _ * _) (queries m c t r (keyCol h p))
  unfold headRes mixedAt
  rw [ho, scales]
  have hg : slV (X0_3 m c t) h (ix2 r a) = argX m c (ix2 (row (chunk t) r) ⟨4096 + (valCol h a).val, by omega⟩) :=
    gates m c t r (valCol h a)
  rw [hg]

/-! ## The result -/

abbrev mixedOf : Buf (Elt Ideal) ((c : Thread nD τ).loc main_v5_0) := mixed (argX m c) (argW m c) (argB m c) (argG m c)

theorem flushed_eq (t : Fin cfg0.N) : (dats m 0 c).flushed 8 t = (win0_8.blk t).view.read (Elt Ideal) (mixedOf m c) := by
  rw [Value.flushed8]
  obtain ⟨-, -, -, -, -, -, -, -, h0, h1⟩ := at_points t
  funext y
  show (outsAt0 m c t.val t.isLt).1 y = mixedOf m c ((win0_8.rect t).emb y)
  obtain ⟨r, q, rfl⟩ : ∃ (r : Fin 64) (q : Fin 2048), y = ix2 r q := ⟨y 0, y 1, funext fun a => by fin_cases a <;> rfl⟩
  have e0 : ((win0_8.rect t).emb (ix2 r q) 0 : Nat) = t.val * 64 + r.val := (win0_8.rect_emb_val t (ix2 r q) 0).trans (by rw [h0]; rfl)
  have e1 : ((win0_8.rect t).emb (ix2 r q) 1 : Nat) = q.val := (win0_8.rect_emb_val t (ix2 r q) 1).trans (by
    rw [h1]; exact (congrArg (· + q.val) (Nat.zero_mul _)).trans (Nat.zero_add _))
  have hr := r.isLt
  have hq : valCol ⟨q.val / 512, by omega⟩ ⟨q.val % 512, Nat.mod_lt _ (by omega)⟩ = q := Fin.ext (by show q.val / 512 * 512 + q.val % 512 = q.val; omega)
  refine (congrArg (fun k => (outsAt0 m c t.val t.isLt).1 (ix2 r k)) hq.symm).trans ((block_eq m c t _ r _).trans ?_)
  unfold mixedOf mixed
  congr 1 <;> refine Fin.ext ?_
  · show t.val = ((win0_8.rect t).emb (ix2 r q) 0 : Nat) / 64; omega
  · show q.val / 512 = ((win0_8.rect t).emb (ix2 r q) 1 : Nat) / 512; omega
  · show r.val = ((win0_8.rect t).emb (ix2 r q) 0 : Nat) % 64; omega
  · show q.val % 512 = ((win0_8.rect t).emb (ix2 r q) 1 : Nat) % 512; omega

/-- The kernel's result array after the run. -/
theorem final : (dats m 0 c).arrAt 8 cfg0.N = mixedOf m c :=
  (dats m 0 c).arrAt_eq_of_cover 8 (mixedOf m c) (fun t _ => flushed_eq m c t) (fun i => (Value.covered_iff8 i).2 (by
    have h0 : (i 0).val < 2048 := (i 0).isLt
    have h1 : (i 1).val < 2048 := (i 1).isLt
    omega))

end Cert.Kernel11Ideal.Mix

namespace Cert.Proof.GlaMix

open Idealize.ShloMosaic Idealize.ShloMosaic.TcCoe Idealize.SL.Sem

/-- The kernel and the reference leave the same array. -/
theorem same : Cert.algebraic_Kernel11Ideal_Reference11Ideal := fun m g m' g' _ hag =>
  ⟨fun c => Cert.Kernel11Ideal.Mix.mixedOf m c,
    (θ_run Cert.Kernel11Ideal.defs _ _).mono
      (fun _ h c => ⟨(h c).1.trans (Cert.Kernel11Ideal.Mix.final m c), (h c).2.2⟩) (Cert.Kernel11Ideal.Value.run_blocks m g),
    (θ_run Cert.Reference11Ideal.defs _ _).mono
      (fun _ h c => ⟨(h c).1.trans (by
        rw [Cert.Reference11Ideal.Mix.result, (hag c).1, (hag c).2.1, (hag c).2.2.1, (hag c).2.2.2]), (h c).2⟩)
      (Cert.Reference11Ideal.StepRun.run_iter m' g' (fun c => Cert.Reference11Ideal.Mix.trips _ _ _) (fun _ => rfl) (fun _ _ => rfl))⟩

end Cert.Proof.GlaMix
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Launch
public import proofs.«01_k».proof.Proof.RefRun
public import proofs.«01_k».proof.Proof.MlpDz
public import proofs.«01_k».proof.Proof.MlpDwDown
public import proofs.«01_k».proof.Proof.MlpDwUp
public import proofs.«01_k».proof.Proof.MlpDhn
public import proofs.«01_k».proof.Proof.MlpUp
public import proofs.«01_k».proof.Proof.MlpDown
public import proofs.«01_k».proof.Proof.GlaDhn
public import proofs.«01_k».proof.Proof.GlaDwIn
public import proofs.«01_k».proof.Proof.GlaProj
public import proofs.«01_k».proof.Proof.GlaOut
public import proofs.«01_k».proof.Proof.S5Products
public import proofs.«01_k».proof.Proof.S5Slices
public import proofs.«01_k».proof.Proof.S5Dyg
public import proofs.«01_k».proof.Proof.S5Gate
public import proofs.«01_k».proof.Proof.S5Diag
public import proofs.«01_k».proof.Proof.NormBwd
public import proofs.«01_k».proof.Proof.S5Dact
public import proofs.«01_k».proof.Proof.RowMaps
public import proofs.«01_k».proof.Proof.GlaMix
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Reference11Ideal.Step
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import Idealize.ShloMosaic.Adequacy
public import Idealize.ShloMosaic.Init

@[expose] public section

noncomputable section

namespace Cert.Proof

open Idealize.ShloMosaic Idealize.SL.Sem Cert.Kernel

/-- The idealised program's frame, at words in place of extended reals. -/
def FrameWords : Prop :=
  ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits))
      (onTc (τ := Cert.KernelIdeal.τ) (Cert.KernelIdeal.main (F := Bits))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0)

/-- The two programs have the same text, so the kernel's frame is the idealised program's frame at words. -/
theorem frame_words : Cert.quiescent_Kernel = FrameWords := by chain_rfl

/-- The kernel's frame: the idealised program's run is stated at any float values. -/
theorem frame_kernel : Cert.quiescent_Kernel :=
  frame_words.mpr fun m ρ _ => Cert.KernelIdeal.Launch.frame (F := Bits) m ρ

theorem frame_ideal : Cert.quiescent_KernelIdeal := fun m ρ _ => Cert.KernelIdeal.Launch.frame m ρ

theorem frame_reference : Cert.quiescent_ReferenceIdeal := fun m ρ _ => Cert.ReferenceIdeal.Steps.frame m ρ

/-! The reference programs have no semaphores, and their runs leave the arguments as they were. -/

theorem frame_reference2 : Cert.quiescent_Reference2Ideal := fun m ρ _ =>
  (θ_run Cert.Reference2Ideal.defs _ _).mono (fun r h => ⟨fun c => (h c).2, sem_eq_zero_of_no_sems rfl r.2⟩)
    (Cert.Reference2Ideal.Value.run m ρ)

theorem frame_reference3 : Cert.quiescent_Reference3Ideal := fun m ρ _ =>
  (θ_run Cert.Reference3Ideal.defs _ _).mono (fun r h => ⟨fun c => (h c).2, sem_eq_zero_of_no_sems rfl r.2⟩)
    (Cert.Reference3Ideal.Value.run m ρ)

theorem frame_reference4 : Cert.quiescent_Reference4Ideal := fun m ρ _ =>
  (θ_run Cert.Reference4Ideal.defs _ _).mono (fun r h => ⟨fun c => (h c).2, sem_eq_zero_of_no_sems rfl r.2⟩)
    (Cert.Reference4Ideal.Value.run m ρ)

theorem frame_reference5 : Cert.quiescent_Reference5Ideal := fun m ρ _ =>
  (θ_run Cert.Reference5Ideal.defs _ _).mono (fun r h => ⟨fun c => (h c).2, sem_eq_zero_of_no_sems rfl r.2⟩)
    (Cert.Reference5Ideal.Value.run m ρ)

theorem frame_reference6 : Cert.quiescent_Reference6Ideal := fun m ρ _ =>
  (θ_run Cert.Reference6Ideal.defs _ _).mono (fun r h => ⟨fun c => (h c).2.2, sem_eq_zero_of_no_sems rfl r.2⟩)
    (Cert.Reference6Ideal.Value.run m ρ)

theorem frame_reference7 : Cert.quiescent_Reference7Ideal := fun m ρ _ =>
  (θ_run Cert.Reference7Ideal.defs _ _).mono (fun r h => ⟨fun c => (h c).2, sem_eq_zero_of_no_sems rfl r.2⟩)
    (Cert.Reference7Ideal.Value.run m ρ)

theorem frame_reference8 : Cert.quiescent_Reference8Ideal := fun m ρ _ =>
  (θ_run Cert.Reference8Ideal.defs _ _).mono (fun r h => ⟨fun c => (h c).2, sem_eq_zero_of_no_sems rfl r.2⟩)
    (Cert.Reference8Ideal.Value.run m ρ)

theorem frame_reference9 : Cert.quiescent_Reference9Ideal := fun m ρ _ =>
  (θ_run Cert.Reference9Ideal.defs _ _).mono (fun r h => ⟨fun c => (h c).2, sem_eq_zero_of_no_sems rfl r.2⟩)
    (Cert.Reference9Ideal.Value.run m ρ)

theorem frame_reference10 : Cert.quiescent_Reference10Ideal := fun m ρ _ =>
  (θ_run Cert.Reference10Ideal.defs _ _).mono (fun r h => ⟨fun c => (h c).2, sem_eq_zero_of_no_sems rfl r.2⟩)
    (Cert.Reference10Ideal.Value.run m ρ)

theorem frame_reference11 : Cert.quiescent_Reference11Ideal := fun m ρ _ =>
  (θ_run Cert.Reference11Ideal.defs _ _).mono (fun r h => ⟨fun c => (h c).2, sem_eq_zero_of_no_sems rfl r.2⟩)
    (Cert.Reference11Ideal.StepRun.run_iter m ρ (fun _ => Cert.Reference11Ideal.Mix.trips _ _ _) (fun _ => rfl) (fun _ _ => rfl))

theorem frame_reference12 : Cert.quiescent_Reference12Ideal := fun m ρ _ =>
  (θ_run Cert.Reference12Ideal.defs _ _).mono (fun r h => ⟨fun c => (h c).2, sem_eq_zero_of_no_sems rfl r.2⟩)
    (Cert.Reference12Ideal.Value.run m ρ)

theorem frame_reference13 : Cert.quiescent_Reference13Ideal := fun m ρ _ =>
  (θ_run Cert.Reference13Ideal.defs _ _).mono (fun r h => ⟨fun c => (h c).2, sem_eq_zero_of_no_sems rfl r.2⟩)
    (Cert.Reference13Ideal.Value.run m ρ)

theorem frame_reference14 : Cert.quiescent_Reference14Ideal := fun m ρ _ =>
  (θ_run Cert.Reference14Ideal.defs _ _).mono (fun r h => ⟨fun c => (h c).2, sem_eq_zero_of_no_sems rfl r.2⟩)
    (Cert.Reference14Ideal.Value.run m ρ)

theorem frame_reference15 : Cert.quiescent_Reference15Ideal := fun m ρ _ =>
  (θ_run Cert.Reference15Ideal.defs _ _).mono (fun r h => ⟨fun c => (h c).2, sem_eq_zero_of_no_sems rfl r.2⟩)
    (Cert.Reference15Ideal.Value.run m ρ)

theorem frame_reference16 : Cert.quiescent_Reference16Ideal := fun m ρ _ =>
  (θ_run Cert.Reference16Ideal.defs _ _).mono (fun r h => ⟨fun c => (h c).2, sem_eq_zero_of_no_sems rfl r.2⟩)
    (Cert.Reference16Ideal.Value.run m ρ)

theorem frame_reference17 : Cert.quiescent_Reference17Ideal := fun m ρ _ =>
  (θ_run Cert.Reference17Ideal.defs _ _).mono (fun r h => ⟨fun c => (h c).2, sem_eq_zero_of_no_sems rfl r.2⟩)
    (Cert.Reference17Ideal.Value.run m ρ)

theorem frame_reference18 : Cert.quiescent_Reference18Ideal := fun m ρ _ =>
  (θ_run Cert.Reference18Ideal.defs _ _).mono (fun r h => ⟨fun c => (h c).2, sem_eq_zero_of_no_sems rfl r.2⟩)
    (Cert.Reference18Ideal.Value.run m ρ)

theorem frame_reference19 : Cert.quiescent_Reference19Ideal := fun m ρ _ =>
  (θ_run Cert.Reference19Ideal.defs _ _).mono (fun r h => ⟨fun c => (h c).2, sem_eq_zero_of_no_sems rfl r.2⟩)
    (Cert.Reference19Ideal.Value.run m ρ)

theorem frame_reference20 : Cert.quiescent_Reference20Ideal := fun m ρ _ =>
  (θ_run Cert.Reference20Ideal.defs _ _).mono (fun r h => ⟨fun c => (h c).2, sem_eq_zero_of_no_sems rfl r.2⟩)
    (Cert.Reference20Ideal.Value.run m ρ)

theorem frame_reference21 : Cert.quiescent_Reference21Ideal := fun m ρ _ =>
  (θ_run Cert.Reference21Ideal.defs _ _).mono (fun r h => ⟨fun c => (h c).2, sem_eq_zero_of_no_sems rfl r.2⟩)
    (Cert.Reference21Ideal.Value.run m ρ)

theorem frame_reference22 : Cert.quiescent_Reference22Ideal := fun m ρ _ =>
  (θ_run Cert.Reference22Ideal.defs _ _).mono (fun r h => ⟨fun c => (h c).2, sem_eq_zero_of_no_sems rfl r.2⟩)
    (Cert.Reference22Ideal.Value.run m ρ)

theorem frame_reference23 : Cert.quiescent_Reference23Ideal := fun m ρ _ =>
  (θ_run Cert.Reference23Ideal.defs _ _).mono (fun r h => ⟨fun c => (h c).2.2.2, sem_eq_zero_of_no_sems rfl r.2⟩)
    (Cert.Reference23Ideal.Value.run m ρ)

theorem frame_reference24 : Cert.quiescent_Reference24Ideal := fun m ρ _ =>
  (θ_run Cert.Reference24Ideal.defs _ _).mono (fun r h => ⟨fun c => (h c).2.2.2, sem_eq_zero_of_no_sems rfl r.2⟩)
    (Cert.Reference24Ideal.Value.run m ρ)

theorem frame_reference25 : Cert.quiescent_Reference25Ideal := fun m ρ _ =>
  (θ_run Cert.Reference25Ideal.defs _ _).mono (fun r h => ⟨fun c => (h c).2, sem_eq_zero_of_no_sems rfl r.2⟩)
    (Cert.Reference25Ideal.Value.run m ρ)

theorem frame_reference26 : Cert.quiescent_Reference26Ideal := fun m ρ _ =>
  (θ_run Cert.Reference26Ideal.defs _ _).mono (fun r h => ⟨fun c => (h c).2.2, sem_eq_zero_of_no_sems rfl r.2⟩)
    (Cert.Reference26Ideal.Value.run m ρ)

theorem frame_reference27 : Cert.quiescent_Reference27Ideal := fun m ρ _ =>
  (θ_run Cert.Reference27Ideal.defs _ _).mono (fun r h => ⟨fun c => (h c).2, sem_eq_zero_of_no_sems rfl r.2⟩)
    (Cert.Reference27Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts,
  Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts,
  Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  frame_kernel, frame_ideal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ, fun m ρ _ => Cert.Kernel27Ideal.Gen.frame m ρ, frame_reference27,
  trivial, trivial, MlpDz.same, trivial, MlpDwDown.same, trivial, MlpDwUp.same, trivial, MlpDhn.same, trivial, MlpUp.same,
  trivial, MlpDown.same, trivial, GlaDhn.same, trivial, GlaDwIn.same, trivial, GlaProj.same, trivial, GlaMix.same,
  trivial, GlaOut.same, trivial, GlaOut.same_dy, trivial, GlaOut.same_dw, trivial, S5Products.same, trivial, S5Slices.same,
  trivial, S5Slices.same_dw, trivial, S5Products.same_dw, trivial, S5Products.same_dhn, trivial, S5Dyg.same,
  trivial, S5Gate.same, trivial, S5Diag.same, trivial, NormBwd.same, trivial, S5Dact.same,
  trivial, RowMaps.same_norm, trivial, RowMaps.same_act, trivial, RowMaps.same_glu⟩

end Cert.Proof

end
